-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjRows (m : (ℓ : Loc Cert.InProjRows.nD Cert.InProjRows.τ Cert.InProjRows.sig) → Buf (Elt Bits) ℓ) : Prop :=
  True

def Pre_InProjRowsIdeal (m : (ℓ : Loc Cert.InProjRowsIdeal.nD Cert.InProjRowsIdeal.τ Cert.InProjRowsIdeal.sig) → Buf (Elt Ideal) ℓ) : Prop :=
  True

def Pre_InProjRowsRefIdeal (m : (ℓ : Loc Cert.InProjRowsRefIdeal.nD Cert.InProjRowsRefIdeal.τ Cert.InProjRowsRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjGated (m : (ℓ : Loc Cert.OutProjGated.nD Cert.OutProjGated.τ Cert.OutProjGated.sig) → Buf (Elt Bits) ℓ) : Prop :=
  True

def Pre_OutProjGatedIdeal (m : (ℓ : Loc Cert.OutProjGatedIdeal.nD Cert.OutProjGatedIdeal.τ Cert.OutProjGatedIdeal.sig) → Buf (Elt Ideal) ℓ) : Prop :=
  True

def Pre_OutProjGatedRefIdeal (m : (ℓ : Loc Cert.OutProjGatedRefIdeal.nD Cert.OutProjGatedRefIdeal.τ Cert.OutProjGatedRefIdeal.sig) → Buf (Elt Ideal) ℓ) : Prop :=
  True

def Pre_Features (m : (ℓ : Loc Cert.Features.nD Cert.Features.τ Cert.Features.sig) → Buf (Elt Bits) ℓ) : Prop :=
  True

def Pre_FeaturesIdeal (m : (ℓ : Loc Cert.FeaturesIdeal.nD Cert.FeaturesIdeal.τ Cert.FeaturesIdeal.sig) → Buf (Elt Ideal) ℓ) : Prop :=
  True

def Pre_FeaturesRefIdeal (m : (ℓ : Loc Cert.FeaturesRefIdeal.nD Cert.FeaturesRefIdeal.τ Cert.FeaturesRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjRows [hInProjRows : Cert.InProjRows.Facts] : Prop :=
  ∀ (m : (ℓ : Loc Cert.InProjRows.nD Cert.InProjRows.τ Cert.InProjRows.sig) → Buf (Elt Bits) ℓ) (g : Dev Cert.InProjRows.nD → PrngReg), Pre_InProjRows m →
    θ_run (Cert.InProjRows.defs (F := Bits)) (onTc (τ := Cert.InProjRows.τ) (Cert.InProjRows.main (F := Bits))) ⟨m, fun _ => 0, g⟩ (fun r => (∀ c : Dev Cert.InProjRows.nD,
      r.2.mem ((c.tc : Thread Cert.InProjRows.nD Cert.InProjRows.τ).loc Cert.InProjRows.main_arg0) = m ((c.tc : Thread Cert.InProjRows.nD Cert.InProjRows.τ).loc Cert.InProjRows.main_arg0)
      ∧ r.2.mem ((c.tc : Thread Cert.InProjRows.nD Cert.InProjRows.τ).loc Cert.InProjRows.main_arg1) = m ((c.tc : Thread Cert.InProjRows.nD Cert.InProjRows.τ).loc Cert.InProjRows.main_arg1)
      ∧ r.2.mem ((c.tc : Thread Cert.InProjRows.nD Cert.InProjRows.τ).loc Cert.InProjRows.main_arg2) = m ((c.tc : Thread Cert.InProjRows.nD Cert.InProjRows.τ).loc Cert.InProjRows.main_arg2))
      ∧ r.2.sem = fun _ => 0)

def quiescent_InProjRowsIdeal [hInProjRowsIdeal : Cert.InProjRowsIdeal.Facts] : Prop :=
  ∀ (m : (ℓ : Loc Cert.InProjRowsIdeal.nD Cert.InProjRowsIdeal.τ Cert.InProjRowsIdeal.sig) → Buf (Elt Ideal) ℓ) (g : Dev Cert.InProjRowsIdeal.nD → PrngReg), Pre_InProjRowsIdeal m →
    θ_run (Cert.InProjRowsIdeal.defs (F := Ideal)) (onTc (τ := Cert.InProjRowsIdeal.τ) (Cert.InProjRowsIdeal.main (F := Ideal))) ⟨m, fun _ => 0, g⟩ (fun r => (∀ c : Dev Cert.InProjRowsIdeal.nD,
      r.2.mem ((c.tc : Thread Cert.InProjRowsIdeal.nD Cert.InProjRowsIdeal.τ).loc Cert.InProjRowsIdeal.main_arg0) = m ((c.tc : Thread Cert.InProjRowsIdeal.nD Cert.InProjRowsIdeal.τ).loc Cert.InProjRowsIdeal.main_arg0)
      ∧ r.2.mem ((c.tc : Thread Cert.InProjRowsIdeal.nD Cert.InProjRowsIdeal.τ).loc Cert.InProjRowsIdeal.main_arg1) = m ((c.tc : Thread Cert.InProjRowsIdeal.nD Cert.InProjRowsIdeal.τ).loc Cert.InProjRowsIdeal.main_arg1)
      ∧ r.2.mem ((c.tc : Thread Cert.InProjRowsIdeal.nD Cert.InProjRowsIdeal.τ).loc Cert.InProjRowsIdeal.main_arg2) = m ((c.tc : Thread Cert.InProjRowsIdeal.nD Cert.InProjRowsIdeal.τ).loc Cert.InProjRowsIdeal.main_arg2))
      ∧ r.2.sem = fun _ => 0)

def quiescent_InProjRowsRefIdeal [hInProjRowsRefIdeal : Cert.InProjRowsRefIdeal.Facts] : Prop :=
  ∀ (m : (ℓ : Loc Cert.InProjRowsRefIdeal.nD Cert.InProjRowsRefIdeal.τ Cert.InProjRowsRefIdeal.sig) → Buf (Elt Ideal) ℓ) (g : Dev Cert.InProjRowsRefIdeal.nD → PrngReg), Pre_InProjRowsRefIdeal m →
    θ_run (Cert.InProjRowsRefIdeal.defs (F := Ideal)) (onTc (τ := Cert.InProjRowsRefIdeal.τ) (Cert.InProjRowsRefIdeal.main (F := Ideal))) ⟨m, fun _ => 0, g⟩ (fun r => (∀ c : Dev Cert.InProjRowsRefIdeal.nD,
      r.2.mem ((c.tc : Thread Cert.InProjRowsRefIdeal.nD Cert.InProjRowsRefIdeal.τ).loc Cert.InProjRowsRefIdeal.main_arg0) = m ((c.tc : Thread Cert.InProjRowsRefIdeal.nD Cert.InProjRowsRefIdeal.τ).loc Cert.InProjRowsRefIdeal.main_arg0)
      ∧ r.2.mem ((c.tc : Thread Cert.InProjRowsRefIdeal.nD Cert.InProjRowsRefIdeal.τ).loc Cert.InProjRowsRefIdeal.main_arg1) = m ((c.tc : Thread Cert.InProjRowsRefIdeal.nD Cert.InProjRowsRefIdeal.τ).loc Cert.InProjRowsRefIdeal.main_arg1)
      ∧ r.2.mem ((c.tc : Thread Cert.InProjRowsRefIdeal.nD Cert.InProjRowsRefIdeal.τ).loc Cert.InProjRowsRefIdeal.main_arg2) = m ((c.tc : Thread Cert.InProjRowsRefIdeal.nD Cert.InProjRowsRefIdeal.τ).loc Cert.InProjRowsRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_OutProjGated [hOutProjGated : Cert.OutProjGated.Facts] : Prop :=
  ∀ (m : (ℓ : Loc Cert.OutProjGated.nD Cert.OutProjGated.τ Cert.OutProjGated.sig) → Buf (Elt Bits) ℓ) (g : Dev Cert.OutProjGated.nD → PrngReg), Pre_OutProjGated m →
    θ_run (Cert.OutProjGated.defs (F := Bits)) (onTc (τ := Cert.OutProjGated.τ) (Cert.OutProjGated.main (F := Bits))) ⟨m, fun _ => 0, g⟩ (fun r => (∀ c : Dev Cert.OutProjGated.nD,
      r.2.mem ((c.tc : Thread Cert.OutProjGated.nD Cert.OutProjGated.τ).loc Cert.OutProjGated.main_arg0) = m ((c.tc : Thread Cert.OutProjGated.nD Cert.OutProjGated.τ).loc Cert.OutProjGated.main_arg0)
      ∧ r.2.mem ((c.tc : Thread Cert.OutProjGated.nD Cert.OutProjGated.τ).loc Cert.OutProjGated.main_arg1) = m ((c.tc : Thread Cert.OutProjGated.nD Cert.OutProjGated.τ).loc Cert.OutProjGated.main_arg1)
      ∧ r.2.mem ((c.tc : Thread Cert.OutProjGated.nD Cert.OutProjGated.τ).loc Cert.OutProjGated.main_arg2) = m ((c.tc : Thread Cert.OutProjGated.nD Cert.OutProjGated.τ).loc Cert.OutProjGated.main_arg2)
      ∧ r.2.mem ((c.tc : Thread Cert.OutProjGated.nD Cert.OutProjGated.τ).loc Cert.OutProjGated.main_arg3) = m ((c.tc : Thread Cert.OutProjGated.nD Cert.OutProjGated.τ).loc Cert.OutProjGated.main_arg3)
      ∧ r.2.mem ((c.tc : Thread Cert.OutProjGated.nD Cert.OutProjGated.τ).loc Cert.OutProjGated.main_arg4) = m ((c.tc : Thread Cert.OutProjGated.nD Cert.OutProjGated.τ).loc Cert.OutProjGated.main_arg4)
      ∧ r.2.mem ((c.tc : Thread Cert.OutProjGated.nD Cert.OutProjGated.τ).loc Cert.OutProjGated.main_arg5) = m ((c.tc : Thread Cert.OutProjGated.nD Cert.OutProjGated.τ).loc Cert.OutProjGated.main_arg5))
      ∧ r.2.sem = fun _ => 0)

def quiescent_OutProjGatedIdeal [hOutProjGatedIdeal : Cert.OutProjGatedIdeal.Facts] : Prop :=
  ∀ (m : (ℓ : Loc Cert.OutProjGatedIdeal.nD Cert.OutProjGatedIdeal.τ Cert.OutProjGatedIdeal.sig) → Buf (Elt Ideal) ℓ) (g : Dev Cert.OutProjGatedIdeal.nD → PrngReg), Pre_OutProjGatedIdeal m →
    θ_run (Cert.OutProjGatedIdeal.defs (F := Ideal)) (onTc (τ := Cert.OutProjGatedIdeal.τ) (Cert.OutProjGatedIdeal.main (F := Ideal))) ⟨m, fun _ => 0, g⟩ (fun r => (∀ c : Dev Cert.OutProjGatedIdeal.nD,
      r.2.mem ((c.tc : Thread Cert.OutProjGatedIdeal.nD Cert.OutProjGatedIdeal.τ).loc Cert.OutProjGatedIdeal.main_arg0) = m ((c.tc : Thread Cert.OutProjGatedIdeal.nD Cert.OutProjGatedIdeal.τ).loc Cert.OutProjGatedIdeal.main_arg0)
      ∧ r.2.mem ((c.tc : Thread Cert.OutProjGatedIdeal.nD Cert.OutProjGatedIdeal.τ).loc Cert.OutProjGatedIdeal.main_arg1) = m ((c.tc : Thread Cert.OutProjGatedIdeal.nD Cert.OutProjGatedIdeal.τ).loc Cert.OutProjGatedIdeal.main_arg1)
      ∧ r.2.mem ((c.tc : Thread Cert.OutProjGatedIdeal.nD Cert.OutProjGatedIdeal.τ).loc Cert.OutProjGatedIdeal.main_arg2) = m ((c.tc : Thread Cert.OutProjGatedIdeal.nD Cert.OutProjGatedIdeal.τ).loc Cert.OutProjGatedIdeal.main_arg2)
      ∧ r.2.mem ((c.tc : Thread Cert.OutProjGatedIdeal.nD Cert.OutProjGatedIdeal.τ).loc Cert.OutProjGatedIdeal.main_arg3) = m ((c.tc : Thread Cert.OutProjGatedIdeal.nD Cert.OutProjGatedIdeal.τ).loc Cert.OutProjGatedIdeal.main_arg3)
      ∧ r.2.mem ((c.tc : Thread Cert.OutProjGatedIdeal.nD Cert.OutProjGatedIdeal.τ).loc Cert.OutProjGatedIdeal.main_arg4) = m ((c.tc : Thread Cert.OutProjGatedIdeal.nD Cert.OutProjGatedIdeal.τ).loc Cert.OutProjGatedIdeal.main_arg4)
      ∧ r.2.mem ((c.tc : Thread Cert.OutProjGatedIdeal.nD Cert.OutProjGatedIdeal.τ).loc Cert.OutProjGatedIdeal.main_arg5) = m ((c.tc : Thread Cert.OutProjGatedIdeal.nD Cert.OutProjGatedIdeal.τ).loc Cert.OutProjGatedIdeal.main_arg5))
      ∧ r.2.sem = fun _ => 0)

def quiescent_OutProjGatedRefIdeal [hOutProjGatedRefIdeal : Cert.OutProjGatedRefIdeal.Facts] : Prop :=
  ∀ (m : (ℓ : Loc Cert.OutProjGatedRefIdeal.nD Cert.OutProjGatedRefIdeal.τ Cert.OutProjGatedRefIdeal.sig) → Buf (Elt Ideal) ℓ) (g : Dev Cert.OutProjGatedRefIdeal.nD → PrngReg), Pre_OutProjGatedRefIdeal m →
    θ_run (Cert.OutProjGatedRefIdeal.defs (F := Ideal)) (onTc (τ := Cert.OutProjGatedRefIdeal.τ) (Cert.OutProjGatedRefIdeal.main (F := Ideal))) ⟨m, fun _ => 0, g⟩ (fun r => (∀ c : Dev Cert.OutProjGatedRefIdeal.nD,
      r.2.mem ((c.tc : Thread Cert.OutProjGatedRefIdeal.nD Cert.OutProjGatedRefIdeal.τ).loc Cert.OutProjGatedRefIdeal.main_arg0) = m ((c.tc : Thread Cert.OutProjGatedRefIdeal.nD Cert.OutProjGatedRefIdeal.τ).loc Cert.OutProjGatedRefIdeal.main_arg0)
      ∧ r.2.mem ((c.tc : Thread Cert.OutProjGatedRefIdeal.nD Cert.OutProjGatedRefIdeal.τ).loc Cert.OutProjGatedRefIdeal.main_arg1) = m ((c.tc : Thread Cert.OutProjGatedRefIdeal.nD Cert.OutProjGatedRefIdeal.τ).loc Cert.OutProjGatedRefIdeal.main_arg1)
      ∧ r.2.mem ((c.tc : Thread Cert.OutProjGatedRefIdeal.nD Cert.OutProjGatedRefIdeal.τ).loc Cert.OutProjGatedRefIdeal.main_arg2) = m ((c.tc : Thread Cert.OutProjGatedRefIdeal.nD Cert.OutProjGatedRefIdeal.τ).loc Cert.OutProjGatedRefIdeal.main_arg2)
      ∧ r.2.mem ((c.tc : Thread Cert.OutProjGatedRefIdeal.nD Cert.OutProjGatedRefIdeal.τ).loc Cert.OutProjGatedRefIdeal.main_arg3) = m ((c.tc : Thread Cert.OutProjGatedRefIdeal.nD Cert.OutProjGatedRefIdeal.τ).loc Cert.OutProjGatedRefIdeal.main_arg3)
      ∧ r.2.mem ((c.tc : Thread Cert.OutProjGatedRefIdeal.nD Cert.OutProjGatedRefIdeal.τ).loc Cert.OutProjGatedRefIdeal.main_arg4) = m ((c.tc : Thread Cert.OutProjGatedRefIdeal.nD Cert.OutProjGatedRefIdeal.τ).loc Cert.OutProjGatedRefIdeal.main_arg4)
      ∧ r.2.mem ((c.tc : Thread Cert.OutProjGatedRefIdeal.nD Cert.OutProjGatedRefIdeal.τ).loc Cert.OutProjGatedRefIdeal.main_arg5) = m ((c.tc : Thread Cert.OutProjGatedRefIdeal.nD Cert.OutProjGatedRefIdeal.τ).loc Cert.OutProjGatedRefIdeal.main_arg5))
      ∧ r.2.sem = fun _ => 0)

def quiescent_Features [hFeatures : Cert.Features.Facts] : Prop :=
  ∀ (m : (ℓ : Loc Cert.Features.nD Cert.Features.τ Cert.Features.sig) → Buf (Elt Bits) ℓ) (g : Dev Cert.Features.nD → PrngReg), Pre_Features m →
    θ_run (Cert.Features.defs (F := Bits)) (onTc (τ := Cert.Features.τ) (Cert.Features.main (F := Bits))) ⟨m, fun _ => 0, g⟩ (fun r => (∀ c : Dev Cert.Features.nD,
      r.2.mem ((c.tc : Thread Cert.Features.nD Cert.Features.τ).loc Cert.Features.main_arg0) = m ((c.tc : Thread Cert.Features.nD Cert.Features.τ).loc Cert.Features.main_arg0)
      ∧ r.2.mem ((c.tc : Thread Cert.Features.nD Cert.Features.τ).loc Cert.Features.main_arg1) = m ((c.tc : Thread Cert.Features.nD Cert.Features.τ).loc Cert.Features.main_arg1))
      ∧ r.2.sem = fun _ => 0)

def quiescent_FeaturesIdeal [hFeaturesIdeal : Cert.FeaturesIdeal.Facts] : Prop :=
  ∀ (m : (ℓ : Loc Cert.FeaturesIdeal.nD Cert.FeaturesIdeal.τ Cert.FeaturesIdeal.sig) → Buf (Elt Ideal) ℓ) (g : Dev Cert.FeaturesIdeal.nD → PrngReg), Pre_FeaturesIdeal m →
    θ_run (Cert.FeaturesIdeal.defs (F := Ideal)) (onTc (τ := Cert.FeaturesIdeal.τ) (Cert.FeaturesIdeal.main (F := Ideal))) ⟨m, fun _ => 0, g⟩ (fun r => (∀ c : Dev Cert.FeaturesIdeal.nD,
      r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
      ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1))
      ∧ r.2.sem = fun _ => 0)

def quiescent_FeaturesRefIdeal [hFeaturesRefIdeal : Cert.FeaturesRefIdeal.Facts] : Prop :=
  ∀ (m : (ℓ : Loc Cert.FeaturesRefIdeal.nD Cert.FeaturesRefIdeal.τ Cert.FeaturesRefIdeal.sig) → Buf (Elt Ideal) ℓ) (g : Dev Cert.FeaturesRefIdeal.nD → PrngReg), Pre_FeaturesRefIdeal m →
    θ_run (Cert.FeaturesRefIdeal.defs (F := Ideal)) (onTc (τ := Cert.FeaturesRefIdeal.τ) (Cert.FeaturesRefIdeal.main (F := Ideal))) ⟨m, fun _ => 0, g⟩ (fun r => (∀ c : Dev Cert.FeaturesRefIdeal.nD,
      r.2.mem ((c.tc : Thread Cert.FeaturesRefIdeal.nD Cert.FeaturesRefIdeal.τ).loc Cert.FeaturesRefIdeal.main_arg0) = m ((c.tc : Thread Cert.FeaturesRefIdeal.nD Cert.FeaturesRefIdeal.τ).loc Cert.FeaturesRefIdeal.main_arg0)
      ∧ r.2.mem ((c.tc : Thread Cert.FeaturesRefIdeal.nD Cert.FeaturesRefIdeal.τ).loc Cert.FeaturesRefIdeal.main_arg1) = m ((c.tc : Thread Cert.FeaturesRefIdeal.nD Cert.FeaturesRefIdeal.τ).loc Cert.FeaturesRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v22)) (v1 : (c : Dev Cert.InProjIdeal.nD) → Buf (Elt Ideal) ((c.tc : Thread Cert.InProjIdeal.nD Cert.InProjIdeal.τ).loc Cert.InProjIdeal.main_v25)) (v2 : (c : Dev Cert.InProjIdeal.nD) → Buf (Elt Ideal) ((c.tc : Thread Cert.InProjIdeal.nD Cert.InProjIdeal.τ).loc Cert.InProjIdeal.main_v27)) (v3 : (c : Dev Cert.InProjIdeal.nD) → Buf (Elt Ideal) ((c.tc : Thread Cert.InProjIdeal.nD Cert.InProjIdeal.τ).loc Cert.InProjIdeal.main_v30)) (v4 : (c : Dev Cert.InProjIdeal.nD) → Buf (Elt Ideal) ((c.tc : Thread Cert.InProjIdeal.nD Cert.InProjIdeal.τ).loc Cert.InProjIdeal.main_v33)) (v5 : (c : Dev Cert.InProjIdeal.nD) → Buf (Elt Ideal) ((c.tc : Thread Cert.InProjIdeal.nD Cert.InProjIdeal.τ).loc Cert.InProjIdeal.main_v36)) (v6 : (c : Dev Cert.InProjIdeal.nD) → Buf (Elt Ideal) ((c.tc : Thread Cert.InProjIdeal.nD Cert.InProjIdeal.τ).loc Cert.InProjIdeal.main_v19_1)) (v7 : (c : Dev Cert.InProjIdeal.nD) → Buf (Elt Ideal) ((c.tc : Thread Cert.InProjIdeal.nD Cert.InProjIdeal.τ).loc Cert.InProjIdeal.main_v19_2)) (v8 : (c : Dev Cert.InProjIdeal.nD) → Buf (Elt Ideal) ((c.tc : Thread Cert.InProjIdeal.nD Cert.InProjIdeal.τ).loc Cert.InProjIdeal.main_v19_3)) (v9 : (c : Dev Cert.InProjIdeal.nD) → Buf (Elt Ideal) ((c.tc : Thread Cert.InProjIdeal.nD Cert.InProjIdeal.τ).loc Cert.InProjIdeal.main_v37)) (v10 : (c : Dev Cert.InProjIdeal.nD) → Buf (Elt Ideal) ((c.tc : Thread Cert.InProjIdeal.nD Cert.InProjIdeal.τ).loc Cert.InProjIdeal.main_v19_6)) (v11 : (c : Dev Cert.InProjIdeal.nD) → Buf (Elt Ideal) ((c.tc : Thread Cert.InProjIdeal.nD Cert.InProjIdeal.τ).loc Cert.InProjIdeal.main_v19_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v22) = v0 c
          ∧ r.2.mem ((c.tc : Thread Cert.InProjIdeal.nD Cert.InProjIdeal.τ).loc Cert.InProjIdeal.main_v25) = v1 c
          ∧ r.2.mem ((c.tc : Thread Cert.InProjIdeal.nD Cert.InProjIdeal.τ).loc Cert.InProjIdeal.main_v27) = v2 c
          ∧ r.2.mem ((c.tc : Thread Cert.InProjIdeal.nD Cert.InProjIdeal.τ).loc Cert.InProjIdeal.main_v30) = v3 c
          ∧ r.2.mem ((c.tc : Thread Cert.InProjIdeal.nD Cert.InProjIdeal.τ).loc Cert.InProjIdeal.main_v33) = v4 c
          ∧ r.2.mem ((c.tc : Thread Cert.InProjIdeal.nD Cert.InProjIdeal.τ).loc Cert.InProjIdeal.main_v36) = v5 c
          ∧ r.2.mem ((c.tc : Thread Cert.InProjIdeal.nD Cert.InProjIdeal.τ).loc Cert.InProjIdeal.main_v19_1) = v6 c
          ∧ r.2.mem ((c.tc : Thread Cert.InProjIdeal.nD Cert.InProjIdeal.τ).loc Cert.InProjIdeal.main_v19_2) = v7 c
          ∧ r.2.mem ((c.tc : Thread Cert.InProjIdeal.nD Cert.InProjIdeal.τ).loc Cert.InProjIdeal.main_v19_3) = v8 c
          ∧ r.2.mem ((c.tc : Thread Cert.InProjIdeal.nD Cert.InProjIdeal.τ).loc Cert.InProjIdeal.main_v37) = v9 c
          ∧ r.2.mem ((c.tc : Thread Cert.InProjIdeal.nD Cert.InProjIdeal.τ).loc Cert.InProjIdeal.main_v19_6) = v10 c
          ∧ r.2.mem ((c.tc : Thread Cert.InProjIdeal.nD Cert.InProjIdeal.τ).loc Cert.InProjIdeal.main_v19_7) = v11 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v40) = v0 c
          ∧ r.2.mem ((c.tc : Thread Cert.InProjRefIdeal.nD Cert.InProjRefIdeal.τ).loc Cert.InProjRefIdeal.main_v41) = v1 c
          ∧ r.2.mem ((c.tc : Thread Cert.InProjRefIdeal.nD Cert.InProjRefIdeal.τ).loc Cert.InProjRefIdeal.main_v42) = v2 c
          ∧ r.2.mem ((c.tc : Thread Cert.InProjRefIdeal.nD Cert.InProjRefIdeal.τ).loc Cert.InProjRefIdeal.main_v44) = v3 c
          ∧ r.2.mem ((c.tc : Thread Cert.InProjRefIdeal.nD Cert.InProjRefIdeal.τ).loc Cert.InProjRefIdeal.main_v34) = v4 c
          ∧ r.2.mem ((c.tc : Thread Cert.InProjRefIdeal.nD Cert.InProjRefIdeal.τ).loc Cert.InProjRefIdeal.main_v38) = v5 c
          ∧ r.2.mem ((c.tc : Thread Cert.InProjRefIdeal.nD Cert.InProjRefIdeal.τ).loc Cert.InProjRefIdeal.main_v45) = v6 c
          ∧ r.2.mem ((c.tc : Thread Cert.InProjRefIdeal.nD Cert.InProjRefIdeal.τ).loc Cert.InProjRefIdeal.main_v46) = v7 c
          ∧ r.2.mem ((c.tc : Thread Cert.InProjRefIdeal.nD Cert.InProjRefIdeal.τ).loc Cert.InProjRefIdeal.main_v47) = v8 c
          ∧ r.2.mem ((c.tc : Thread Cert.InProjRefIdeal.nD Cert.InProjRefIdeal.τ).loc Cert.InProjRefIdeal.main_v48) = v9 c
          ∧ r.2.mem ((c.tc : Thread Cert.InProjRefIdeal.nD Cert.InProjRefIdeal.τ).loc Cert.InProjRefIdeal.main_v49) = v10 c
          ∧ r.2.mem ((c.tc : Thread Cert.InProjRefIdeal.nD Cert.InProjRefIdeal.τ).loc Cert.InProjRefIdeal.main_v50) = v11 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_InProjRows_InProjRowsIdeal : Prop :=
  True

def algebraic_InProjRowsIdeal_InProjRowsRefIdeal [hInProjRowsIdeal : Cert.InProjRowsIdeal.Facts] [hInProjRowsRefIdeal : Cert.InProjRowsRefIdeal.Facts] : Prop :=
  ∀ (m : (ℓ : Loc Cert.InProjRowsIdeal.nD Cert.InProjRowsIdeal.τ Cert.InProjRowsIdeal.sig) → Buf (Elt Ideal) ℓ) (g : Dev Cert.InProjRowsIdeal.nD → PrngReg)
    (m' : (ℓ : Loc Cert.InProjRowsRefIdeal.nD Cert.InProjRowsRefIdeal.τ Cert.InProjRowsRefIdeal.sig) → Buf (Elt Ideal) ℓ) (g' : Dev Cert.InProjRowsRefIdeal.nD → PrngReg), Pre_InProjRowsIdeal m →
    (∀ c : Dev Cert.InProjRowsIdeal.nD,
      m' ((c.tc : Thread Cert.InProjRowsRefIdeal.nD Cert.InProjRowsRefIdeal.τ).loc Cert.InProjRowsRefIdeal.main_arg0) = m ((c.tc : Thread Cert.InProjRowsIdeal.nD Cert.InProjRowsIdeal.τ).loc Cert.InProjRowsIdeal.main_arg0)
      ∧ m' ((c.tc : Thread Cert.InProjRowsRefIdeal.nD Cert.InProjRowsRefIdeal.τ).loc Cert.InProjRowsRefIdeal.main_arg1) = m ((c.tc : Thread Cert.InProjRowsIdeal.nD Cert.InProjRowsIdeal.τ).loc Cert.InProjRowsIdeal.main_arg1)
      ∧ m' ((c.tc : Thread Cert.InProjRowsRefIdeal.nD Cert.InProjRowsRefIdeal.τ).loc Cert.InProjRowsRefIdeal.main_arg2) = m ((c.tc : Thread Cert.InProjRowsIdeal.nD Cert.InProjRowsIdeal.τ).loc Cert.InProjRowsIdeal.main_arg2)) →
    ∃ (v0 : (c : Dev Cert.InProjRowsIdeal.nD) → Buf (Elt Ideal) ((c.tc : Thread Cert.InProjRowsIdeal.nD Cert.InProjRowsIdeal.τ).loc Cert.InProjRowsIdeal.main_v20)) (v1 : (c : Dev Cert.InProjRowsIdeal.nD) → Buf (Elt Ideal) ((c.tc : Thread Cert.InProjRowsIdeal.nD Cert.InProjRowsIdeal.τ).loc Cert.InProjRowsIdeal.main_v21)) (v2 : (c : Dev Cert.InProjRowsIdeal.nD) → Buf (Elt Ideal) ((c.tc : Thread Cert.InProjRowsIdeal.nD Cert.InProjRowsIdeal.τ).loc Cert.InProjRowsIdeal.main_v23)) (v3 : (c : Dev Cert.InProjRowsIdeal.nD) → Buf (Elt Ideal) ((c.tc : Thread Cert.InProjRowsIdeal.nD Cert.InProjRowsIdeal.τ).loc Cert.InProjRowsIdeal.main_v19_0)) (v4 : (c : Dev Cert.InProjRowsIdeal.nD) → Buf (Elt Ideal) ((c.tc : Thread Cert.InProjRowsIdeal.nD Cert.InProjRowsIdeal.τ).loc Cert.InProjRowsIdeal.main_v19_4)) (v5 : (c : Dev Cert.InProjRowsIdeal.nD) → Buf (Elt Ideal) ((c.tc : Thread Cert.InProjRowsIdeal.nD Cert.InProjRowsIdeal.τ).loc Cert.InProjRowsIdeal.main_v19_3)) (v6 : (c : Dev Cert.InProjRowsIdeal.nD) → Buf (Elt Ideal) ((c.tc : Thread Cert.InProjRowsIdeal.nD Cert.InProjRowsIdeal.τ).loc Cert.InProjRowsIdeal.main_v24)) (v7 : (c : Dev Cert.InProjRowsIdeal.nD) → Buf (Elt Ideal) ((c.tc : Thread Cert.InProjRowsIdeal.nD Cert.InProjRowsIdeal.τ).loc Cert.InProjRowsIdeal.main_v19_6)) (v8 : (c : Dev Cert.InProjRowsIdeal.nD) → Buf (Elt Ideal) ((c.tc : Thread Cert.InProjRowsIdeal.nD Cert.InProjRowsIdeal.τ).loc Cert.InProjRowsIdeal.main_v19_7)),
      θ_run (Cert.InProjRowsIdeal.defs (F := Ideal)) (onTc (τ := Cert.InProjRowsIdeal.τ) (Cert.InProjRowsIdeal.main (F := Ideal))) ⟨m, fun _ => 0, g⟩ (fun r => ∀ c : Dev Cert.InProjRowsIdeal.nD,
          r.2.mem ((c.tc : Thread Cert.InProjRowsIdeal.nD Cert.InProjRowsIdeal.τ).loc Cert.InProjRowsIdeal.main_v20) = v0 c
          ∧ r.2.mem ((c.tc : Thread Cert.InProjRowsIdeal.nD Cert.InProjRowsIdeal.τ).loc Cert.InProjRowsIdeal.main_v21) = v1 c
          ∧ r.2.mem ((c.tc : Thread Cert.InProjRowsIdeal.nD Cert.InProjRowsIdeal.τ).loc Cert.InProjRowsIdeal.main_v23) = v2 c
          ∧ r.2.mem ((c.tc : Thread Cert.InProjRowsIdeal.nD Cert.InProjRowsIdeal.τ).loc Cert.InProjRowsIdeal.main_v19_0) = v3 c
          ∧ r.2.mem ((c.tc : Thread Cert.InProjRowsIdeal.nD Cert.InProjRowsIdeal.τ).loc Cert.InProjRowsIdeal.main_v19_4) = v4 c
          ∧ r.2.mem ((c.tc : Thread Cert.InProjRowsIdeal.nD Cert.InProjRowsIdeal.τ).loc Cert.InProjRowsIdeal.main_v19_3) = v5 c
          ∧ r.2.mem ((c.tc : Thread Cert.InProjRowsIdeal.nD Cert.InProjRowsIdeal.τ).loc Cert.InProjRowsIdeal.main_v24) = v6 c
          ∧ r.2.mem ((c.tc : Thread Cert.InProjRowsIdeal.nD Cert.InProjRowsIdeal.τ).loc Cert.InProjRowsIdeal.main_v19_6) = v7 c
          ∧ r.2.mem ((c.tc : Thread Cert.InProjRowsIdeal.nD Cert.InProjRowsIdeal.τ).loc Cert.InProjRowsIdeal.main_v19_7) = v8 c
          ∧ r.2.mem ((c.tc : Thread Cert.InProjRowsIdeal.nD Cert.InProjRowsIdeal.τ).loc Cert.InProjRowsIdeal.main_arg0) = m ((c.tc : Thread Cert.InProjRowsIdeal.nD Cert.InProjRowsIdeal.τ).loc Cert.InProjRowsIdeal.main_arg0)
          ∧ r.2.mem ((c.tc : Thread Cert.InProjRowsIdeal.nD Cert.InProjRowsIdeal.τ).loc Cert.InProjRowsIdeal.main_arg1) = m ((c.tc : Thread Cert.InProjRowsIdeal.nD Cert.InProjRowsIdeal.τ).loc Cert.InProjRowsIdeal.main_arg1)
          ∧ r.2.mem ((c.tc : Thread Cert.InProjRowsIdeal.nD Cert.InProjRowsIdeal.τ).loc Cert.InProjRowsIdeal.main_arg2) = m ((c.tc : Thread Cert.InProjRowsIdeal.nD Cert.InProjRowsIdeal.τ).loc Cert.InProjRowsIdeal.main_arg2))
      ∧ θ_run (Cert.InProjRowsRefIdeal.defs (F := Ideal)) (onTc (τ := Cert.InProjRowsRefIdeal.τ) (Cert.InProjRowsRefIdeal.main (F := Ideal))) ⟨m', fun _ => 0, g'⟩ (fun r => ∀ c : Dev Cert.InProjRowsRefIdeal.nD,
          r.2.mem ((c.tc : Thread Cert.InProjRowsRefIdeal.nD Cert.InProjRowsRefIdeal.τ).loc Cert.InProjRowsRefIdeal.main_v40) = v0 c
          ∧ r.2.mem ((c.tc : Thread Cert.InProjRowsRefIdeal.nD Cert.InProjRowsRefIdeal.τ).loc Cert.InProjRowsRefIdeal.main_v41) = v1 c
          ∧ r.2.mem ((c.tc : Thread Cert.InProjRowsRefIdeal.nD Cert.InProjRowsRefIdeal.τ).loc Cert.InProjRowsRefIdeal.main_v42) = v2 c
          ∧ r.2.mem ((c.tc : Thread Cert.InProjRowsRefIdeal.nD Cert.InProjRowsRefIdeal.τ).loc Cert.InProjRowsRefIdeal.main_v34) = v3 c
          ∧ r.2.mem ((c.tc : Thread Cert.InProjRowsRefIdeal.nD Cert.InProjRowsRefIdeal.τ).loc Cert.InProjRowsRefIdeal.main_v38) = v4 c
          ∧ r.2.mem ((c.tc : Thread Cert.InProjRowsRefIdeal.nD Cert.InProjRowsRefIdeal.τ).loc Cert.InProjRowsRefIdeal.main_v43) = v5 c
          ∧ r.2.mem ((c.tc : Thread Cert.InProjRowsRefIdeal.nD Cert.InProjRowsRefIdeal.τ).loc Cert.InProjRowsRefIdeal.main_v44) = v6 c
          ∧ r.2.mem ((c.tc : Thread Cert.InProjRowsRefIdeal.nD Cert.InProjRowsRefIdeal.τ).loc Cert.InProjRowsRefIdeal.main_v45) = v7 c
          ∧ r.2.mem ((c.tc : Thread Cert.InProjRowsRefIdeal.nD Cert.InProjRowsRefIdeal.τ).loc Cert.InProjRowsRefIdeal.main_v46) = v8 c
          ∧ r.2.mem ((c.tc : Thread Cert.InProjRowsRefIdeal.nD Cert.InProjRowsRefIdeal.τ).loc Cert.InProjRowsRefIdeal.main_arg0) = m' ((c.tc : Thread Cert.InProjRowsRefIdeal.nD Cert.InProjRowsRefIdeal.τ).loc Cert.InProjRowsRefIdeal.main_arg0)
          ∧ r.2.mem ((c.tc : Thread Cert.InProjRowsRefIdeal.nD Cert.InProjRowsRefIdeal.τ).loc Cert.InProjRowsRefIdeal.main_arg1) = m' ((c.tc : Thread Cert.InProjRowsRefIdeal.nD Cert.InProjRowsRefIdeal.τ).loc Cert.InProjRowsRefIdeal.main_arg1)
          ∧ r.2.mem ((c.tc : Thread Cert.InProjRowsRefIdeal.nD Cert.InProjRowsRefIdeal.τ).loc Cert.InProjRowsRefIdeal.main_arg2) = m' ((c.tc : Thread Cert.InProjRowsRefIdeal.nD Cert.InProjRowsRefIdeal.τ).loc Cert.InProjRowsRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v5)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v18) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_OutProjGated_OutProjGatedIdeal : Prop :=
  True

def algebraic_OutProjGatedIdeal_OutProjGatedRefIdeal [hOutProjGatedIdeal : Cert.OutProjGatedIdeal.Facts] [hOutProjGatedRefIdeal : Cert.OutProjGatedRefIdeal.Facts] : Prop :=
  ∀ (m : (ℓ : Loc Cert.OutProjGatedIdeal.nD Cert.OutProjGatedIdeal.τ Cert.OutProjGatedIdeal.sig) → Buf (Elt Ideal) ℓ) (g : Dev Cert.OutProjGatedIdeal.nD → PrngReg)
    (m' : (ℓ : Loc Cert.OutProjGatedRefIdeal.nD Cert.OutProjGatedRefIdeal.τ Cert.OutProjGatedRefIdeal.sig) → Buf (Elt Ideal) ℓ) (g' : Dev Cert.OutProjGatedRefIdeal.nD → PrngReg), Pre_OutProjGatedIdeal m →
    (∀ c : Dev Cert.OutProjGatedIdeal.nD,
      m' ((c.tc : Thread Cert.OutProjGatedRefIdeal.nD Cert.OutProjGatedRefIdeal.τ).loc Cert.OutProjGatedRefIdeal.main_arg0) = m ((c.tc : Thread Cert.OutProjGatedIdeal.nD Cert.OutProjGatedIdeal.τ).loc Cert.OutProjGatedIdeal.main_arg0)
      ∧ m' ((c.tc : Thread Cert.OutProjGatedRefIdeal.nD Cert.OutProjGatedRefIdeal.τ).loc Cert.OutProjGatedRefIdeal.main_arg1) = m ((c.tc : Thread Cert.OutProjGatedIdeal.nD Cert.OutProjGatedIdeal.τ).loc Cert.OutProjGatedIdeal.main_arg1)
      ∧ m' ((c.tc : Thread Cert.OutProjGatedRefIdeal.nD Cert.OutProjGatedRefIdeal.τ).loc Cert.OutProjGatedRefIdeal.main_arg2) = m ((c.tc : Thread Cert.OutProjGatedIdeal.nD Cert.OutProjGatedIdeal.τ).loc Cert.OutProjGatedIdeal.main_arg2)
      ∧ m' ((c.tc : Thread Cert.OutProjGatedRefIdeal.nD Cert.OutProjGatedRefIdeal.τ).loc Cert.OutProjGatedRefIdeal.main_arg3) = m ((c.tc : Thread Cert.OutProjGatedIdeal.nD Cert.OutProjGatedIdeal.τ).loc Cert.OutProjGatedIdeal.main_arg3)
      ∧ m' ((c.tc : Thread Cert.OutProjGatedRefIdeal.nD Cert.OutProjGatedRefIdeal.τ).loc Cert.OutProjGatedRefIdeal.main_arg4) = m ((c.tc : Thread Cert.OutProjGatedIdeal.nD Cert.OutProjGatedIdeal.τ).loc Cert.OutProjGatedIdeal.main_arg4)
      ∧ m' ((c.tc : Thread Cert.OutProjGatedRefIdeal.nD Cert.OutProjGatedRefIdeal.τ).loc Cert.OutProjGatedRefIdeal.main_arg5) = m ((c.tc : Thread Cert.OutProjGatedIdeal.nD Cert.OutProjGatedIdeal.τ).loc Cert.OutProjGatedIdeal.main_arg5)) →
    ∃ (v0 : (c : Dev Cert.OutProjGatedIdeal.nD) → Buf (Elt Ideal) ((c.tc : Thread Cert.OutProjGatedIdeal.nD Cert.OutProjGatedIdeal.τ).loc Cert.OutProjGatedIdeal.main_v6)),
      θ_run (Cert.OutProjGatedIdeal.defs (F := Ideal)) (onTc (τ := Cert.OutProjGatedIdeal.τ) (Cert.OutProjGatedIdeal.main (F := Ideal))) ⟨m, fun _ => 0, g⟩ (fun r => ∀ c : Dev Cert.OutProjGatedIdeal.nD,
          r.2.mem ((c.tc : Thread Cert.OutProjGatedIdeal.nD Cert.OutProjGatedIdeal.τ).loc Cert.OutProjGatedIdeal.main_v6) = v0 c
          ∧ r.2.mem ((c.tc : Thread Cert.OutProjGatedIdeal.nD Cert.OutProjGatedIdeal.τ).loc Cert.OutProjGatedIdeal.main_arg0) = m ((c.tc : Thread Cert.OutProjGatedIdeal.nD Cert.OutProjGatedIdeal.τ).loc Cert.OutProjGatedIdeal.main_arg0)
          ∧ r.2.mem ((c.tc : Thread Cert.OutProjGatedIdeal.nD Cert.OutProjGatedIdeal.τ).loc Cert.OutProjGatedIdeal.main_arg1) = m ((c.tc : Thread Cert.OutProjGatedIdeal.nD Cert.OutProjGatedIdeal.τ).loc Cert.OutProjGatedIdeal.main_arg1)
          ∧ r.2.mem ((c.tc : Thread Cert.OutProjGatedIdeal.nD Cert.OutProjGatedIdeal.τ).loc Cert.OutProjGatedIdeal.main_arg2) = m ((c.tc : Thread Cert.OutProjGatedIdeal.nD Cert.OutProjGatedIdeal.τ).loc Cert.OutProjGatedIdeal.main_arg2)
          ∧ r.2.mem ((c.tc : Thread Cert.OutProjGatedIdeal.nD Cert.OutProjGatedIdeal.τ).loc Cert.OutProjGatedIdeal.main_arg3) = m ((c.tc : Thread Cert.OutProjGatedIdeal.nD Cert.OutProjGatedIdeal.τ).loc Cert.OutProjGatedIdeal.main_arg3)
          ∧ r.2.mem ((c.tc : Thread Cert.OutProjGatedIdeal.nD Cert.OutProjGatedIdeal.τ).loc Cert.OutProjGatedIdeal.main_arg4) = m ((c.tc : Thread Cert.OutProjGatedIdeal.nD Cert.OutProjGatedIdeal.τ).loc Cert.OutProjGatedIdeal.main_arg4)
          ∧ r.2.mem ((c.tc : Thread Cert.OutProjGatedIdeal.nD Cert.OutProjGatedIdeal.τ).loc Cert.OutProjGatedIdeal.main_arg5) = m ((c.tc : Thread Cert.OutProjGatedIdeal.nD Cert.OutProjGatedIdeal.τ).loc Cert.OutProjGatedIdeal.main_arg5))
      ∧ θ_run (Cert.OutProjGatedRefIdeal.defs (F := Ideal)) (onTc (τ := Cert.OutProjGatedRefIdeal.τ) (Cert.OutProjGatedRefIdeal.main (F := Ideal))) ⟨m', fun _ => 0, g'⟩ (fun r => ∀ c : Dev Cert.OutProjGatedRefIdeal.nD,
          r.2.mem ((c.tc : Thread Cert.OutProjGatedRefIdeal.nD Cert.OutProjGatedRefIdeal.τ).loc Cert.OutProjGatedRefIdeal.main_v21) = v0 c
          ∧ r.2.mem ((c.tc : Thread Cert.OutProjGatedRefIdeal.nD Cert.OutProjGatedRefIdeal.τ).loc Cert.OutProjGatedRefIdeal.main_arg0) = m' ((c.tc : Thread Cert.OutProjGatedRefIdeal.nD Cert.OutProjGatedRefIdeal.τ).loc Cert.OutProjGatedRefIdeal.main_arg0)
          ∧ r.2.mem ((c.tc : Thread Cert.OutProjGatedRefIdeal.nD Cert.OutProjGatedRefIdeal.τ).loc Cert.OutProjGatedRefIdeal.main_arg1) = m' ((c.tc : Thread Cert.OutProjGatedRefIdeal.nD Cert.OutProjGatedRefIdeal.τ).loc Cert.OutProjGatedRefIdeal.main_arg1)
          ∧ r.2.mem ((c.tc : Thread Cert.OutProjGatedRefIdeal.nD Cert.OutProjGatedRefIdeal.τ).loc Cert.OutProjGatedRefIdeal.main_arg2) = m' ((c.tc : Thread Cert.OutProjGatedRefIdeal.nD Cert.OutProjGatedRefIdeal.τ).loc Cert.OutProjGatedRefIdeal.main_arg2)
          ∧ r.2.mem ((c.tc : Thread Cert.OutProjGatedRefIdeal.nD Cert.OutProjGatedRefIdeal.τ).loc Cert.OutProjGatedRefIdeal.main_arg3) = m' ((c.tc : Thread Cert.OutProjGatedRefIdeal.nD Cert.OutProjGatedRefIdeal.τ).loc Cert.OutProjGatedRefIdeal.main_arg3)
          ∧ r.2.mem ((c.tc : Thread Cert.OutProjGatedRefIdeal.nD Cert.OutProjGatedRefIdeal.τ).loc Cert.OutProjGatedRefIdeal.main_arg4) = m' ((c.tc : Thread Cert.OutProjGatedRefIdeal.nD Cert.OutProjGatedRefIdeal.τ).loc Cert.OutProjGatedRefIdeal.main_arg4)
          ∧ r.2.mem ((c.tc : Thread Cert.OutProjGatedRefIdeal.nD Cert.OutProjGatedRefIdeal.τ).loc Cert.OutProjGatedRefIdeal.main_arg5) = m' ((c.tc : Thread Cert.OutProjGatedRefIdeal.nD Cert.OutProjGatedRefIdeal.τ).loc Cert.OutProjGatedRefIdeal.main_arg5))

def preserves_Features_FeaturesIdeal : Prop :=
  True

def algebraic_FeaturesIdeal_FeaturesRefIdeal [hFeaturesIdeal : Cert.FeaturesIdeal.Facts] [hFeaturesRefIdeal : Cert.FeaturesRefIdeal.Facts] : Prop :=
  ∀ (m : (ℓ : Loc Cert.FeaturesIdeal.nD Cert.FeaturesIdeal.τ Cert.FeaturesIdeal.sig) → Buf (Elt Ideal) ℓ) (g : Dev Cert.FeaturesIdeal.nD → PrngReg)
    (m' : (ℓ : Loc Cert.FeaturesRefIdeal.nD Cert.FeaturesRefIdeal.τ Cert.FeaturesRefIdeal.sig) → Buf (Elt Ideal) ℓ) (g' : Dev Cert.FeaturesRefIdeal.nD → PrngReg), Pre_FeaturesIdeal m →
    (∀ c : Dev Cert.FeaturesIdeal.nD,
      m' ((c.tc : Thread Cert.FeaturesRefIdeal.nD Cert.FeaturesRefIdeal.τ).loc Cert.FeaturesRefIdeal.main_arg0) = m ((c.tc : Thread Cert.FeaturesIdeal.nD Cert.FeaturesIdeal.τ).loc Cert.FeaturesIdeal.main_arg0)
      ∧ m' ((c.tc : Thread Cert.FeaturesRefIdeal.nD Cert.FeaturesRefIdeal.τ).loc Cert.FeaturesRefIdeal.main_arg1) = m ((c.tc : Thread Cert.FeaturesIdeal.nD Cert.FeaturesIdeal.τ).loc Cert.FeaturesIdeal.main_arg1)) →
    ∃ (v0 : (c : Dev Cert.FeaturesIdeal.nD) → Buf (Elt Ideal) ((c.tc : Thread Cert.FeaturesIdeal.nD Cert.FeaturesIdeal.τ).loc Cert.FeaturesIdeal.main_v2_0)) (v1 : (c : Dev Cert.FeaturesIdeal.nD) → Buf (Elt Ideal) ((c.tc : Thread Cert.FeaturesIdeal.nD Cert.FeaturesIdeal.τ).loc Cert.FeaturesIdeal.main_v2_1)) (v2 : (c : Dev Cert.FeaturesIdeal.nD) → Buf (Elt Ideal) ((c.tc : Thread Cert.FeaturesIdeal.nD Cert.FeaturesIdeal.τ).loc Cert.FeaturesIdeal.main_v2_2)),
      θ_run (Cert.FeaturesIdeal.defs (F := Ideal)) (onTc (τ := Cert.FeaturesIdeal.τ) (Cert.FeaturesIdeal.main (F := Ideal))) ⟨m, fun _ => 0, g⟩ (fun r => ∀ c : Dev Cert.FeaturesIdeal.nD,
          r.2.mem ((c.tc : Thread Cert.FeaturesIdeal.nD Cert.FeaturesIdeal.τ).loc Cert.FeaturesIdeal.main_v2_0) = v0 c
          ∧ r.2.mem ((c.tc : Thread Cert.FeaturesIdeal.nD Cert.FeaturesIdeal.τ).loc Cert.FeaturesIdeal.main_v2_1) = v1 c
          ∧ r.2.mem ((c.tc : Thread Cert.FeaturesIdeal.nD Cert.FeaturesIdeal.τ).loc Cert.FeaturesIdeal.main_v2_2) = v2 c
          ∧ r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
          ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1))
      ∧ θ_run (Cert.FeaturesRefIdeal.defs (F := Ideal)) (onTc (τ := Cert.FeaturesRefIdeal.τ) (Cert.FeaturesRefIdeal.main (F := Ideal))) ⟨m', fun _ => 0, g'⟩ (fun r => ∀ c : Dev Cert.FeaturesRefIdeal.nD,
          r.2.mem ((c.tc : Thread Cert.FeaturesRefIdeal.nD Cert.FeaturesRefIdeal.τ).loc Cert.FeaturesRefIdeal.main_v53) = v0 c
          ∧ r.2.mem ((c.tc : Thread Cert.FeaturesRefIdeal.nD Cert.FeaturesRefIdeal.τ).loc Cert.FeaturesRefIdeal.main_v54) = v1 c
          ∧ r.2.mem ((c.tc : Thread Cert.FeaturesRefIdeal.nD Cert.FeaturesRefIdeal.τ).loc Cert.FeaturesRefIdeal.main_v55) = v2 c
          ∧ r.2.mem ((c.tc : Thread Cert.FeaturesRefIdeal.nD Cert.FeaturesRefIdeal.τ).loc Cert.FeaturesRefIdeal.main_arg0) = m' ((c.tc : Thread Cert.FeaturesRefIdeal.nD Cert.FeaturesRefIdeal.τ).loc Cert.FeaturesRefIdeal.main_arg0)
          ∧ r.2.mem ((c.tc : Thread Cert.FeaturesRefIdeal.nD Cert.FeaturesRefIdeal.τ).loc Cert.FeaturesRefIdeal.main_arg1) = m' ((c.tc : Thread Cert.FeaturesRefIdeal.nD Cert.FeaturesRefIdeal.τ).loc Cert.FeaturesRefIdeal.main_arg1))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hInProjRows : Cert.InProjRows.Facts) (hInProjRowsIdeal : Cert.InProjRowsIdeal.Facts) (hInProjRowsRefIdeal : Cert.InProjRowsRefIdeal.Facts) (hOutProj : Cert.OutProj.Facts) (hOutProjIdeal : Cert.OutProjIdeal.Facts) (hOutProjRefIdeal : Cert.OutProjRefIdeal.Facts) (hOutProjGated : Cert.OutProjGated.Facts) (hOutProjGatedIdeal : Cert.OutProjGatedIdeal.Facts) (hOutProjGatedRefIdeal : Cert.OutProjGatedRefIdeal.Facts) (hFeatures : Cert.Features.Facts) (hFeaturesIdeal : Cert.FeaturesIdeal.Facts) (hFeaturesRefIdeal : Cert.FeaturesRefIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_InProjRows (hInProjRows := hInProjRows)
    ∧ quiescent_InProjRowsIdeal (hInProjRowsIdeal := hInProjRowsIdeal)
    ∧ quiescent_InProjRowsRefIdeal (hInProjRowsRefIdeal := hInProjRowsRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjGated (hOutProjGated := hOutProjGated)
    ∧ quiescent_OutProjGatedIdeal (hOutProjGatedIdeal := hOutProjGatedIdeal)
    ∧ quiescent_OutProjGatedRefIdeal (hOutProjGatedRefIdeal := hOutProjGatedRefIdeal)
    ∧ quiescent_Features (hFeatures := hFeatures)
    ∧ quiescent_FeaturesIdeal (hFeaturesIdeal := hFeaturesIdeal)
    ∧ quiescent_FeaturesRefIdeal (hFeaturesRefIdeal := hFeaturesRefIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjRefIdeal (hInProjIdeal := hInProjIdeal) (hInProjRefIdeal := hInProjRefIdeal)
    ∧ preserves_InProjRows_InProjRowsIdeal
    ∧ algebraic_InProjRowsIdeal_InProjRowsRefIdeal (hInProjRowsIdeal := hInProjRowsIdeal) (hInProjRowsRefIdeal := hInProjRowsRefIdeal)
    ∧ preserves_OutProj_OutProjIdeal
    ∧ algebraic_OutProjIdeal_OutProjRefIdeal (hOutProjIdeal := hOutProjIdeal) (hOutProjRefIdeal := hOutProjRefIdeal)
    ∧ preserves_OutProjGated_OutProjGatedIdeal
    ∧ algebraic_OutProjGatedIdeal_OutProjGatedRefIdeal (hOutProjGatedIdeal := hOutProjGatedIdeal) (hOutProjGatedRefIdeal := hOutProjGatedRefIdeal)
    ∧ preserves_Features_FeaturesIdeal
    ∧ algebraic_FeaturesIdeal_FeaturesRefIdeal (hFeaturesIdeal := hFeaturesIdeal) (hFeaturesRefIdeal := hFeaturesRefIdeal)
-- ==== Kernel.lean ====
abbrev S128x1x1536 : Shape := ⟨3, ![128, 1, 1536]⟩
abbrev S128x1x64 : Shape := ⟨3, ![128, 1, 64]⟩
abbrev S128x1x16 : Shape := ⟨3, ![128, 1, 16]⟩
abbrev S128x1x4 : Shape := ⟨3, ![128, 1, 4]⟩
abbrev S128x1x512 : Shape := ⟨3, ![128, 1, 512]⟩
abbrev S1x128x3x1536 : Shape := ⟨4, ![1, 128, 3, 1536]⟩
abbrev S1x4x1536 : Shape := ⟨3, ![1, 4, 1536]⟩
abbrev S1x4 : Shape := ⟨2, ![1, 4]⟩
abbrev S1x128 : Shape := ⟨2, ![1, 128]⟩
abbrev S1x128x4x128x128 : Shape := ⟨5, ![1, 128, 4, 128, 128]⟩
abbrev S_ : Shape := ⟨0, ![]⟩
abbrev S128x1x40 : Shape := ⟨3, ![128, 1, 40]⟩
abbrev S128x1x128 : Shape := ⟨3, ![128, 1, 128]⟩
abbrev S4 : Shape := ⟨1, ![4]⟩
abbrev S128x3x1536 : Shape := ⟨3, ![128, 3, 1536]⟩
abbrev S4x1536 : Shape := ⟨2, ![4, 1536]⟩
abbrev S128 : Shape := ⟨1, ![128]⟩
abbrev S128x4x128x128 : Shape := ⟨4, ![128, 4, 128, 128]⟩
abbrev S1x1x1536 : Shape := ⟨3, ![1, 1, 1536]⟩
abbrev S1x3x1536 : Shape := ⟨3, ![1, 3, 1536]⟩
abbrev S1x1x128 : Shape := ⟨3, ![1, 1, 128]⟩
abbrev S1x1x512 : Shape := ⟨3, ![1, 1, 512]⟩
abbrev S1x4x128x128 : Shape := ⟨4, ![1, 4, 128, 128]⟩
abbrev S1x1536 : Shape := ⟨2, ![1, 1536]⟩
abbrev S3x1536 : Shape := ⟨2, ![3, 1536]⟩
abbrev S2x1536 : Shape := ⟨2, ![2, 1536]⟩
abbrev S1x2x1536 : Shape := ⟨3, ![1, 2, 1536]⟩
abbrev S1 : Shape := ⟨1, ![1]⟩
abbrev S1x1 : Shape := ⟨2, ![1, 1]⟩
abbrev S1x1x128x128 : Shape := ⟨4, ![1, 1, 128, 128]⟩
abbrev S128x128 : Shape := ⟨2, ![128, 128]⟩
abbrev S1x512 : Shape := ⟨2, ![1, 512]⟩

abbrev nBuf : Space → Nat
  | .hbm => 25
  | .vmem => 18
  | .smem => 2
  | _ => 0

abbrev bufTy : (tb : Table) → Fin (tcTables nBuf tb) → BufTy
  | .hbm, ⟨0, _⟩ => ⟨S128x1x1536, .f32⟩
  | .hbm, ⟨1, _⟩ => ⟨S128x1x64, .f32⟩
  | .hbm, ⟨2, _⟩ => ⟨S128x1x16, .f32⟩
  | .hbm, ⟨3, _⟩ => ⟨S128x1x4, .f32⟩
  | .hbm, ⟨4, _⟩ => ⟨S128x1x4, .f32⟩
  | .hbm, ⟨5, _⟩ => ⟨S128x1x512, .f32⟩
  | .hbm, ⟨6, _⟩ => ⟨S1x128x3x1536, .f32⟩
  | .hbm, ⟨7, _⟩ => ⟨S1x4x1536, .f32⟩
  | .hbm, ⟨8, _⟩ => ⟨S1x4, .f32⟩
  | .hbm, ⟨9, _⟩ => ⟨S1x4, .f32⟩
  | .hbm, ⟨10, _⟩ => ⟨S1x128, .f32⟩
  | .hbm, ⟨11, _⟩ => ⟨S1x128x4x128x128, .f32⟩
  | .hbm, ⟨12, _⟩ => ⟨S_, .f32⟩
  | .hbm, ⟨13, _⟩ => ⟨S128x1x40, .f32⟩
  | .hbm, ⟨14, _⟩ => ⟨S128x1x128, .f32⟩
  | .hbm, ⟨15, _⟩ => ⟨S4, .f32⟩
  | .hbm, ⟨16, _⟩ => ⟨S4, .f32⟩
  | .hbm, ⟨17, _⟩ => ⟨S128x3x1536, .f32⟩
  | .hbm, ⟨18, _⟩ => ⟨S4x1536, .f32⟩
  | .hbm, ⟨19, _⟩ => ⟨S128, .f32⟩
  | .hbm, ⟨20, _⟩ => ⟨S128x4x128x128, .f32⟩
  | .hbm, ⟨21, _⟩ => ⟨S1x128, .f32⟩
  | .hbm, ⟨22, _⟩ => ⟨S128x1x512, .bf16⟩
  | .hbm, ⟨23, _⟩ => ⟨S128x4x128x128, .f32⟩
  | .hbm, ⟨24, _⟩ => ⟨S128x3x1536, .f32⟩
  | .local _ .vmem, ⟨0, _⟩ => ⟨S1x1x1536, .f32⟩
  | .local _ .vmem, ⟨1, _⟩ => ⟨S1x1x1536, .f32⟩
  | .local _ .vmem, ⟨2, _⟩ => ⟨S1x3x1536, .f32⟩
  | .local _ .vmem, ⟨3, _⟩ => ⟨S1x3x1536, .f32⟩
  | .local _ .vmem, ⟨4, _⟩ => ⟨S4x1536, .f32⟩
  | .local _ .vmem, ⟨5, _⟩ => ⟨S1x1x128, .f32⟩
  | .local _ .vmem, ⟨6, _⟩ => ⟨S1x1x128, .f32⟩
  | .local _ .vmem, ⟨7, _⟩ => ⟨S1x1x512, .f32⟩
  | .local _ .vmem, ⟨8, _⟩ => ⟨S1x1x512, .f32⟩
  | .local _ .vmem, ⟨9, _⟩ => ⟨S1x128, .f32⟩
  | .local _ .vmem, ⟨10, _⟩ => ⟨S1x4x128x128, .f32⟩
  | .local _ .vmem, ⟨11, _⟩ => ⟨S1x4x128x128, .f32⟩
  | .local _ .vmem, ⟨12, _⟩ => ⟨S1x1x512, .bf16⟩
  | .local _ .vmem, ⟨13, _⟩ => ⟨S1x1x512, .bf16⟩
  | .local _ .vmem, ⟨14, _⟩ => ⟨S1x4x128x128, .f32⟩
  | .local _ .vmem, ⟨15, _⟩ => ⟨S1x4x128x128, .f32⟩
  | .local _ .vmem, ⟨16, _⟩ => ⟨S1x3x1536, .f32⟩
  | .local _ .vmem, ⟨17, _⟩ => ⟨S1x3x1536, .f32⟩
  | .local _ .smem, ⟨0, _⟩ => ⟨S4, .f32⟩
  | .local _ .smem, ⟨1, _⟩ => ⟨S4, .f32⟩
  | _, _ => ⟨S128x1x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x3x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S128x1x1536 : Shape := ⟨3, ![128, 1, 1536]⟩
abbrev S128x1x64 : Shape := ⟨3, ![128, 1, 64]⟩
abbrev S128x1x16 : Shape := ⟨3, ![128, 1, 16]⟩
abbrev S128x1x4 : Shape := ⟨3, ![128, 1, 4]⟩
abbrev S128x1x512 : Shape := ⟨3, ![128, 1, 512]⟩
abbrev S1x128x3x1536 : Shape := ⟨4, ![1, 128, 3, 1536]⟩
abbrev S1x4x1536 : Shape := ⟨3, ![1, 4, 1536]⟩
abbrev S1x4 : Shape := ⟨2, ![1, 4]⟩
abbrev S1x128 : Shape := ⟨2, ![1, 128]⟩
abbrev S1x128x4x128x128 : Shape := ⟨5, ![1, 128, 4, 128, 128]⟩
abbrev S128x3x1536 : Shape := ⟨3, ![128, 3, 1536]⟩
abbrev S128x4x1536 : Shape := ⟨3, ![128, 4, 1536]⟩
abbrev S4x1536 : Shape := ⟨2, ![4, 1536]⟩
abbrev S1x1536 : Shape := ⟨2, ![1, 1536]⟩
abbrev S1536 : Shape := ⟨1, ![1536]⟩
abbrev S1x1x1536 : Shape := ⟨3, ![1, 1, 1536]⟩
abbrev S_ : Shape := ⟨0, ![]⟩
abbrev S128x1x4x128 : Shape := ⟨4, ![128, 1, 4, 128]⟩
abbrev S128x1x4x1 : Shape := ⟨4, ![128, 1, 4, 1]⟩
abbrev S4 : Shape := ⟨1, ![4]⟩
abbrev S1x1x4 : Shape := ⟨3, ![1, 1, 4]⟩
abbrev S128x4x128x128 : Shape := ⟨4, ![128, 4, 128, 128]⟩
abbrev S128x4x128 : Shape := ⟨3, ![128, 4, 128]⟩
abbrev S128x4 : Shape := ⟨2, ![128, 4]⟩
abbrev S128x4x1x1 : Shape := ⟨4, ![128, 4, 1, 1]⟩
abbrev S128x4x1 : Shape := ⟨3, ![128, 4, 1]⟩
abbrev S128x4x128x1 : Shape := ⟨4, ![128, 4, 128, 1]⟩
abbrev S128x4x1x128 : Shape := ⟨4, ![128, 4, 1, 128]⟩
abbrev S128 : Shape := ⟨1, ![128]⟩
abbrev S1x1x1x128 : Shape := ⟨4, ![1, 1, 1, 128]⟩

abbrev nBuf : Space → Nat
  | .hbm => 165
  | .vmem => 0
  | .smem => 0
  | _ => 0

abbrev hbmTy0_0 (i : Nat) : BufTy := match i % 128 with
  | 0 => ⟨S128x1x1536, .f32⟩
  | 1 => ⟨S128x1x64, .f32⟩
  | 2 => ⟨S128x1x16, .f32⟩
  | 3 => ⟨S128x1x4, .f32⟩
  | 4 => ⟨S128x1x4, .f32⟩
  | 5 => ⟨S128x1x512, .f32⟩
  | 6 => ⟨S1x128x3x1536, .f32⟩
  | 7 => ⟨S1x4x1536, .f32⟩
  | 8 => ⟨S1x4, .f32⟩
  | 9 => ⟨S1x4, .f32⟩
  | 10 => ⟨S1x128, .f32⟩
  | 11 => ⟨S1x128x4x128x128, .f32⟩
  | 12 => ⟨S128x3x1536, .f32⟩
  | 13 => ⟨S128x4x1536, .f32⟩
  | 14 => ⟨S4x1536, .f32⟩
  | 15 => ⟨S128x1x1536, .f32⟩
  | 16 => ⟨S1x1536, .f32⟩
  | 17 => ⟨S1536, .f32⟩
  | 18 => ⟨S1x1x1536, .f32⟩
  | 19 => ⟨S128x1x1536, .f32⟩
  | 20 => ⟨S128x1x1536, .f32⟩
  | 21 => ⟨S128x1x1536, .f32⟩
  | 22 => ⟨S1x1536, .f32⟩
  | 23 => ⟨S1536, .f32⟩
  | 24 => ⟨S1x1x1536, .f32⟩
  | 25 => ⟨S128x1x1536, .f32⟩
  | 26 => ⟨S128x1x1536, .f32⟩
  | 27 => ⟨S128x1x1536, .f32⟩
  | 28 => ⟨S128x1x1536, .f32⟩
  | 29 => ⟨S1x1536, .f32⟩
  | 30 => ⟨S1536, .f32⟩
  | 31 => ⟨S1x1x1536, .f32⟩
  | 32 => ⟨S128x1x1536, .f32⟩
  | 33 => ⟨S128x1x1536, .f32⟩
  | 34 => ⟨S128x1x1536, .f32⟩
  | 35 => ⟨S128x1x1536, .f32⟩
  | 36 => ⟨S1x1536, .f32⟩
  | 37 => ⟨S1536, .f32⟩
  | 38 => ⟨S1x1x1536, .f32⟩
  | 39 => ⟨S128x1x1536, .f32⟩
  | 40 => ⟨S128x1x1536, .f32⟩
  | 41 => ⟨S128x1x1536, .f32⟩
  | 42 => ⟨S128x1x1536, .f32⟩
  | 43 => ⟨S128x1x1536, .f32⟩
  | 44 => ⟨S_, .f32⟩
  | 45 => ⟨S128x1x1536, .f32⟩
  | 46 => ⟨S128x1x1536, .f32⟩
  | 47 => ⟨S_, .f32⟩
  | 48 => ⟨S128x1x1536, .f32⟩
  | 49 => ⟨S128x1x1536, .f32⟩
  | 50 => ⟨S128x1x1536, .f32⟩
  | 51 => ⟨S128x1x512, .f32⟩
  | 52 => ⟨S128x1x512, .f32⟩
  | 53 => ⟨S128x1x512, .f32⟩
  | 54 => ⟨S128x1x4x128, .f32⟩
  | 55 => ⟨S128x1x4x128, .f32⟩
  | 56 => ⟨S_, .f32⟩
  | 57 => ⟨S128x1x4, .f32⟩
  | 58 => ⟨S128x1x4x1, .f32⟩
  | 59 => ⟨S_, .f32⟩
  | 60 => ⟨S128x1x4x1, .f32⟩
  | 61 => ⟨S128x1x4x1, .f32⟩
  | 62 => ⟨S128x1x4x1, .f32⟩
  | 63 => ⟨S128x1x4x128, .f32⟩
  | 64 => ⟨S128x1x4x128, .f32⟩
  | 65 => ⟨S_, .f32⟩
  | 66 => ⟨S128x1x4x128, .f32⟩
  | 67 => ⟨S128x1x4x128, .f32⟩
  | 68 => ⟨S128x1x4x128, .f32⟩
  | 69 => ⟨S128x1x4x128, .f32⟩
  | 70 => ⟨S_, .f32⟩
  | 71 => ⟨S128x1x4, .f32⟩
  | 72 => ⟨S128x1x4x1, .f32⟩
  | 73 => ⟨S_, .f32⟩
  | 74 => ⟨S128x1x4x1, .f32⟩
  | 75 => ⟨S128x1x4x1, .f32⟩
  | 76 => ⟨S128x1x4x1, .f32⟩
  | 77 => ⟨S128x1x4x128, .f32⟩
  | 78 => ⟨S128x1x4x128, .f32⟩
  | 79 => ⟨S128x1x4x128, .f32⟩
  | 80 => ⟨S4, .f32⟩
  | 81 => ⟨S4, .f32⟩
  | 82 => ⟨S4, .f32⟩
  | 83 => ⟨S4, .f32⟩
  | 84 => ⟨S1x1x4, .f32⟩
  | 85 => ⟨S128x1x4, .f32⟩
  | 86 => ⟨S128x1x4, .f32⟩
  | 87 => ⟨S_, .f32⟩
  | 88 => ⟨S128x1x4, .f32⟩
  | 89 => ⟨S128x1x4, .f32⟩
  | 90 => ⟨S128x1x4, .f32⟩
  | 91 => ⟨S128x1x4, .f32⟩
  | 92 => ⟨S128x1x4, .i1⟩
  | 93 => ⟨S128x1x4, .f32⟩
  | 94 => ⟨S128x1x4, .f32⟩
  | 95 => ⟨S128x1x4, .f32⟩
  | 96 => ⟨S128x1x4, .f32⟩
  | 97 => ⟨S128x1x4, .f32⟩
  | 98 => ⟨S128x1x4, .f32⟩
  | 99 => ⟨S128x1x4, .f32⟩
  | 100 => ⟨S128x1x4, .f32⟩
  | 101 => ⟨S1x1x4, .f32⟩
  | 102 => ⟨S128x1x4, .f32⟩
  | 103 => ⟨S128x1x4, .f32⟩
  | 104 => ⟨S128x1x4, .f32⟩
  | 105 => ⟨S128x1x4, .f32⟩
  | 106 => ⟨S_, .f32⟩
  | 107 => ⟨S128x1x4, .f32⟩
  | 108 => ⟨S128x1x4, .f32⟩
  | 109 => ⟨S_, .f32⟩
  | 110 => ⟨S128x1x4, .f32⟩
  | 111 => ⟨S128x1x4, .f32⟩
  | 112 => ⟨S128x4x128x128, .f32⟩
  | 113 => ⟨S128x4x128, .f32⟩
  | 114 => ⟨S128x4x128, .f32⟩
  | 115 => ⟨S128x4x128, .f32⟩
  | 116 => ⟨S128x4, .f32⟩
  | 117 => ⟨S128x4, .f32⟩
  | 118 => ⟨S128x4, .f32⟩
  | 119 => ⟨S128x4x1x1, .f32⟩
  | 120 => ⟨S128x4x128x128, .f32⟩
  | 121 => ⟨S128x4x128x128, .f32⟩
  | 122 => ⟨S128x4x128, .f32⟩
  | 123 => ⟨S128x4x128, .f32⟩
  | 124 => ⟨S128x4x1, .f32⟩
  | 125 => ⟨S128x4x128, .f32⟩
  | 126 => ⟨S128x4x128, .f32⟩
  | 127 => ⟨S128x4x128x1, .f32⟩
  | _ => ⟨S128x1x1536, .f32⟩

abbrev hbmTy0_1 (i : Nat) : BufTy := match i % 128 with
  | 0 => ⟨S128x4x1x128, .f32⟩
  | 1 => ⟨S128x4x128x128, .f32⟩
  | 2 => ⟨S128x4x128x128, .f32⟩
  | 3 => ⟨S128x4x128x128, .f32⟩
  | 4 => ⟨S128x4x128x128, .f32⟩
  | 5 => ⟨S128x4x128, .f32⟩
  | 6 => ⟨S128x1x4x128, .f32⟩
  | 7 => ⟨S128, .f32⟩
  | 8 => ⟨S128x1x4x128, .f32⟩
  | 9 => ⟨S_, .f32⟩
  | 10 => ⟨S128x1x4, .f32⟩
  | 11 => ⟨S128x1x4x1, .f32⟩
  | 12 => ⟨S_, .f32⟩
  | 13 => ⟨S128x1x4x1, .f32⟩
  | 14 => ⟨S128x1x4x1, .f32⟩
  | 15 => ⟨S_, .f32⟩
  | 16 => ⟨S128x1x4x1, .f32⟩
  | 17 => ⟨S128x1x4x1, .f32⟩
  | 18 => ⟨S128x1x4x1, .f32⟩
  | 19 => ⟨S128x1x4x128, .f32⟩
  | 20 => ⟨S128x1x4x128, .f32⟩
  | 21 => ⟨S1x1x1x128, .f32⟩
  | 22 => ⟨S128x1x4x128, .f32⟩
  | 23 => ⟨S128x1x4x128, .f32⟩
  | 24 => ⟨S128x1x512, .f32⟩
  | 25 => ⟨S128x1x512, .f32⟩
  | 26 => ⟨S128x1x512, .f32⟩
  | 27 => ⟨S_, .f32⟩
  | 28 => ⟨S128x1x512, .f32⟩
  | 29 => ⟨S128x1x512, .f32⟩
  | 30 => ⟨S_, .f32⟩
  | 31 => ⟨S128x1x512, .f32⟩
  | 32 => ⟨S128x1x512, .f32⟩
  | 33 => ⟨S128x1x512, .f32⟩
  | 34 => ⟨S128x1x512, .f32⟩
  | 35 => ⟨S128x1x512, .bf16⟩
  | 36 => ⟨S128x3x1536, .f32⟩
  | _ => ⟨S128x1x1536, .f32⟩

abbrev hbmTy (i : Nat) : BufTy := match i / 128 with
  | 0 => hbmTy0_0 i
  | 1 => hbmTy0_1 i
  | _ => ⟨S128x1x1536, .f32⟩

abbrev bufTy : (tb : Table) → Fin (tcTables nBuf tb) → BufTy
  | .hbm, ⟨i, _⟩ => hbmTy i
  | _, _ => ⟨S128x1x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_v36 : Ref sig .tc := ⟨.hbm, 57, rfl⟩
abbrev main_v37 : Ref sig .tc := ⟨.hbm, 58, rfl⟩
abbrev main_cst_0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_1 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_2 : Ref sig .tc := ⟨.hbm, 70, rfl⟩
abbrev main_v47 : Ref sig .tc := ⟨.hbm, 71, rfl⟩
abbrev main_v48 : Ref sig .tc := ⟨.hbm, 72, rfl⟩
abbrev main_cst_3 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_4 : Ref sig .tc := ⟨.hbm, 106, rfl⟩
abbrev main_v68 : Ref sig .tc := ⟨.hbm, 107, rfl⟩
abbrev main_v69 : Ref sig .tc := ⟨.hbm, 108, rfl⟩
abbrev main_cst_5 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_6 : Ref sig .tc := ⟨.hbm, 137, rfl⟩
abbrev main_v97 : Ref sig .tc := ⟨.hbm, 138, rfl⟩
abbrev main_v98 : Ref sig .tc := ⟨.hbm, 139, rfl⟩
abbrev main_cst_7 : Ref sig .tc := ⟨.hbm, 140, rfl⟩
abbrev main_v99 : Ref sig .tc := ⟨.hbm, 141, rfl⟩
abbrev main_v100 : Ref sig .tc := ⟨.hbm, 142, rfl⟩
abbrev main_cst_8 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_call2_v0 : Ref sig .tc := ⟨.hbm, 153, rfl⟩
abbrev main_call2_v1 : Ref sig .tc := ⟨.hbm, 154, rfl⟩
abbrev main_call2_cst : Ref sig .tc := ⟨.hbm, 155, rfl⟩
abbrev main_call2_v2 : Ref sig .tc := ⟨.hbm, 156, rfl⟩
abbrev main_call2_v3 : Ref sig .tc := ⟨.hbm, 157, rfl⟩
abbrev main_call2_cst_0 : Ref sig .tc := ⟨.hbm, 158, rfl⟩
abbrev main_call2_v4 : Ref sig .tc := ⟨.hbm, 159, rfl⟩
abbrev main_call2_v5 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩

abbrev nD : Nat := 1
abbrev τ : Topo := Topo.v7x

variable {F : FTy → Type} [FloatOps F]
-- ==== InProj.lean ====
abbrev S32x2048x1024 : Shape := ⟨3, ![32, 2048, 1024]⟩
abbrev S1x1024 : Shape := ⟨2, ![1, 1024]⟩
abbrev S1x1024x4440 : Shape := ⟨3, ![1, 1024, 4440]⟩
abbrev S1024x4440 : Shape := ⟨2, ![1024, 4440]⟩
abbrev S1024x512 : Shape := ⟨2, ![1024, 512]⟩
abbrev S1024x128 : Shape := ⟨2, ![1024, 128]⟩
abbrev S1024x1024 : Shape := ⟨2, ![1024, 1024]⟩
abbrev S1024x64 : Shape := ⟨2, ![1024, 64]⟩
abbrev S1024x16 : Shape := ⟨2, ![1024, 16]⟩
abbrev S1024x1536 : Shape := ⟨2, ![1024, 1536]⟩
abbrev S1024x4 : Shape := ⟨2, ![1024, 4]⟩
abbrev S_ : Shape := ⟨0, ![]⟩
abbrev S1024x40 : Shape := ⟨2, ![1024, 40]⟩
abbrev S1024x4480 : Shape := ⟨2, ![1024, 4480]⟩
abbrev S65536x1024 : Shape := ⟨2, ![65536, 1024]⟩
abbrev S1024 : Shape := ⟨1, ![1024]⟩
abbrev S512x128x512 : Shape := ⟨3, ![512, 128, 512]⟩
abbrev S65536x128 : Shape := ⟨2, ![65536, 128]⟩
abbrev S65536x512 : Shape := ⟨2, ![65536, 512]⟩
abbrev S512x128x1024 : Shape := ⟨3, ![512, 128, 1024]⟩
abbrev S65536x1536 : Shape := ⟨2, ![65536, 1536]⟩
abbrev S32x128x2048 : Shape := ⟨3, ![32, 128, 2048]⟩
abbrev S32x64x2048 : Shape := ⟨3, ![32, 64, 2048]⟩
abbrev S512x1024 : Shape := ⟨2, ![512, 1024]⟩
abbrev S4x128x512 : Shape := ⟨3, ![4, 128, 512]⟩
abbrev S512x128 : Shape := ⟨2, ![512, 128]⟩
abbrev S512x512 : Shape := ⟨2, ![512, 512]⟩
abbrev S4x128x1024 : Shape := ⟨3, ![4, 128, 1024]⟩
abbrev S512x1536 : Shape := ⟨2, ![512, 1536]⟩
abbrev S1x128x512 : Shape := ⟨3, ![1, 128, 512]⟩
abbrev S1x64x512 : Shape := ⟨3, ![1, 64, 512]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x512 : Shape := ⟨2, ![128, 512]⟩
abbrev S64x512 : Shape := ⟨2, ![64, 512]⟩
abbrev S32x2x64x2048 : Shape := ⟨4, ![32, 2, 64, 2048]⟩
abbrev S32x2048x2x64 : Shape := ⟨4, ![32, 2048, 2, 64]⟩
abbrev S1x32x2048x2x64 : Shape := ⟨5, ![1, 32, 2048, 2, 64]⟩
abbrev S32x2048x64 : Shape := ⟨3, ![32, 2048, 64]⟩
abbrev S1x32x2048x64 : Shape := ⟨4, ![1, 32, 2048, 64]⟩
abbrev S32x2048x1536 : Shape := ⟨3, ![32, 2048, 1536]⟩
abbrev S32x3x1536 : Shape := ⟨3, ![32, 3, 1536]⟩
abbrev S1x32x3x1536 : Shape := ⟨4, ![1, 32, 3, 1536]⟩
abbrev S512x128x4x128 : Shape := ⟨4, ![512, 128, 4, 128]⟩
abbrev S512x128x8x128 : Shape := ⟨4, ![512, 128, 8, 128]⟩
abbrev S65536x88 : Shape := ⟨2, ![65536, 88]⟩

abbrev nBuf : Space → Nat
  | .hbm => 52
  | .vmem => 26
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x4440, .f32⟩
  | .hbm, ⟨3, _⟩ => ⟨S1024x4440, .f32⟩
  | .hbm, ⟨4, _⟩ => ⟨S1024x512, .f32⟩
  | .hbm, ⟨5, _⟩ => ⟨S1024x128, .f32⟩
  | .hbm, ⟨6, _⟩ => ⟨S1024x128, .f32⟩
  | .hbm, ⟨7, _⟩ => ⟨S1024x512, .f32⟩
  | .hbm, ⟨8, _⟩ => ⟨S1024x1024, .f32⟩
  | .hbm, ⟨9, _⟩ => ⟨S1024x64, .f32⟩
  | .hbm, ⟨10, _⟩ => ⟨S1024x16, .f32⟩
  | .hbm, ⟨11, _⟩ => ⟨S1024x1536, .f32⟩
  | .hbm, ⟨12, _⟩ => ⟨S1024x512, .f32⟩
  | .hbm, ⟨13, _⟩ => ⟨S1024x4, .f32⟩
  | .hbm, ⟨14, _⟩ => ⟨S1024x4, .f32⟩
  | .hbm, ⟨15, _⟩ => ⟨S_, .f32⟩
  | .hbm, ⟨16, _⟩ => ⟨S1024x40, .f32⟩
  | .hbm, ⟨17, _⟩ => ⟨S1024x128, .f32⟩
  | .hbm, ⟨18, _⟩ => ⟨S1024x4480, .f32⟩
  | .hbm, ⟨19, _⟩ => ⟨S1024x4480, .bf16⟩
  | .hbm, ⟨20, _⟩ => ⟨S65536x1024, .f32⟩
  | .hbm, ⟨21, _⟩ => ⟨S1024, .f32⟩
  | .hbm, ⟨22, _⟩ => ⟨S1x1024, .f32⟩
  | .hbm, ⟨23, _⟩ => ⟨S512x128x512, .bf16⟩
  | .hbm, ⟨24, _⟩ => ⟨S65536x128, .f32⟩
  | .hbm, ⟨25, _⟩ => ⟨S65536x128, .f32⟩
  | .hbm, ⟨26, _⟩ => ⟨S65536x512, .f32⟩
  | .hbm, ⟨27, _⟩ => ⟨S512x128x1024, .bf16⟩
  | .hbm, ⟨28, _⟩ => ⟨S65536x128, .f32⟩
  | .hbm, ⟨29, _⟩ => ⟨S65536x1536, .f32⟩
  | .hbm, ⟨30, _⟩ => ⟨S65536x512, .f32⟩
  | .hbm, ⟨31, _⟩ => ⟨S32x128x2048, .f32⟩
  | .hbm, ⟨32, _⟩ => ⟨S32x128x2048, .f32⟩
  | .hbm, ⟨33, _⟩ => ⟨S32x64x2048, .f32⟩
  | .hbm, ⟨34, _⟩ => ⟨S32x2x64x2048, .f32⟩
  | .hbm, ⟨35, _⟩ => ⟨S32x2048x2x64, .f32⟩
  | .hbm, ⟨36, _⟩ => ⟨S1x32x2048x2x64, .f32⟩
  | .hbm, ⟨37, _⟩ => ⟨S32x2x64x2048, .f32⟩
  | .hbm, ⟨38, _⟩ => ⟨S32x2048x2x64, .f32⟩
  | .hbm, ⟨39, _⟩ => ⟨S1x32x2048x2x64, .f32⟩
  | .hbm, ⟨40, _⟩ => ⟨S32x2048x64, .f32⟩
  | .hbm, ⟨41, _⟩ => ⟨S1x32x2048x64, .f32⟩
  | .hbm, ⟨42, _⟩ => ⟨S32x2048x1536, .f32⟩
  | .hbm, ⟨43, _⟩ => ⟨S32x3x1536, .f32⟩
  | .hbm, ⟨44, _⟩ => ⟨S1x32x3x1536, .f32⟩
  | .hbm, ⟨45, _⟩ => ⟨S512x128x4x128, .bf16⟩
  | .hbm, ⟨46, _⟩ => ⟨S512x128x4x128, .bf16⟩
  | .hbm, ⟨47, _⟩ => ⟨S65536x512, .bf16⟩
  | .hbm, ⟨48, _⟩ => ⟨S512x128x8x128, .bf16⟩
  | .hbm, ⟨49, _⟩ => ⟨S512x128x8x128, .bf16⟩
  | .hbm, ⟨50, _⟩ => ⟨S65536x1024, .bf16⟩
  | .hbm, ⟨51, _⟩ => ⟨S65536x88, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4480, .bf16⟩
  | .local _ .vmem, ⟨4, _⟩ => ⟨S4x128x512, .bf16⟩
  | .local _ .vmem, ⟨5, _⟩ => ⟨S4x128x512, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .f32⟩
  | .local _ .vmem, ⟨11, _⟩ => ⟨S512x512, .f32⟩
  | .local _ .vmem, ⟨12, _⟩ => ⟨S4x128x1024, .bf16⟩
  | .local _ .vmem, ⟨13, _⟩ => ⟨S4x128x1024, .bf16⟩
  | .local _ .vmem, ⟨14, _⟩ => ⟨S512x128, .f32⟩
  | .local _ .vmem, ⟨15, _⟩ => ⟨S512x128, .f32⟩
  | .local _ .vmem, ⟨16, _⟩ => ⟨S512x1536, .f32⟩
  | .local _ .vmem, ⟨17, _⟩ => ⟨S512x1536, .f32⟩
  | .local _ .vmem, ⟨18, _⟩ => ⟨S512x512, .f32⟩
  | .local _ .vmem, ⟨19, _⟩ => ⟨S512x512, .f32⟩
  | .local _ .vmem, ⟨20, _⟩ => ⟨S1x128x512, .f32⟩
  | .local _ .vmem, ⟨21, _⟩ => ⟨S1x128x512, .f32⟩
  | .local _ .vmem, ⟨22, _⟩ => ⟨S1x128x512, .f32⟩
  | .local _ .vmem, ⟨23, _⟩ => ⟨S1x128x512, .f32⟩
  | .local _ .vmem, ⟨24, _⟩ => ⟨S1x64x512, .f32⟩
  | .local _ .vmem, ⟨25, _⟩ => ⟨S1x64x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev main_v19_2 : Ref sig .tc := ⟨.hbm, 25, rfl⟩
abbrev main_v19_3 : Ref sig .tc := ⟨.hbm, 26, rfl⟩
abbrev main_v19_4 : Ref sig .tc := ⟨.hbm, 27, rfl⟩
abbrev main_v19_5 : Ref sig .tc := ⟨.hbm, 28, rfl⟩
abbrev main_v19_6 : Ref sig .tc := ⟨.hbm, 29, rfl⟩
abbrev main_v19_7 : Ref sig .tc := ⟨.hbm, 30, rfl⟩
abbrev main_v19_8 : Ref sig .tc := ⟨.hbm, 31, rfl⟩
abbrev main_v19_9 : Ref sig .tc := ⟨.hbm, 32, rfl⟩
abbrev main_v19_10 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InProjRefIdeal.lean ====
abbrev S32x2048x1024 : Shape := ⟨3, ![32, 2048, 1024]⟩
abbrev S1x1024 : Shape := ⟨2, ![1, 1024]⟩
abbrev S1x1024x4440 : Shape := ⟨3, ![1, 1024, 4440]⟩
abbrev S1024 : Shape := ⟨1, ![1024]⟩
abbrev S1024x4440 : Shape := ⟨2, ![1024, 4440]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4440 : Shape := ⟨3, ![32, 2048, 4440]⟩
abbrev S32x2048x512 : Shape := ⟨3, ![32, 2048, 512]⟩
abbrev S32x2048x128 : Shape := ⟨3, ![32, 2048, 128]⟩
abbrev S32x2048x64 : Shape := ⟨3, ![32, 2048, 64]⟩
abbrev S32x2048x16 : Shape := ⟨3, ![32, 2048, 16]⟩
abbrev S32x2048x1536 : Shape := ⟨3, ![32, 2048, 1536]⟩
abbrev S32x2048x4 : Shape := ⟨3, ![32, 2048, 4]⟩
abbrev S32x2048x8x64 : Shape := ⟨4, ![32, 2048, 8, 64]⟩
abbrev S32x2048x2x64 : Shape := ⟨4, ![32, 2048, 2, 64]⟩
abbrev S32x2048x16x64 : Shape := ⟨4, ![32, 2048, 16, 64]⟩
abbrev S65536x512 : Shape := ⟨2, ![65536, 512]⟩
abbrev S65536x1024 : Shape := ⟨2, ![65536, 1024]⟩
abbrev S32x2048x88 : Shape := ⟨3, ![32, 2048, 88]⟩
abbrev S1x32x2048x2x64 : Shape := ⟨5, ![1, 32, 2048, 2, 64]⟩
abbrev S1x32x2048x64 : Shape := ⟨4, ![1, 32, 2048, 64]⟩
abbrev S32x3x1536 : Shape := ⟨3, ![32, 3, 1536]⟩
abbrev S1x32x3x1536 : Shape := ⟨4, ![1, 32, 3, 1536]⟩
abbrev S65536x128 : Shape := ⟨2, ![65536, 128]⟩
abbrev S65536x88 : Shape := ⟨2, ![65536, 88]⟩
abbrev S65536x1536 : Shape := ⟨2, ![65536, 1536]⟩

abbrev nBuf : Space → Nat
  | .hbm => 59
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x4440, .f32⟩
  | .hbm, ⟨3, _⟩ => ⟨S1024, .f32⟩
  | .hbm, ⟨4, _⟩ => ⟨S1024x4440, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S32x2048x4440, .f32⟩
  | .hbm, ⟨22, _⟩ => ⟨S32x2048x512, .f32⟩
  | .hbm, ⟨23, _⟩ => ⟨S32x2048x128, .f32⟩
  | .hbm, ⟨24, _⟩ => ⟨S32x2048x128, .f32⟩
  | .hbm, ⟨25, _⟩ => ⟨S32x2048x512, .f32⟩
  | .hbm, ⟨26, _⟩ => ⟨S32x2048x1024, .f32⟩
  | .hbm, ⟨27, _⟩ => ⟨S32x2048x64, .f32⟩
  | .hbm, ⟨28, _⟩ => ⟨S32x2048x16, .f32⟩
  | .hbm, ⟨29, _⟩ => ⟨S32x2048x1536, .f32⟩
  | .hbm, ⟨30, _⟩ => ⟨S32x2048x512, .f32⟩
  | .hbm, ⟨31, _⟩ => ⟨S32x2048x4, .f32⟩
  | .hbm, ⟨32, _⟩ => ⟨S32x2048x4, .f32⟩
  | .hbm, ⟨33, _⟩ => ⟨S32x2048x8x64, .f32⟩
  | .hbm, ⟨34, _⟩ => ⟨S32x2048x2x64, .f32⟩
  | .hbm, ⟨35, _⟩ => ⟨S32x2048x2x64, .f32⟩
  | .hbm, ⟨36, _⟩ => ⟨S32x2048x16x64, .f32⟩
  | .hbm, ⟨37, _⟩ => ⟨S_, .f32⟩
  | .hbm, ⟨38, _⟩ => ⟨S32x2048x8x64, .f32⟩
  | .hbm, ⟨39, _⟩ => ⟨S32x2048x8x64, .f32⟩
  | .hbm, ⟨40, _⟩ => ⟨S65536x512, .f32⟩
  | .hbm, ⟨41, _⟩ => ⟨S65536x512, .bf16⟩
  | .hbm, ⟨42, _⟩ => ⟨S_, .f32⟩
  | .hbm, ⟨43, _⟩ => ⟨S32x2048x16x64, .f32⟩
  | .hbm, ⟨44, _⟩ => ⟨S32x2048x16x64, .f32⟩
  | .hbm, ⟨45, _⟩ => ⟨S65536x1024, .f32⟩
  | .hbm, ⟨46, _⟩ => ⟨S65536x1024, .bf16⟩
  | .hbm, ⟨47, _⟩ => ⟨S32x2048x88, .f32⟩
  | .hbm, ⟨48, _⟩ => ⟨S1x32x2048x2x64, .f32⟩
  | .hbm, ⟨49, _⟩ => ⟨S1x32x2048x2x64, .f32⟩
  | .hbm, ⟨50, _⟩ => ⟨S1x32x2048x64, .f32⟩
  | .hbm, ⟨51, _⟩ => ⟨S32x3x1536, .f32⟩
  | .hbm, ⟨52, _⟩ => ⟨S1x32x3x1536, .f32⟩
  | .hbm, ⟨53, _⟩ => ⟨S65536x128, .f32⟩
  | .hbm, ⟨54, _⟩ => ⟨S65536x128, .f32⟩
  | .hbm, ⟨55, _⟩ => ⟨S65536x512, .f32⟩
  | .hbm, ⟨56, _⟩ => ⟨S65536x88, .f32⟩
  | .hbm, ⟨57, _⟩ => ⟨S65536x1536, .f32⟩
  | .hbm, ⟨58, _⟩ => ⟨S65536x512, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩

abbrev nD : Nat := 1
abbrev τ : Topo := Topo.v7x

variable {F : FTy → Type} [FloatOps F]
-- ==== InProjRows.lean ====
abbrev S128x1x1024 : Shape := ⟨3, ![128, 1, 1024]⟩
abbrev S1x1024 : Shape := ⟨2, ![1, 1024]⟩
abbrev S1x1024x4440 : Shape := ⟨3, ![1, 1024, 4440]⟩
abbrev S1024x4440 : Shape := ⟨2, ![1024, 4440]⟩
abbrev S1024x512 : Shape := ⟨2, ![1024, 512]⟩
abbrev S1024x128 : Shape := ⟨2, ![1024, 128]⟩
abbrev S1024x1024 : Shape := ⟨2, ![1024, 1024]⟩
abbrev S1024x64 : Shape := ⟨2, ![1024, 64]⟩
abbrev S1024x16 : Shape := ⟨2, ![1024, 16]⟩
abbrev S1024x1536 : Shape := ⟨2, ![1024, 1536]⟩
abbrev S1024x4 : Shape := ⟨2, ![1024, 4]⟩
abbrev S_ : Shape := ⟨0, ![]⟩
abbrev S1024x40 : Shape := ⟨2, ![1024, 40]⟩
abbrev S1024x4480 : Shape := ⟨2, ![1024, 4480]⟩
abbrev S128x1024 : Shape := ⟨2, ![128, 1024]⟩
abbrev S1024 : Shape := ⟨1, ![1024]⟩
abbrev S128x512 : Shape := ⟨2, ![128, 512]⟩
abbrev S128x128 : Shape := ⟨2, ![128, 128]⟩
abbrev S128x1536 : Shape := ⟨2, ![128, 1536]⟩
abbrev S128 : Shape := ⟨1, ![128]⟩
abbrev S128x1 : Shape := ⟨2, ![128, 1]⟩
abbrev S1x128x1x2x64 : Shape := ⟨5, ![1, 128, 1, 2, 64]⟩
abbrev S128x64 : Shape := ⟨2, ![128, 64]⟩
abbrev S1x128x1x64 : Shape := ⟨4, ![1, 128, 1, 64]⟩
abbrev S128x88 : Shape := ⟨2, ![128, 88]⟩

abbrev nBuf : Space → Nat
  | .hbm => 36
  | .vmem => 11
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x4440, .f32⟩
  | .hbm, ⟨3, _⟩ => ⟨S1024x4440, .f32⟩
  | .hbm, ⟨4, _⟩ => ⟨S1024x512, .f32⟩
  | .hbm, ⟨5, _⟩ => ⟨S1024x128, .f32⟩
  | .hbm, ⟨6, _⟩ => ⟨S1024x128, .f32⟩
  | .hbm, ⟨7, _⟩ => ⟨S1024x512, .f32⟩
  | .hbm, ⟨8, _⟩ => ⟨S1024x1024, .f32⟩
  | .hbm, ⟨9, _⟩ => ⟨S1024x64, .f32⟩
  | .hbm, ⟨10, _⟩ => ⟨S1024x16, .f32⟩
  | .hbm, ⟨11, _⟩ => ⟨S1024x1536, .f32⟩
  | .hbm, ⟨12, _⟩ => ⟨S1024x512, .f32⟩
  | .hbm, ⟨13, _⟩ => ⟨S1024x4, .f32⟩
  | .hbm, ⟨14, _⟩ => ⟨S1024x4, .f32⟩
  | .hbm, ⟨15, _⟩ => ⟨S_, .f32⟩
  | .hbm, ⟨16, _⟩ => ⟨S1024x40, .f32⟩
  | .hbm, ⟨17, _⟩ => ⟨S1024x128, .f32⟩
  | .hbm, ⟨18, _⟩ => ⟨S1024x4480, .f32⟩
  | .hbm, ⟨19, _⟩ => ⟨S1024x4480, .bf16⟩
  | .hbm, ⟨20, _⟩ => ⟨S128x1024, .f32⟩
  | .hbm, ⟨21, _⟩ => ⟨S1024, .f32⟩
  | .hbm, ⟨22, _⟩ => ⟨S1x1024, .f32⟩
  | .hbm, ⟨23, _⟩ => ⟨S128x512, .bf16⟩
  | .hbm, ⟨24, _⟩ => ⟨S128x128, .f32⟩
  | .hbm, ⟨25, _⟩ => ⟨S128x128, .f32⟩
  | .hbm, ⟨26, _⟩ => ⟨S128x512, .f32⟩
  | .hbm, ⟨27, _⟩ => ⟨S128x1024, .bf16⟩
  | .hbm, ⟨28, _⟩ => ⟨S128x128, .f32⟩
  | .hbm, ⟨29, _⟩ => ⟨S128x1536, .f32⟩
  | .hbm, ⟨30, _⟩ => ⟨S128x512, .f32⟩
  | .hbm, ⟨31, _⟩ => ⟨S1x128x1x2x64, .f32⟩
  | .hbm, ⟨32, _⟩ => ⟨S1x128x1x2x64, .f32⟩
  | .hbm, ⟨33, _⟩ => ⟨S128x64, .f32⟩
  | .hbm, ⟨34, _⟩ => ⟨S1x128x1x64, .f32⟩
  | .hbm, ⟨35, _⟩ => ⟨S128x88, .f32⟩
  | .local _ .vmem, ⟨0, _⟩ => ⟨S128x1024, .f32⟩
  | .local _ .vmem, ⟨1, _⟩ => ⟨S1x1024, .f32⟩
  | .local _ .vmem, ⟨2, _⟩ => ⟨S1024x4480, .bf16⟩
  | .local _ .vmem, ⟨3, _⟩ => ⟨S128x512, .bf16⟩
  | .local _ .vmem, ⟨4, _⟩ => ⟨S128x128, .f32⟩
  | .local _ .vmem, ⟨5, _⟩ => ⟨S128x128, .f32⟩
  | .local _ .vmem, ⟨6, _⟩ => ⟨S128x512, .f32⟩
  | .local _ .vmem, ⟨7, _⟩ => ⟨S128x1024, .bf16⟩
  | .local _ .vmem, ⟨8, _⟩ => ⟨S128x128, .f32⟩
  | .local _ .vmem, ⟨9, _⟩ => ⟨S128x1536, .f32⟩
  | .local _ .vmem, ⟨10, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev main_v19_2 : Ref sig .tc := ⟨.hbm, 25, rfl⟩
abbrev main_v19_3 : Ref sig .tc := ⟨.hbm, 26, rfl⟩
abbrev main_v19_4 : Ref sig .tc := ⟨.hbm, 27, rfl⟩
abbrev main_v19_5 : Ref sig .tc := ⟨.hbm, 28, rfl⟩
abbrev main_v19_6 : Ref sig .tc := ⟨.hbm, 29, rfl⟩
abbrev main_v19_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== InProjRowsRefIdeal.lean ====
abbrev S128x1x1024 : Shape := ⟨3, ![128, 1, 1024]⟩
abbrev S1x1024 : Shape := ⟨2, ![1, 1024]⟩
abbrev S1x1024x4440 : Shape := ⟨3, ![1, 1024, 4440]⟩
abbrev S1024 : Shape := ⟨1, ![1024]⟩
abbrev S1024x4440 : Shape := ⟨2, ![1024, 4440]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x4440 : Shape := ⟨3, ![128, 1, 4440]⟩
abbrev S128x1x512 : Shape := ⟨3, ![128, 1, 512]⟩
abbrev S128x1x128 : Shape := ⟨3, ![128, 1, 128]⟩
abbrev S128x1x64 : Shape := ⟨3, ![128, 1, 64]⟩
abbrev S128x1x16 : Shape := ⟨3, ![128, 1, 16]⟩
abbrev S128x1x1536 : Shape := ⟨3, ![128, 1, 1536]⟩
abbrev S128x1x4 : Shape := ⟨3, ![128, 1, 4]⟩
abbrev S128x1x8x64 : Shape := ⟨4, ![128, 1, 8, 64]⟩
abbrev S128x1x2x64 : Shape := ⟨4, ![128, 1, 2, 64]⟩
abbrev S128x1x16x64 : Shape := ⟨4, ![128, 1, 16, 64]⟩
abbrev S128x512 : Shape := ⟨2, ![128, 512]⟩
abbrev S128x1024 : Shape := ⟨2, ![128, 1024]⟩
abbrev S128x1x88 : Shape := ⟨3, ![128, 1, 88]⟩
abbrev S1x128x1x2x64 : Shape := ⟨5, ![1, 128, 1, 2, 64]⟩
abbrev S1x128x1x64 : Shape := ⟨4, ![1, 128, 1, 64]⟩
abbrev S128x88 : Shape := ⟨2, ![128, 88]⟩
abbrev S128x1536 : Shape := ⟨2, ![128, 1536]⟩

abbrev nBuf : Space → Nat
  | .hbm => 55
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x4440, .f32⟩
  | .hbm, ⟨3, _⟩ => ⟨S1024, .f32⟩
  | .hbm, ⟨4, _⟩ => ⟨S1024x4440, .f32⟩
  | .hbm, ⟨5, _⟩ => ⟨S128x1x1024, .f32⟩
  | .hbm, ⟨6, _⟩ => ⟨S_, .f32⟩
  | .hbm, ⟨7, _⟩ => ⟨S128x1, .f32⟩
  | .hbm, ⟨8, _⟩ => ⟨S128x1x1, .f32⟩
  | .hbm, ⟨9, _⟩ => ⟨S_, .f32⟩
  | .hbm, ⟨10, _⟩ => ⟨S128x1x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S128x1x1, .f32⟩
  | .hbm, ⟨16, _⟩ => ⟨S128x1x1024, .f32⟩
  | .hbm, ⟨17, _⟩ => ⟨S128x1x1024, .f32⟩
  | .hbm, ⟨18, _⟩ => ⟨S1x1x1024, .f32⟩
  | .hbm, ⟨19, _⟩ => ⟨S128x1x1024, .f32⟩
  | .hbm, ⟨20, _⟩ => ⟨S128x1x1024, .f32⟩
  | .hbm, ⟨21, _⟩ => ⟨S128x1x4440, .f32⟩
  | .hbm, ⟨22, _⟩ => ⟨S128x1x512, .f32⟩
  | .hbm, ⟨23, _⟩ => ⟨S128x1x128, .f32⟩
  | .hbm, ⟨24, _⟩ => ⟨S128x1x128, .f32⟩
  | .hbm, ⟨25, _⟩ => ⟨S128x1x512, .f32⟩
  | .hbm, ⟨26, _⟩ => ⟨S128x1x1024, .f32⟩
  | .hbm, ⟨27, _⟩ => ⟨S128x1x64, .f32⟩
  | .hbm, ⟨28, _⟩ => ⟨S128x1x16, .f32⟩
  | .hbm, ⟨29, _⟩ => ⟨S128x1x1536, .f32⟩
  | .hbm, ⟨30, _⟩ => ⟨S128x1x512, .f32⟩
  | .hbm, ⟨31, _⟩ => ⟨S128x1x4, .f32⟩
  | .hbm, ⟨32, _⟩ => ⟨S128x1x4, .f32⟩
  | .hbm, ⟨33, _⟩ => ⟨S128x1x8x64, .f32⟩
  | .hbm, ⟨34, _⟩ => ⟨S128x1x2x64, .f32⟩
  | .hbm, ⟨35, _⟩ => ⟨S128x1x2x64, .f32⟩
  | .hbm, ⟨36, _⟩ => ⟨S128x1x16x64, .f32⟩
  | .hbm, ⟨37, _⟩ => ⟨S_, .f32⟩
  | .hbm, ⟨38, _⟩ => ⟨S128x1x8x64, .f32⟩
  | .hbm, ⟨39, _⟩ => ⟨S128x1x8x64, .f32⟩
  | .hbm, ⟨40, _⟩ => ⟨S128x512, .f32⟩
  | .hbm, ⟨41, _⟩ => ⟨S128x512, .bf16⟩
  | .hbm, ⟨42, _⟩ => ⟨S_, .f32⟩
  | .hbm, ⟨43, _⟩ => ⟨S128x1x16x64, .f32⟩
  | .hbm, ⟨44, _⟩ => ⟨S128x1x16x64, .f32⟩
  | .hbm, ⟨45, _⟩ => ⟨S128x1024, .f32⟩
  | .hbm, ⟨46, _⟩ => ⟨S128x1024, .bf16⟩
  | .hbm, ⟨47, _⟩ => ⟨S128x1x88, .f32⟩
  | .hbm, ⟨48, _⟩ => ⟨S1x128x1x2x64, .f32⟩
  | .hbm, ⟨49, _⟩ => ⟨S1x128x1x2x64, .f32⟩
  | .hbm, ⟨50, _⟩ => ⟨S1x128x1x64, .f32⟩
  | .hbm, ⟨51, _⟩ => ⟨S128x512, .f32⟩
  | .hbm, ⟨52, _⟩ => ⟨S128x88, .f32⟩
  | .hbm, ⟨53, _⟩ => ⟨S128x1536, .f32⟩
  | .hbm, ⟨54, _⟩ => ⟨S128x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩

abbrev nD : Nat := 1
abbrev τ : Topo := Topo.v7x

variable {F : FTy → Type} [FloatOps F]
-- ==== OutProj.lean ====
abbrev S32x2048x1024 : Shape := ⟨3, ![32, 2048, 1024]⟩
abbrev S65536x512 : Shape := ⟨2, ![65536, 512]⟩
abbrev S1x1024x1024 : Shape := ⟨3, ![1, 1024, 1024]⟩
abbrev S1024 : Shape := ⟨1, ![1024]⟩
abbrev S1024x1024 : Shape := ⟨2, ![1024, 1024]⟩
abbrev S65536x1024 : Shape := ⟨2, ![65536, 1024]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S65536x512, .bf16⟩
  | .hbm, ⟨2, _⟩ => ⟨S65536x512, .bf16⟩
  | .hbm, ⟨3, _⟩ => ⟨S1x1024x1024, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S65536x1024, .f32⟩
  | .hbm, ⟨8, _⟩ => ⟨S1x1024, .f32⟩
  | .hbm, ⟨9, _⟩ => ⟨S65536x1024, .f32⟩
  | .hbm, ⟨10, _⟩ => ⟨S32x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S32x2048x1024 : Shape := ⟨3, ![32, 2048, 1024]⟩
abbrev S65536x512 : Shape := ⟨2, ![65536, 512]⟩
abbrev S1x1024x1024 : Shape := ⟨3, ![1, 1024, 1024]⟩
abbrev S1024 : Shape := ⟨1, ![1024]⟩
abbrev S65536x1024 : Shape := ⟨2, ![65536, 1024]⟩
abbrev S1024x1024 : Shape := ⟨2, ![1024, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S65536x512, .bf16⟩
  | .hbm, ⟨2, _⟩ => ⟨S65536x512, .bf16⟩
  | .hbm, ⟨3, _⟩ => ⟨S1x1024x1024, .f32⟩
  | .hbm, ⟨4, _⟩ => ⟨S1024, .f32⟩
  | .hbm, ⟨5, _⟩ => ⟨S65536x1024, .bf16⟩
  | .hbm, ⟨6, _⟩ => ⟨S32x2048x1024, .bf16⟩
  | .hbm, ⟨7, _⟩ => ⟨S32x2048x1024, .f32⟩
  | .hbm, ⟨8, _⟩ => ⟨S1024x1024, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S_, .f32⟩
  | .hbm, ⟨13, _⟩ => ⟨S32x2048, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S_, .f32⟩
  | .hbm, ⟨19, _⟩ => ⟨S32x2048x1, .f32⟩
  | .hbm, ⟨20, _⟩ => ⟨S32x2048x1, .f32⟩
  | .hbm, ⟨21, _⟩ => ⟨S32x2048x1, .f32⟩
  | .hbm, ⟨22, _⟩ => ⟨S32x2048x1024, .f32⟩
  | .hbm, ⟨23, _⟩ => ⟨S32x2048x1024, .f32⟩
  | .hbm, ⟨24, _⟩ => ⟨S1x1x1024, .f32⟩
  | .hbm, ⟨25, _⟩ => ⟨S32x2048x1024, .f32⟩
  | .hbm, ⟨26, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== OutProjGated.lean ====
abbrev S128x1x1024 : Shape := ⟨3, ![128, 1, 1024]⟩
abbrev S128x512 : Shape := ⟨2, ![128, 512]⟩
abbrev S128x1x512 : Shape := ⟨3, ![128, 1, 512]⟩
abbrev S1x1024x1024 : Shape := ⟨3, ![1, 1024, 1024]⟩
abbrev S1024 : Shape := ⟨1, ![1024]⟩
abbrev S1024x1024 : Shape := ⟨2, ![1024, 1024]⟩
abbrev S128x1024 : Shape := ⟨2, ![128, 1024]⟩
abbrev S1x1024 : Shape := ⟨2, ![1, 1024]⟩
abbrev S512x1024 : Shape := ⟨2, ![512, 1024]⟩
abbrev S128 : Shape := ⟨1, ![128]⟩
abbrev S128x1 : Shape := ⟨2, ![128, 1]⟩

abbrev nBuf : Space → Nat
  | .hbm => 13
  | .vmem => 7
  | .smem => 0
  | _ => 0

abbrev bufTy : (tb : Table) → Fin (tcTables nBuf tb) → BufTy
  | .hbm, ⟨0, _⟩ => ⟨S128x1x1024, .f32⟩
  | .hbm, ⟨1, _⟩ => ⟨S128x512, .f32⟩
  | .hbm, ⟨2, _⟩ => ⟨S128x512, .f32⟩
  | .hbm, ⟨3, _⟩ => ⟨S128x1x512, .bf16⟩
  | .hbm, ⟨4, _⟩ => ⟨S1x1024x1024, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S128x1024, .f32⟩
  | .hbm, ⟨9, _⟩ => ⟨S128x512, .bf16⟩
  | .hbm, ⟨10, _⟩ => ⟨S1x1024, .f32⟩
  | .hbm, ⟨11, _⟩ => ⟨S128x1024, .f32⟩
  | .hbm, ⟨12, _⟩ => ⟨S128x1x1024, .f32⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S128x512, .bf16⟩
  | .local _ .vmem, ⟨4, _⟩ => ⟨S1024x1024, .bf16⟩
  | .local _ .vmem, ⟨5, _⟩ => ⟨S1x1024, .f32⟩
  | .local _ .vmem, ⟨6, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OutProjGatedRefIdeal.lean ====
abbrev S128x1x1024 : Shape := ⟨3, ![128, 1, 1024]⟩
abbrev S128x512 : Shape := ⟨2, ![128, 512]⟩
abbrev S128x1x512 : Shape := ⟨3, ![128, 1, 512]⟩
abbrev S1x1024x1024 : Shape := ⟨3, ![1, 1024, 1024]⟩
abbrev S1024 : Shape := ⟨1, ![1024]⟩
abbrev S_ : Shape := ⟨0, ![]⟩
abbrev S1024x1024 : Shape := ⟨2, ![1024, 1024]⟩
abbrev S128x1 : Shape := ⟨2, ![128, 1]⟩
abbrev S128x1x1 : Shape := ⟨3, ![128, 1, 1]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x512, .f32⟩
  | .hbm, ⟨2, _⟩ => ⟨S128x512, .f32⟩
  | .hbm, ⟨3, _⟩ => ⟨S128x1x512, .bf16⟩
  | .hbm, ⟨4, _⟩ => ⟨S1x1024x1024, .f32⟩
  | .hbm, ⟨5, _⟩ => ⟨S1024, .f32⟩
  | .hbm, ⟨6, _⟩ => ⟨S128x1x512, .f32⟩
  | .hbm, ⟨7, _⟩ => ⟨S128x1x512, .f32⟩
  | .hbm, ⟨8, _⟩ => ⟨S128x1x512, .f32⟩
  | .hbm, ⟨9, _⟩ => ⟨S128x1x512, .f32⟩
  | .hbm, ⟨10, _⟩ => ⟨S_, .f32⟩
  | .hbm, ⟨11, _⟩ => ⟨S128x1x512, .f32⟩
  | .hbm, ⟨12, _⟩ => ⟨S128x1x512, .f32⟩
  | .hbm, ⟨13, _⟩ => ⟨S_, .f32⟩
  | .hbm, ⟨14, _⟩ => ⟨S128x1x512, .f32⟩
  | .hbm, ⟨15, _⟩ => ⟨S128x1x512, .f32⟩
  | .hbm, ⟨16, _⟩ => ⟨S128x1x512, .f32⟩
  | .hbm, ⟨17, _⟩ => ⟨S128x1x512, .f32⟩
  | .hbm, ⟨18, _⟩ => ⟨S128x1x512, .f32⟩
  | .hbm, ⟨19, _⟩ => ⟨S128x1x1024, .f32⟩
  | .hbm, ⟨20, _⟩ => ⟨S1024x1024, .f32⟩
  | .hbm, ⟨21, _⟩ => ⟨S128x1x1024, .f32⟩
  | .hbm, ⟨22, _⟩ => ⟨S128x1x1024, .f32⟩
  | .hbm, ⟨23, _⟩ => ⟨S128x1x1024, .f32⟩
  | .hbm, ⟨24, _⟩ => ⟨S_, .f32⟩
  | .hbm, ⟨25, _⟩ => ⟨S128x1, .f32⟩
  | .hbm, ⟨26, _⟩ => ⟨S128x1x1, .f32⟩
  | .hbm, ⟨27, _⟩ => ⟨S_, .f32⟩
  | .hbm, ⟨28, _⟩ => ⟨S128x1x1, .f32⟩
  | .hbm, ⟨29, _⟩ => ⟨S128x1x1, .f32⟩
  | .hbm, ⟨30, _⟩ => ⟨S_, .f32⟩
  | .hbm, ⟨31, _⟩ => ⟨S128x1x1, .f32⟩
  | .hbm, ⟨32, _⟩ => ⟨S128x1x1, .f32⟩
  | .hbm, ⟨33, _⟩ => ⟨S128x1x1, .f32⟩
  | .hbm, ⟨34, _⟩ => ⟨S128x1x1024, .f32⟩
  | .hbm, ⟨35, _⟩ => ⟨S128x1x1024, .f32⟩
  | .hbm, ⟨36, _⟩ => ⟨S1x1x1024, .f32⟩
  | .hbm, ⟨37, _⟩ => ⟨S128x1x1024, .f32⟩
  | .hbm, ⟨38, _⟩ => ⟨S128x1x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Features.lean ====
abbrev S32x2048x1536 : Shape := ⟨3, ![32, 2048, 1536]⟩
abbrev S1x4x1536 : Shape := ⟨3, ![1, 4, 1536]⟩
abbrev S65536x1536 : Shape := ⟨2, ![65536, 1536]⟩
abbrev S4x1536 : Shape := ⟨2, ![4, 1536]⟩
abbrev S65536x512 : Shape := ⟨2, ![65536, 512]⟩
abbrev S512x512 : Shape := ⟨2, ![512, 512]⟩
abbrev S8x512 : Shape := ⟨2, ![8, 512]⟩
abbrev S4x512 : Shape := ⟨2, ![4, 512]⟩
abbrev S8x128 : Shape := ⟨2, ![8, 128]⟩
abbrev S512x128 : Shape := ⟨2, ![512, 128]⟩
abbrev S520x128 : Shape := ⟨2, ![520, 128]⟩
abbrev S1x128 : Shape := ⟨2, ![1, 128]⟩
abbrev S512 : Shape := ⟨1, ![512]⟩
abbrev S512x1 : Shape := ⟨2, ![512, 1]⟩

abbrev nBuf : Space → Nat
  | .hbm => 7
  | .vmem => 21
  | .smem => 0
  | _ => 0

abbrev bufTy : (tb : Table) → Fin (tcTables nBuf tb) → BufTy
  | .hbm, ⟨0, _⟩ => ⟨S32x2048x1536, .f32⟩
  | .hbm, ⟨1, _⟩ => ⟨S1x4x1536, .f32⟩
  | .hbm, ⟨2, _⟩ => ⟨S65536x1536, .f32⟩
  | .hbm, ⟨3, _⟩ => ⟨S4x1536, .f32⟩
  | .hbm, ⟨4, _⟩ => ⟨S65536x512, .f32⟩
  | .hbm, ⟨5, _⟩ => ⟨S65536x512, .f32⟩
  | .hbm, ⟨6, _⟩ => ⟨S65536x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S4x512, .f32⟩
  | .local _ .vmem, ⟨13, _⟩ => ⟨S4x512, .f32⟩
  | .local _ .vmem, ⟨14, _⟩ => ⟨S4x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | _, _ => ⟨S32x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c1_i32_0 : BitVec 32 := 1#32
  let c0_i32_1 : BitVec 32 := 0#32
  ![v4.toNat, c1_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c2_i32 : BitVec 32 := 2#32
  let c0_i32_0 : BitVec 32 := 0#32
  ![v4.toNat, c2_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FeaturesRefIdeal.lean ====
abbrev S32x2048x1536 : Shape := ⟨3, ![32, 2048, 1536]⟩
abbrev S1x4x1536 : Shape := ⟨3, ![1, 4, 1536]⟩
abbrev S_ : Shape := ⟨0, ![]⟩
abbrev S32x2051x1536 : Shape := ⟨3, ![32, 2051, 1536]⟩
abbrev S4x1536 : Shape := ⟨2, ![4, 1536]⟩
abbrev S1x1536 : Shape := ⟨2, ![1, 1536]⟩
abbrev S1536 : Shape := ⟨1, ![1536]⟩
abbrev S1x1x1536 : Shape := ⟨3, ![1, 1, 1536]⟩
abbrev S32x2048x512 : Shape := ⟨3, ![32, 2048, 512]⟩
abbrev S32x2048x4x128 : Shape := ⟨4, ![32, 2048, 4, 128]⟩
abbrev S32x2048x4 : Shape := ⟨3, ![32, 2048, 4]⟩
abbrev S32x2048x4x1 : Shape := ⟨4, ![32, 2048, 4, 1]⟩
abbrev S65536x512 : Shape := ⟨2, ![65536, 512]⟩

abbrev nBuf : Space → Nat
  | .hbm => 73
  | .vmem => 0
  | .smem => 0
  | _ => 0

abbrev bufTy : (tb : Table) → Fin (tcTables nBuf tb) → BufTy
  | .hbm, ⟨0, _⟩ => ⟨S32x2048x1536, .f32⟩
  | .hbm, ⟨1, _⟩ => ⟨S1x4x1536, .f32⟩
  | .hbm, ⟨2, _⟩ => ⟨S_, .i32⟩
  | .hbm, ⟨3, _⟩ => ⟨S_, .f32⟩
  | .hbm, ⟨4, _⟩ => ⟨S32x2051x1536, .f32⟩
  | .hbm, ⟨5, _⟩ => ⟨S4x1536, .f32⟩
  | .hbm, ⟨6, _⟩ => ⟨S32x2048x1536, .f32⟩
  | .hbm, ⟨7, _⟩ => ⟨S1x1536, .f32⟩
  | .hbm, ⟨8, _⟩ => ⟨S1536, .f32⟩
  | .hbm, ⟨9, _⟩ => ⟨S1x1x1536, .f32⟩
  | .hbm, ⟨10, _⟩ => ⟨S32x2048x1536, .f32⟩
  | .hbm, ⟨11, _⟩ => ⟨S32x2048x1536, .f32⟩
  | .hbm, ⟨12, _⟩ => ⟨S32x2048x1536, .f32⟩
  | .hbm, ⟨13, _⟩ => ⟨S1x1536, .f32⟩
  | .hbm, ⟨14, _⟩ => ⟨S1536, .f32⟩
  | .hbm, ⟨15, _⟩ => ⟨S1x1x1536, .f32⟩
  | .hbm, ⟨16, _⟩ => ⟨S32x2048x1536, .f32⟩
  | .hbm, ⟨17, _⟩ => ⟨S32x2048x1536, .f32⟩
  | .hbm, ⟨18, _⟩ => ⟨S32x2048x1536, .f32⟩
  | .hbm, ⟨19, _⟩ => ⟨S32x2048x1536, .f32⟩
  | .hbm, ⟨20, _⟩ => ⟨S1x1536, .f32⟩
  | .hbm, ⟨21, _⟩ => ⟨S1536, .f32⟩
  | .hbm, ⟨22, _⟩ => ⟨S1x1x1536, .f32⟩
  | .hbm, ⟨23, _⟩ => ⟨S32x2048x1536, .f32⟩
  | .hbm, ⟨24, _⟩ => ⟨S32x2048x1536, .f32⟩
  | .hbm, ⟨25, _⟩ => ⟨S32x2048x1536, .f32⟩
  | .hbm, ⟨26, _⟩ => ⟨S32x2048x1536, .f32⟩
  | .hbm, ⟨27, _⟩ => ⟨S1x1536, .f32⟩
  | .hbm, ⟨28, _⟩ => ⟨S1536, .f32⟩
  | .hbm, ⟨29, _⟩ => ⟨S1x1x1536, .f32⟩
  | .hbm, ⟨30, _⟩ => ⟨S32x2048x1536, .f32⟩
  | .hbm, ⟨31, _⟩ => ⟨S32x2048x1536, .f32⟩
  | .hbm, ⟨32, _⟩ => ⟨S32x2048x1536, .f32⟩
  | .hbm, ⟨33, _⟩ => ⟨S32x2048x1536, .f32⟩
  | .hbm, ⟨34, _⟩ => ⟨S32x2048x1536, .f32⟩
  | .hbm, ⟨35, _⟩ => ⟨S_, .f32⟩
  | .hbm, ⟨36, _⟩ => ⟨S32x2048x1536, .f32⟩
  | .hbm, ⟨37, _⟩ => ⟨S32x2048x1536, .f32⟩
  | .hbm, ⟨38, _⟩ => ⟨S_, .f32⟩
  | .hbm, ⟨39, _⟩ => ⟨S32x2048x1536, .f32⟩
  | .hbm, ⟨40, _⟩ => ⟨S32x2048x1536, .f32⟩
  | .hbm, ⟨41, _⟩ => ⟨S32x2048x1536, .f32⟩
  | .hbm, ⟨42, _⟩ => ⟨S32x2048x512, .f32⟩
  | .hbm, ⟨43, _⟩ => ⟨S32x2048x512, .f32⟩
  | .hbm, ⟨44, _⟩ => ⟨S32x2048x512, .f32⟩
  | .hbm, ⟨45, _⟩ => ⟨S32x2048x4x128, .f32⟩
  | .hbm, ⟨46, _⟩ => ⟨S32x2048x4x128, .f32⟩
  | .hbm, ⟨47, _⟩ => ⟨S_, .f32⟩
  | .hbm, ⟨48, _⟩ => ⟨S32x2048x4, .f32⟩
  | .hbm, ⟨49, _⟩ => ⟨S32x2048x4x1, .f32⟩
  | .hbm, ⟨50, _⟩ => ⟨S_, .f32⟩
  | .hbm, ⟨51, _⟩ => ⟨S32x2048x4x1, .f32⟩
  | .hbm, ⟨52, _⟩ => ⟨S32x2048x4x1, .f32⟩
  | .hbm, ⟨53, _⟩ => ⟨S32x2048x4x1, .f32⟩
  | .hbm, ⟨54, _⟩ => ⟨S32x2048x4x128, .f32⟩
  | .hbm, ⟨55, _⟩ => ⟨S32x2048x4x128, .f32⟩
  | .hbm, ⟨56, _⟩ => ⟨S_, .f32⟩
  | .hbm, ⟨57, _⟩ => ⟨S32x2048x4x128, .f32⟩
  | .hbm, ⟨58, _⟩ => ⟨S32x2048x4x128, .f32⟩
  | .hbm, ⟨59, _⟩ => ⟨S32x2048x4x128, .f32⟩
  | .hbm, ⟨60, _⟩ => ⟨S32x2048x4x128, .f32⟩
  | .hbm, ⟨61, _⟩ => ⟨S_, .f32⟩
  | .hbm, ⟨62, _⟩ => ⟨S32x2048x4, .f32⟩
  | .hbm, ⟨63, _⟩ => ⟨S32x2048x4x1, .f32⟩
  | .hbm, ⟨64, _⟩ => ⟨S_, .f32⟩
  | .hbm, ⟨65, _⟩ => ⟨S32x2048x4x1, .f32⟩
  | .hbm, ⟨66, _⟩ => ⟨S32x2048x4x1, .f32⟩
  | .hbm, ⟨67, _⟩ => ⟨S32x2048x4x1, .f32⟩
  | .hbm, ⟨68, _⟩ => ⟨S32x2048x4x128, .f32⟩
  | .hbm, ⟨69, _⟩ => ⟨S32x2048x4x128, .f32⟩
  | .hbm, ⟨70, _⟩ => ⟨S65536x512, .f32⟩
  | .hbm, ⟨71, _⟩ => ⟨S65536x512, .f32⟩
  | .hbm, ⟨72, _⟩ => ⟨S65536x512, .f32⟩
  | _, _ => ⟨S32x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst : Ref sig .tc := ⟨.hbm, 47, rfl⟩
abbrev main_v35 : Ref sig .tc := ⟨.hbm, 48, rfl⟩
abbrev main_v36 : Ref sig .tc := ⟨.hbm, 49, rfl⟩
abbrev main_cst_0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_1 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_2 : Ref sig .tc := ⟨.hbm, 61, rfl⟩
abbrev main_v46 : Ref sig .tc := ⟨.hbm, 62, rfl⟩
abbrev main_v47 : Ref sig .tc := ⟨.hbm, 63, rfl⟩
abbrev main_cst_3 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Proof.Gdn.Spec.lean ====
/- One step of the gated delta rule on the sample batch in closed form, over the extended reals: what one element of each
   result is as a function of the arrays. Both programs of the claim about this call are read down to these functions. -/
module

public import proofs.«01_k».proof.Defs
public import Idealize.ShloMosaic.Lib.Pointwise

@[expose] public section

noncomputable section

namespace Cert.GdnSpec

open Idealize.ShloMosaic

/-- `x · sigmoid(x)`. -/
def silu (x : EReal) : EReal := x * Ideal.div 1 (1 + Ideal.exp (0 - x))

/-- The small constant under the roots. -/
abbrev eps : EReal := Ideal.ofBits FTy.f32 0x358637BD#32

section

variable (qkv : (⟨3, ![128, 1, 1536]⟩ : Shape).Idx → EReal) (ag bg : (⟨3, ![128, 1, 4]⟩ : Shape).Idx → EReal)
  (zg : (⟨3, ![128, 1, 512]⟩ : Shape).Idx → EReal) (cst : (⟨4, ![1, 128, 3, 1536]⟩ : Shape).Idx → EReal)
  (w : (⟨3, ![1, 4, 1536]⟩ : Shape).Idx → EReal) (alog dtb : (⟨2, ![1, 4]⟩ : Shape).Idx → EReal)
  (gn : (⟨2, ![1, 128]⟩ : Shape).Idx → EReal) (s0 : (⟨5, ![1, 128, 4, 128, 128]⟩ : Shape).Idx → EReal)

/-- Channel `n` of row `b` after the causal convolution over the three kept rows and the new one, and its gate. -/
def xc (b : Fin 128) (n : Fin 1536) : EReal :=
  silu (cst (ix4 0 b 0 n) * w (ix3 0 0 n) + cst (ix4 0 b 1 n) * w (ix3 0 1 n) + cst (ix4 0 b 2 n) * w (ix3 0 2 n)
    + qkv (ix3 b 0 n) * w (ix3 0 3 n))

/-- The query of head `h`: the channels of the head over their root of the sum of squares, times `128 ^ (-1/2)`. -/
def q (b : Fin 128) (h : Fin 4) (d : Fin 128) : EReal :=
  xc qkv cst w b ⟨128 * h.val + d.val, by omega⟩
    * Ideal.rsqrt (∑ x : Fin 128, xc qkv cst w b ⟨128 * h.val + x.val, by omega⟩ * xc qkv cst w b ⟨128 * h.val + x.val, by omega⟩ + eps)
    * Ideal.ofBits FTy.f32 0x3DB504F3#32

/-- The key of head `h`. -/
def k (b : Fin 128) (h : Fin 4) (d : Fin 128) : EReal :=
  xc qkv cst w b ⟨512 + (128 * h.val + d.val), by omega⟩
    * Ideal.rsqrt (∑ x : Fin 128, xc qkv cst w b ⟨512 + (128 * h.val + x.val), by omega⟩
        * xc qkv cst w b ⟨512 + (128 * h.val + x.val), by omega⟩ + eps)

/-- The logarithm of the decay of head `h`. -/
def g (b : Fin 128) (h : Fin 4) : EReal :=
  (0 - Ideal.exp (alog (ix2 0 h)))
    * (max (ag (ix3 b 0 h) + dtb (ix2 0 h)) 0
      + Ideal.log1p (Ideal.exp (0 - FloatOps.absf (F := Ideal) (φ := .f32) (ag (ix3 b 0 h) + dtb (ix2 0 h)))))

/-- The state of head `h`, decayed. -/
def decayed (b : Fin 128) (h : Fin 4) (i j : Fin 128) : EReal :=
  s0 (ix5 0 b h i j) * Ideal.exp (g ag alog dtb b h)

/-- The state of head `h` after the step: the decayed one, corrected by the key times what the value misses. -/
def state (b : Fin 128) (h : Fin 4) (i j : Fin 128) : EReal :=
  decayed ag alog dtb s0 b h i j
    + k qkv cst w b h i
      * ((xc qkv cst w b ⟨1024 + (128 * h.val + j.val), by omega⟩
          - ∑ x : Fin 128, k qkv cst w b h x * decayed ag alog dtb s0 b h x j)
        * Ideal.div 1 (1 + Ideal.exp (0 - bg (ix3 b 0 h))))

/-- What head `h` reads from the new state. -/
def o (b : Fin 128) (h : Fin 4) (j : Fin 128) : EReal :=
  ∑ x : Fin 128, q qkv cst w b h x * state qkv ag bg cst w alog dtb s0 b h x j

/-- The result of head `h`: the row read over the root of the mean of its squares, times the gain, times the gate. -/
def out (b : Fin 128) (h : Fin 4) (j : Fin 128) : EReal :=
  o qkv ag bg cst w alog dtb s0 b h j
    * Ideal.rsqrt (Ideal.div (∑ x : Fin 128, o qkv ag bg cst w alog dtb s0 b h x * o qkv ag bg cst w alog dtb s0 b h x)
        (Ideal.ofBits FTy.f32 0x43000000#32) + eps)
    * gn (ix2 0 j) * silu (zg (ix3 b 0 ⟨128 * h.val + j.val, by omega⟩))

/-- The rows kept for the next step's convolution: the last two kept ones and the new one. -/
def conv (b : Fin 128) (r : Fin 3) (n : Fin 1536) : EReal :=
  if h : r.val < 2 then cst (ix4 0 b ⟨r.val + 1, by omega⟩ n) else qkv (ix3 b 0 n)

end

end Cert.GdnSpec
-- ==== Proof.Gdn.Blocks.lean ====
module

public import proofs.«01_k».proof.Proof.Gen.KernelIdeal.Frame
public import proofs.«01_k».proof.Proof.Gen.KernelIdeal.Value
public import proofs.«01_k».proof.Proof.Gdn.Spec
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Cert.GdnSpec

variable (m : (ℓ : Loc nD τ sig) → Buf (Elt Ideal) ℓ) (ρ : Dev nD → PrngReg)

/-- Point `t` of the grid takes row `t` of the batch. -/
theorem idx : ∀ t : Fin cfg0.grid.N, win0_0.index t = ![0] ∧ win0_1.index t = ![0] ∧ win0_2.index t = ![t.val, 0, 0]
    ∧ win0_3.index t = ![t.val, 0, 0] ∧ win0_4.index t = ![0, 0] ∧ win0_5.index t = ![t.val, 0, 0] ∧ win0_6.index t = ![t.val, 0, 0]
    ∧ win0_7.index t = ![0, 0] ∧ win0_8.index t = ![t.val, 0, 0, 0] ∧ win0_9.index t = ![t.val, 0, 0] ∧ win0_10.index t = ![t.val, 0, 0, 0]
    ∧ win0_11.index t = ![t.val, 0, 0] := by
  decide +kernel

theorem V_main_v2 (c : Dev nD) (i : S4.Idx) : V m c main_v2 i
    = m ((c : Thread nD τ).loc main_arg8) (ix2 0 (i 0)) := by
  show StableHlo.after hostOps0 _ (Proc.devRef .tc main_v2) i = _
  after_results
  pointwise

theorem V_main_v3 (c : Dev nD) (i : S4.Idx) : V m c main_v3 i
    = m ((c : Thread nD τ).loc main_arg9) (ix2 0 (i 0)) := by
  show StableHlo.after hostOps0 _ (Proc.devRef .tc main_v3) i = _
  after_results
  pointwise

theorem V_main_v4 (c : Dev nD) (i : S128x3x1536.Idx) : V m c main_v4 i
    = m ((c : Thread nD τ).loc main_arg6) (ix4 0 (i 0) (i 1) (i 2)) := by
  show StableHlo.after hostOps0 _ (Proc.devRef .tc main_v4) i = _
  after_results
  pointwise

theorem V_main_v5 (c : Dev nD) (i : S4x1536.Idx) : V m c main_v5 i
    = m ((c : Thread nD τ).loc main_arg7) (ix3 0 (i 0) (i 1)) := by
  show StableHlo.after hostOps0 _ (Proc.devRef .tc main_v5) i = _
  after_results
  pointwise

theorem V_main_v8 (c : Dev nD) (i : S1x128.Idx) : V m c main_v8 i
    = m ((c : Thread nD τ).loc main_arg10) (ix2 0 (i 1)) := by
  show StableHlo.after hostOps0 _ (Proc.devRef .tc main_v8) i = _
  after_results
  pointwise

theorem V_main_v7 (c : Dev nD) (i : S128x4x128x128.Idx) : V m c main_v7 i
    = m ((c : Thread nD τ).loc main_arg11) (ix5 0 (i 0) (i 1) (i 2) (i 3)) := by
  show StableHlo.after hostOps0 _ (Proc.devRef .tc main_v7) i = _
  after_results
  pointwise

theorem V_main_v1_a (c : Dev nD) (b : Fin 128) (h : Fin 4) : V m c main_v1 (ix3 b 0 ⟨80 + h.val, by omega⟩)
    = m ((c : Thread nD τ).loc main_arg3) (ix3 b 0 h) := by
  show StableHlo.after hostOps0 _ (Proc.devRef .tc main_v1) _ = _
  after_results
  pointwise
  rw [dif_neg (by omega), dif_neg (by omega), dif_pos (by omega)]
  have e : (⟨80 + h.val - 64 - 16, by omega⟩ : Fin 4) = h := Fin.ext (by show 80 + h.val - 64 - 16 = h.val; omega)
  rw [e]
  rfl

theorem V_main_v1_b (c : Dev nD) (b : Fin 128) (h : Fin 4) : V m c main_v1 (ix3 b 0 ⟨84 + h.val, by omega⟩)
    = m ((c : Thread nD τ).loc main_arg4) (ix3 b 0 h) := by
  show StableHlo.after hostOps0 _ (Proc.devRef .tc main_v1) _ = _
  after_results
  pointwise
  rw [dif_neg (by omega), dif_neg (by omega), dif_neg (by omega), dif_pos (by omega)]
  have e : (⟨84 + h.val - 64 - 16 - 4, by omega⟩ : Fin 4) = h := Fin.ext (by show 84 + h.val - 64 - 16 - 4 = h.val; omega)
  rw [e]
  rfl

theorem blk0 (c : Dev nD) (t : Fin cfg0.grid.N) (h : Fin 4) : iblk m c 0 t (ix1 h)
    = m ((c : Thread nD τ).loc main_arg8) (ix2 0 h) := by
  have h : iblk m c 0 t (ix1 h) = V m c main_v2 (ix1 h) := by
    blk_ext [iblk, idx t]
  exact h.trans (V_main_v2 m c _)

theorem blk1 (c : Dev nD) (t : Fin cfg0.grid.N) (h : Fin 4) : iblk m c 1 t (ix1 h)
    = m ((c : Thread nD τ).loc main_arg9) (ix2 0 h) := by
  have h : iblk m c 1 t (ix1 h) = V m c main_v3 (ix1 h) := by
    blk_ext [iblk, idx t]
  exact h.trans (V_main_v3 m c _)

theorem blk2 (c : Dev nD) (t : Fin cfg0.grid.N) (n : Fin 1536) : iblk m c 2 t (ix3 0 0 n)
    = m ((c : Thread nD τ).loc main_arg0) (ix3 ⟨t.val, by have : t.val < 128 := t.isLt; omega⟩ 0 n) := by
  have h : iblk m c 2 t (ix3 0 0 n) = V m c main_arg0 (ix3 ⟨t.val, by have : t.val < 128 := t.isLt; omega⟩ 0 n) := by
    blk_ext [iblk, idx t]
  exact h.trans (congrFun (V_main_arg0 m c) _)

theorem blk3 (c : Dev nD) (t : Fin cfg0.grid.N) (r : Fin 3) (n : Fin 1536) : iblk m c 3 t (ix3 0 r n)
    = m ((c : Thread nD τ).loc main_arg6) (ix4 0 ⟨t.val, by have : t.val < 128 := t.isLt; omega⟩ r n) := by
  have h : iblk m c 3 t (ix3 0 r n) = V m c main_v4 (ix3 ⟨t.val, by have : t.val < 128 := t.isLt; omega⟩ r n) := by
    blk_ext [iblk, idx t]
  exact h.trans (V_main_v4 m c _)

theorem blk4 (c : Dev nD) (t : Fin cfg0.grid.N) (r : Fin 4) (n : Fin 1536) : iblk m c 4 t (ix2 r n)
    = m ((c : Thread nD τ).loc main_arg7) (ix3 0 r n) := by
  have h : iblk m c 4 t (ix2 r n) = V m c main_v5 (ix2 r n) := by
    blk_ext [iblk, idx t]
  exact h.trans (V_main_v5 m c _)

theorem blk5a (c : Dev nD) (t : Fin cfg0.grid.N) (h : Fin 4) : iblk m c 5 t (ix3 0 0 ⟨80 + h.val, by omega⟩)
    = m ((c : Thread nD τ).loc main_arg3) (ix3 ⟨t.val, by have : t.val < 128 := t.isLt; omega⟩ 0 h) := by
  have h : iblk m c 5 t (ix3 0 0 ⟨80 + h.val, by omega⟩) = V m c main_v1 (ix3 ⟨t.val, by have : t.val < 128 := t.isLt; omega⟩ 0 ⟨80 + h.val, by omega⟩) := by
    blk_ext [iblk, idx t]
  exact h.trans (V_main_v1_a m c _ _)

theorem blk5b (c : Dev nD) (t : Fin cfg0.grid.N) (h : Fin 4) : iblk m c 5 t (ix3 0 0 ⟨84 + h.val, by omega⟩)
    = m ((c : Thread nD τ).loc main_arg4) (ix3 ⟨t.val, by have : t.val < 128 := t.isLt; omega⟩ 0 h) := by
  have h : iblk m c 5 t (ix3 0 0 ⟨84 + h.val, by omega⟩) = V m c main_v1 (ix3 ⟨t.val, by have : t.val < 128 := t.isLt; omega⟩ 0 ⟨84 + h.val, by omega⟩) := by
    blk_ext [iblk, idx t]
  exact h.trans (V_main_v1_b m c _ _)

theorem blk6 (c : Dev nD) (t : Fin cfg0.grid.N) (n : Fin 512) : iblk m c 6 t (ix3 0 0 n)
    = m ((c : Thread nD τ).loc main_arg5) (ix3 ⟨t.val, by have : t.val < 128 := t.isLt; omega⟩ 0 n) := by
  have h : iblk m c 6 t (ix3 0 0 n) = V m c main_arg5 (ix3 ⟨t.val, by have : t.val < 128 := t.isLt; omega⟩ 0 n) := by
    blk_ext [iblk, idx t]
  exact h.trans (congrFun (V_main_arg5 m c) _)

theorem blk7 (c : Dev nD) (t : Fin cfg0.grid.N) (n : Fin 128) : iblk m c 7 t (ix2 0 n)
    = m ((c : Thread nD τ).loc main_arg10) (ix2 0 n) := by
  have h : iblk m c 7 t (ix2 0 n) = V m c main_v8 (ix2 0 n) := by
    blk_ext [iblk, idx t]
  exact h.trans (V_main_v8 m c _)

theorem blk8 (c : Dev nD) (t : Fin cfg0.grid.N) (h : Fin 4) (i j : Fin 128) : iblk m c 8 t (ix4 0 h i j)
    = m ((c : Thread nD τ).loc main_arg11) (ix5 0 ⟨t.val, by have : t.val < 128 := t.isLt; omega⟩ h i j) := by
  have h : iblk m c 8 t (ix4 0 h i j) = V m c main_v7 (ix4 ⟨t.val, by have : t.val < 128 := t.isLt; omega⟩ h i j) := by
    blk_ext [iblk, idx t]
  exact h.trans (V_main_v7 m c _)

theorem emb9 (t : Fin cfg0.grid.N) (n : Fin 512) : ((View.whole main_v9_0).slice (win0_9.rect t)).emb (ix3 0 0 n)
    = ix3 ⟨t.val, by have : t.val < 128 := t.isLt; omega⟩ 0 n := by
  blk_ext [idx t]

theorem emb10 (t : Fin cfg0.grid.N) (h : Fin 4) (i j : Fin 128) : ((View.whole main_v9_1).slice (win0_10.rect t)).emb (ix4 0 h i j)
    = ix4 ⟨t.val, by have : t.val < 128 := t.isLt; omega⟩ h i j := by
  blk_ext [idx t]

theorem emb11 (t : Fin cfg0.grid.N) (r : Fin 3) (n : Fin 1536) : ((View.whole main_v9_2).slice (win0_11.rect t)).emb (ix3 0 r n)
    = ix3 ⟨t.val, by have : t.val < 128 := t.isLt; omega⟩ r n := by
  blk_ext [idx t]

end Cert.KernelIdeal.Val
-- ==== Proof.Gdn.Heads.lean ====
module

public import proofs.«01_k».proof.Proof.Gen.KernelIdeal.Frame
public import proofs.«01_k».proof.Proof.Gen.KernelIdeal.Value
public import proofs.«01_k».proof.Proof.Gdn.Spec
public import proofs.«01_k».proof.Proof.Gdn.Blocks
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Cert.GdnSpec

variable (m : (ℓ : Loc nD τ sig) → Buf (Elt Ideal) ℓ) (ρ : Dev nD → PrngReg)

section

variable (qkv : (⟨3, ![128, 1, 1536]⟩ : Shape).Idx → EReal) (ag bg : (⟨3, ![128, 1, 4]⟩ : Shape).Idx → EReal)
  (zg : (⟨3, ![128, 1, 512]⟩ : Shape).Idx → EReal) (cst : (⟨4, ![1, 128, 3, 1536]⟩ : Shape).Idx → EReal)
  (w : (⟨3, ![1, 4, 1536]⟩ : Shape).Idx → EReal) (alog dtb : (⟨2, ![1, 4]⟩ : Shape).Idx → EReal)
  (gn : (⟨2, ![1, 128]⟩ : Shape).Idx → EReal) (s0 : (⟨5, ![1, 128, 4, 128, 128]⟩ : Shape).Idx → EReal)
  (b : Fin 128)
  (v : FVec Ideal S1x1536 .f32) (v7 : FVec Ideal S1x128 .f32) (a d : Elt Ideal .f32) (s : Vec Ideal S1x1x128x128 .f32)
  (z : Vec Ideal S1x1x512 .f32) (gv : FVec Ideal S1x128 .f32)

/-- The new state of head 0, computed from the row's channels `v`, its gates `v7` and the old state `s`. -/
theorem state_0 (hv : ∀ n, v (ix2 0 n) = xc qkv cst w b n)
    (h7a : v7 (ix2 0 80) = ag (ix3 b 0 0)) (h7b : v7 (ix2 0 84) = bg (ix3 b 0 0))
    (ha : a = alog (ix2 0 0)) (hd : d = dtb (ix2 0 0)) (hs : ∀ i j, s (ix4 0 0 i j) = s0 (ix5 0 b 0 i j)) (i j : Fin 128) :
    k0_pay14 (k0_pay9 v) (k0_pay11 v) (k0_pay12 v7 a d) (k0_pay13 v7) s (ix2 i j)
      = state qkv ag bg cst w alog dtb s0 b 0 i j := by
  subst ha hd
  unfold state decayed k g
  pointwise [k0_pay14, k0_pay9, k0_pay11, k0_pay12, k0_pay13]
  simp only [hv, h7a, h7b, hs]
  try rfl

/-- The same, as it is stored. -/
theorem stored_0 (hv : ∀ n, v (ix2 0 n) = xc qkv cst w b n)
    (h7a : v7 (ix2 0 80) = ag (ix3 b 0 0)) (h7b : v7 (ix2 0 84) = bg (ix3 b 0 0))
    (ha : a = alog (ix2 0 0)) (hd : d = dtb (ix2 0 0)) (hs : ∀ i j, s (ix4 0 0 i j) = s0 (ix5 0 b 0 i j)) (i j : Fin 128) :
    k0_pay15 (k0_pay9 v) (k0_pay11 v) (k0_pay12 v7 a d) (k0_pay13 v7) s (ix4 0 0 i j)
      = state qkv ag bg cst w alog dtb s0 b 0 i j := by
  refine Eq.trans ?_ (state_0 qkv ag bg cst w alog dtb s0 b v v7 a d s hv h7a h7b ha hd hs i j)
  pointwise [k0_pay15]

/-- The result of head 0. -/
theorem out_0 (hv : ∀ n, v (ix2 0 n) = xc qkv cst w b n)
    (h7a : v7 (ix2 0 80) = ag (ix3 b 0 0)) (h7b : v7 (ix2 0 84) = bg (ix3 b 0 0))
    (ha : a = alog (ix2 0 0)) (hd : d = dtb (ix2 0 0)) (hs : ∀ i j, s (ix4 0 0 i j) = s0 (ix5 0 b 0 i j))
    (hz : ∀ n, z (ix3 0 0 n) = zg (ix3 b 0 n)) (hg : ∀ n, gv (ix2 0 n) = gn (ix2 0 n)) (j : Fin 128) :
    k0_pay19 (k0_pay8 gv) (k0_pay16 (k0_pay9 v) (k0_pay10 v) (k0_pay11 v) (k0_pay12 v7 a d) (k0_pay13 v7) s) (k0_pay17 z) (k0_pay18 (k0_pay9 v) (k0_pay10 v) (k0_pay11 v) (k0_pay12 v7 a d) (k0_pay13 v7) s) (ix3 0 0 j)
      = out qkv ag bg zg cst w alog dtb gn s0 b 0 j := by
  have hS := state_0 qkv ag bg cst w alog dtb s0 b v v7 a d s hv h7a h7b ha hd hs
  unfold out o q silu
  pointwise [k0_pay19, k0_pay8, k0_pay16, k0_pay17, k0_pay18, k0_pay10]
  simp only [hS, hv, hz, hg]
  try rfl

/-- The new state of head 1, computed from the row's channels `v`, its gates `v7` and the old state `s`. -/
theorem state_1 (hv : ∀ n, v (ix2 0 n) = xc qkv cst w b n)
    (h7a : v7 (ix2 0 81) = ag (ix3 b 0 1)) (h7b : v7 (ix2 0 85) = bg (ix3 b 0 1))
    (ha : a = alog (ix2 0 1)) (hd : d = dtb (ix2 0 1)) (hs : ∀ i j, s (ix4 0 0 i j) = s0 (ix5 0 b 1 i j)) (i j : Fin 128) :
    k0_pay25 v7 (k0_pay20 v) (k0_pay22 v) (k0_pay23 a) d s (ix2 i j)
      = state qkv ag bg cst w alog dtb s0 b 1 i j := by
  subst ha hd
  unfold state decayed k g
  pointwise [k0_pay25, k0_pay20, k0_pay22, k0_pay23]
  simp only [hv, h7a, h7b, hs]
  simp only [← Nat.add_assoc, Nat.reduceAdd]
  try rfl

/-- The same, as it is stored. -/
theorem stored_1 (hv : ∀ n, v (ix2 0 n) = xc qkv cst w b n)
    (h7a : v7 (ix2 0 81) = ag (ix3 b 0 1)) (h7b : v7 (ix2 0 85) = bg (ix3 b 0 1))
    (ha : a = alog (ix2 0 1)) (hd : d = dtb (ix2 0 1)) (hs : ∀ i j, s (ix4 0 0 i j) = s0 (ix5 0 b 1 i j)) (i j : Fin 128) :
    k0_pay26 v7 (k0_pay20 v) (k0_pay22 v) (k0_pay23 a) d s (ix4 0 0 i j)
      = state qkv ag bg cst w alog dtb s0 b 1 i j := by
  refine Eq.trans ?_ (state_1 qkv ag bg cst w alog dtb s0 b v v7 a d s hv h7a h7b ha hd hs i j)
  pointwise [k0_pay26]

/-- The result of head 1. -/
theorem out_1 (hv : ∀ n, v (ix2 0 n) = xc qkv cst w b n)
    (h7a : v7 (ix2 0 81) = ag (ix3 b 0 1)) (h7b : v7 (ix2 0 85) = bg (ix3 b 0 1))
    (ha : a = alog (ix2 0 1)) (hd : d = dtb (ix2 0 1)) (hs : ∀ i j, s (ix4 0 0 i j) = s0 (ix5 0 b 1 i j))
    (hz : ∀ n, z (ix3 0 0 n) = zg (ix3 b 0 n)) (hg : ∀ n, gv (ix2 0 n) = gn (ix2 0 n)) (j : Fin 128) :
    k0_pay27 (k0_pay8 gv) (k0_pay24 (k0_pay21 v)) (k0_pay25 v7 (k0_pay20 v) (k0_pay22 v) (k0_pay23 a) d s) z (ix3 0 0 j)
      = out qkv ag bg zg cst w alog dtb gn s0 b 1 j := by
  have hS := state_1 qkv ag bg cst w alog dtb s0 b v v7 a d s hv h7a h7b ha hd hs
  unfold out o q silu
  pointwise [k0_pay27, k0_pay8, k0_pay24, k0_pay21]
  simp only [hS, hv, hz, hg]
  try rfl

/-- The new state of head 2, computed from the row's channels `v`, its gates `v7` and the old state `s`. -/
theorem state_2 (hv : ∀ n, v (ix2 0 n) = xc qkv cst w b n)
    (h7a : v7 (ix2 0 82) = ag (ix3 b 0 2)) (h7b : v7 (ix2 0 86) = bg (ix3 b 0 2))
    (ha : a = alog (ix2 0 2)) (hd : d = dtb (ix2 0 2)) (hs : ∀ i j, s (ix4 0 0 i j) = s0 (ix5 0 b 2 i j)) (i j : Fin 128) :
    k0_pay35 (k0_pay29 v) (k0_pay31 v7) (k0_pay32 v7 a d s) (k0_pay33 (k0_pay28 v)) (ix2 i j)
      = state qkv ag bg cst w alog dtb s0 b 2 i j := by
  subst ha hd
  unfold state decayed k g
  pointwise [k0_pay35, k0_pay29, k0_pay31, k0_pay32, k0_pay33, k0_pay28]
  simp only [hv, h7a, h7b, hs]
  simp only [← Nat.add_assoc, Nat.reduceAdd]
  try rfl

/-- The same, as it is stored. -/
theorem stored_2 (hv : ∀ n, v (ix2 0 n) = xc qkv cst w b n)
    (h7a : v7 (ix2 0 82) = ag (ix3 b 0 2)) (h7b : v7 (ix2 0 86) = bg (ix3 b 0 2))
    (ha : a = alog (ix2 0 2)) (hd : d = dtb (ix2 0 2)) (hs : ∀ i j, s (ix4 0 0 i j) = s0 (ix5 0 b 2 i j)) (i j : Fin 128) :
    k0_pay36 (k0_pay29 v) (k0_pay31 v7) (k0_pay32 v7 a d s) (k0_pay33 (k0_pay28 v)) (ix4 0 0 i j)
      = state qkv ag bg cst w alog dtb s0 b 2 i j := by
  refine Eq.trans ?_ (state_2 qkv ag bg cst w alog dtb s0 b v v7 a d s hv h7a h7b ha hd hs i j)
  pointwise [k0_pay36]

/-- The result of head 2. -/
theorem out_2 (hv : ∀ n, v (ix2 0 n) = xc qkv cst w b n)
    (h7a : v7 (ix2 0 82) = ag (ix3 b 0 2)) (h7b : v7 (ix2 0 86) = bg (ix3 b 0 2))
    (ha : a = alog (ix2 0 2)) (hd : d = dtb (ix2 0 2)) (hs : ∀ i j, s (ix4 0 0 i j) = s0 (ix5 0 b 2 i j))
    (hz : ∀ n, z (ix3 0 0 n) = zg (ix3 b 0 n)) (hg : ∀ n, gv (ix2 0 n) = gn (ix2 0 n)) (j : Fin 128) :
    k0_pay38 (k0_pay37 (k0_pay8 gv) (k0_pay29 v) (k0_pay31 v7) (k0_pay32 v7 a d s) (k0_pay33 (k0_pay28 v)) (k0_pay34 (k0_pay30 v)) z) (ix3 0 0 j)
      = out qkv ag bg zg cst w alog dtb gn s0 b 2 j := by
  have hS := state_2 qkv ag bg cst w alog dtb s0 b v v7 a d s hv h7a h7b ha hd hs
  unfold out o q silu
  pointwise [k0_pay38, k0_pay37, k0_pay8, k0_pay34, k0_pay30]
  simp only [hS, hv, hz, hg]
  try rfl

/-- The new state of head 3, computed from the row's channels `v`, its gates `v7` and the old state `s`. -/
theorem state_3 (hv : ∀ n, v (ix2 0 n) = xc qkv cst w b n)
    (h7a : v7 (ix2 0 83) = ag (ix3 b 0 3)) (h7b : v7 (ix2 0 87) = bg (ix3 b 0 3))
    (ha : a = alog (ix2 0 3)) (hd : d = dtb (ix2 0 3)) (hs : ∀ i j, s (ix4 0 0 i j) = s0 (ix5 0 b 3 i j)) (i j : Fin 128) :
    k0_pay44 (k0_pay39 v) (k0_pay41 v) (k0_pay42 v7 a d) (k0_pay43 v7) s (ix2 i j)
      = state qkv ag bg cst w alog dtb s0 b 3 i j := by
  subst ha hd
  unfold state decayed k g
  pointwise [k0_pay44, k0_pay39, k0_pay41, k0_pay42, k0_pay43]
  simp only [hv, h7a, h7b, hs]
  simp only [← Nat.add_assoc, Nat.reduceAdd]
  try rfl

/-- The same, as it is stored. -/
theorem stored_3 (hv : ∀ n, v (ix2 0 n) = xc qkv cst w b n)
    (h7a : v7 (ix2 0 83) = ag (ix3 b 0 3)) (h7b : v7 (ix2 0 87) = bg (ix3 b 0 3))
    (ha : a = alog (ix2 0 3)) (hd : d = dtb (ix2 0 3)) (hs : ∀ i j, s (ix4 0 0 i j) = s0 (ix5 0 b 3 i j)) (i j : Fin 128) :
    k0_pay45 (k0_pay39 v) (k0_pay41 v) (k0_pay42 v7 a d) (k0_pay43 v7) s (ix4 0 0 i j)
      = state qkv ag bg cst w alog dtb s0 b 3 i j := by
  refine Eq.trans ?_ (state_3 qkv ag bg cst w alog dtb s0 b v v7 a d s hv h7a h7b ha hd hs i j)
  pointwise [k0_pay45]

/-- The result of head 3. -/
theorem out_3 (hv : ∀ n, v (ix2 0 n) = xc qkv cst w b n)
    (h7a : v7 (ix2 0 83) = ag (ix3 b 0 3)) (h7b : v7 (ix2 0 87) = bg (ix3 b 0 3))
    (ha : a = alog (ix2 0 3)) (hd : d = dtb (ix2 0 3)) (hs : ∀ i j, s (ix4 0 0 i j) = s0 (ix5 0 b 3 i j))
    (hz : ∀ n, z (ix3 0 0 n) = zg (ix3 b 0 n)) (hg : ∀ n, gv (ix2 0 n) = gn (ix2 0 n)) (j : Fin 128) :
    k0_pay1 (k0_pay8 gv) (k0_pay46 (k0_pay39 v) (k0_pay40 v) (k0_pay41 v) (k0_pay42 v7 a d) (k0_pay43 v7) s) (k0_pay47 z) (k0_pay48 (k0_pay39 v) (k0_pay40 v) (k0_pay41 v) (k0_pay42 v7 a d) (k0_pay43 v7) s) (ix3 0 0 j)
      = out qkv ag bg zg cst w alog dtb gn s0 b 3 j := by
  have hS := state_3 qkv ag bg cst w alog dtb s0 b v v7 a d s hv h7a h7b ha hd hs
  unfold out o q silu
  pointwise [k0_pay1, k0_pay8, k0_pay46, k0_pay47, k0_pay48, k0_pay40]
  simp only [hS, hv, hz, hg]
  try rfl

end

end Cert.KernelIdeal.Val
-- ==== Proof.Gdn.Kernel.lean ====
module

public import proofs.«01_k».proof.Proof.Gen.KernelIdeal.Frame
public import proofs.«01_k».proof.Proof.Gen.KernelIdeal.Value
public import proofs.«01_k».proof.Proof.Gdn.Spec
public import proofs.«01_k».proof.Proof.Gdn.Heads
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Cert.GdnSpec

variable (m : (ℓ : Loc nD τ sig) → Buf (Elt Ideal) ℓ) (ρ : Dev nD → PrngReg)

/-- The convolution and its gate, at point `t`. -/
theorem pay_xc (c : Dev nD) (t : Fin cfg0.grid.N) (n : Fin 1536) : k0_pay4 (iblk m c 2 t) (iblk m c 3 t) (iblk m c 4 t) (ix2 0 n)
    = xc (m ((c : Thread nD τ).loc main_arg0)) (m ((c : Thread nD τ).loc main_arg6)) (m ((c : Thread nD τ).loc main_arg7)) ⟨t.val, by have : t.val < 128 := t.isLt; omega⟩ n := by
  pointwise [k0_pay4, k0_pay3, k0_pay2]
  simp only [blk2, blk3, blk4]
  rfl

theorem gate_a (c : Dev nD) (t : Fin cfg0.grid.N) (h : Fin 4) : k0_pay7 (iblk m c 5 t) (ix2 0 ⟨80 + h.val, by omega⟩)
    = m ((c : Thread nD τ).loc main_arg3) (ix3 ⟨t.val, by have : t.val < 128 := t.isLt; omega⟩ 0 h) := by
  refine Eq.trans ?_ (blk5a m c t h)
  generalize iblk m c 5 t = v
  pointwise [k0_pay7]

theorem gate_b (c : Dev nD) (t : Fin cfg0.grid.N) (h : Fin 4) : k0_pay7 (iblk m c 5 t) (ix2 0 ⟨84 + h.val, by omega⟩)
    = m ((c : Thread nD τ).loc main_arg4) (ix3 ⟨t.val, by have : t.val < 128 := t.isLt; omega⟩ 0 h) := by
  refine Eq.trans ?_ (blk5b m c t h)
  generalize iblk m c 5 t = v
  pointwise [k0_pay7]

/-- The kept rows. -/
def G11 (c : Dev nD) : Vec Ideal S128x3x1536 .f32 := fun i => conv (m ((c : Thread nD τ).loc main_arg0)) (m ((c : Thread nD τ).loc main_arg6)) (i 0) (i 1) (i 2)

theorem final11 (c : Dev nD) : (dats m 0 c).arrAt 11 cfg0.N = G11 m c := by
  refine (dats m 0 c).arrAt_eq_of_covers 11 _ (by decide +kernel) fun t hf y => ?_
  blk_simp
  rw [after0_11]
  unfold outsAt0 out0_A_11
  frame_out
  obtain ⟨a, r, n, rfl⟩ : ∃ (a : Fin 1) (r : Fin 3) (n : Fin 1536), y = ix3 a r n := ⟨y 0, y 1, y 2, eq_ix3 y⟩
  obtain rfl : a = 0 := Subsingleton.elim _ _
  rw [emb11]
  unfold G11 conv
  canon_tiles x h using (View.cover_of_tiledBy _ ![1, 1, 1536] (by sl_kernel_rfl) _)
  · have h1 : r.val = 2 + (x 1).val := h1
    obtain rfl : r = 2 := Fin.ext (by show r.val = 2; omega)
    obtain rfl : n = x 2 := Fin.ext h2
    refine Eq.trans ?_ (dif_neg (show ¬ (2 : ℕ) < 2 by omega)).symm
    have e : k0_pay6 (iblk m c 2 t) x = iblk m c 2 t (ix3 0 0 (x 2)) := by
      generalize iblk m c 2 t = v
      obtain ⟨x0, x1, x2, rfl⟩ : ∃ (x0 : Fin 1) (x1 : Fin 1) (x2 : Fin 1536), x = ix3 x0 x1 x2 := ⟨x 0, x 1, x 2, eq_ix3 x⟩
      obtain rfl : x0 = 0 := Subsingleton.elim _ _
      obtain rfl : x1 = 0 := Subsingleton.elim _ _
      pointwise [k0_pay6, k0_pay2]
    exact e.trans (blk2 m c t _)
  · have h1' : r.val = (x 1).val := h1
    obtain ⟨r, hr⟩ := r
    obtain rfl : r = (x 1).val := h1'
    obtain rfl : n = x 2 := Fin.ext h2
    have x1_lt := x1_lt
    refine Eq.trans ?_ (dif_pos (show (x 1).val < 2 from x1_lt)).symm
    have e : k0_pay5 (iblk m c 3 t) x = iblk m c 3 t (ix3 0 ⟨(x 1).val + 1, by omega⟩ (x 2)) := by
      generalize iblk m c 3 t = v
      idx_vars x
      pointwise [k0_pay5, k0_pay3]
      try simp only [Nat.add_comm]
    exact e.trans (blk3 m c t _ _)

/-- The new states. -/
def G10 (c : Dev nD) : Vec Ideal S128x4x128x128 .f32 := fun i => state (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg11)) (i 0) (i 1) (i 2) (i 3)

theorem final10 (c : Dev nD) : (dats m 0 c).arrAt 10 cfg0.N = G10 m c := by
  refine (dats m 0 c).arrAt_eq_of_covers 10 _ (by decide +kernel) fun t hf y => ?_
  blk_simp
  rw [after0_10]
  unfold outsAt0 out0_A_10
  frame_out
  obtain ⟨a, h, i, j, rfl⟩ : ∃ (a : Fin 1) (h : Fin 4) (i j : Fin 128), y = ix4 a h i j := ⟨y 0, y 1, y 2, y 3, eq_ix4 y⟩
  obtain rfl : a = 0 := Subsingleton.elim _ _
  rw [emb10]
  canon_tiles x hx
  · have h1 : h.val = 3 + (x 1).val := hx1
    obtain ⟨x0, x1, x2, x3, rfl⟩ : ∃ (x0 x1 : Fin 1) (x2 x3 : Fin 128), x = ix4 x0 x1 x2 x3 := ⟨x 0, x 1, x 2, x 3, eq_ix4 x⟩
    obtain rfl : x0 = 0 := Subsingleton.elim _ _
    obtain rfl : x1 = 0 := Subsingleton.elim _ _
    obtain rfl : h = 3 := Fin.ext h1
    obtain rfl : i = x2 := Fin.ext hx2
    obtain rfl : j = x3 := Fin.ext hx3
    exact stored_3 (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg11)) _ _ _ _ _ _ (pay_xc m c t) (gate_a m c t 3) (gate_b m c t 3)
      (by pointwise; exact blk0 m c t 3) (by pointwise; exact blk1 m c t 3) (fun i j => by pointwise; exact blk8 m c t 3 i j) _ _
  · have h1 : h.val = 2 + (x 1).val := hx1
    obtain ⟨x0, x1, x2, x3, rfl⟩ : ∃ (x0 x1 : Fin 1) (x2 x3 : Fin 128), x = ix4 x0 x1 x2 x3 := ⟨x 0, x 1, x 2, x 3, eq_ix4 x⟩
    obtain rfl : x0 = 0 := Subsingleton.elim _ _
    obtain rfl : x1 = 0 := Subsingleton.elim _ _
    obtain rfl : h = 2 := Fin.ext h1
    obtain rfl : i = x2 := Fin.ext hx2
    obtain rfl : j = x3 := Fin.ext hx3
    exact stored_2 (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg11)) _ _ _ _ _ _ (pay_xc m c t) (gate_a m c t 2) (gate_b m c t 2)
      (by pointwise; exact blk0 m c t 2) (by pointwise; exact blk1 m c t 2) (fun i j => by pointwise; exact blk8 m c t 2 i j) _ _
  · have h1 : h.val = 1 + (x 1).val := hx1
    obtain ⟨x0, x1, x2, x3, rfl⟩ : ∃ (x0 x1 : Fin 1) (x2 x3 : Fin 128), x = ix4 x0 x1 x2 x3 := ⟨x 0, x 1, x 2, x 3, eq_ix4 x⟩
    obtain rfl : x0 = 0 := Subsingleton.elim _ _
    obtain rfl : x1 = 0 := Subsingleton.elim _ _
    obtain rfl : h = 1 := Fin.ext h1
    obtain rfl : i = x2 := Fin.ext hx2
    obtain rfl : j = x3 := Fin.ext hx3
    exact stored_1 (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg11)) _ _ _ _ _ _ (pay_xc m c t) (gate_a m c t 1) (gate_b m c t 1)
      (by pointwise; exact blk0 m c t 1) (by pointwise; exact blk1 m c t 1) (fun i j => by pointwise; exact blk8 m c t 1 i j) _ _
  · have h1 : h.val = (x 1).val := hx1
    obtain ⟨x0, x1, x2, x3, rfl⟩ : ∃ (x0 x1 : Fin 1) (x2 x3 : Fin 128), x = ix4 x0 x1 x2 x3 := ⟨x 0, x 1, x 2, x 3, eq_ix4 x⟩
    obtain rfl : x0 = 0 := Subsingleton.elim _ _
    obtain rfl : x1 = 0 := Subsingleton.elim _ _
    obtain rfl : h = 0 := Fin.ext h1
    obtain rfl : i = x2 := Fin.ext hx2
    obtain rfl : j = x3 := Fin.ext hx3
    exact stored_0 (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg11)) _ _ _ _ _ _ (pay_xc m c t) (gate_a m c t 0) (gate_b m c t 0)
      (by pointwise; exact blk0 m c t 0) (by pointwise; exact blk1 m c t 0) (fun i j => by pointwise; exact blk8 m c t 0 i j) _ _

/-- The results of the heads, 128 lanes each. -/
def G9 (c : Dev nD) : Vec Ideal S128x1x512 .bf16 := fun i => out (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0)
  ⟨(i 2).val / 128, by have : (i 2).val < 512 := (i 2).isLt; omega⟩ ⟨(i 2).val % 128, by omega⟩

theorem G9_at (c : Dev nD) (b : Fin 128) (h : Fin 4) (j : Fin 128) : G9 m c (ix3 b 0 ⟨128 * h.val + j.val, by omega⟩)
    = out (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b h j := by
  show out _ _ _ _ _ _ _ _ _ _ b ⟨(128 * h.val + j.val) / 128, _⟩ ⟨(128 * h.val + j.val) % 128, _⟩ = _
  congr 1 <;> apply Fin.ext <;> simp only <;> omega

theorem final9 (c : Dev nD) : (dats m 0 c).arrAt 9 cfg0.N = G9 m c := by
  refine (dats m 0 c).arrAt_eq_of_covers 9 _ (by decide +kernel) fun t hf y => ?_
  blk_simp
  rw [after0_9]
  unfold outsAt0 out0_A_9
  frame_out
  obtain ⟨a, a', n, rfl⟩ : ∃ (a : Fin 1) (a' : Fin 1) (n : Fin 512), y = ix3 a a' n := ⟨y 0, y 1, y 2, eq_ix3 y⟩
  obtain rfl : a = 0 := Subsingleton.elim _ _
  obtain rfl : a' = 0 := Subsingleton.elim _ _
  rw [emb9]
  canon_tiles x hx
  · have hn : n.val = 384 + (x 2).val := hx2
    obtain ⟨x0, x1, x2, rfl⟩ : ∃ (x0 : Fin 1) (x1 : Fin 1) (x2 : Fin 128), x = ix3 x0 x1 x2 := ⟨x 0, x 1, x 2, eq_ix3 x⟩
    obtain rfl : x0 = 0 := Subsingleton.elim _ _
    obtain rfl : x1 = 0 := Subsingleton.elim _ _
    obtain rfl : n = ⟨128 * ((3 : Fin 4) : ℕ) + x2.val, by clear hn hx0 hx1 hx2; show 128 * 3 + x2.val < 512; omega⟩ :=
      Fin.ext (by show n.val = 128 * 3 + x2.val; have hn : n.val = 384 + x2.val := hn; omega)
    refine Eq.trans ?_ (G9_at m c _ 3 x2).symm
    exact out_3 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) _ _ _ _ _ _ _ _ (pay_xc m c t) (gate_a m c t 3) (gate_b m c t 3)
      (by pointwise; exact blk0 m c t 3) (by pointwise; exact blk1 m c t 3) (fun i j => by pointwise; exact blk8 m c t 3 i j)
      (fun n => blk6 m c t n) (fun n => blk7 m c t n) _
  · have hn : n.val = 256 + (x 2).val := hx2
    obtain ⟨x0, x1, x2, rfl⟩ : ∃ (x0 : Fin 1) (x1 : Fin 1) (x2 : Fin 128), x = ix3 x0 x1 x2 := ⟨x 0, x 1, x 2, eq_ix3 x⟩
    obtain rfl : x0 = 0 := Subsingleton.elim _ _
    obtain rfl : x1 = 0 := Subsingleton.elim _ _
    obtain rfl : n = ⟨128 * ((2 : Fin 4) : ℕ) + x2.val, by clear hn hx0 hx1 hx2; show 128 * 2 + x2.val < 512; omega⟩ :=
      Fin.ext (by show n.val = 128 * 2 + x2.val; have hn : n.val = 256 + x2.val := hn; omega)
    refine Eq.trans ?_ (G9_at m c _ 2 x2).symm
    exact out_2 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) _ _ _ _ _ _ _ _ (pay_xc m c t) (gate_a m c t 2) (gate_b m c t 2)
      (by pointwise; exact blk0 m c t 2) (by pointwise; exact blk1 m c t 2) (fun i j => by pointwise; exact blk8 m c t 2 i j)
      (fun n => blk6 m c t n) (fun n => blk7 m c t n) _
  · have hn : n.val = 128 + (x 2).val := hx2
    obtain ⟨x0, x1, x2, rfl⟩ : ∃ (x0 : Fin 1) (x1 : Fin 1) (x2 : Fin 128), x = ix3 x0 x1 x2 := ⟨x 0, x 1, x 2, eq_ix3 x⟩
    obtain rfl : x0 = 0 := Subsingleton.elim _ _
    obtain rfl : x1 = 0 := Subsingleton.elim _ _
    obtain rfl : n = ⟨128 * ((1 : Fin 4) : ℕ) + x2.val, by clear hn hx0 hx1 hx2; show 128 * 1 + x2.val < 512; omega⟩ :=
      Fin.ext (by show n.val = 128 * 1 + x2.val; have hn : n.val = 128 + x2.val := hn; omega)
    refine Eq.trans ?_ (G9_at m c _ 1 x2).symm
    exact out_1 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) _ _ _ _ _ _ _ _ (pay_xc m c t) (gate_a m c t 1) (gate_b m c t 1)
      (by pointwise; exact blk0 m c t 1) (by pointwise; exact blk1 m c t 1) (fun i j => by pointwise; exact blk8 m c t 1 i j)
      (fun n => blk6 m c t n) (fun n => blk7 m c t n) _
  · have hn : n.val = (x 2).val := hx2
    obtain ⟨x0, x1, x2, rfl⟩ : ∃ (x0 : Fin 1) (x1 : Fin 1) (x2 : Fin 128), x = ix3 x0 x1 x2 := ⟨x 0, x 1, x 2, eq_ix3 x⟩
    obtain rfl : x0 = 0 := Subsingleton.elim _ _
    obtain rfl : x1 = 0 := Subsingleton.elim _ _
    obtain rfl : n = ⟨128 * ((0 : Fin 4) : ℕ) + x2.val, by clear hn hx0 hx1 hx2; show 128 * 0 + x2.val < 512; omega⟩ :=
      Fin.ext (by show n.val = 128 * 0 + x2.val; have hn : n.val = x2.val := hn; omega)
    refine Eq.trans ?_ (G9_at m c _ 0 x2).symm
    exact out_0 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) _ _ _ _ _ _ _ _ (pay_xc m c t) (gate_a m c t 0) (gate_b m c t 0)
      (by pointwise; exact blk0 m c t 0) (by pointwise; exact blk1 m c t 0) (fun i j => by pointwise; exact blk8 m c t 0 i j)
      (fun n => blk6 m c t n) (fun n => blk7 m c t n) _

end Cert.KernelIdeal.Val
-- ==== Proof.Gdn.Layout.lean ====
/- The layout operations of the plain program of one gated delta rule step, each read at an index. -/
module

public import proofs.«01_k».proof.Proof.Gen.ReferenceIdeal.Read
public import proofs.«01_k».proof.Proof.Gdn.Spec
public import Idealize.ShloMosaic.Lib.Pipeline.ValueKit
public import Idealize.ShloMosaic.Lib.Pointwise
public import Idealize.ShloMosaic.Lib.Tactic.CleanTypes

@[expose] public section

set_option maxRecDepth 16384

noncomputable section

namespace Cert.ReferenceIdeal.Val

open Cert.ReferenceIdeal Cert.ReferenceIdeal.Gen Cert.ReferenceIdeal.Read Idealize.ShloMosaic Idealize.ShloMosaic.TcCoe Idealize.SL.Sem

variable (x0 : Vec Ideal S128x1x1536 .f32) (x3 x4 : Vec Ideal S128x1x4 .f32) (x5 : Vec Ideal S128x1x512 .f32)
  (x6 : Vec Ideal S1x128x3x1536 .f32) (x7 : Vec Ideal S1x4x1536 .f32) (x8 x9 : Vec Ideal S1x4 .f32)
  (x10 : Vec Ideal S1x128 .f32) (x11 : Vec Ideal S1x128x4x128x128 .f32)

theorem v0 (b : Fin 128) (r : Fin 3) (n : Fin 1536) : (val_main_v0 (F := Ideal) x6) (ix3 b r n) = x6 (ix4 0 b r n) := by
  unfold val_main_v0
  pointwise

theorem v1 (b : Fin 128) (r : Fin 4) (n : Fin 1536) : (val_main_v1 (F := Ideal) x0 x6) (ix3 b r n) = if h : r.val < 3 then (val_main_v0 (F := Ideal) x6) (ix3 b ⟨r.val, h⟩ n) else x0 (ix3 b 0 n) := by
  unfold val_main_v1
  generalize val_main_v0 (F := Ideal) x6 = yv0
  pointwise
  split
  · rfl
  · exact congrArg (fun z => x0 (ix3 b z n)) (Subsingleton.elim _ _)

theorem v2 (r : Fin 4) (n : Fin 1536) : (val_main_v2 (F := Ideal) x7) (ix2 r n) = x7 (ix3 0 r n) := by
  unfold val_main_v2
  pointwise

theorem v3 (b : Fin 128) (n : Fin 1536) : (val_main_v3 (F := Ideal) x0 x6) (ix3 b 0 n) = (val_main_v1 (F := Ideal) x0 x6) (ix3 b 0 n) := by
  unfold val_main_v3
  generalize val_main_v1 (F := Ideal) x0 x6 = yv1
  clean_types
  pointwise

theorem v4 (n : Fin 1536) : (val_main_v4 (F := Ideal) x7) (ix2 0 n) = (val_main_v2 (F := Ideal) x7) (ix2 0 n) := by
  unfold val_main_v4
  generalize val_main_v2 (F := Ideal) x7 = yv2
  clean_types
  pointwise

theorem v5 (n : Fin 1536) : (val_main_v5 (F := Ideal) x7) (ix1 n) = (val_main_v4 (F := Ideal) x7) (ix2 0 n) := by
  unfold val_main_v5
  generalize val_main_v4 (F := Ideal) x7 = yv4
  clean_types
  pointwise

theorem v6 (n : Fin 1536) : (val_main_v6 (F := Ideal) x7) (ix3 0 0 n) = (val_main_v5 (F := Ideal) x7) (ix1 n) := by
  unfold val_main_v6
  generalize val_main_v5 (F := Ideal) x7 = yv5
  clean_types
  pointwise

theorem v7 (b : Fin 128) (n : Fin 1536) : (val_main_v7 (F := Ideal) x7) (ix3 b 0 n) = (val_main_v6 (F := Ideal) x7) (ix3 0 0 n) := by
  unfold val_main_v7
  generalize val_main_v6 (F := Ideal) x7 = yv6
  clean_types
  pointwise

theorem v9 (b : Fin 128) (n : Fin 1536) : (val_main_v9 (F := Ideal) x0 x6) (ix3 b 0 n) = (val_main_v1 (F := Ideal) x0 x6) (ix3 b 1 n) := by
  unfold val_main_v9
  generalize val_main_v1 (F := Ideal) x0 x6 = yv1
  clean_types
  pointwise

theorem v10 (n : Fin 1536) : (val_main_v10 (F := Ideal) x7) (ix2 0 n) = (val_main_v2 (F := Ideal) x7) (ix2 1 n) := by
  unfold val_main_v10
  generalize val_main_v2 (F := Ideal) x7 = yv2
  clean_types
  pointwise

theorem v11 (n : Fin 1536) : (val_main_v11 (F := Ideal) x7) (ix1 n) = (val_main_v10 (F := Ideal) x7) (ix2 0 n) := by
  unfold val_main_v11
  generalize val_main_v10 (F := Ideal) x7 = yv10
  clean_types
  pointwise

theorem v12 (n : Fin 1536) : (val_main_v12 (F := Ideal) x7) (ix3 0 0 n) = (val_main_v11 (F := Ideal) x7) (ix1 n) := by
  unfold val_main_v12
  generalize val_main_v11 (F := Ideal) x7 = yv11
  clean_types
  pointwise

theorem v13 (b : Fin 128) (n : Fin 1536) : (val_main_v13 (F := Ideal) x7) (ix3 b 0 n) = (val_main_v12 (F := Ideal) x7) (ix3 0 0 n) := by
  unfold val_main_v13
  generalize val_main_v12 (F := Ideal) x7 = yv12
  clean_types
  pointwise

theorem v16 (b : Fin 128) (n : Fin 1536) : (val_main_v16 (F := Ideal) x0 x6) (ix3 b 0 n) = (val_main_v1 (F := Ideal) x0 x6) (ix3 b 2 n) := by
  unfold val_main_v16
  generalize val_main_v1 (F := Ideal) x0 x6 = yv1
  clean_types
  pointwise

theorem v17 (n : Fin 1536) : (val_main_v17 (F := Ideal) x7) (ix2 0 n) = (val_main_v2 (F := Ideal) x7) (ix2 2 n) := by
  unfold val_main_v17
  generalize val_main_v2 (F := Ideal) x7 = yv2
  clean_types
  pointwise

theorem v18 (n : Fin 1536) : (val_main_v18 (F := Ideal) x7) (ix1 n) = (val_main_v17 (F := Ideal) x7) (ix2 0 n) := by
  unfold val_main_v18
  generalize val_main_v17 (F := Ideal) x7 = yv17
  clean_types
  pointwise

theorem v19 (n : Fin 1536) : (val_main_v19 (F := Ideal) x7) (ix3 0 0 n) = (val_main_v18 (F := Ideal) x7) (ix1 n) := by
  unfold val_main_v19
  generalize val_main_v18 (F := Ideal) x7 = yv18
  clean_types
  pointwise

theorem v20 (b : Fin 128) (n : Fin 1536) : (val_main_v20 (F := Ideal) x7) (ix3 b 0 n) = (val_main_v19 (F := Ideal) x7) (ix3 0 0 n) := by
  unfold val_main_v20
  generalize val_main_v19 (F := Ideal) x7 = yv19
  clean_types
  pointwise

theorem v23 (b : Fin 128) (n : Fin 1536) : (val_main_v23 (F := Ideal) x0 x6) (ix3 b 0 n) = (val_main_v1 (F := Ideal) x0 x6) (ix3 b 3 n) := by
  unfold val_main_v23
  generalize val_main_v1 (F := Ideal) x0 x6 = yv1
  clean_types
  pointwise

theorem v24 (n : Fin 1536) : (val_main_v24 (F := Ideal) x7) (ix2 0 n) = (val_main_v2 (F := Ideal) x7) (ix2 3 n) := by
  unfold val_main_v24
  generalize val_main_v2 (F := Ideal) x7 = yv2
  clean_types
  pointwise

theorem v25 (n : Fin 1536) : (val_main_v25 (F := Ideal) x7) (ix1 n) = (val_main_v24 (F := Ideal) x7) (ix2 0 n) := by
  unfold val_main_v25
  generalize val_main_v24 (F := Ideal) x7 = yv24
  clean_types
  pointwise

theorem v26 (n : Fin 1536) : (val_main_v26 (F := Ideal) x7) (ix3 0 0 n) = (val_main_v25 (F := Ideal) x7) (ix1 n) := by
  unfold val_main_v26
  generalize val_main_v25 (F := Ideal) x7 = yv25
  clean_types
  pointwise

theorem v27 (b : Fin 128) (n : Fin 1536) : (val_main_v27 (F := Ideal) x7) (ix3 b 0 n) = (val_main_v26 (F := Ideal) x7) (ix3 0 0 n) := by
  unfold val_main_v27
  generalize val_main_v26 (F := Ideal) x7 = yv26
  clean_types
  pointwise

theorem v31 (b : Fin 128) (n : Fin 512) : (val_main_v31 (F := Ideal) x0 x6 x7) (ix3 b 0 n) = (val_main_v30 (F := Ideal) x0 x6 x7) (ix3 b 0 ⟨n.val, by omega⟩) := by
  unfold val_main_v31
  generalize val_main_v30 (F := Ideal) x0 x6 x7 = yv30
  clean_types
  pointwise

theorem v32 (b : Fin 128) (n : Fin 512) : (val_main_v32 (F := Ideal) x0 x6 x7) (ix3 b 0 n) = (val_main_v30 (F := Ideal) x0 x6 x7) (ix3 b 0 ⟨512 + n.val, by omega⟩) := by
  unfold val_main_v32
  generalize val_main_v30 (F := Ideal) x0 x6 x7 = yv30
  clean_types
  pointwise

theorem v33 (b : Fin 128) (n : Fin 512) : (val_main_v33 (F := Ideal) x0 x6 x7) (ix3 b 0 n) = (val_main_v30 (F := Ideal) x0 x6 x7) (ix3 b 0 ⟨1024 + n.val, by omega⟩) := by
  unfold val_main_v33
  generalize val_main_v30 (F := Ideal) x0 x6 x7 = yv30
  clean_types
  pointwise

theorem v34 (b : Fin 128) (h : Fin 4) (d : Fin 128) : (val_main_v34 (F := Ideal) x0 x6 x7) (ix4 b 0 h d) = (val_main_v31 (F := Ideal) x0 x6 x7) (ix3 b 0 ⟨128 * h.val + d.val, by omega⟩) := by
  unfold val_main_v34
  generalize val_main_v31 (F := Ideal) x0 x6 x7 = yv31
  clean_types
  pointwise
  try simp only [mul_comm]

theorem v45 (b : Fin 128) (h : Fin 4) (d : Fin 128) : (val_main_v45 (F := Ideal) x0 x6 x7) (ix4 b 0 h d) = (val_main_v32 (F := Ideal) x0 x6 x7) (ix3 b 0 ⟨128 * h.val + d.val, by omega⟩) := by
  unfold val_main_v45
  generalize val_main_v32 (F := Ideal) x0 x6 x7 = yv32
  clean_types
  pointwise
  try simp only [mul_comm]

theorem v54 (b : Fin 128) (h : Fin 4) (d : Fin 128) : (val_main_v54 (F := Ideal) x0 x6 x7) (ix4 b 0 h d) = (val_main_v33 (F := Ideal) x0 x6 x7) (ix3 b 0 ⟨128 * h.val + d.val, by omega⟩) := by
  unfold val_main_v54
  generalize val_main_v33 (F := Ideal) x0 x6 x7 = yv33
  clean_types
  pointwise
  try simp only [mul_comm]

theorem v37 (b : Fin 128) (h : Fin 4) : (val_main_v37 (F := Ideal) x0 x6 x7) (ix4 b 0 h 0) = (val_main_v36 (F := Ideal) x0 x6 x7) (ix3 b 0 h) := by
  unfold val_main_v37
  generalize val_main_v36 (F := Ideal) x0 x6 x7 = yv36
  clean_types
  pointwise

theorem v48 (b : Fin 128) (h : Fin 4) : (val_main_v48 (F := Ideal) x0 x6 x7) (ix4 b 0 h 0) = (val_main_v47 (F := Ideal) x0 x6 x7) (ix3 b 0 h) := by
  unfold val_main_v48
  generalize val_main_v47 (F := Ideal) x0 x6 x7 = yv47
  clean_types
  pointwise

theorem v98 (b : Fin 128) (h : Fin 4) : (val_main_v98 (F := Ideal) x0 x3 x4 x6 x7 x8 x9 x11) (ix4 b 0 h 0) = (val_main_v97 (F := Ideal) x0 x3 x4 x6 x7 x8 x9 x11) (ix3 b 0 h) := by
  unfold val_main_v98
  generalize val_main_v97 (F := Ideal) x0 x3 x4 x6 x7 x8 x9 x11 = yv97
  clean_types
  pointwise

theorem v41 (b : Fin 128) (h : Fin 4) (d : Fin 128) : (val_main_v41 (F := Ideal) x0 x6 x7) (ix4 b 0 h d) = (val_main_v40 (F := Ideal) x0 x6 x7) (ix4 b 0 h 0) := by
  unfold val_main_v41
  generalize val_main_v40 (F := Ideal) x0 x6 x7 = yv40
  clean_types
  pointwise

theorem v52 (b : Fin 128) (h : Fin 4) (d : Fin 128) : (val_main_v52 (F := Ideal) x0 x6 x7) (ix4 b 0 h d) = (val_main_v51 (F := Ideal) x0 x6 x7) (ix4 b 0 h 0) := by
  unfold val_main_v52
  generalize val_main_v51 (F := Ideal) x0 x6 x7 = yv51
  clean_types
  pointwise

theorem v104 (b : Fin 128) (h : Fin 4) (d : Fin 128) : (val_main_v104 (F := Ideal) x0 x3 x4 x6 x7 x8 x9 x11) (ix4 b 0 h d) = (val_main_v103 (F := Ideal) x0 x3 x4 x6 x7 x8 x9 x11) (ix4 b 0 h 0) := by
  unfold val_main_v104
  generalize val_main_v103 (F := Ideal) x0 x3 x4 x6 x7 x8 x9 x11 = yv103
  clean_types
  pointwise

theorem v55 (h : Fin 4) : (val_main_v55 (F := Ideal) x8) (ix1 h) = x8 (ix2 0 h) := by
  unfold val_main_v55
  pointwise

theorem v58 (h : Fin 4) : (val_main_v58 (F := Ideal) x9) (ix1 h) = x9 (ix2 0 h) := by
  unfold val_main_v58
  pointwise

theorem v59 (h : Fin 4) : (val_main_v59 (F := Ideal) x9) (ix3 0 0 h) = (val_main_v58 (F := Ideal) x9) (ix1 h) := by
  unfold val_main_v59
  generalize val_main_v58 (F := Ideal) x9 = yv58
  clean_types
  pointwise

theorem v60 (b : Fin 128)(h : Fin 4) : (val_main_v60 (F := Ideal) x9) (ix3 b 0 h) = (val_main_v59 (F := Ideal) x9) (ix3 0 0 h) := by
  unfold val_main_v60
  generalize val_main_v59 (F := Ideal) x9 = yv59
  clean_types
  pointwise

theorem v63 (h : Fin 4) : (val_main_v63 (F := Ideal) x8) (ix3 0 0 h) = (val_main_v57 (F := Ideal) x8) (ix1 h) := by
  unfold val_main_v63
  generalize val_main_v57 (F := Ideal) x8 = yv57
  clean_types
  pointwise

theorem v64 (b : Fin 128)(h : Fin 4) : (val_main_v64 (F := Ideal) x8) (ix3 b 0 h) = (val_main_v63 (F := Ideal) x8) (ix3 0 0 h) := by
  unfold val_main_v64
  generalize val_main_v63 (F := Ideal) x8 = yv63
  clean_types
  pointwise

theorem v72 (b : Fin 128)(h : Fin 4)(i j : Fin 128) : (val_main_v72 (F := Ideal) x11) (ix4 b h i j) = x11 (ix5 0 b h i j) := by
  unfold val_main_v72
  pointwise

theorem v73 (b : Fin 128)(h : Fin 4)(d : Fin 128) : (val_main_v73 (F := Ideal) x0 x6 x7) (ix3 b h d) = (val_main_v44 (F := Ideal) x0 x6 x7) (ix4 b 0 h d) := by
  unfold val_main_v73
  generalize val_main_v44 (F := Ideal) x0 x6 x7 = yv44
  clean_types
  pointwise

theorem v74 (b : Fin 128)(h : Fin 4)(d : Fin 128) : (val_main_v74 (F := Ideal) x0 x6 x7) (ix3 b h d) = (val_main_v53 (F := Ideal) x0 x6 x7) (ix4 b 0 h d) := by
  unfold val_main_v74
  generalize val_main_v53 (F := Ideal) x0 x6 x7 = yv53
  clean_types
  pointwise

theorem v75 (b : Fin 128)(h : Fin 4)(d : Fin 128) : (val_main_v75 (F := Ideal) x0 x6 x7) (ix3 b h d) = (val_main_v54 (F := Ideal) x0 x6 x7) (ix4 b 0 h d) := by
  unfold val_main_v75
  generalize val_main_v54 (F := Ideal) x0 x6 x7 = yv54
  clean_types
  pointwise

theorem v76 (b : Fin 128)(h : Fin 4) : (val_main_v76 (F := Ideal) x3 x8 x9) (ix2 b h) = (val_main_v65 (F := Ideal) x3 x8 x9) (ix3 b 0 h) := by
  unfold val_main_v76
  generalize val_main_v65 (F := Ideal) x3 x8 x9 = yv65
  clean_types
  pointwise

theorem v77 (b : Fin 128)(h : Fin 4) : (val_main_v77 (F := Ideal) x4) (ix2 b h) = (val_main_v71 (F := Ideal) x4) (ix3 b 0 h) := by
  unfold val_main_v77
  generalize val_main_v71 (F := Ideal) x4 = yv71
  clean_types
  pointwise

theorem v79 (b : Fin 128)(h : Fin 4) : (val_main_v79 (F := Ideal) x3 x8 x9) (ix4 b h 0 0) = (val_main_v78 (F := Ideal) x3 x8 x9) (ix2 b h) := by
  unfold val_main_v79
  generalize val_main_v78 (F := Ideal) x3 x8 x9 = yv78
  clean_types
  pointwise

theorem v80 (b : Fin 128)(h : Fin 4)(i j : Fin 128) : (val_main_v80 (F := Ideal) x3 x8 x9) (ix4 b h i j) = (val_main_v79 (F := Ideal) x3 x8 x9) (ix4 b h 0 0) := by
  unfold val_main_v80
  generalize val_main_v79 (F := Ideal) x3 x8 x9 = yv79
  clean_types
  pointwise

theorem v82 (b : Fin 128)(h : Fin 4)(d : Fin 128) : (val_main_v82 (F := Ideal) x0 x3 x6 x7 x8 x9 x11) (ix3 b h d) = ∑ x : Fin 128, (val_main_v74 (F := Ideal) x0 x6 x7) (ix3 b h x) * (val_main_v81 (F := Ideal) x3 x8 x9 x11) (ix4 b h x d) := by
  unfold val_main_v82
  generalize val_main_v74 (F := Ideal) x0 x6 x7 = yv74
  generalize val_main_v81 (F := Ideal) x3 x8 x9 x11 = yv81
  pointwise

theorem v84 (b : Fin 128)(h : Fin 4) : (val_main_v84 (F := Ideal) x4) (ix3 b h 0) = (val_main_v77 (F := Ideal) x4) (ix2 b h) := by
  unfold val_main_v84
  generalize val_main_v77 (F := Ideal) x4 = yv77
  clean_types
  pointwise

theorem v85 (b : Fin 128)(h : Fin 4)(d : Fin 128) : (val_main_v85 (F := Ideal) x4) (ix3 b h d) = (val_main_v84 (F := Ideal) x4) (ix3 b h 0) := by
  unfold val_main_v85
  generalize val_main_v84 (F := Ideal) x4 = yv84
  clean_types
  pointwise

theorem v87 (b : Fin 128)(h : Fin 4)(d : Fin 128) : (val_main_v87 (F := Ideal) x0 x6 x7) (ix4 b h d 0) = (val_main_v74 (F := Ideal) x0 x6 x7) (ix3 b h d) := by
  unfold val_main_v87
  generalize val_main_v74 (F := Ideal) x0 x6 x7 = yv74
  clean_types
  pointwise

theorem v88 (b : Fin 128)(h : Fin 4)(d : Fin 128) : (val_main_v88 (F := Ideal) x0 x3 x4 x6 x7 x8 x9 x11) (ix4 b h 0 d) = (val_main_v86 (F := Ideal) x0 x3 x4 x6 x7 x8 x9 x11) (ix3 b h d) := by
  unfold val_main_v88
  generalize val_main_v86 (F := Ideal) x0 x3 x4 x6 x7 x8 x9 x11 = yv86
  clean_types
  pointwise

theorem v89 (b : Fin 128)(h : Fin 4)(i j : Fin 128) : (val_main_v89 (F := Ideal) x0 x6 x7) (ix4 b h i j) = (val_main_v87 (F := Ideal) x0 x6 x7) (ix4 b h i 0) := by
  unfold val_main_v89
  generalize val_main_v87 (F := Ideal) x0 x6 x7 = yv87
  clean_types
  pointwise

theorem v90 (b : Fin 128)(h : Fin 4)(i j : Fin 128) : (val_main_v90 (F := Ideal) x0 x3 x4 x6 x7 x8 x9 x11) (ix4 b h i j) = (val_main_v88 (F := Ideal) x0 x3 x4 x6 x7 x8 x9 x11) (ix4 b h 0 j) := by
  unfold val_main_v90
  generalize val_main_v88 (F := Ideal) x0 x3 x4 x6 x7 x8 x9 x11 = yv88
  clean_types
  pointwise

theorem v93 (b : Fin 128)(h : Fin 4)(d : Fin 128) : (val_main_v93 (F := Ideal) x0 x3 x4 x6 x7 x8 x9 x11) (ix3 b h d) = ∑ x : Fin 128, (val_main_v73 (F := Ideal) x0 x6 x7) (ix3 b h x) * (val_main_v92 (F := Ideal) x0 x3 x4 x6 x7 x8 x9 x11) (ix4 b h x d) := by
  unfold val_main_v93
  generalize val_main_v73 (F := Ideal) x0 x6 x7 = yv73
  generalize val_main_v92 (F := Ideal) x0 x3 x4 x6 x7 x8 x9 x11 = yv92
  pointwise

theorem v94 (b : Fin 128)(h : Fin 4)(d : Fin 128) : (val_main_v94 (F := Ideal) x0 x3 x4 x6 x7 x8 x9 x11) (ix4 b 0 h d) = (val_main_v93 (F := Ideal) x0 x3 x4 x6 x7 x8 x9 x11) (ix3 b h d) := by
  unfold val_main_v94
  generalize val_main_v93 (F := Ideal) x0 x3 x4 x6 x7 x8 x9 x11 = yv93
  clean_types
  pointwise

theorem v95 (d : Fin 128) : (val_main_v95 (F := Ideal) x10) (ix1 d) = x10 (ix2 0 d) := by
  unfold val_main_v95
  pointwise

theorem v106 (d : Fin 128) : (val_main_v106 (F := Ideal) x10) (ix4 0 0 0 d) = (val_main_v95 (F := Ideal) x10) (ix1 d) := by
  unfold val_main_v106
  generalize val_main_v95 (F := Ideal) x10 = yv95
  clean_types
  pointwise

theorem v107 (b : Fin 128)(h : Fin 4)(d : Fin 128) : (val_main_v107 (F := Ideal) x10) (ix4 b 0 h d) = (val_main_v106 (F := Ideal) x10) (ix4 0 0 0 d) := by
  unfold val_main_v107
  generalize val_main_v106 (F := Ideal) x10 = yv106
  clean_types
  pointwise

theorem v109 (b : Fin 128)(h : Fin 4)(d : Fin 128) : (val_main_v109 (F := Ideal) x0 x3 x4 x6 x7 x8 x9 x10 x11) (ix3 b 0 ⟨128 * h.val + d.val, by omega⟩) = (val_main_v108 (F := Ideal) x0 x3 x4 x6 x7 x8 x9 x10 x11) (ix4 b 0 h d) := by
  unfold val_main_v109
  generalize val_main_v108 (F := Ideal) x0 x3 x4 x6 x7 x8 x9 x10 x11 = yv108
  clean_types
  pointwise
  all_goals (congr 1)
  all_goals (first | rfl | (apply Fin.ext; simp; omega))

theorem v113 (b : Fin 128) (r : Fin 3) (n : Fin 1536) : (val_main_v113 (F := Ideal) x0 x6) (ix3 b r n) = (val_main_v1 (F := Ideal) x0 x6) (ix3 b ⟨r.val + 1, by omega⟩ n) := by
  unfold val_main_v113
  generalize val_main_v1 (F := Ideal) x0 x6 = yv1
  clean_types
  pointwise
  try simp only [add_comm]

end Cert.ReferenceIdeal.Val
-- ==== Proof.Gdn.Reference.lean ====
/- The plain program of one gated delta rule step, read down to the closed form of `Gdn/Spec.lean`. -/
module

public import proofs.«01_k».proof.Proof.Gen.ReferenceIdeal.Read
public import proofs.«01_k».proof.Proof.Gdn.Layout
public import Idealize.ShloMosaic.Lib.Pipeline.ValueKit
public import Idealize.ShloMosaic.Lib.Pointwise
public import Idealize.ShloMosaic.Lib.Tactic.CleanTypes

@[expose] public section

set_option maxRecDepth 16384

noncomputable section

namespace Cert.ReferenceIdeal.Val

open Cert.ReferenceIdeal Cert.ReferenceIdeal.Gen Cert.ReferenceIdeal.Read Idealize.ShloMosaic Idealize.ShloMosaic.TcCoe Idealize.SL.Sem
open Cert.GdnSpec

variable (x0 : Vec Ideal S128x1x1536 .f32) (x3 x4 : Vec Ideal S128x1x4 .f32) (x5 : Vec Ideal S128x1x512 .f32)
  (x6 : Vec Ideal S1x128x3x1536 .f32) (x7 : Vec Ideal S1x4x1536 .f32) (x8 x9 : Vec Ideal S1x4 .f32)
  (x10 : Vec Ideal S1x128 .f32) (x11 : Vec Ideal S1x128x4x128x128 .f32)

theorem l29 (b : Fin 128) (n : Fin 1536) : (val_main_v29 (F := Ideal) x0 x6 x7) (ix3 b 0 n)
    = x6 (ix4 0 b 0 n) * x7 (ix3 0 0 n) + x6 (ix4 0 b 1 n) * x7 (ix3 0 1 n) + x6 (ix4 0 b 2 n) * x7 (ix3 0 2 n)
      + x0 (ix3 b 0 n) * x7 (ix3 0 3 n) := by
  rw [val_main_v29_apply, val_main_v22_apply, val_main_v15_apply, val_main_v8_apply, val_main_v14_apply, val_main_v21_apply,
    val_main_v28_apply, v3, v9, v16, v23, v7, v13, v20, v27, v6, v12, v19, v26, v5, v11, v18, v25, v4, v10, v17, v24, v1, v1, v1, v1,
    dif_pos (by decide), dif_pos (by decide), dif_pos (by decide), dif_neg (by decide), v0, v0, v0, v2, v2, v2, v2]
  rfl

/-- The channels after the convolution and the gate. -/
theorem l30 (b : Fin 128) (n : Fin 1536) : (val_main_v30 (F := Ideal) x0 x6 x7) (ix3 b 0 n) = xc x0 x6 x7 b n := by
  unfold xc silu
  rw [← l29]
  unfold val_main_v30 val_main_call0_v5 val_main_call0_v3 val_main_call0_v4 val_main_call0_v2 val_main_call0_v1 val_main_call0_v0
    val_main_call0_cst val_main_call0_cst_0
  generalize val_main_v29 (F := Ideal) x0 x6 x7 = y
  pointwise
  rw [zero_sub]

theorem l31 (b : Fin 128) (h : Fin 4) (d : Fin 128) : (val_main_v34 (F := Ideal) x0 x6 x7) (ix4 b 0 h d) = xc x0 x6 x7 b ⟨128 * h.val + d.val, by omega⟩ := by
  rw [v34, v31, l30]
theorem l32 (b : Fin 128) (h : Fin 4) (d : Fin 128) : (val_main_v45 (F := Ideal) x0 x6 x7) (ix4 b 0 h d) = xc x0 x6 x7 b ⟨512 + (128 * h.val + d.val), by omega⟩ := by
  rw [v45, v32, l30]
theorem l33 (b : Fin 128) (h : Fin 4) (d : Fin 128) : (val_main_v54 (F := Ideal) x0 x6 x7) (ix4 b 0 h d) = xc x0 x6 x7 b ⟨1024 + (128 * h.val + d.val), by omega⟩ := by
  rw [v54, v33, l30]

theorem l36 (b : Fin 128) (h : Fin 4) : (val_main_v36 (F := Ideal) x0 x6 x7) (ix3 b 0 h) = ∑ x : Fin 128, (val_main_v34 (F := Ideal) x0 x6 x7) (ix4 b 0 h x) * (val_main_v34 (F := Ideal) x0 x6 x7) (ix4 b 0 h x) := by
  unfold val_main_v36 val_main_v35 val_main_cst
  generalize val_main_v34 (F := Ideal) x0 x6 x7 = y
  pointwise
theorem l47 (b : Fin 128) (h : Fin 4) : (val_main_v47 (F := Ideal) x0 x6 x7) (ix3 b 0 h) = ∑ x : Fin 128, (val_main_v45 (F := Ideal) x0 x6 x7) (ix4 b 0 h x) * (val_main_v45 (F := Ideal) x0 x6 x7) (ix4 b 0 h x) := by
  unfold val_main_v47 val_main_v46 val_main_cst_2
  generalize val_main_v45 (F := Ideal) x0 x6 x7 = y
  pointwise
theorem l40 (b : Fin 128) (h : Fin 4) : (val_main_v40 (F := Ideal) x0 x6 x7) (ix4 b 0 h 0) = Ideal.rsqrt ((val_main_v36 (F := Ideal) x0 x6 x7) (ix3 b 0 h) + eps) := by
  rw [← v37]
  unfold val_main_v40 val_main_v39 val_main_v38 val_main_cst_0
  generalize val_main_v37 (F := Ideal) x0 x6 x7 = y
  pointwise
theorem l51 (b : Fin 128) (h : Fin 4) : (val_main_v51 (F := Ideal) x0 x6 x7) (ix4 b 0 h 0) = Ideal.rsqrt ((val_main_v47 (F := Ideal) x0 x6 x7) (ix3 b 0 h) + eps) := by
  rw [← v48]
  unfold val_main_v51 val_main_v50 val_main_v49 val_main_cst_3
  generalize val_main_v48 (F := Ideal) x0 x6 x7 = y
  pointwise

/-- The query of a head. -/
theorem l73 (b : Fin 128) (h : Fin 4) (d : Fin 128) : (val_main_v73 (F := Ideal) x0 x6 x7) (ix3 b h d) = q x0 x6 x7 b h d := by
  have e : (val_main_v44 (F := Ideal) x0 x6 x7) (ix4 b 0 h d) = (val_main_v34 (F := Ideal) x0 x6 x7) (ix4 b 0 h d) * (val_main_v41 (F := Ideal) x0 x6 x7) (ix4 b 0 h d) * Ideal.ofBits FTy.f32 0x3DB504F3#32 := by
    unfold val_main_v44 val_main_v43 val_main_v42 val_main_cst_1
    generalize val_main_v34 (F := Ideal) x0 x6 x7 = y
    generalize val_main_v41 (F := Ideal) x0 x6 x7 = z
    pointwise
  rw [v73, e, v41, l40, l36]
  simp only [l31]
  rfl

/-- The key of a head. -/
theorem l74 (b : Fin 128) (h : Fin 4) (d : Fin 128) : (val_main_v74 (F := Ideal) x0 x6 x7) (ix3 b h d) = k x0 x6 x7 b h d := by
  have e : (val_main_v53 (F := Ideal) x0 x6 x7) (ix4 b 0 h d) = (val_main_v45 (F := Ideal) x0 x6 x7) (ix4 b 0 h d) * (val_main_v52 (F := Ideal) x0 x6 x7) (ix4 b 0 h d) := rfl
  rw [v74, e, v52, l51, l47]
  simp only [l32]
  rfl

/-- The softplus of the library call, whose branch for a value that is no number is never taken. -/
theorem l62 (b : Fin 128) (h : Fin 4) : (val_main_v62 (F := Ideal) x3 x9) (ix3 b 0 h)
    = max (x3 (ix3 b 0 h) + x9 (ix2 0 h)) 0
      + Ideal.log1p (Ideal.exp (0 - FloatOps.absf (F := Ideal) (φ := .f32) (x3 (ix3 b 0 h) + x9 (ix2 0 h)))) := by
  have e : (val_main_v61 (F := Ideal) x3 x9) (ix3 b 0 h) = x3 (ix3 b 0 h) + x9 (ix2 0 h) := by
    rw [val_main_v61_apply, v60, v59, v58]
    rfl
  rw [← e]
  unfold val_main_v62 val_main_call1_v4 val_main_call1_v3 val_main_call1_v2 val_main_call1_v11 val_main_call1_v10 val_main_call1_v9
    val_main_call1_v8 val_main_call1_v7 val_main_call1_v3 val_main_call1_v2 val_main_call1_v1 val_main_call1_v0 val_main_call1_v6
    val_main_call1_v5 val_main_call1_cst
  generalize val_main_v61 (F := Ideal) x3 x9 = y
  pointwise
  simp

/-- The logarithm of the decay. -/
theorem l76 (b : Fin 128) (h : Fin 4) : (val_main_v76 (F := Ideal) x3 x8 x9) (ix2 b h) = g x3 x8 x9 b h := by
  have e : (val_main_v57 (F := Ideal) x8) (ix1 h) = 0 - Ideal.exp (x8 (ix2 0 h)) := by
    rw [← v55 x8]
    unfold val_main_v57 val_main_v56
    generalize val_main_v55 (F := Ideal) x8 = y
    pointwise
    rw [zero_sub]
  rw [v76, val_main_v65_apply, v64, v63, e, l62]
  rfl

theorem l81 (b : Fin 128) (h : Fin 4) (i j : Fin 128) : (val_main_v81 (F := Ideal) x3 x8 x9 x11) (ix4 b h i j) = decayed x3 x8 x9 x11 b h i j := by
  rw [val_main_v81_apply, v72, v80, v79, val_main_v78_apply, l76]
  rfl

theorem l77 (b : Fin 128) (h : Fin 4) : (val_main_v77 (F := Ideal) x4) (ix2 b h) = Ideal.div 1 (1 + Ideal.exp (0 - x4 (ix3 b 0 h))) := by
  rw [v77]
  unfold val_main_v71 val_main_v70 val_main_v69 val_main_v68 val_main_v67 val_main_v66 val_main_cst_4 val_main_cst_5
  pointwise
  rw [zero_sub]

/-- The state after the step. -/
theorem l92 (b : Fin 128) (h : Fin 4) (i j : Fin 128) : (val_main_v92 (F := Ideal) x0 x3 x4 x6 x7 x8 x9 x11) (ix4 b h i j) = state x0 x3 x4 x6 x7 x8 x9 x11 b h i j := by
  rw [val_main_v92_apply, val_main_v91_apply, v89, v87, v90, v88, val_main_v86_apply, val_main_v83_apply, v85, v84, v82, v75, l33, l77]
  simp only [l74, l81]
  rfl

theorem l94 (b : Fin 128) (h : Fin 4) (d : Fin 128) : (val_main_v94 (F := Ideal) x0 x3 x4 x6 x7 x8 x9 x11) (ix4 b 0 h d) = o x0 x3 x4 x6 x7 x8 x9 x11 b h d := by
  rw [v94, v93]
  simp only [l73, l92]
  rfl

theorem l97 (b : Fin 128) (h : Fin 4) : (val_main_v97 (F := Ideal) x0 x3 x4 x6 x7 x8 x9 x11) (ix3 b 0 h) = ∑ x : Fin 128, (val_main_v94 (F := Ideal) x0 x3 x4 x6 x7 x8 x9 x11) (ix4 b 0 h x) * (val_main_v94 (F := Ideal) x0 x3 x4 x6 x7 x8 x9 x11) (ix4 b 0 h x) := by
  unfold val_main_v97 val_main_v96 val_main_cst_6
  generalize val_main_v94 (F := Ideal) x0 x3 x4 x6 x7 x8 x9 x11 = y
  pointwise
theorem l103 (b : Fin 128) (h : Fin 4) : (val_main_v103 (F := Ideal) x0 x3 x4 x6 x7 x8 x9 x11) (ix4 b 0 h 0)
    = Ideal.rsqrt (Ideal.div ((val_main_v97 (F := Ideal) x0 x3 x4 x6 x7 x8 x9 x11) (ix3 b 0 h)) (Ideal.ofBits FTy.f32 0x43000000#32) + eps) := by
  rw [← v98]
  unfold val_main_v103 val_main_v102 val_main_v101 val_main_v100 val_main_v99 val_main_cst_7 val_main_cst_8
  generalize val_main_v98 (F := Ideal) x0 x3 x4 x6 x7 x8 x9 x11 = y
  pointwise

theorem l110 (b : Fin 128) (n : Fin 512) : (val_main_v110 (F := Ideal) x5) (ix3 b 0 n) = silu (x5 (ix3 b 0 n)) := by
  unfold silu val_main_v110 val_main_call2_v5 val_main_call2_v3 val_main_call2_v4 val_main_call2_v2 val_main_call2_v1 val_main_call2_v0
    val_main_call2_cst val_main_call2_cst_0
  pointwise
  rw [zero_sub]

/-- The row a head gives. -/
theorem l112 (b : Fin 128) (h : Fin 4) (d : Fin 128) : (val_main_v112 (F := Ideal) x0 x3 x4 x5 x6 x7 x8 x9 x10 x11) (ix3 b 0 ⟨128 * h.val + d.val, by omega⟩)
    = out x0 x3 x4 x5 x6 x7 x8 x9 x10 x11 b h d := by
  have e : (val_main_v112 (F := Ideal) x0 x3 x4 x5 x6 x7 x8 x9 x10 x11) (ix3 b 0 ⟨128 * h.val + d.val, by omega⟩) = (val_main_v109 (F := Ideal) x0 x3 x4 x6 x7 x8 x9 x10 x11) (ix3 b 0 ⟨128 * h.val + d.val, by omega⟩)
      * (val_main_v110 (F := Ideal) x5) (ix3 b 0 ⟨128 * h.val + d.val, by omega⟩) := by
    unfold val_main_v112 val_main_v111
    generalize val_main_v109 (F := Ideal) x0 x3 x4 x6 x7 x8 x9 x10 x11 = y
    generalize val_main_v110 (F := Ideal) x5 = z
    pointwise
  rw [e, v109, l110, val_main_v108_apply, val_main_v105_apply, v104, l103, l97, v107, v106, v95]
  simp only [l94]
  rfl

/-- The rows kept for the next step. -/
theorem l113 (b : Fin 128) (r : Fin 3) (n : Fin 1536) : (val_main_v113 (F := Ideal) x0 x6) (ix3 b r n) = conv x0 x6 b r n := by
  rw [v113, v1]
  unfold conv
  by_cases hr : r.val < 2
  · refine Eq.trans (dif_pos (by show r.val + 1 < 3; omega)) (Eq.trans ?_ (dif_pos hr).symm)
    rw [v0]
  · refine Eq.trans (dif_neg (by show ¬ r.val + 1 < 3; omega)) (Eq.trans ?_ (dif_neg hr).symm)
    rfl

end Cert.ReferenceIdeal.Val
-- ==== Proof.Gdn.Claim.lean ====
/- The value claim about one gated delta rule step: both programs run, end with equal results, and keep their arguments. -/
module

public import proofs.«01_k».proof.Proof.Gen.KernelIdeal.Value
public import proofs.«01_k».proof.Proof.Gdn.Kernel
public import proofs.«01_k».proof.Proof.Gdn.Reference

@[expose] public section

noncomputable section

namespace Cert.ReferenceIdeal.Val

open Cert.ReferenceIdeal Cert.ReferenceIdeal.Gen Cert.ReferenceIdeal.Read Idealize.ShloMosaic Idealize.ShloMosaic.TcCoe Idealize.SL.Sem
open Cert.GdnSpec

variable {x0 y0 : Vec Ideal S128x1x1536 .f32} {x3 x4 y3 y4 : Vec Ideal S128x1x4 .f32} {x5 y5 : Vec Ideal S128x1x512 .f32}
  {x6 y6 : Vec Ideal S1x128x3x1536 .f32} {x7 y7 : Vec Ideal S1x4x1536 .f32} {x8 x9 y8 y9 : Vec Ideal S1x4 .f32}
  {x10 y10 : Vec Ideal S1x128 .f32} {x11 y11 : Vec Ideal S1x128x4x128x128 .f32}

/-- The rows given, as a function of the index. -/
theorem eq112 (e0 : y0 = x0) (e3 : y3 = x3) (e4 : y4 = x4) (e5 : y5 = x5) (e6 : y6 = x6) (e7 : y7 = x7) (e8 : y8 = x8)
    (e9 : y9 = x9) (e10 : y10 = x10) (e11 : y11 = x11) :
    val_main_v112 (F := Ideal) y0 y3 y4 y5 y6 y7 y8 y9 y10 y11 = fun i => out x0 x3 x4 x5 x6 x7 x8 x9 x10 x11 (i 0)
      ⟨(i 2).val / 128, by have : (i 2).val < 512 := (i 2).isLt; omega⟩ ⟨(i 2).val % 128, by omega⟩ := by
  subst e0 e3 e4 e5 e6 e7 e8 e9 e10 e11
  funext i
  obtain ⟨a, a', n, rfl⟩ : ∃ (a : Fin 128) (a' : Fin 1) (n : Fin 512), i = ix3 a a' n := ⟨i 0, i 1, i 2, eq_ix3 i⟩
  obtain rfl : a' = 0 := Subsingleton.elim _ _
  have h := l112 y0 y3 y4 y5 y6 y7 y8 y9 y10 y11 a ⟨n.val / 128, by omega⟩ ⟨n.val % 128, by omega⟩
  have e : (⟨128 * (n.val / 128) + n.val % 128, by omega⟩ : Fin 512) = n := Fin.ext (by show 128 * (n.val / 128) + n.val % 128 = n.val; omega)
  refine Eq.trans ?_ h
  exact congrArg (fun z => val_main_v112 (F := Ideal) y0 y3 y4 y5 y6 y7 y8 y9 y10 y11 (ix3 a 0 z)) e.symm

/-- The new state, as a function of the index. -/
theorem eq92 (e0 : y0 = x0) (e3 : y3 = x3) (e4 : y4 = x4) (e6 : y6 = x6) (e7 : y7 = x7) (e8 : y8 = x8)
    (e9 : y9 = x9) (e11 : y11 = x11) :
    val_main_v92 (F := Ideal) y0 y3 y4 y6 y7 y8 y9 y11 = fun i => state x0 x3 x4 x6 x7 x8 x9 x11 (i 0) (i 1) (i 2) (i 3) := by
  subst e0 e3 e4 e6 e7 e8 e9 e11
  funext i
  obtain ⟨a, h, j, k, rfl⟩ : ∃ (a : Fin 128) (h : Fin 4) (j k : Fin 128), i = ix4 a h j k := ⟨i 0, i 1, i 2, i 3, eq_ix4 i⟩
  exact l92 y0 y3 y4 y6 y7 y8 y9 y11 a h j k

/-- The rows kept, as a function of the index. -/
theorem eq113 (e0 : y0 = x0) (e6 : y6 = x6) :
    val_main_v113 (F := Ideal) y0 y6 = fun i => conv x0 x6 (i 0) (i 1) (i 2) := by
  subst e0 e6
  funext i
  obtain ⟨a, r, n, rfl⟩ : ∃ (a : Fin 128) (r : Fin 3) (n : Fin 1536), i = ix3 a r n := ⟨i 0, i 1, i 2, eq_ix3 i⟩
  exact l113 y0 y6 a r n

end Cert.ReferenceIdeal.Val

namespace Cert.GdnClaim

open Idealize.ShloMosaic Idealize.SL.Sem

/-- The kernel and the plain program give the same rows, the same new state and the same kept rows. -/
theorem algebraic : Cert.algebraic_KernelIdeal_ReferenceIdeal := by
  intro m g m' g' _ ha
  refine ⟨fun c => Cert.KernelIdeal.Val.G9 m c, fun c => Cert.KernelIdeal.Val.G10 m c, fun c => Cert.KernelIdeal.Val.G11 m c, ?_, ?_⟩
  · exact (θ_run _ _ _).mono (fun r h c => by
      obtain ⟨h0, h1, h2, h3⟩ := h c
      exact ⟨h0.trans (Cert.KernelIdeal.Val.final9 m c), h1.trans (Cert.KernelIdeal.Val.final10 m c),
        h2.trans (Cert.KernelIdeal.Val.final11 m c), h3⟩) (Cert.KernelIdeal.Value.run_blocks m g)
  · refine (θ_run _ _ _).mono (fun r h c => ?_) (Cert.ReferenceIdeal.Value.run m' g')
    obtain ⟨h0, h1, h2, h3⟩ := h c
    obtain ⟨a0, a1, a2, a3, a4, a5, a6, a7, a8, a9, a10, a11⟩ := ha c
    refine ⟨h0.trans ((Cert.ReferenceIdeal.Read.val_main_v112_eq _).trans ?_),
      h1.trans ((Cert.ReferenceIdeal.Read.val_main_v92_eq _).trans ?_),
      h2.trans ((Cert.ReferenceIdeal.Read.val_main_v113_eq _).trans ?_), h3⟩
    · exact Cert.ReferenceIdeal.Val.eq112 a0 a3 a4 a5 a6 a7 a8 a9 a10 a11
    · exact Cert.ReferenceIdeal.Val.eq92 a0 a3 a4 a6 a7 a8 a9 a11
    · exact Cert.ReferenceIdeal.Val.eq113 a0 a6

end Cert.GdnClaim
-- ==== Proof.InProj.Spec.lean ====
/- The input projection in closed form, over the extended reals: what one element of a result is as a function of the
   arrays. Both programs of the claims about this call and about its form for the rows of the sampling batch are read
   down to these functions. -/
module

public import proofs.«01_k».proof.Defs
public import Idealize.ShloMosaic.Lib.Pointwise

@[expose] public section

noncomputable section

namespace Cert.InProjSpec

open Idealize.ShloMosaic

/-- Lane `k` of a row divided by the root of the mean of its squares (1024 of them, as the float constant the programs
    print; the small constant under the root likewise), times the gain. -/
def normed (x g : Fin 1024 → EReal) (k : Fin 1024) : EReal :=
  x k * Ideal.rsqrt (Ideal.div (∑ j : Fin 1024, x j * x j) (Ideal.ofBits FTy.f32 0x44800000#32) + Ideal.ofBits FTy.f32 0x358637BD#32) * g k

/-- The normalised row times a column of the weight. -/
def proj (x g w : Fin 1024 → EReal) : EReal := ∑ k : Fin 1024, normed x g k * w k

/-- Column `n` of the projection of token `(b, s)`. -/
def out (x : (⟨3, ![32, 2048, 1024]⟩ : Shape).Idx → EReal) (g : (⟨2, ![1, 1024]⟩ : Shape).Idx → EReal)
    (w : (⟨3, ![1, 1024, 4440]⟩ : Shape).Idx → EReal) (b : Fin 32) (s : Fin 2048) (n : Fin 4440) : EReal :=
  proj (fun k => x (ix3 b s k)) (fun k => g (ix2 0 k)) (fun k => w (ix3 0 k n))

/-- The same with the tokens numbered in one sequence: row `r` is token `(r / 2048, r % 2048)`. -/
def row (x : (⟨3, ![32, 2048, 1024]⟩ : Shape).Idx → EReal) (g : (⟨2, ![1, 1024]⟩ : Shape).Idx → EReal)
    (w : (⟨3, ![1, 1024, 4440]⟩ : Shape).Idx → EReal) (r : Fin 65536) (n : Fin 4440) : EReal :=
  out x g w ⟨r.val / 2048, by omega⟩ ⟨r.val % 2048, by omega⟩ n

/-- The column of the weight behind lane `l` of the small results: 64 lanes of the index key and 16 of its weights stand
    together, the 4 and 4 lanes of the gates at the end. -/
def small (l : Fin 88) : Fin 4440 := if l.val < 80 then ⟨2304 + l.val, by omega⟩ else ⟨4352 + l.val, by omega⟩

/-- The scale of the query columns. -/
def scale : EReal := Ideal.ofBits FTy.f32 0x3E000000#32

/-! The twelve results, as functions of the index. -/

variable (x : (⟨3, ![32, 2048, 1024]⟩ : Shape).Idx → EReal) (g : (⟨2, ![1, 1024]⟩ : Shape).Idx → EReal)
  (w : (⟨3, ![1, 1024, 4440]⟩ : Shape).Idx → EReal)

def kHeads : (⟨5, ![1, 32, 2048, 2, 64]⟩ : Shape).Idx → EReal := fun i =>
  out x g w (i 1) (i 2) ⟨512 + (64 * (i 3).val + (i 4).val), by have : (i 3).val < 2 := (i 3).isLt; have : (i 4).val < 64 := (i 4).isLt; omega⟩
def vHeads : (⟨5, ![1, 32, 2048, 2, 64]⟩ : Shape).Idx → EReal := fun i =>
  out x g w (i 1) (i 2) ⟨640 + (64 * (i 3).val + (i 4).val), by have : (i 3).val < 2 := (i 3).isLt; have : (i 4).val < 64 := (i 4).isLt; omega⟩
def kidx : (⟨4, ![1, 32, 2048, 64]⟩ : Shape).Idx → EReal := fun i =>
  out x g w (i 1) (i 2) ⟨2304 + (i 3).val, by have : (i 3).val < 64 := (i 3).isLt; omega⟩
def conv : (⟨4, ![1, 32, 3, 1536]⟩ : Shape).Idx → EReal := fun i =>
  out x g w (i 1) ⟨2045 + (i 2).val, by have : (i 2).val < 3 := (i 2).isLt; omega⟩ ⟨2384 + (i 3).val, by have : (i 3).val < 1536 := (i 3).isLt; omega⟩
def q : (⟨2, ![65536, 512]⟩ : Shape).Idx → EReal := fun i =>
  row x g w (i 0) ⟨(i 1).val, by have : (i 1).val < 512 := (i 1).isLt; omega⟩ * scale
def qi : (⟨2, ![65536, 1024]⟩ : Shape).Idx → EReal := fun i =>
  row x g w (i 0) ⟨1280 + (i 1).val, by have : (i 1).val < 1024 := (i 1).isLt; omega⟩ * scale
def kRows : (⟨2, ![65536, 128]⟩ : Shape).Idx → EReal := fun i =>
  row x g w (i 0) ⟨512 + (i 1).val, by have : (i 1).val < 128 := (i 1).isLt; omega⟩
def vRows : (⟨2, ![65536, 128]⟩ : Shape).Idx → EReal := fun i =>
  row x g w (i 0) ⟨640 + (i 1).val, by have : (i 1).val < 128 := (i 1).isLt; omega⟩
def zaRows : (⟨2, ![65536, 512]⟩ : Shape).Idx → EReal := fun i =>
  row x g w (i 0) ⟨768 + (i 1).val, by have : (i 1).val < 512 := (i 1).isLt; omega⟩
def qkvRows : (⟨2, ![65536, 1536]⟩ : Shape).Idx → EReal := fun i =>
  row x g w (i 0) ⟨2384 + (i 1).val, by have : (i 1).val < 1536 := (i 1).isLt; omega⟩
def zgRows : (⟨2, ![65536, 512]⟩ : Shape).Idx → EReal := fun i =>
  row x g w (i 0) ⟨3920 + (i 1).val, by have : (i 1).val < 512 := (i 1).isLt; omega⟩
def smallRows : (⟨2, ![65536, 88]⟩ : Shape).Idx → EReal := fun i =>
  row x g w (i 0) (small (i 1))

end Cert.InProjSpec
-- ==== Proof.InProj.Weights.lean ====
/- The weight of the input projection as the host hands it to the call: its columns cut into groups, the groups
   reordered and padded, each group read at an index. -/
module

public import proofs.«01_k».proof.Proof.Gen.InProjIdeal.Launch
public import proofs.«01_k».proof.Proof.InProj.Spec
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.InProjIdeal.Val

open Cert.InProjIdeal Cert.InProjIdeal.Gen Idealize.ShloMosaic Idealize.ShloMosaic.TcCoe Idealize.SL.Sem
open Cert.InProjSpec

variable (w : Vec Ideal S1x1024x4440 .f32)

/-! The groups of columns. -/

def c_v1 : Vec Ideal S1024x512 .f32 :=
  extractStridedSlice S1024x512 ![0, 0] (shapeCast S1024x4440 w shapeCasts_S1x1024x4440_S1024x4440) slices_S1024x4440_S1024x512_0_0
theorem c_v1_at (k : Fin 1024) (n : Fin 512) : c_v1 w (ix2 k n) = w (ix3 0 k ⟨n.val, by omega⟩) := by
  unfold c_v1
  pointwise
def c_v2 : Vec Ideal S1024x128 .f32 :=
  extractStridedSlice S1024x128 ![0, 512] (shapeCast S1024x4440 w shapeCasts_S1x1024x4440_S1024x4440) slices_S1024x4440_S1024x128_0_512
theorem c_v2_at (k : Fin 1024) (n : Fin 128) : c_v2 w (ix2 k n) = w (ix3 0 k ⟨512 + n.val, by omega⟩) := by
  unfold c_v2
  pointwise
def c_v3 : Vec Ideal S1024x128 .f32 :=
  extractStridedSlice S1024x128 ![0, 640] (shapeCast S1024x4440 w shapeCasts_S1x1024x4440_S1024x4440) slices_S1024x4440_S1024x128_0_640
theorem c_v3_at (k : Fin 1024) (n : Fin 128) : c_v3 w (ix2 k n) = w (ix3 0 k ⟨640 + n.val, by omega⟩) := by
  unfold c_v3
  pointwise
def c_v4 : Vec Ideal S1024x512 .f32 :=
  extractStridedSlice S1024x512 ![0, 768] (shapeCast S1024x4440 w shapeCasts_S1x1024x4440_S1024x4440) slices_S1024x4440_S1024x512_0_768
theorem c_v4_at (k : Fin 1024) (n : Fin 512) : c_v4 w (ix2 k n) = w (ix3 0 k ⟨768 + n.val, by omega⟩) := by
  unfold c_v4
  pointwise
def c_v5 : Vec Ideal S1024x1024 .f32 :=
  extractStridedSlice S1024x1024 ![0, 1280] (shapeCast S1024x4440 w shapeCasts_S1x1024x4440_S1024x4440) slices_S1024x4440_S1024x1024_0_1280
theorem c_v5_at (k : Fin 1024) (n : Fin 1024) : c_v5 w (ix2 k n) = w (ix3 0 k ⟨1280 + n.val, by omega⟩) := by
  unfold c_v5
  pointwise
def c_v6 : Vec Ideal S1024x64 .f32 :=
  extractStridedSlice S1024x64 ![0, 2304] (shapeCast S1024x4440 w shapeCasts_S1x1024x4440_S1024x4440) slices_S1024x4440_S1024x64_0_2304
theorem c_v6_at (k : Fin 1024) (n : Fin 64) : c_v6 w (ix2 k n) = w (ix3 0 k ⟨2304 + n.val, by omega⟩) := by
  unfold c_v6
  pointwise
def c_v7 : Vec Ideal S1024x16 .f32 :=
  extractStridedSlice S1024x16 ![0, 2368] (shapeCast S1024x4440 w shapeCasts_S1x1024x4440_S1024x4440) slices_S1024x4440_S1024x16_0_2368
theorem c_v7_at (k : Fin 1024) (n : Fin 16) : c_v7 w (ix2 k n) = w (ix3 0 k ⟨2368 + n.val, by omega⟩) := by
  unfold c_v7
  pointwise
def c_v8 : Vec Ideal S1024x1536 .f32 :=
  extractStridedSlice S1024x1536 ![0, 2384] (shapeCast S1024x4440 w shapeCasts_S1x1024x4440_S1024x4440) slices_S1024x4440_S1024x1536_0_2384
theorem c_v8_at (k : Fin 1024) (n : Fin 1536) : c_v8 w (ix2 k n) = w (ix3 0 k ⟨2384 + n.val, by omega⟩) := by
  unfold c_v8
  pointwise
def c_v9 : Vec Ideal S1024x512 .f32 :=
  extractStridedSlice S1024x512 ![0, 3920] (shapeCast S1024x4440 w shapeCasts_S1x1024x4440_S1024x4440) slices_S1024x4440_S1024x512_0_3920
theorem c_v9_at (k : Fin 1024) (n : Fin 512) : c_v9 w (ix2 k n) = w (ix3 0 k ⟨3920 + n.val, by omega⟩) := by
  unfold c_v9
  pointwise
def c_v10 : Vec Ideal S1024x4 .f32 :=
  extractStridedSlice S1024x4 ![0, 4432] (shapeCast S1024x4440 w shapeCasts_S1x1024x4440_S1024x4440) slices_S1024x4440_S1024x4_0_4432
theorem c_v10_at (k : Fin 1024) (n : Fin 4) : c_v10 w (ix2 k n) = w (ix3 0 k ⟨4432 + n.val, by omega⟩) := by
  unfold c_v10
  pointwise
def c_v11 : Vec Ideal S1024x4 .f32 :=
  extractStridedSlice S1024x4 ![0, 4436] (shapeCast S1024x4440 w shapeCasts_S1x1024x4440_S1024x4440) slices_S1024x4440_S1024x4_0_4436
theorem c_v11_at (k : Fin 1024) (n : Fin 4) : c_v11 w (ix2 k n) = w (ix3 0 k ⟨4436 + n.val, by omega⟩) := by
  unfold c_v11
  pointwise

/-- The small groups, padded with zeros to 128 lanes. -/
def c_small : Vec Ideal S1024x128 .f32 :=
  concatenate S1024x128 1 [⟨S1024x64, c_v6 w⟩, ⟨S1024x16, c_v7 w⟩, ⟨S1024x4, c_v10 w⟩, ⟨S1024x4, c_v11 w⟩,
    ⟨S1024x40, broadcastInDim S1024x40 ![] bcast_S_S1024x40 (constant (F := Ideal) S_ .f32 0x00000000#32)⟩]
    concatenates_S1024x64_S1024x16_S1024x4_S1024x4_S1024x40_S1024x128_d1

/-- The weight in the order of the call. -/
def weight : Vec Ideal S1024x4480 .bf16 :=
  truncf .bf16 (concatenate (α := Ideal .f32) S1024x4480 1 [⟨S1024x512, c_v1 w⟩, ⟨S1024x128, c_v2 w⟩, ⟨S1024x128, c_v3 w⟩, ⟨S1024x512, c_v4 w⟩,
    ⟨S1024x1024, c_v5 w⟩, ⟨S1024x128, c_small w⟩, ⟨S1024x1536, c_v8 w⟩, ⟨S1024x512, c_v9 w⟩]
    concatenates_S1024x512_S1024x128_S1024x128_S1024x512_S1024x1024_S1024x128_S1024x1536_S1024x512_S1024x4480_d1) bitsLt_bf16_f32

/-! Each group in its place. -/

theorem s_ki (k : Fin 1024) (n : Fin 64) : c_small w (ix2 k ⟨n.val, by omega⟩) = w (ix3 0 k ⟨2304 + n.val, by omega⟩) := by
  unfold c_small
  generalize e_c_v6 : c_v6 w = y_c_v6
  generalize e_c_v7 : c_v7 w = y_c_v7
  generalize e_c_v10 : c_v10 w = y_c_v10
  generalize e_c_v11 : c_v11 w = y_c_v11
  pointwise
  subst e_c_v6 e_c_v7 e_c_v10 e_c_v11
  exact c_v6_at w k n

theorem s_wi (k : Fin 1024) (n : Fin 16) : c_small w (ix2 k ⟨64 + n.val, by omega⟩) = w (ix3 0 k ⟨2368 + n.val, by omega⟩) := by
  unfold c_small
  generalize e_c_v6 : c_v6 w = y_c_v6
  generalize e_c_v7 : c_v7 w = y_c_v7
  generalize e_c_v10 : c_v10 w = y_c_v10
  generalize e_c_v11 : c_v11 w = y_c_v11
  pointwise
  subst e_c_v6 e_c_v7 e_c_v10 e_c_v11
  exact c_v7_at w k n

theorem s_ag (k : Fin 1024) (n : Fin 4) : c_small w (ix2 k ⟨80 + n.val, by omega⟩) = w (ix3 0 k ⟨4432 + n.val, by omega⟩) := by
  unfold c_small
  generalize e_c_v6 : c_v6 w = y_c_v6
  generalize e_c_v7 : c_v7 w = y_c_v7
  generalize e_c_v10 : c_v10 w = y_c_v10
  generalize e_c_v11 : c_v11 w = y_c_v11
  pointwise
  rw [dif_neg (by omega), dif_neg (by omega), dif_pos (by omega)]
  have e : (⟨80 + n.val - 64 - 16, by omega⟩ : Fin 4) = n := Fin.ext (by show 80 + n.val - 64 - 16 = n.val; omega)
  rw [e]
  subst e_c_v6 e_c_v7 e_c_v10 e_c_v11
  exact c_v10_at w k n

theorem s_bg (k : Fin 1024) (n : Fin 4) : c_small w (ix2 k ⟨84 + n.val, by omega⟩) = w (ix3 0 k ⟨4436 + n.val, by omega⟩) := by
  unfold c_small
  generalize e_c_v6 : c_v6 w = y_c_v6
  generalize e_c_v7 : c_v7 w = y_c_v7
  generalize e_c_v10 : c_v10 w = y_c_v10
  generalize e_c_v11 : c_v11 w = y_c_v11
  pointwise
  rw [dif_neg (by omega), dif_neg (by omega), dif_neg (by omega), dif_pos (by omega)]
  have e : (⟨84 + n.val - 64 - 16 - 4, by omega⟩ : Fin 4) = n := Fin.ext (by show 84 + n.val - 64 - 16 - 4 = n.val; omega)
  rw [e]
  subst e_c_v6 e_c_v7 e_c_v10 e_c_v11
  exact c_v11_at w k n

theorem w_q (k : Fin 1024) (n : Fin 512) : weight w (ix2 k ⟨n.val, by omega⟩) = w (ix3 0 k ⟨n.val, by omega⟩) := by
  unfold weight
  generalize e_c_v1 : c_v1 w = y_c_v1
  generalize e_c_v2 : c_v2 w = y_c_v2
  generalize e_c_v3 : c_v3 w = y_c_v3
  generalize e_c_v4 : c_v4 w = y_c_v4
  generalize e_c_v5 : c_v5 w = y_c_v5
  generalize e_c_small : c_small w = y_c_small
  generalize e_c_v8 : c_v8 w = y_c_v8
  generalize e_c_v9 : c_v9 w = y_c_v9
  pointwise
  subst e_c_v1 e_c_v2 e_c_v3 e_c_v4 e_c_v5 e_c_small e_c_v8 e_c_v9
  exact c_v1_at w k n

theorem w_k (k : Fin 1024) (n : Fin 128) : weight w (ix2 k ⟨512 + n.val, by omega⟩) = w (ix3 0 k ⟨512 + n.val, by omega⟩) := by
  unfold weight
  generalize e_c_v1 : c_v1 w = y_c_v1
  generalize e_c_v2 : c_v2 w = y_c_v2
  generalize e_c_v3 : c_v3 w = y_c_v3
  generalize e_c_v4 : c_v4 w = y_c_v4
  generalize e_c_v5 : c_v5 w = y_c_v5
  generalize e_c_small : c_small w = y_c_small
  generalize e_c_v8 : c_v8 w = y_c_v8
  generalize e_c_v9 : c_v9 w = y_c_v9
  pointwise
  subst e_c_v1 e_c_v2 e_c_v3 e_c_v4 e_c_v5 e_c_small e_c_v8 e_c_v9
  exact c_v2_at w k n

theorem w_v (k : Fin 1024) (n : Fin 128) : weight w (ix2 k ⟨640 + n.val, by omega⟩) = w (ix3 0 k ⟨640 + n.val, by omega⟩) := by
  unfold weight
  generalize e_c_v1 : c_v1 w = y_c_v1
  generalize e_c_v2 : c_v2 w = y_c_v2
  generalize e_c_v3 : c_v3 w = y_c_v3
  generalize e_c_v4 : c_v4 w = y_c_v4
  generalize e_c_v5 : c_v5 w = y_c_v5
  generalize e_c_small : c_small w = y_c_small
  generalize e_c_v8 : c_v8 w = y_c_v8
  generalize e_c_v9 : c_v9 w = y_c_v9
  pointwise
  rw [dif_neg (by omega), dif_neg (by omega), dif_pos (by omega)]
  have e : (⟨640 + n.val - 512 - 128, by omega⟩ : Fin 128) = n := Fin.ext (by show 640 + n.val - 512 - 128 = n.val; omega)
  rw [e]
  subst e_c_v1 e_c_v2 e_c_v3 e_c_v4 e_c_v5 e_c_small e_c_v8 e_c_v9
  exact c_v3_at w k n

theorem w_za (k : Fin 1024) (n : Fin 512) : weight w (ix2 k ⟨768 + n.val, by omega⟩) = w (ix3 0 k ⟨768 + n.val, by omega⟩) := by
  unfold weight
  generalize e_c_v1 : c_v1 w = y_c_v1
  generalize e_c_v2 : c_v2 w = y_c_v2
  generalize e_c_v3 : c_v3 w = y_c_v3
  generalize e_c_v4 : c_v4 w = y_c_v4
  generalize e_c_v5 : c_v5 w = y_c_v5
  generalize e_c_small : c_small w = y_c_small
  generalize e_c_v8 : c_v8 w = y_c_v8
  generalize e_c_v9 : c_v9 w = y_c_v9
  pointwise
  rw [dif_neg (by omega), dif_neg (by omega), dif_neg (by omega), dif_pos (by omega)]
  have e : (⟨768 + n.val - 512 - 128 - 128, by omega⟩ : Fin 512) = n := Fin.ext (by show 768 + n.val - 512 - 128 - 128 = n.val; omega)
  rw [e]
  subst e_c_v1 e_c_v2 e_c_v3 e_c_v4 e_c_v5 e_c_small e_c_v8 e_c_v9
  exact c_v4_at w k n

theorem w_qi (k : Fin 1024) (n : Fin 1024) : weight w (ix2 k ⟨1280 + n.val, by omega⟩) = w (ix3 0 k ⟨1280 + n.val, by omega⟩) := by
  unfold weight
  generalize e_c_v1 : c_v1 w = y_c_v1
  generalize e_c_v2 : c_v2 w = y_c_v2
  generalize e_c_v3 : c_v3 w = y_c_v3
  generalize e_c_v4 : c_v4 w = y_c_v4
  generalize e_c_v5 : c_v5 w = y_c_v5
  generalize e_c_small : c_small w = y_c_small
  generalize e_c_v8 : c_v8 w = y_c_v8
  generalize e_c_v9 : c_v9 w = y_c_v9
  pointwise
  rw [dif_neg (by omega), dif_neg (by omega), dif_neg (by omega), dif_neg (by omega), dif_pos (by omega)]
  have e : (⟨1280 + n.val - 512 - 128 - 128 - 512, by omega⟩ : Fin 1024) = n := Fin.ext (by show 1280 + n.val - 512 - 128 - 128 - 512 = n.val; omega)
  rw [e]
  subst e_c_v1 e_c_v2 e_c_v3 e_c_v4 e_c_v5 e_c_small e_c_v8 e_c_v9
  exact c_v5_at w k n

theorem w_ki (k : Fin 1024) (n : Fin 64) : weight w (ix2 k ⟨2304 + n.val, by omega⟩) = w (ix3 0 k ⟨2304 + n.val, by omega⟩) := by
  unfold weight
  generalize e_c_v1 : c_v1 w = y_c_v1
  generalize e_c_v2 : c_v2 w = y_c_v2
  generalize e_c_v3 : c_v3 w = y_c_v3
  generalize e_c_v4 : c_v4 w = y_c_v4
  generalize e_c_v5 : c_v5 w = y_c_v5
  generalize e_c_small : c_small w = y_c_small
  generalize e_c_v8 : c_v8 w = y_c_v8
  generalize e_c_v9 : c_v9 w = y_c_v9
  pointwise
  rw [dif_neg (by omega), dif_neg (by omega), dif_neg (by omega), dif_neg (by omega), dif_neg (by omega), dif_pos (by omega)]
  have e : (⟨2304 + n.val - 512 - 128 - 128 - 512 - 1024, by omega⟩ : Fin 128) = ⟨n.val, by omega⟩ := Fin.ext (by show 2304 + n.val - 512 - 128 - 128 - 512 - 1024 = n.val; omega)
  rw [e]
  subst e_c_v1 e_c_v2 e_c_v3 e_c_v4 e_c_v5 e_c_small e_c_v8 e_c_v9
  exact s_ki w k n

theorem w_wi (k : Fin 1024) (n : Fin 16) : weight w (ix2 k ⟨2368 + n.val, by omega⟩) = w (ix3 0 k ⟨2368 + n.val, by omega⟩) := by
  unfold weight
  generalize e_c_v1 : c_v1 w = y_c_v1
  generalize e_c_v2 : c_v2 w = y_c_v2
  generalize e_c_v3 : c_v3 w = y_c_v3
  generalize e_c_v4 : c_v4 w = y_c_v4
  generalize e_c_v5 : c_v5 w = y_c_v5
  generalize e_c_small : c_small w = y_c_small
  generalize e_c_v8 : c_v8 w = y_c_v8
  generalize e_c_v9 : c_v9 w = y_c_v9
  pointwise
  rw [dif_neg (by omega), dif_neg (by omega), dif_neg (by omega), dif_neg (by omega), dif_neg (by omega), dif_pos (by omega)]
  have e : (⟨2368 + n.val - 512 - 128 - 128 - 512 - 1024, by omega⟩ : Fin 128) = ⟨64 + n.val, by omega⟩ := Fin.ext (by show 2368 + n.val - 512 - 128 - 128 - 512 - 1024 = 64 + n.val; omega)
  rw [e]
  subst e_c_v1 e_c_v2 e_c_v3 e_c_v4 e_c_v5 e_c_small e_c_v8 e_c_v9
  exact s_wi w k n

theorem w_ag (k : Fin 1024) (n : Fin 4) : weight w (ix2 k ⟨2384 + n.val, by omega⟩) = w (ix3 0 k ⟨4432 + n.val, by omega⟩) := by
  unfold weight
  generalize e_c_v1 : c_v1 w = y_c_v1
  generalize e_c_v2 : c_v2 w = y_c_v2
  generalize e_c_v3 : c_v3 w = y_c_v3
  generalize e_c_v4 : c_v4 w = y_c_v4
  generalize e_c_v5 : c_v5 w = y_c_v5
  generalize e_c_small : c_small w = y_c_small
  generalize e_c_v8 : c_v8 w = y_c_v8
  generalize e_c_v9 : c_v9 w = y_c_v9
  pointwise
  rw [dif_neg (by omega), dif_neg (by omega), dif_neg (by omega), dif_neg (by omega), dif_neg (by omega), dif_pos (by omega)]
  have e : (⟨2384 + n.val - 512 - 128 - 128 - 512 - 1024, by omega⟩ : Fin 128) = ⟨80 + n.val, by omega⟩ := Fin.ext (by show 2384 + n.val - 512 - 128 - 128 - 512 - 1024 = 80 + n.val; omega)
  rw [e]
  subst e_c_v1 e_c_v2 e_c_v3 e_c_v4 e_c_v5 e_c_small e_c_v8 e_c_v9
  exact s_ag w k n

theorem w_bg (k : Fin 1024) (n : Fin 4) : weight w (ix2 k ⟨2388 + n.val, by omega⟩) = w (ix3 0 k ⟨4436 + n.val, by omega⟩) := by
  unfold weight
  generalize e_c_v1 : c_v1 w = y_c_v1
  generalize e_c_v2 : c_v2 w = y_c_v2
  generalize e_c_v3 : c_v3 w = y_c_v3
  generalize e_c_v4 : c_v4 w = y_c_v4
  generalize e_c_v5 : c_v5 w = y_c_v5
  generalize e_c_small : c_small w = y_c_small
  generalize e_c_v8 : c_v8 w = y_c_v8
  generalize e_c_v9 : c_v9 w = y_c_v9
  pointwise
  rw [dif_neg (by omega), dif_neg (by omega), dif_neg (by omega), dif_neg (by omega), dif_neg (by omega), dif_pos (by omega)]
  have e : (⟨2388 + n.val - 512 - 128 - 128 - 512 - 1024, by omega⟩ : Fin 128) = ⟨84 + n.val, by omega⟩ := Fin.ext (by show 2388 + n.val - 512 - 128 - 128 - 512 - 1024 = 84 + n.val; omega)
  rw [e]
  subst e_c_v1 e_c_v2 e_c_v3 e_c_v4 e_c_v5 e_c_small e_c_v8 e_c_v9
  exact s_bg w k n

theorem w_qkv (k : Fin 1024) (n : Fin 1536) : weight w (ix2 k ⟨2432 + n.val, by omega⟩) = w (ix3 0 k ⟨2384 + n.val, by omega⟩) := by
  unfold weight
  generalize e_c_v1 : c_v1 w = y_c_v1
  generalize e_c_v2 : c_v2 w = y_c_v2
  generalize e_c_v3 : c_v3 w = y_c_v3
  generalize e_c_v4 : c_v4 w = y_c_v4
  generalize e_c_v5 : c_v5 w = y_c_v5
  generalize e_c_small : c_small w = y_c_small
  generalize e_c_v8 : c_v8 w = y_c_v8
  generalize e_c_v9 : c_v9 w = y_c_v9
  pointwise
  rw [dif_neg (by omega), dif_neg (by omega), dif_neg (by omega), dif_neg (by omega), dif_neg (by omega), dif_neg (by omega), dif_pos (by omega)]
  have e : (⟨2432 + n.val - 512 - 128 - 128 - 512 - 1024 - 128, by omega⟩ : Fin 1536) = n := Fin.ext (by show 2432 + n.val - 512 - 128 - 128 - 512 - 1024 - 128 = n.val; omega)
  rw [e]
  subst e_c_v1 e_c_v2 e_c_v3 e_c_v4 e_c_v5 e_c_small e_c_v8 e_c_v9
  exact c_v8_at w k n

theorem w_zg (k : Fin 1024) (n : Fin 512) : weight w (ix2 k ⟨3968 + n.val, by omega⟩) = w (ix3 0 k ⟨3920 + n.val, by omega⟩) := by
  unfold weight
  generalize e_c_v1 : c_v1 w = y_c_v1
  generalize e_c_v2 : c_v2 w = y_c_v2
  generalize e_c_v3 : c_v3 w = y_c_v3
  generalize e_c_v4 : c_v4 w = y_c_v4
  generalize e_c_v5 : c_v5 w = y_c_v5
  generalize e_c_small : c_small w = y_c_small
  generalize e_c_v8 : c_v8 w = y_c_v8
  generalize e_c_v9 : c_v9 w = y_c_v9
  pointwise
  rw [dif_neg (by omega), dif_neg (by omega), dif_neg (by omega), dif_neg (by omega), dif_neg (by omega), dif_neg (by omega), dif_neg (by omega)]
  have e : (⟨3968 + n.val - 512 - 128 - 128 - 512 - 1024 - 128 - 1536, by omega⟩ : Fin 512) = n := Fin.ext (by show 3968 + n.val - 512 - 128 - 128 - 512 - 1024 - 128 - 1536 = n.val; omega)
  rw [e]
  subst e_c_v1 e_c_v2 e_c_v3 e_c_v4 e_c_v5 e_c_small e_c_v8 e_c_v9
  exact c_v9_at w k n

/-- The lanes of the small group that are not padding. -/
theorem w_small (k : Fin 1024) (l : Fin 88) : weight w (ix2 k ⟨2304 + l.val, by omega⟩) = w (ix3 0 k (small l)) := by
  obtain ⟨l, hl⟩ := l
  unfold small
  rcases Nat.lt_or_ge l 64 with h | h
  · rw [if_pos (by show l < 80; omega)]
    exact w_ki w k ⟨l, h⟩
  rcases Nat.lt_or_ge l 80 with h' | h'
  · obtain ⟨j, rfl⟩ : ∃ j, l = 64 + j := ⟨l - 64, by omega⟩
    rw [if_pos (by show 64 + j < 80; omega)]
    have e : (⟨2304 + (64 + j), by omega⟩ : Fin 4480) = ⟨2368 + j, by omega⟩ := Fin.ext (by show 2304 + (64 + j) = 2368 + j; omega)
    have e' : (⟨2304 + (64 + j), by omega⟩ : Fin 4440) = ⟨2368 + j, by omega⟩ := Fin.ext (by show 2304 + (64 + j) = 2368 + j; omega)
    simp only [e, e']
    exact w_wi w k ⟨j, by omega⟩
  rcases Nat.lt_or_ge l 84 with h'' | h''
  · obtain ⟨j, rfl⟩ : ∃ j, l = 80 + j := ⟨l - 80, by omega⟩
    rw [if_neg (by show ¬ 80 + j < 80; omega)]
    have e : (⟨2304 + (80 + j), by omega⟩ : Fin 4480) = ⟨2384 + j, by omega⟩ := Fin.ext (by show 2304 + (80 + j) = 2384 + j; omega)
    have e' : (⟨4352 + (80 + j), by omega⟩ : Fin 4440) = ⟨4432 + j, by omega⟩ := Fin.ext (by show 4352 + (80 + j) = 4432 + j; omega)
    simp only [e, e']
    exact w_ag w k ⟨j, by omega⟩
  · obtain ⟨j, rfl⟩ : ∃ j, l = 84 + j := ⟨l - 84, by omega⟩
    rw [if_neg (by show ¬ 84 + j < 80; omega)]
    have e : (⟨2304 + (84 + j), by omega⟩ : Fin 4480) = ⟨2388 + j, by omega⟩ := Fin.ext (by show 2304 + (84 + j) = 2388 + j; omega)
    have e' : (⟨4352 + (84 + j), by omega⟩ : Fin 4440) = ⟨4436 + j, by omega⟩ := Fin.ext (by show 4352 + (84 + j) = 4436 + j; omega)
    simp only [e, e']
    exact w_bg w k ⟨j, by omega⟩

end Cert.InProjIdeal.Val
-- ==== Proof.InProj.Payload.lean ====
/- What one grid step of the input projection stores, element by element, as a function of the blocks it stages: the
   normalised rows times a column of the weight. The query blocks are stored as transposed tiles of 128 by 128. -/
module

public import proofs.«01_k».proof.Proof.Gen.InProjIdeal.Frame
public import proofs.«01_k».proof.Proof.InProj.Spec
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.InProjIdeal.Val

open Cert.InProjIdeal Cert.InProjIdeal.Gen Idealize.ShloMosaic Idealize.ShloMosaic.TcCoe Idealize.SL.Sem
open Cert.InProjSpec

variable (x0 : Vec Ideal S512x1024 .f32) (x1 : Vec Ideal S1x1024 .f32) (x2 : Vec Ideal S1024x4480 .bf16)

/-- Row `a` of the block, projected on column `j` of the reordered weight. -/
def P (a : Fin 512) (j : Fin 4480) : EReal := proj (fun k => x0 (ix2 a k)) (fun k => x1 (ix2 0 k)) (fun k => x2 (ix2 k j))

theorem p71 (a : Fin 512) (k : Fin 1024) : k0_pay71 x0 x1 x2 (ix2 a k) = normed (fun k => x0 (ix2 a k)) (fun k => x1 (ix2 0 k)) k := by
  unfold normed
  pointwise [k0_pay71, k0_pay2]

theorem p72 (a : Fin 512) (n : Fin 512) : k0_pay72 x0 x1 x2 (ix2 a n) = P x0 x1 x2 a ⟨n.val, by omega⟩ * scale := by
  unfold P proj scale
  simp only [← p71 x0 x1 x2]
  unfold k0_pay72 k0_pay3
  show mulf (matmul _ _ (k0_pay71 x0 x1 x2) _ _) _ _ = _
  generalize k0_pay71 x0 x1 x2 = y
  pointwise

theorem p73 (a : Fin 512) (n : Fin 1024) : k0_pay73 x0 x1 x2 (ix2 a n) = P x0 x1 x2 a ⟨1280 + n.val, by omega⟩ * scale := by
  unfold P proj scale
  simp only [← p71 x0 x1 x2]
  unfold k0_pay73 k0_pay4
  show mulf (matmul _ _ (k0_pay71 x0 x1 x2) _ _) _ _ = _
  generalize k0_pay71 x0 x1 x2 = y
  pointwise

theorem p75 (a : Fin 512) (n : Fin 128) : k0_pay75 x0 x1 x2 (ix2 a n) = P x0 x1 x2 a ⟨512 + n.val, by omega⟩ := by
  unfold P proj
  simp only [← p71 x0 x1 x2]
  unfold k0_pay75 k0_pay61
  generalize k0_pay71 x0 x1 x2 = y
  pointwise

theorem p76 (a : Fin 512) (n : Fin 128) : k0_pay76 x0 x1 x2 (ix2 a n) = P x0 x1 x2 a ⟨640 + n.val, by omega⟩ := by
  unfold P proj
  simp only [← p71 x0 x1 x2]
  unfold k0_pay76 k0_pay62
  generalize k0_pay71 x0 x1 x2 = y
  pointwise

theorem p64 (a : Fin 512) (n : Fin 128) : k0_pay64 (k0_pay71 x0 x1 x2) (k0_pay77 x0 x1 x2) (k0_pay74 x0 x1 x2) (ix2 a n) = P x0 x1 x2 a ⟨2304 + n.val, by omega⟩ := by
  unfold P proj
  simp only [← p71 x0 x1 x2]
  unfold k0_pay64 k0_pay77 k0_pay63 k0_pay74
  generalize k0_pay71 x0 x1 x2 = y
  pointwise

theorem p65 (a : Fin 512) (n : Fin 512) : k0_pay65 (k0_pay71 x0 x1 x2) (View.ld x2 r0_56) (ix2 a n) = P x0 x1 x2 a ⟨768 + n.val, by omega⟩ := by
  unfold P proj
  simp only [← p71 x0 x1 x2]
  unfold k0_pay65
  generalize k0_pay71 x0 x1 x2 = y
  pointwise

theorem p66 (a : Fin 512) (n : Fin 1536) : k0_pay66 (k0_pay71 x0 x1 x2) (View.ld x2 r0_58) (ix2 a n) = P x0 x1 x2 a ⟨2432 + n.val, by omega⟩ := by
  unfold P proj
  simp only [← p71 x0 x1 x2]
  unfold k0_pay66
  generalize k0_pay71 x0 x1 x2 = y
  pointwise

theorem p67 (a : Fin 512) (n : Fin 512) : k0_pay67 (k0_pay71 x0 x1 x2) (View.ld x2 r0_60) (ix2 a n) = P x0 x1 x2 a ⟨3968 + n.val, by omega⟩ := by
  unfold P proj
  simp only [← p71 x0 x1 x2]
  unfold k0_pay67
  generalize k0_pay71 x0 x1 x2 = y
  pointwise

theorem p68 (v : FVec Ideal S512x128 .f32) (d : Fin 128) (q : Fin 512) : k0_pay68 v (ix3 0 d q) = v (ix2 q d) := by
  pointwise [k0_pay68]

theorem p69 (v : FVec Ideal S512x128 .f32) (d : Fin 128) (q : Fin 512) : k0_pay69 v (ix3 0 d q) = v (ix2 q d) := by
  pointwise [k0_pay69]

theorem p1 (v : FVec Ideal S512x1024 .bf16) (y : FVec Ideal S1024x128 .bf16) (z : FVec Ideal S512x128 .f32) (d : Fin 64) (q : Fin 512) :
    k0_pay1 (k0_pay70 v y z) (ix3 0 d q) = k0_pay64 v y z (ix2 q ⟨d.val, by omega⟩) := by
  unfold k0_pay1 k0_pay70
  generalize k0_pay64 v y z = u
  pointwise

/-! The tiles of window 3. -/

theorem tile3_at (q : Vec Ideal S512x512 .f32) (r : Fin 4) (l : Fin 128) (c : Fin 512) (R J u v : ℕ) (h0 : r.val = R) (h1 : l.val = u)
    (h2 : c.val = 128 * J + v) (hv : v < 128) (hr : 128 * R + v < 512) (hc : 128 * J + u < 512) :
    q (ix2 ⟨128 * R + v, hr⟩ ⟨128 * J + u, hc⟩) = q (ix2 ⟨128 * r.val + c.val % 128, by omega⟩ ⟨128 * (c.val / 128) + l.val, by omega⟩) := by
  subst h0 h1
  have e : 128 * r.val + c.val % 128 = 128 * r.val + v := by omega
  have e' : 128 * (c.val / 128) + l.val = 128 * J + l.val := by omega
  simp only [e, e']

theorem t3_3_3 (q : Vec Ideal S512x512 .f32) (a b : Fin 128) :
    @Eq EReal ((k0_pay51 q : FVec Ideal S1x128x128 .bf16) (ix3 0 a b)) (q (ix2 ⟨128 * 3 + b.val, by omega⟩ ⟨128 * 3 + a.val, by omega⟩)) := by
  pointwise [k0_pay51]
theorem t3_3_2 (q : Vec Ideal S512x512 .f32) (a b : Fin 128) :
    @Eq EReal ((k0_pay50 q : FVec Ideal S1x128x128 .bf16) (ix3 0 a b)) (q (ix2 ⟨128 * 3 + b.val, by omega⟩ ⟨128 * 2 + a.val, by omega⟩)) := by
  pointwise [k0_pay50]
theorem t3_3_1 (q : Vec Ideal S512x512 .f32) (a b : Fin 128) :
    @Eq EReal ((k0_pay49 (k0_pay48 q) : FVec Ideal S1x128x128 .bf16) (ix3 0 a b)) (q (ix2 ⟨128 * 3 + b.val, by omega⟩ ⟨128 * 1 + a.val, by omega⟩)) := by
  pointwise [k0_pay49, k0_pay48]
theorem t3_3_0 (q : Vec Ideal S512x512 .f32) (a b : Fin 128) :
    @Eq EReal ((k0_pay47 q : FVec Ideal S1x128x128 .bf16) (ix3 0 a b)) (q (ix2 ⟨128 * 3 + b.val, by omega⟩ ⟨128 * 0 + a.val, by omega⟩)) := by
  pointwise [k0_pay47]
theorem t3_2_3 (q : Vec Ideal S512x512 .f32) (a b : Fin 128) :
    @Eq EReal ((k0_pay37 q : FVec Ideal S1x128x128 .bf16) (ix3 0 a b)) (q (ix2 ⟨128 * 2 + b.val, by omega⟩ ⟨128 * 3 + a.val, by omega⟩)) := by
  pointwise [k0_pay37]
theorem t3_2_2 (q : Vec Ideal S512x512 .f32) (a b : Fin 128) :
    @Eq EReal ((k0_pay36 q : FVec Ideal S1x128x128 .bf16) (ix3 0 a b)) (q (ix2 ⟨128 * 2 + b.val, by omega⟩ ⟨128 * 2 + a.val, by omega⟩)) := by
  pointwise [k0_pay36]
theorem t3_2_1 (q : Vec Ideal S512x512 .f32) (a b : Fin 128) :
    @Eq EReal ((k0_pay35 (k0_pay34 q) : FVec Ideal S1x128x128 .bf16) (ix3 0 a b)) (q (ix2 ⟨128 * 2 + b.val, by omega⟩ ⟨128 * 1 + a.val, by omega⟩)) := by
  pointwise [k0_pay35, k0_pay34]
theorem t3_2_0 (q : Vec Ideal S512x512 .f32) (a b : Fin 128) :
    @Eq EReal ((k0_pay33 q : FVec Ideal S1x128x128 .bf16) (ix3 0 a b)) (q (ix2 ⟨128 * 2 + b.val, by omega⟩ ⟨128 * 0 + a.val, by omega⟩)) := by
  pointwise [k0_pay33]
theorem t3_1_3 (q : Vec Ideal S512x512 .f32) (a b : Fin 128) :
    @Eq EReal ((k0_pay23 q : FVec Ideal S1x128x128 .bf16) (ix3 0 a b)) (q (ix2 ⟨128 * 1 + b.val, by omega⟩ ⟨128 * 3 + a.val, by omega⟩)) := by
  pointwise [k0_pay23]
theorem t3_1_2 (q : Vec Ideal S512x512 .f32) (a b : Fin 128) :
    @Eq EReal ((k0_pay22 q : FVec Ideal S1x128x128 .bf16) (ix3 0 a b)) (q (ix2 ⟨128 * 1 + b.val, by omega⟩ ⟨128 * 2 + a.val, by omega⟩)) := by
  pointwise [k0_pay22]
theorem t3_1_1 (q : Vec Ideal S512x512 .f32) (a b : Fin 128) :
    @Eq EReal ((k0_pay21 (k0_pay20 q) : FVec Ideal S1x128x128 .bf16) (ix3 0 a b)) (q (ix2 ⟨128 * 1 + b.val, by omega⟩ ⟨128 * 1 + a.val, by omega⟩)) := by
  pointwise [k0_pay21, k0_pay20]
theorem t3_1_0 (q : Vec Ideal S512x512 .f32) (a b : Fin 128) :
    @Eq EReal ((k0_pay19 q : FVec Ideal S1x128x128 .bf16) (ix3 0 a b)) (q (ix2 ⟨128 * 1 + b.val, by omega⟩ ⟨128 * 0 + a.val, by omega⟩)) := by
  pointwise [k0_pay19]
theorem t3_0_3 (q : Vec Ideal S512x512 .f32) (a b : Fin 128) :
    @Eq EReal ((k0_pay9 q : FVec Ideal S1x128x128 .bf16) (ix3 0 a b)) (q (ix2 ⟨128 * 0 + b.val, by omega⟩ ⟨128 * 3 + a.val, by omega⟩)) := by
  pointwise [k0_pay9]
theorem t3_0_2 (q : Vec Ideal S512x512 .f32) (a b : Fin 128) :
    @Eq EReal ((k0_pay8 q : FVec Ideal S1x128x128 .bf16) (ix3 0 a b)) (q (ix2 ⟨128 * 0 + b.val, by omega⟩ ⟨128 * 2 + a.val, by omega⟩)) := by
  pointwise [k0_pay8]
theorem t3_0_1 (a b : Fin 128) :
    @Eq EReal ((k0_pay7 (k0_pay6 (View.ld x0 r0_0) (View.ld x1 r0_1) (View.ld x2 r0_2)) : FVec Ideal S1x128x128 .bf16) (ix3 0 a b)) (k0_pay72 x0 x1 x2 (ix2 ⟨128 * 0 + b.val, by omega⟩ ⟨128 * 1 + a.val, by omega⟩)) := by
  unfold k0_pay7 k0_pay6
  show shapeCast _ (truncf _ (transpose _ _ (extractStridedSlice _ _ (k0_pay72 x0 x1 x2) _) _) _) _ _ = _
  generalize k0_pay72 x0 x1 x2 = q
  pointwise
theorem t3_0_0 (a b : Fin 128) :
    @Eq EReal ((k0_pay5 (View.ld x0 r0_0) (View.ld x1 r0_1) (View.ld x2 r0_2) : FVec Ideal S1x128x128 .bf16) (ix3 0 a b)) (k0_pay72 x0 x1 x2 (ix2 ⟨128 * 0 + b.val, by omega⟩ ⟨128 * 0 + a.val, by omega⟩)) := by
  unfold k0_pay5
  show shapeCast _ (truncf _ (transpose _ _ (extractStridedSlice _ _ (k0_pay72 x0 x1 x2) _) _) _) _ _ = _
  generalize k0_pay72 x0 x1 x2 = q
  pointwise

/-- The whole block: lane `l` of row `128 r + c % 128`, the lanes of group `c / 128`. -/
theorem block3 (r : Fin 4) (l : Fin 128) (c : Fin 512) :
    @Eq EReal (out0_3 x0 x1 x2 (ix3 r l c)) (k0_pay72 x0 x1 x2 (ix2 ⟨128 * r.val + c.val % 128, by omega⟩ ⟨128 * (c.val / 128) + l.val, by omega⟩)) := by
  unfold out0_3
  canon_tiles x hx
  · have h0 : r.val = 3 + (x 0).val := hx0
    have h2 : c.val = 384 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t3_3_3 _ (x 1) (x 2)).trans (tile3_at _ r l c 3 3 (x 1).val (x 2).val (by omega) hx1 (by omega) y2 (by omega) (by omega))
  · have h0 : r.val = 3 + (x 0).val := hx0
    have h2 : c.val = 256 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t3_3_2 _ (x 1) (x 2)).trans (tile3_at _ r l c 3 2 (x 1).val (x 2).val (by omega) hx1 (by omega) y2 (by omega) (by omega))
  · have h0 : r.val = 3 + (x 0).val := hx0
    have h2 : c.val = 128 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t3_3_1 _ (x 1) (x 2)).trans (tile3_at _ r l c 3 1 (x 1).val (x 2).val (by omega) hx1 (by omega) y2 (by omega) (by omega))
  · have h0 : r.val = 3 + (x 0).val := hx0
    have h2 : c.val = (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t3_3_0 _ (x 1) (x 2)).trans (tile3_at _ r l c 3 0 (x 1).val (x 2).val (by omega) hx1 (by omega) y2 (by omega) (by omega))
  · have h0 : r.val = 2 + (x 0).val := hx0
    have h2 : c.val = 384 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t3_2_3 _ (x 1) (x 2)).trans (tile3_at _ r l c 2 3 (x 1).val (x 2).val (by omega) hx1 (by omega) y2 (by omega) (by omega))
  · have h0 : r.val = 2 + (x 0).val := hx0
    have h2 : c.val = 256 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t3_2_2 _ (x 1) (x 2)).trans (tile3_at _ r l c 2 2 (x 1).val (x 2).val (by omega) hx1 (by omega) y2 (by omega) (by omega))
  · have h0 : r.val = 2 + (x 0).val := hx0
    have h2 : c.val = 128 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t3_2_1 _ (x 1) (x 2)).trans (tile3_at _ r l c 2 1 (x 1).val (x 2).val (by omega) hx1 (by omega) y2 (by omega) (by omega))
  · have h0 : r.val = 2 + (x 0).val := hx0
    have h2 : c.val = (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t3_2_0 _ (x 1) (x 2)).trans (tile3_at _ r l c 2 0 (x 1).val (x 2).val (by omega) hx1 (by omega) y2 (by omega) (by omega))
  · have h0 : r.val = 1 + (x 0).val := hx0
    have h2 : c.val = 384 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t3_1_3 _ (x 1) (x 2)).trans (tile3_at _ r l c 1 3 (x 1).val (x 2).val (by omega) hx1 (by omega) y2 (by omega) (by omega))
  · have h0 : r.val = 1 + (x 0).val := hx0
    have h2 : c.val = 256 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t3_1_2 _ (x 1) (x 2)).trans (tile3_at _ r l c 1 2 (x 1).val (x 2).val (by omega) hx1 (by omega) y2 (by omega) (by omega))
  · have h0 : r.val = 1 + (x 0).val := hx0
    have h2 : c.val = 128 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t3_1_1 _ (x 1) (x 2)).trans (tile3_at _ r l c 1 1 (x 1).val (x 2).val (by omega) hx1 (by omega) y2 (by omega) (by omega))
  · have h0 : r.val = 1 + (x 0).val := hx0
    have h2 : c.val = (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t3_1_0 _ (x 1) (x 2)).trans (tile3_at _ r l c 1 0 (x 1).val (x 2).val (by omega) hx1 (by omega) y2 (by omega) (by omega))
  · have h0 : r.val = (x 0).val := hx0
    have h2 : c.val = 384 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t3_0_3 _ (x 1) (x 2)).trans (tile3_at _ r l c 0 3 (x 1).val (x 2).val (by omega) hx1 (by omega) y2 (by omega) (by omega))
  · have h0 : r.val = (x 0).val := hx0
    have h2 : c.val = 256 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t3_0_2 _ (x 1) (x 2)).trans (tile3_at _ r l c 0 2 (x 1).val (x 2).val (by omega) hx1 (by omega) y2 (by omega) (by omega))
  · have h0 : r.val = (x 0).val := hx0
    have h2 : c.val = 128 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t3_0_1 x0 x1 x2 (x 1) (x 2)).trans (tile3_at _ r l c 0 1 (x 1).val (x 2).val (by omega) hx1 (by omega) y2 (by omega) (by omega))
  · have h0 : r.val = (x 0).val := hx0
    have h2 : c.val = (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t3_0_0 x0 x1 x2 (x 1) (x 2)).trans (tile3_at _ r l c 0 0 (x 1).val (x 2).val (by omega) hx1 (by omega) y2 (by omega) (by omega))

/-! The tiles of window 7. -/

theorem tile7_at (q : Vec Ideal S512x1024 .f32) (r : Fin 4) (l : Fin 128) (c : Fin 1024) (R J u v : ℕ) (h0 : r.val = R) (h1 : l.val = u)
    (h2 : c.val = 128 * J + v) (hv : v < 128) (hr : 128 * R + v < 512) (hc : 128 * J + u < 1024) :
    q (ix2 ⟨128 * R + v, hr⟩ ⟨128 * J + u, hc⟩) = q (ix2 ⟨128 * r.val + c.val % 128, by omega⟩ ⟨128 * (c.val / 128) + l.val, by omega⟩) := by
  subst h0 h1
  have e : 128 * r.val + c.val % 128 = 128 * r.val + v := by omega
  have e' : 128 * (c.val / 128) + l.val = 128 * J + l.val := by omega
  simp only [e, e']

theorem t7_3_7 (q : Vec Ideal S512x1024 .f32) (a b : Fin 128) :
    @Eq EReal ((k0_pay60 q : FVec Ideal S1x128x128 .bf16) (ix3 0 a b)) (q (ix2 ⟨128 * 3 + b.val, by omega⟩ ⟨128 * 7 + a.val, by omega⟩)) := by
  pointwise [k0_pay60]
theorem t7_3_6 (q : Vec Ideal S512x1024 .f32) (a b : Fin 128) :
    @Eq EReal ((k0_pay59 q : FVec Ideal S1x128x128 .bf16) (ix3 0 a b)) (q (ix2 ⟨128 * 3 + b.val, by omega⟩ ⟨128 * 6 + a.val, by omega⟩)) := by
  pointwise [k0_pay59]
theorem t7_3_5 (q : Vec Ideal S512x1024 .f32) (a b : Fin 128) :
    @Eq EReal ((k0_pay58 q : FVec Ideal S1x128x128 .bf16) (ix3 0 a b)) (q (ix2 ⟨128 * 3 + b.val, by omega⟩ ⟨128 * 5 + a.val, by omega⟩)) := by
  pointwise [k0_pay58]
theorem t7_3_4 (q : Vec Ideal S512x1024 .f32) (a b : Fin 128) :
    @Eq EReal ((k0_pay57 q : FVec Ideal S1x128x128 .bf16) (ix3 0 a b)) (q (ix2 ⟨128 * 3 + b.val, by omega⟩ ⟨128 * 4 + a.val, by omega⟩)) := by
  pointwise [k0_pay57]
theorem t7_3_3 (q : Vec Ideal S512x1024 .f32) (a b : Fin 128) :
    @Eq EReal ((k0_pay56 (k0_pay55 q) : FVec Ideal S1x128x128 .bf16) (ix3 0 a b)) (q (ix2 ⟨128 * 3 + b.val, by omega⟩ ⟨128 * 3 + a.val, by omega⟩)) := by
  pointwise [k0_pay56, k0_pay55]
theorem t7_3_2 (q : Vec Ideal S512x1024 .f32) (a b : Fin 128) :
    @Eq EReal ((k0_pay54 q : FVec Ideal S1x128x128 .bf16) (ix3 0 a b)) (q (ix2 ⟨128 * 3 + b.val, by omega⟩ ⟨128 * 2 + a.val, by omega⟩)) := by
  pointwise [k0_pay54]
theorem t7_3_1 (q : Vec Ideal S512x1024 .f32) (a b : Fin 128) :
    @Eq EReal ((k0_pay53 q : FVec Ideal S1x128x128 .bf16) (ix3 0 a b)) (q (ix2 ⟨128 * 3 + b.val, by omega⟩ ⟨128 * 1 + a.val, by omega⟩)) := by
  pointwise [k0_pay53]
theorem t7_3_0 (q : Vec Ideal S512x1024 .f32) (a b : Fin 128) :
    @Eq EReal ((k0_pay52 q : FVec Ideal S1x128x128 .bf16) (ix3 0 a b)) (q (ix2 ⟨128 * 3 + b.val, by omega⟩ ⟨128 * 0 + a.val, by omega⟩)) := by
  pointwise [k0_pay52]
theorem t7_2_7 (q : Vec Ideal S512x1024 .f32) (a b : Fin 128) :
    @Eq EReal ((k0_pay46 q : FVec Ideal S1x128x128 .bf16) (ix3 0 a b)) (q (ix2 ⟨128 * 2 + b.val, by omega⟩ ⟨128 * 7 + a.val, by omega⟩)) := by
  pointwise [k0_pay46]
theorem t7_2_6 (q : Vec Ideal S512x1024 .f32) (a b : Fin 128) :
    @Eq EReal ((k0_pay45 q : FVec Ideal S1x128x128 .bf16) (ix3 0 a b)) (q (ix2 ⟨128 * 2 + b.val, by omega⟩ ⟨128 * 6 + a.val, by omega⟩)) := by
  pointwise [k0_pay45]
theorem t7_2_5 (q : Vec Ideal S512x1024 .f32) (a b : Fin 128) :
    @Eq EReal ((k0_pay44 q : FVec Ideal S1x128x128 .bf16) (ix3 0 a b)) (q (ix2 ⟨128 * 2 + b.val, by omega⟩ ⟨128 * 5 + a.val, by omega⟩)) := by
  pointwise [k0_pay44]
theorem t7_2_4 (q : Vec Ideal S512x1024 .f32) (a b : Fin 128) :
    @Eq EReal ((k0_pay43 q : FVec Ideal S1x128x128 .bf16) (ix3 0 a b)) (q (ix2 ⟨128 * 2 + b.val, by omega⟩ ⟨128 * 4 + a.val, by omega⟩)) := by
  pointwise [k0_pay43]
theorem t7_2_3 (q : Vec Ideal S512x1024 .f32) (a b : Fin 128) :
    @Eq EReal ((k0_pay42 (k0_pay41 q) : FVec Ideal S1x128x128 .bf16) (ix3 0 a b)) (q (ix2 ⟨128 * 2 + b.val, by omega⟩ ⟨128 * 3 + a.val, by omega⟩)) := by
  pointwise [k0_pay42, k0_pay41]
theorem t7_2_2 (q : Vec Ideal S512x1024 .f32) (a b : Fin 128) :
    @Eq EReal ((k0_pay40 q : FVec Ideal S1x128x128 .bf16) (ix3 0 a b)) (q (ix2 ⟨128 * 2 + b.val, by omega⟩ ⟨128 * 2 + a.val, by omega⟩)) := by
  pointwise [k0_pay40]
theorem t7_2_1 (q : Vec Ideal S512x1024 .f32) (a b : Fin 128) :
    @Eq EReal ((k0_pay39 q : FVec Ideal S1x128x128 .bf16) (ix3 0 a b)) (q (ix2 ⟨128 * 2 + b.val, by omega⟩ ⟨128 * 1 + a.val, by omega⟩)) := by
  pointwise [k0_pay39]
theorem t7_2_0 (q : Vec Ideal S512x1024 .f32) (a b : Fin 128) :
    @Eq EReal ((k0_pay38 q : FVec Ideal S1x128x128 .bf16) (ix3 0 a b)) (q (ix2 ⟨128 * 2 + b.val, by omega⟩ ⟨128 * 0 + a.val, by omega⟩)) := by
  pointwise [k0_pay38]
theorem t7_1_7 (q : Vec Ideal S512x1024 .f32) (a b : Fin 128) :
    @Eq EReal ((k0_pay32 q : FVec Ideal S1x128x128 .bf16) (ix3 0 a b)) (q (ix2 ⟨128 * 1 + b.val, by omega⟩ ⟨128 * 7 + a.val, by omega⟩)) := by
  pointwise [k0_pay32]
theorem t7_1_6 (q : Vec Ideal S512x1024 .f32) (a b : Fin 128) :
    @Eq EReal ((k0_pay31 q : FVec Ideal S1x128x128 .bf16) (ix3 0 a b)) (q (ix2 ⟨128 * 1 + b.val, by omega⟩ ⟨128 * 6 + a.val, by omega⟩)) := by
  pointwise [k0_pay31]
theorem t7_1_5 (q : Vec Ideal S512x1024 .f32) (a b : Fin 128) :
    @Eq EReal ((k0_pay30 q : FVec Ideal S1x128x128 .bf16) (ix3 0 a b)) (q (ix2 ⟨128 * 1 + b.val, by omega⟩ ⟨128 * 5 + a.val, by omega⟩)) := by
  pointwise [k0_pay30]
theorem t7_1_4 (q : Vec Ideal S512x1024 .f32) (a b : Fin 128) :
    @Eq EReal ((k0_pay29 q : FVec Ideal S1x128x128 .bf16) (ix3 0 a b)) (q (ix2 ⟨128 * 1 + b.val, by omega⟩ ⟨128 * 4 + a.val, by omega⟩)) := by
  pointwise [k0_pay29]
theorem t7_1_3 (q : Vec Ideal S512x1024 .f32) (a b : Fin 128) :
    @Eq EReal ((k0_pay28 (k0_pay27 q) : FVec Ideal S1x128x128 .bf16) (ix3 0 a b)) (q (ix2 ⟨128 * 1 + b.val, by omega⟩ ⟨128 * 3 + a.val, by omega⟩)) := by
  pointwise [k0_pay28, k0_pay27]
theorem t7_1_2 (q : Vec Ideal S512x1024 .f32) (a b : Fin 128) :
    @Eq EReal ((k0_pay26 q : FVec Ideal S1x128x128 .bf16) (ix3 0 a b)) (q (ix2 ⟨128 * 1 + b.val, by omega⟩ ⟨128 * 2 + a.val, by omega⟩)) := by
  pointwise [k0_pay26]
theorem t7_1_1 (q : Vec Ideal S512x1024 .f32) (a b : Fin 128) :
    @Eq EReal ((k0_pay25 q : FVec Ideal S1x128x128 .bf16) (ix3 0 a b)) (q (ix2 ⟨128 * 1 + b.val, by omega⟩ ⟨128 * 1 + a.val, by omega⟩)) := by
  pointwise [k0_pay25]
theorem t7_1_0 (q : Vec Ideal S512x1024 .f32) (a b : Fin 128) :
    @Eq EReal ((k0_pay24 q : FVec Ideal S1x128x128 .bf16) (ix3 0 a b)) (q (ix2 ⟨128 * 1 + b.val, by omega⟩ ⟨128 * 0 + a.val, by omega⟩)) := by
  pointwise [k0_pay24]
theorem t7_0_7 (q : Vec Ideal S512x1024 .f32) (a b : Fin 128) :
    @Eq EReal ((k0_pay18 q : FVec Ideal S1x128x128 .bf16) (ix3 0 a b)) (q (ix2 ⟨128 * 0 + b.val, by omega⟩ ⟨128 * 7 + a.val, by omega⟩)) := by
  pointwise [k0_pay18]
theorem t7_0_6 (q : Vec Ideal S512x1024 .f32) (a b : Fin 128) :
    @Eq EReal ((k0_pay17 q : FVec Ideal S1x128x128 .bf16) (ix3 0 a b)) (q (ix2 ⟨128 * 0 + b.val, by omega⟩ ⟨128 * 6 + a.val, by omega⟩)) := by
  pointwise [k0_pay17]
theorem t7_0_5 (q : Vec Ideal S512x1024 .f32) (a b : Fin 128) :
    @Eq EReal ((k0_pay16 q : FVec Ideal S1x128x128 .bf16) (ix3 0 a b)) (q (ix2 ⟨128 * 0 + b.val, by omega⟩ ⟨128 * 5 + a.val, by omega⟩)) := by
  pointwise [k0_pay16]
theorem t7_0_4 (q : Vec Ideal S512x1024 .f32) (a b : Fin 128) :
    @Eq EReal ((k0_pay15 q : FVec Ideal S1x128x128 .bf16) (ix3 0 a b)) (q (ix2 ⟨128 * 0 + b.val, by omega⟩ ⟨128 * 4 + a.val, by omega⟩)) := by
  pointwise [k0_pay15]
theorem t7_0_3 (q : Vec Ideal S512x1024 .f32) (a b : Fin 128) :
    @Eq EReal ((k0_pay14 (k0_pay13 q) : FVec Ideal S1x128x128 .bf16) (ix3 0 a b)) (q (ix2 ⟨128 * 0 + b.val, by omega⟩ ⟨128 * 3 + a.val, by omega⟩)) := by
  pointwise [k0_pay14, k0_pay13]
theorem t7_0_2 (q : Vec Ideal S512x1024 .f32) (a b : Fin 128) :
    @Eq EReal ((k0_pay12 q : FVec Ideal S1x128x128 .bf16) (ix3 0 a b)) (q (ix2 ⟨128 * 0 + b.val, by omega⟩ ⟨128 * 2 + a.val, by omega⟩)) := by
  pointwise [k0_pay12]
theorem t7_0_1 (q : Vec Ideal S512x1024 .f32) (a b : Fin 128) :
    @Eq EReal ((k0_pay11 q : FVec Ideal S1x128x128 .bf16) (ix3 0 a b)) (q (ix2 ⟨128 * 0 + b.val, by omega⟩ ⟨128 * 1 + a.val, by omega⟩)) := by
  pointwise [k0_pay11]
theorem t7_0_0 (q : Vec Ideal S512x1024 .f32) (a b : Fin 128) :
    @Eq EReal ((k0_pay10 q : FVec Ideal S1x128x128 .bf16) (ix3 0 a b)) (q (ix2 ⟨128 * 0 + b.val, by omega⟩ ⟨128 * 0 + a.val, by omega⟩)) := by
  pointwise [k0_pay10]

/-- The whole block: lane `l` of row `128 r + c % 128`, the lanes of group `c / 128`. -/
theorem block7 (r : Fin 4) (l : Fin 128) (c : Fin 1024) :
    @Eq EReal (out0_7 x0 x1 x2 (ix3 r l c)) (k0_pay73 x0 x1 x2 (ix2 ⟨128 * r.val + c.val % 128, by omega⟩ ⟨128 * (c.val / 128) + l.val, by omega⟩)) := by
  unfold out0_7
  canon_tiles x hx
  · have h0 : r.val = 3 + (x 0).val := hx0
    have h2 : c.val = 896 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_3_7 _ (x 1) (x 2)).trans (tile7_at _ r l c 3 7 (x 1).val (x 2).val (by omega) hx1 (by omega) y2 (by omega) (by omega))
  · have h0 : r.val = 3 + (x 0).val := hx0
    have h2 : c.val = 768 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_3_6 _ (x 1) (x 2)).trans (tile7_at _ r l c 3 6 (x 1).val (x 2).val (by omega) hx1 (by omega) y2 (by omega) (by omega))
  · have h0 : r.val = 3 + (x 0).val := hx0
    have h2 : c.val = 640 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_3_5 _ (x 1) (x 2)).trans (tile7_at _ r l c 3 5 (x 1).val (x 2).val (by omega) hx1 (by omega) y2 (by omega) (by omega))
  · have h0 : r.val = 3 + (x 0).val := hx0
    have h2 : c.val = 512 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_3_4 _ (x 1) (x 2)).trans (tile7_at _ r l c 3 4 (x 1).val (x 2).val (by omega) hx1 (by omega) y2 (by omega) (by omega))
  · have h0 : r.val = 3 + (x 0).val := hx0
    have h2 : c.val = 384 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_3_3 _ (x 1) (x 2)).trans (tile7_at _ r l c 3 3 (x 1).val (x 2).val (by omega) hx1 (by omega) y2 (by omega) (by omega))
  · have h0 : r.val = 3 + (x 0).val := hx0
    have h2 : c.val = 256 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_3_2 _ (x 1) (x 2)).trans (tile7_at _ r l c 3 2 (x 1).val (x 2).val (by omega) hx1 (by omega) y2 (by omega) (by omega))
  · have h0 : r.val = 3 + (x 0).val := hx0
    have h2 : c.val = 128 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_3_1 _ (x 1) (x 2)).trans (tile7_at _ r l c 3 1 (x 1).val (x 2).val (by omega) hx1 (by omega) y2 (by omega) (by omega))
  · have h0 : r.val = 3 + (x 0).val := hx0
    have h2 : c.val = (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_3_0 _ (x 1) (x 2)).trans (tile7_at _ r l c 3 0 (x 1).val (x 2).val (by omega) hx1 (by omega) y2 (by omega) (by omega))
  · have h0 : r.val = 2 + (x 0).val := hx0
    have h2 : c.val = 896 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_2_7 _ (x 1) (x 2)).trans (tile7_at _ r l c 2 7 (x 1).val (x 2).val (by omega) hx1 (by omega) y2 (by omega) (by omega))
  · have h0 : r.val = 2 + (x 0).val := hx0
    have h2 : c.val = 768 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_2_6 _ (x 1) (x 2)).trans (tile7_at _ r l c 2 6 (x 1).val (x 2).val (by omega) hx1 (by omega) y2 (by omega) (by omega))
  · have h0 : r.val = 2 + (x 0).val := hx0
    have h2 : c.val = 640 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_2_5 _ (x 1) (x 2)).trans (tile7_at _ r l c 2 5 (x 1).val (x 2).val (by omega) hx1 (by omega) y2 (by omega) (by omega))
  · have h0 : r.val = 2 + (x 0).val := hx0
    have h2 : c.val = 512 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_2_4 _ (x 1) (x 2)).trans (tile7_at _ r l c 2 4 (x 1).val (x 2).val (by omega) hx1 (by omega) y2 (by omega) (by omega))
  · have h0 : r.val = 2 + (x 0).val := hx0
    have h2 : c.val = 384 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_2_3 _ (x 1) (x 2)).trans (tile7_at _ r l c 2 3 (x 1).val (x 2).val (by omega) hx1 (by omega) y2 (by omega) (by omega))
  · have h0 : r.val = 2 + (x 0).val := hx0
    have h2 : c.val = 256 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_2_2 _ (x 1) (x 2)).trans (tile7_at _ r l c 2 2 (x 1).val (x 2).val (by omega) hx1 (by omega) y2 (by omega) (by omega))
  · have h0 : r.val = 2 + (x 0).val := hx0
    have h2 : c.val = 128 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_2_1 _ (x 1) (x 2)).trans (tile7_at _ r l c 2 1 (x 1).val (x 2).val (by omega) hx1 (by omega) y2 (by omega) (by omega))
  · have h0 : r.val = 2 + (x 0).val := hx0
    have h2 : c.val = (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_2_0 _ (x 1) (x 2)).trans (tile7_at _ r l c 2 0 (x 1).val (x 2).val (by omega) hx1 (by omega) y2 (by omega) (by omega))
  · have h0 : r.val = 1 + (x 0).val := hx0
    have h2 : c.val = 896 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_1_7 _ (x 1) (x 2)).trans (tile7_at _ r l c 1 7 (x 1).val (x 2).val (by omega) hx1 (by omega) y2 (by omega) (by omega))
  · have h0 : r.val = 1 + (x 0).val := hx0
    have h2 : c.val = 768 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_1_6 _ (x 1) (x 2)).trans (tile7_at _ r l c 1 6 (x 1).val (x 2).val (by omega) hx1 (by omega) y2 (by omega) (by omega))
  · have h0 : r.val = 1 + (x 0).val := hx0
    have h2 : c.val = 640 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_1_5 _ (x 1) (x 2)).trans (tile7_at _ r l c 1 5 (x 1).val (x 2).val (by omega) hx1 (by omega) y2 (by omega) (by omega))
  · have h0 : r.val = 1 + (x 0).val := hx0
    have h2 : c.val = 512 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_1_4 _ (x 1) (x 2)).trans (tile7_at _ r l c 1 4 (x 1).val (x 2).val (by omega) hx1 (by omega) y2 (by omega) (by omega))
  · have h0 : r.val = 1 + (x 0).val := hx0
    have h2 : c.val = 384 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_1_3 _ (x 1) (x 2)).trans (tile7_at _ r l c 1 3 (x 1).val (x 2).val (by omega) hx1 (by omega) y2 (by omega) (by omega))
  · have h0 : r.val = 1 + (x 0).val := hx0
    have h2 : c.val = 256 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_1_2 _ (x 1) (x 2)).trans (tile7_at _ r l c 1 2 (x 1).val (x 2).val (by omega) hx1 (by omega) y2 (by omega) (by omega))
  · have h0 : r.val = 1 + (x 0).val := hx0
    have h2 : c.val = 128 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_1_1 _ (x 1) (x 2)).trans (tile7_at _ r l c 1 1 (x 1).val (x 2).val (by omega) hx1 (by omega) y2 (by omega) (by omega))
  · have h0 : r.val = 1 + (x 0).val := hx0
    have h2 : c.val = (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_1_0 _ (x 1) (x 2)).trans (tile7_at _ r l c 1 0 (x 1).val (x 2).val (by omega) hx1 (by omega) y2 (by omega) (by omega))
  · have h0 : r.val = (x 0).val := hx0
    have h2 : c.val = 896 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_0_7 _ (x 1) (x 2)).trans (tile7_at _ r l c 0 7 (x 1).val (x 2).val (by omega) hx1 (by omega) y2 (by omega) (by omega))
  · have h0 : r.val = (x 0).val := hx0
    have h2 : c.val = 768 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_0_6 _ (x 1) (x 2)).trans (tile7_at _ r l c 0 6 (x 1).val (x 2).val (by omega) hx1 (by omega) y2 (by omega) (by omega))
  · have h0 : r.val = (x 0).val := hx0
    have h2 : c.val = 640 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_0_5 _ (x 1) (x 2)).trans (tile7_at _ r l c 0 5 (x 1).val (x 2).val (by omega) hx1 (by omega) y2 (by omega) (by omega))
  · have h0 : r.val = (x 0).val := hx0
    have h2 : c.val = 512 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_0_4 _ (x 1) (x 2)).trans (tile7_at _ r l c 0 4 (x 1).val (x 2).val (by omega) hx1 (by omega) y2 (by omega) (by omega))
  · have h0 : r.val = (x 0).val := hx0
    have h2 : c.val = 384 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_0_3 _ (x 1) (x 2)).trans (tile7_at _ r l c 0 3 (x 1).val (x 2).val (by omega) hx1 (by omega) y2 (by omega) (by omega))
  · have h0 : r.val = (x 0).val := hx0
    have h2 : c.val = 256 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_0_2 _ (x 1) (x 2)).trans (tile7_at _ r l c 0 2 (x 1).val (x 2).val (by omega) hx1 (by omega) y2 (by omega) (by omega))
  · have h0 : r.val = (x 0).val := hx0
    have h2 : c.val = 128 + (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_0_1 _ (x 1) (x 2)).trans (tile7_at _ r l c 0 1 (x 1).val (x 2).val (by omega) hx1 (by omega) y2 (by omega) (by omega))
  · have h0 : r.val = (x 0).val := hx0
    have h2 : c.val = (x 2).val := hx2
    have z : (x 0).val < 1 := (x 0).isLt
    have y1 : (x 1).val < 128 := (x 1).isLt
    have y2 : (x 2).val < 128 := (x 2).isLt
    have e : x = ix3 0 (x 1) (x 2) := (eq_ix3 x).trans (congrArg (fun a => ix3 a (x 1) (x 2)) (Subsingleton.elim (α := Fin 1) _ _))
    rw [e]
    exact (t7_0_0 _ (x 1) (x 2)).trans (tile7_at _ r l c 0 0 (x 1).val (x 2).val (by omega) hx1 (by omega) y2 (by omega) (by omega))

end Cert.InProjIdeal.Val
-- ==== Proof.InProj.Kernel.lean ====
/- The input projection call: each block read at an index, and each result array after the run. -/
module

public import proofs.«01_k».proof.Proof.Gen.InProjIdeal.Frame
public import proofs.«01_k».proof.Proof.InProj.Weights
public import proofs.«01_k».proof.Proof.InProj.Payload
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.InProjIdeal.Val

open Cert.InProjIdeal Cert.InProjIdeal.Gen Idealize.ShloMosaic Idealize.ShloMosaic.TcCoe Idealize.SL.Sem
open Idealize.ShloMosaic.Pipeline (Dat)
open Cert.InProjSpec

variable (m : (ℓ : Loc nD τ sig) → Buf (Elt Ideal) ℓ) (ρ : Dev nD → PrngReg)

/-- Which block of each array a grid step stages. -/
theorem idx : ∀ t : Fin cfg0.grid.N, win0_0.index t = ![t.val, 0] ∧ win0_1.index t = ![0, 0] ∧ win0_2.index t = ![0, 0]
    ∧ win0_3.index t = ![t.val, 0, 0] ∧ win0_4.index t = ![t.val, 0] ∧ win0_5.index t = ![t.val, 0] ∧ win0_6.index t = ![t.val, 0]
    ∧ win0_7.index t = ![t.val, 0, 0] ∧ win0_8.index t = ![t.val, 0] ∧ win0_9.index t = ![t.val, 0] ∧ win0_10.index t = ![t.val, 0]
    ∧ win0_11.index t = ![t.val / 4, 0, t.val % 4] ∧ win0_12.index t = ![t.val / 4, 0, t.val % 4]
    ∧ win0_13.index t = ![t.val / 4, 0, t.val % 4] := by
  decide +kernel

theorem V_main_v16 (c : Dev nD) (i : S65536x1024.Idx) : V m c main_v16 i
    = m ((c : Thread nD τ).loc main_arg0) (ix3 ⟨(i 0).val / 2048, by have : (i 0).val < 65536 := (i 0).isLt; omega⟩ ⟨(i 0).val % 2048, by omega⟩ (i 1)) := by
  show StableHlo.after hostOps0 _ (Proc.devRef .tc main_v16) i = _
  after_results
  pointwise

theorem V_main_v18 (c : Dev nD) (i : S1x1024.Idx) : V m c main_v18 i
    = m ((c : Thread nD τ).loc main_arg1) (ix2 0 (i 1)) := by
  show StableHlo.after hostOps0 _ (Proc.devRef .tc main_v18) i = _
  after_results
  pointwise

theorem V_main_v15 (c : Dev nD) : V m c main_v15 = weight (m ((c : Thread nD τ).loc main_arg2)) := by
  show StableHlo.after hostOps0 _ (Proc.devRef .tc main_v15) = _
  rfl

theorem blk0 (c : Dev nD) (t : Fin cfg0.grid.N) (a : Fin 512) (k : Fin 1024) : iblk m c 0 t (ix2 a k)
    = m ((c : Thread nD τ).loc main_arg0) (ix3 ⟨(512 * t.val + a.val) / 2048, by have : t.val < 128 := t.isLt; omega⟩
        ⟨(512 * t.val + a.val) % 2048, by omega⟩ k) := by
  have h : iblk m c 0 t (ix2 a k) = V m c main_v16 (ix2 ⟨512 * t.val + a.val, by have : t.val < 128 := t.isLt; omega⟩ k) := by
    blk_ext [iblk, idx t]
  exact h.trans (V_main_v16 m c _)

theorem blk1 (c : Dev nD) (t : Fin cfg0.grid.N) (a : Fin 1) (k : Fin 1024) : iblk m c 1 t (ix2 a k)
    = m ((c : Thread nD τ).loc main_arg1) (ix2 0 k) := by
  have h : iblk m c 1 t (ix2 a k) = V m c main_v18 (ix2 a k) := by blk_ext [iblk, idx t]
  exact h.trans (V_main_v18 m c _)

theorem blk2 (c : Dev nD) (t : Fin cfg0.grid.N) (k : Fin 1024) (j : Fin 4480) : iblk m c 2 t (ix2 k j) = weight (m ((c : Thread nD τ).loc main_arg2)) (ix2 k j) := by
  have h : iblk m c 2 t (ix2 k j) = V m c main_v15 (ix2 k j) := by blk_ext [iblk, idx t]
  exact h.trans (congrFun (V_main_v15 m c) _)

/-- Row `r` of the tokens, projected on column `j` of the reordered weight. -/
def R (c : Dev nD) (r : Fin 65536) (j : Fin 4480) : EReal :=
  proj (fun k => (m ((c : Thread nD τ).loc main_arg0)) (ix3 ⟨r.val / 2048, by omega⟩ ⟨r.val % 2048, by omega⟩ k)) (fun k => (m ((c : Thread nD τ).loc main_arg1)) (ix2 0 k)) (fun k => weight (m ((c : Thread nD τ).loc main_arg2)) (ix2 k j))

theorem P_blk (c : Dev nD) (t : Fin cfg0.grid.N) (a : Fin 512) (j : Fin 4480) :
    P (iblk m c 0 t) (iblk m c 1 t) (iblk m c 2 t) a j = R m c ⟨512 * t.val + a.val, by have : t.val < 128 := t.isLt; omega⟩ j := by
  unfold P R
  simp only [blk0, blk1, blk2]

theorem emb4 (t : Fin cfg0.grid.N) (a : Fin 512) (n : Fin 128) : ((View.whole main_v19_1).slice (win0_4.rect t)).emb (ix2 a n)
    = ix2 ⟨512 * t.val + a.val, by have : t.val < 128 := t.isLt; omega⟩ n := by
  blk_ext [idx t]

def G4 (c : Dev nD) : Vec Ideal S65536x128 .f32 := fun i => R m c (i 0) ⟨512 + (i 1).val, by have : (i 1).val < 128 := (i 1).isLt; omega⟩

theorem final4 (c : Dev nD) : (dats m 0 c).arrAt 4 cfg0.N = G4 m c := by
  refine (dats m 0 c).arrAt_eq_of_covers 4 _ (by decide +kernel) fun t hf y => ?_
  blk_simp
  rw [after0_4]
  frame_out
  obtain ⟨a, n, rfl⟩ : ∃ (a : Fin 512) (n : Fin 128), y = ix2 a n := ⟨y 0, y 1, eq_ix2 y⟩
  rw [emb4]
  exact (p75 _ _ _ a n).trans (P_blk m c t a _)

theorem emb5 (t : Fin cfg0.grid.N) (a : Fin 512) (n : Fin 128) : ((View.whole main_v19_2).slice (win0_5.rect t)).emb (ix2 a n)
    = ix2 ⟨512 * t.val + a.val, by have : t.val < 128 := t.isLt; omega⟩ n := by
  blk_ext [idx t]

def G5 (c : Dev nD) : Vec Ideal S65536x128 .f32 := fun i => R m c (i 0) ⟨640 + (i 1).val, by have : (i 1).val < 128 := (i 1).isLt; omega⟩

theorem final5 (c : Dev nD) : (dats m 0 c).arrAt 5 cfg0.N = G5 m c := by
  refine (dats m 0 c).arrAt_eq_of_covers 5 _ (by decide +kernel) fun t hf y => ?_
  blk_simp
  rw [after0_5]
  frame_out
  obtain ⟨a, n, rfl⟩ : ∃ (a : Fin 512) (n : Fin 128), y = ix2 a n := ⟨y 0, y 1, eq_ix2 y⟩
  rw [emb5]
  exact (p76 _ _ _ a n).trans (P_blk m c t a _)

theorem emb6 (t : Fin cfg0.grid.N) (a : Fin 512) (n : Fin 512) : ((View.whole main_v19_3).slice (win0_6.rect t)).emb (ix2 a n)
    = ix2 ⟨512 * t.val + a.val, by have : t.val < 128 := t.isLt; omega⟩ n := by
  blk_ext [idx t]

def G6 (c : Dev nD) : Vec Ideal S65536x512 .f32 := fun i => R m c (i 0) ⟨768 + (i 1).val, by have : (i 1).val < 512 := (i 1).isLt; omega⟩

theorem final6 (c : Dev nD) : (dats m 0 c).arrAt 6 cfg0.N = G6 m c := by
  refine (dats m 0 c).arrAt_eq_of_covers 6 _ (by decide +kernel) fun t hf y => ?_
  blk_simp
  rw [after0_6]
  frame_out
  obtain ⟨a, n, rfl⟩ : ∃ (a : Fin 512) (n : Fin 512), y = ix2 a n := ⟨y 0, y 1, eq_ix2 y⟩
  rw [emb6]
  exact (p65 _ _ _ a n).trans (P_blk m c t a _)

theorem emb8 (t : Fin cfg0.grid.N) (a : Fin 512) (n : Fin 128) : ((View.whole main_v19_5).slice (win0_8.rect t)).emb (ix2 a n)
    = ix2 ⟨512 * t.val + a.val, by have : t.val < 128 := t.isLt; omega⟩ n := by
  blk_ext [idx t]

def G8 (c : Dev nD) : Vec Ideal S65536x128 .f32 := fun i => R m c (i 0) ⟨2304 + (i 1).val, by have : (i 1).val < 128 := (i 1).isLt; omega⟩

theorem final8 (c : Dev nD) : (dats m 0 c).arrAt 8 cfg0.N = G8 m c := by
  refine (dats m 0 c).arrAt_eq_of_covers 8 _ (by decide +kernel) fun t hf y => ?_
  blk_simp
  rw [after0_8]
  frame_out
  obtain ⟨a, n, rfl⟩ : ∃ (a : Fin 512) (n : Fin 128), y = ix2 a n := ⟨y 0, y 1, eq_ix2 y⟩
  rw [emb8]
  exact (p64 _ _ _ a n).trans (P_blk m c t a _)

theorem emb9 (t : Fin cfg0.grid.N) (a : Fin 512) (n : Fin 1536) : ((View.whole main_v19_6).slice (win0_9.rect t)).emb (ix2 a n)
    = ix2 ⟨512 * t.val + a.val, by have : t.val < 128 := t.isLt; omega⟩ n := by
  blk_ext [idx t]

def G9 (c : Dev nD) : Vec Ideal S65536x1536 .f32 := fun i => R m c (i 0) ⟨2432 + (i 1).val, by have : (i 1).val < 1536 := (i 1).isLt; omega⟩

theorem final9 (c : Dev nD) : (dats m 0 c).arrAt 9 cfg0.N = G9 m c := by
  refine (dats m 0 c).arrAt_eq_of_covers 9 _ (by decide +kernel) fun t hf y => ?_
  blk_simp
  rw [after0_9]
  frame_out
  obtain ⟨a, n, rfl⟩ : ∃ (a : Fin 512) (n : Fin 1536), y = ix2 a n := ⟨y 0, y 1, eq_ix2 y⟩
  rw [emb9]
  exact (p66 _ _ _ a n).trans (P_blk m c t a _)

theorem emb10 (t : Fin cfg0.grid.N) (a : Fin 512) (n : Fin 512) : ((View.whole main_v19_7).slice (win0_10.rect t)).emb (ix2 a n)
    = ix2 ⟨512 * t.val + a.val, by have : t.val < 128 := t.isLt; omega⟩ n := by
  blk_ext [idx t]

def G10 (c : Dev nD) : Vec Ideal S65536x512 .f32 := fun i => R m c (i 0) ⟨3968 + (i 1).val, by have : (i 1).val < 512 := (i 1).isLt; omega⟩

theorem final10 (c : Dev nD) : (dats m 0 c).arrAt 10 cfg0.N = G10 m c := by
  refine (dats m 0 c).arrAt_eq_of_covers 10 _ (by decide +kernel) fun t hf y => ?_
  blk_simp
  rw [after0_10]
  frame_out
  obtain ⟨a, n, rfl⟩ : ∃ (a : Fin 512) (n : Fin 512), y = ix2 a n := ⟨y 0, y 1, eq_ix2 y⟩
  rw [emb10]
  exact (p67 _ _ _ a n).trans (P_blk m c t a _)

theorem emb11 (t : Fin cfg0.grid.N) (a : Fin 1) (d : Fin 128) (q : Fin 512) : ((View.whole main_v19_8).slice (win0_11.rect t)).emb (ix3 a d q)
    = ix3 ⟨t.val / 4, by have : t.val < 128 := t.isLt; omega⟩ d ⟨512 * (t.val % 4) + q.val, by omega⟩ := by
  blk_ext [idx t]

def G11 (c : Dev nD) : Vec Ideal S32x128x2048 .f32 := fun i =>
  R m c ⟨2048 * (i 0).val + (i 2).val, by have : (i 0).val < 32 := (i 0).isLt; have : (i 2).val < 2048 := (i 2).isLt; omega⟩
    ⟨512 + (i 1).val, by have : (i 1).val < 128 := (i 1).isLt; omega⟩

theorem final11 (c : Dev nD) : (dats m 0 c).arrAt 11 cfg0.N = G11 m c := by
  refine (dats m 0 c).arrAt_eq_of_covers 11 _ (by decide +kernel) fun t hf y => ?_
  blk_simp
  rw [after0_11]
  frame_out
  obtain ⟨a, d, q, rfl⟩ : ∃ (a : Fin 1) (d : Fin 128) (q : Fin 512), y = ix3 a d q := ⟨y 0, y 1, y 2, eq_ix3 y⟩
  obtain rfl : a = 0 := Subsingleton.elim _ _
  rw [emb11]
  refine ((p68 _ d q).trans (p75 _ _ _ q d)).trans ?_
  refine (P_blk m c t q _).trans ?_
  show R m c _ _ = R m c ⟨2048 * (t.val / 4) + (512 * (t.val % 4) + q.val), _⟩ _
  congr 2
  omega

theorem emb12 (t : Fin cfg0.grid.N) (a : Fin 1) (d : Fin 128) (q : Fin 512) : ((View.whole main_v19_9).slice (win0_12.rect t)).emb (ix3 a d q)
    = ix3 ⟨t.val / 4, by have : t.val < 128 := t.isLt; omega⟩ d ⟨512 * (t.val % 4) + q.val, by omega⟩ := by
  blk_ext [idx t]

def G12 (c : Dev nD) : Vec Ideal S32x128x2048 .f32 := fun i =>
  R m c ⟨2048 * (i 0).val + (i 2).val, by have : (i 0).val < 32 := (i 0).isLt; have : (i 2).val < 2048 := (i 2).isLt; omega⟩
    ⟨640 + (i 1).val, by have : (i 1).val < 128 := (i 1).isLt; omega⟩

theorem final12 (c : Dev nD) : (dats m 0 c).arrAt 12 cfg0.N = G12 m c := by
  refine (dats m 0 c).arrAt_eq_of_covers 12 _ (by decide +kernel) fun t hf y => ?_
  blk_simp
  rw [after0_12]
  frame_out
  obtain ⟨a, d, q, rfl⟩ : ∃ (a : Fin 1) (d : Fin 128) (q : Fin 512), y = ix3 a d q := ⟨y 0, y 1, y 2, eq_ix3 y⟩
  obtain rfl : a = 0 := Subsingleton.elim _ _
  rw [emb12]
  refine ((p69 _ d q).trans (p76 _ _ _ q d)).trans ?_
  refine (P_blk m c t q _).trans ?_
  show R m c _ _ = R m c ⟨2048 * (t.val / 4) + (512 * (t.val % 4) + q.val), _⟩ _
  congr 2
  omega

theorem emb13 (t : Fin cfg0.grid.N) (a : Fin 1) (d : Fin 64) (q : Fin 512) : ((View.whole main_v19_10).slice (win0_13.rect t)).emb (ix3 a d q)
    = ix3 ⟨t.val / 4, by have : t.val < 128 := t.isLt; omega⟩ d ⟨512 * (t.val % 4) + q.val, by omega⟩ := by
  blk_ext [idx t]

def G13 (c : Dev nD) : Vec Ideal S32x64x2048 .f32 := fun i =>
  R m c ⟨2048 * (i 0).val + (i 2).val, by have : (i 0).val < 32 := (i 0).isLt; have : (i 2).val < 2048 := (i 2).isLt; omega⟩
    ⟨2304 + (i 1).val, by have : (i 1).val < 64 := (i 1).isLt; omega⟩

theorem final13 (c : Dev nD) : (dats m 0 c).arrAt 13 cfg0.N = G13 m c := by
  refine (dats m 0 c).arrAt_eq_of_covers 13 _ (by decide +kernel) fun t hf y => ?_
  blk_simp
  rw [after0_13]
  frame_out
  obtain ⟨a, d, q, rfl⟩ : ∃ (a : Fin 1) (d : Fin 64) (q : Fin 512), y = ix3 a d q := ⟨y 0, y 1, y 2, eq_ix3 y⟩
  obtain rfl : a = 0 := Subsingleton.elim _ _
  rw [emb13]
  refine ((p1 _ _ _ d q).trans (p64 _ _ _ q ⟨d.val, by omega⟩)).trans ?_
  refine (P_blk m c t q _).trans ?_
  show R m c _ _ = R m c ⟨2048 * (t.val / 4) + (512 * (t.val % 4) + q.val), _⟩ _
  congr 2
  omega

theorem emb3 (t : Fin cfg0.grid.N) (r : Fin 4) (l : Fin 128) (n : Fin 512) : ((View.whole main_v19_0).slice (win0_3.rect t)).emb (ix3 r l n)
    = ix3 ⟨4 * t.val + r.val, by have : t.val < 128 := t.isLt; omega⟩ l n := by
  blk_ext [idx t]

/-- Lane `128 g + j` of row `l` of block `B` is the scaled projection of row `128 B + j` on column `128 g + l` of the group. -/
def G3 (c : Dev nD) : Vec Ideal S512x128x512 .bf16 := fun i =>
  R m c ⟨128 * (i 0).val + (i 2).val % 128, by have : (i 0).val < 512 := (i 0).isLt; omega⟩
    ⟨(128 * ((i 2).val / 128) + (i 1).val), by have : (i 1).val < 128 := (i 1).isLt; have : (i 2).val < 512 := (i 2).isLt; omega⟩ * scale

theorem final3 (c : Dev nD) : (dats m 0 c).arrAt 3 cfg0.N = G3 m c := by
  refine (dats m 0 c).arrAt_eq_of_covers 3 _ (by decide +kernel) fun t hf y => ?_
  blk_simp
  rw [after0_3]
  obtain ⟨r, l, n, rfl⟩ : ∃ (r : Fin 4) (l : Fin 128) (n : Fin 512), y = ix3 r l n := ⟨y 0, y 1, y 2, eq_ix3 y⟩
  rw [emb3]
  refine (block3 _ _ _ r l n).trans ?_
  refine (p72 _ _ _ _ _).trans ?_
  rw [P_blk]
  show R m c _ _ * scale = R m c ⟨128 * (4 * t.val + r.val) + n.val % 128, _⟩ _ * scale
  congr 3
  show 512 * t.val + (128 * r.val + n.val % 128) = _
  omega

theorem emb7 (t : Fin cfg0.grid.N) (r : Fin 4) (l : Fin 128) (n : Fin 1024) : ((View.whole main_v19_4).slice (win0_7.rect t)).emb (ix3 r l n)
    = ix3 ⟨4 * t.val + r.val, by have : t.val < 128 := t.isLt; omega⟩ l n := by
  blk_ext [idx t]

/-- Lane `128 g + j` of row `l` of block `B` is the scaled projection of row `128 B + j` on column `128 g + l` of the group. -/
def G7 (c : Dev nD) : Vec Ideal S512x128x1024 .bf16 := fun i =>
  R m c ⟨128 * (i 0).val + (i 2).val % 128, by have : (i 0).val < 512 := (i 0).isLt; omega⟩
    ⟨1280 + (128 * ((i 2).val / 128) + (i 1).val), by have : (i 1).val < 128 := (i 1).isLt; have : (i 2).val < 1024 := (i 2).isLt; omega⟩ * scale

theorem final7 (c : Dev nD) : (dats m 0 c).arrAt 7 cfg0.N = G7 m c := by
  refine (dats m 0 c).arrAt_eq_of_covers 7 _ (by decide +kernel) fun t hf y => ?_
  blk_simp
  rw [after0_7]
  obtain ⟨r, l, n, rfl⟩ : ∃ (r : Fin 4) (l : Fin 128) (n : Fin 1024), y = ix3 r l n := ⟨y 0, y 1, y 2, eq_ix3 y⟩
  rw [emb7]
  refine (block7 _ _ _ r l n).trans ?_
  refine (p73 _ _ _ _ _).trans ?_
  rw [P_blk]
  show R m c _ _ * scale = R m c ⟨128 * (4 * t.val + r.val) + n.val % 128, _⟩ _ * scale
  congr 3
  show 512 * t.val + (128 * r.val + n.val % 128) = _
  omega

end Cert.InProjIdeal.Val
-- ==== Proof.InProj.Results.lean ====
/- The results of the input projection after the host's last lines, in the closed forms of `InProj/Spec.lean`. -/
module

public import proofs.«01_k».proof.Proof.Gen.InProjIdeal.Frame
public import proofs.«01_k».proof.Proof.InProj.Kernel
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.InProjIdeal.Val

open Cert.InProjIdeal Cert.InProjIdeal.Gen Idealize.ShloMosaic Idealize.ShloMosaic.TcCoe Idealize.SL.Sem
open Idealize.ShloMosaic.Pipeline (Dat)
open Cert.InProjSpec

variable (m : (ℓ : Loc nD τ sig) → Buf (Elt Ideal) ℓ) (ρ : Dev nD → PrngReg)

/-- A column of the call's weight that is column `n` of the weight given. -/
theorem R_eq (c : Dev nD) (r : Fin 65536) (j : Fin 4480) (n : Fin 4440) (h : ∀ k, weight (m ((c : Thread nD τ).loc main_arg2)) (ix2 k j) = (m ((c : Thread nD τ).loc main_arg2)) (ix3 0 k n)) :
    R m c r j = row (m ((c : Thread nD τ).loc main_arg0)) (m ((c : Thread nD τ).loc main_arg1)) (m ((c : Thread nD τ).loc main_arg2)) r n := by
  unfold R row out
  simp only [h]

theorem row_at (x : (⟨3, ![32, 2048, 1024]⟩ : Shape).Idx → EReal) (g : (⟨2, ![1, 1024]⟩ : Shape).Idx → EReal)
    (w : (⟨3, ![1, 1024, 4440]⟩ : Shape).Idx → EReal) (b : Fin 32) (s : Fin 2048) (n : Fin 4440) (h : 2048 * b.val + s.val < 65536) :
    row x g w ⟨2048 * b.val + s.val, h⟩ n = out x g w b s n := by
  unfold row
  congr 1 <;> apply Fin.ext <;> simp only <;> omega

theorem lay11 (y : Vec Ideal S32x128x2048 .f32) (a : Fin 1) (b : Fin 32) (s : Fin 2048) (h : Fin 2) (d : Fin 64) :
    broadcastInDim S1x32x2048x2x64 ![1, 2, 3, 4] bcast_S32x2048x2x64_S1x32x2048x2x64_1_2_3_4 (transpose S32x2048x2x64 [0, 3, 1, 2]
      (shapeCast S32x2x64x2048 y shapeCasts_S32x128x2048_S32x2x64x2048) transposes_S32x2x64x2048_S32x2048x2x64_0_3_1_2) (ix5 a b s h d)
      = y (ix3 b ⟨64 * h.val + d.val, by omega⟩ s) := by
  pointwise
  try simp only [mul_comm]

theorem tail_kHeads (c : Dev nD) : Pipeline.afterTail₀ cfgs (dats m) 0 (V0 m) [hostOps1] c main_v22 = kHeads (m ((c : Thread nD τ).loc main_arg0)) (m ((c : Thread nD τ).loc main_arg1)) (m ((c : Thread nD τ).loc main_arg2)) := by
  have h : Pipeline.afterTail₀ cfgs (dats m) 0 (V0 m) [hostOps1] c main_v22 = broadcastInDim S1x32x2048x2x64 ![1, 2, 3, 4] bcast_S32x2048x2x64_S1x32x2048x2x64_1_2_3_4 (transpose S32x2048x2x64 [0, 3, 1, 2] (shapeCast S32x2x64x2048 (G11 m c) shapeCasts_S32x128x2048_S32x2x64x2048) transposes_S32x2x64x2048_S32x2048x2x64_0_3_1_2) := by
    unfold Pipeline.afterTail₀
    show StableHlo.after hostOps1 _ (Proc.devRef .tc main_v22) = _
    after_results
    rw [Pipeline.withArrays_arr spec0 launch0.win.arr_inj (w := 11)]
    rw [← final11]
    rfl
  rw [h]
  funext i
  obtain ⟨a, b, s, h, d, rfl⟩ : ∃ (a : Fin 1) (b : Fin 32) (s : Fin 2048) (h : Fin 2) (d : Fin 64), i = ix5 a b s h d := ⟨i 0, i 1, i 2, i 3, i 4, eq_ix5 i⟩
  refine (lay11 _ a b s h d).trans ?_
  refine (R_eq m c _ _ ⟨512 + (64 * h.val + d.val), by omega⟩ fun k => w_k (m ((c : Thread nD τ).loc main_arg2)) k ⟨64 * h.val + d.val, by omega⟩).trans ?_
  exact row_at _ _ _ b s _ _

theorem lay12 (y : Vec Ideal S32x128x2048 .f32) (a : Fin 1) (b : Fin 32) (s : Fin 2048) (h : Fin 2) (d : Fin 64) :
    broadcastInDim S1x32x2048x2x64 ![1, 2, 3, 4] bcast_S32x2048x2x64_S1x32x2048x2x64_1_2_3_4 (transpose S32x2048x2x64 [0, 3, 1, 2]
      (shapeCast S32x2x64x2048 y shapeCasts_S32x128x2048_S32x2x64x2048) transposes_S32x2x64x2048_S32x2048x2x64_0_3_1_2) (ix5 a b s h d)
      = y (ix3 b ⟨64 * h.val + d.val, by omega⟩ s) := by
  pointwise
  try simp only [mul_comm]

theorem tail_vHeads (c : Dev nD) : Pipeline.afterTail₀ cfgs (dats m) 0 (V0 m) [hostOps1] c main_v25 = vHeads (m ((c : Thread nD τ).loc main_arg0)) (m ((c : Thread nD τ).loc main_arg1)) (m ((c : Thread nD τ).loc main_arg2)) := by
  have h : Pipeline.afterTail₀ cfgs (dats m) 0 (V0 m) [hostOps1] c main_v25 = broadcastInDim S1x32x2048x2x64 ![1, 2, 3, 4] bcast_S32x2048x2x64_S1x32x2048x2x64_1_2_3_4 (transpose S32x2048x2x64 [0, 3, 1, 2] (shapeCast S32x2x64x2048 (G12 m c) shapeCasts_S32x128x2048_S32x2x64x2048) transposes_S32x2x64x2048_S32x2048x2x64_0_3_1_2) := by
    unfold Pipeline.afterTail₀
    show StableHlo.after hostOps1 _ (Proc.devRef .tc main_v25) = _
    after_results
    rw [Pipeline.withArrays_arr spec0 launch0.win.arr_inj (w := 12)]
    rw [← final12]
    rfl
  rw [h]
  funext i
  obtain ⟨a, b, s, h, d, rfl⟩ : ∃ (a : Fin 1) (b : Fin 32) (s : Fin 2048) (h : Fin 2) (d : Fin 64), i = ix5 a b s h d := ⟨i 0, i 1, i 2, i 3, i 4, eq_ix5 i⟩
  refine (lay12 _ a b s h d).trans ?_
  refine (R_eq m c _ _ ⟨640 + (64 * h.val + d.val), by omega⟩ fun k => w_v (m ((c : Thread nD τ).loc main_arg2)) k ⟨64 * h.val + d.val, by omega⟩).trans ?_
  exact row_at _ _ _ b s _ _

theorem lay13 (y : Vec Ideal S32x64x2048 .f32) (a : Fin 1) (b : Fin 32) (s : Fin 2048) (d : Fin 64) :
    broadcastInDim S1x32x2048x64 ![1, 2, 3] bcast_S32x2048x64_S1x32x2048x64_1_2_3 (transpose S32x2048x64 [0, 2, 1] y transposes_S32x64x2048_S32x2048x64_0_2_1) (ix4 a b s d)
      = y (ix3 b d s) := by
  pointwise

theorem tail_kidx (c : Dev nD) : Pipeline.afterTail₀ cfgs (dats m) 0 (V0 m) [hostOps1] c main_v27 = kidx (m ((c : Thread nD τ).loc main_arg0)) (m ((c : Thread nD τ).loc main_arg1)) (m ((c : Thread nD τ).loc main_arg2)) := by
  have h : Pipeline.afterTail₀ cfgs (dats m) 0 (V0 m) [hostOps1] c main_v27 = broadcastInDim S1x32x2048x64 ![1, 2, 3] bcast_S32x2048x64_S1x32x2048x64_1_2_3 (transpose S32x2048x64 [0, 2, 1] (G13 m c) transposes_S32x64x2048_S32x2048x64_0_2_1) := by
    unfold Pipeline.afterTail₀
    show StableHlo.after hostOps1 _ (Proc.devRef .tc main_v27) = _
    after_results
    rw [Pipeline.withArrays_arr spec0 launch0.win.arr_inj (w := 13)]
    rw [← final13]
  rw [h]
  funext i
  obtain ⟨a, b, s, d, rfl⟩ : ∃ (a : Fin 1) (b : Fin 32) (s : Fin 2048) (d : Fin 64), i = ix4 a b s d := ⟨i 0, i 1, i 2, i 3, eq_ix4 i⟩
  refine (lay13 _ a b s d).trans ?_
  refine (R_eq m c _ _ ⟨2304 + d.val, by omega⟩ fun k => w_ki (m ((c : Thread nD τ).loc main_arg2)) k d).trans ?_
  exact row_at _ _ _ b s _ _

theorem lay9 (y : Vec Ideal S65536x1536 .f32) (a : Fin 1) (b : Fin 32) (r : Fin 3) (n : Fin 1536) :
    broadcastInDim S1x32x3x1536 ![1, 2, 3] bcast_S32x3x1536_S1x32x3x1536_1_2_3 (extractStridedSlice S32x3x1536 ![0, 2045, 0]
      (shapeCast S32x2048x1536 y shapeCasts_S65536x1536_S32x2048x1536) slices_S32x2048x1536_S32x3x1536_0_2045_0) (ix4 a b r n)
      = y (ix2 ⟨2048 * b.val + (2045 + r.val), by omega⟩ n) := by
  pointwise
  try simp only [mul_comm]

theorem tail_conv (c : Dev nD) : Pipeline.afterTail₀ cfgs (dats m) 0 (V0 m) [hostOps1] c main_v30 = conv (m ((c : Thread nD τ).loc main_arg0)) (m ((c : Thread nD τ).loc main_arg1)) (m ((c : Thread nD τ).loc main_arg2)) := by
  have h : Pipeline.afterTail₀ cfgs (dats m) 0 (V0 m) [hostOps1] c main_v30 = broadcastInDim S1x32x3x1536 ![1, 2, 3] bcast_S32x3x1536_S1x32x3x1536_1_2_3 (extractStridedSlice S32x3x1536 ![0, 2045, 0] (shapeCast S32x2048x1536 (G9 m c) shapeCasts_S65536x1536_S32x2048x1536) slices_S32x2048x1536_S32x3x1536_0_2045_0) := by
    unfold Pipeline.afterTail₀
    show StableHlo.after hostOps1 _ (Proc.devRef .tc main_v30) = _
    after_results
    rw [Pipeline.withArrays_arr spec0 launch0.win.arr_inj (w := 9)]
    rw [← final9]
    rfl
  rw [h]
  funext i
  obtain ⟨a, b, r, n, rfl⟩ : ∃ (a : Fin 1) (b : Fin 32) (r : Fin 3) (n : Fin 1536), i = ix4 a b r n := ⟨i 0, i 1, i 2, i 3, eq_ix4 i⟩
  refine (lay9 _ a b r n).trans ?_
  refine (R_eq m c _ _ ⟨2384 + n.val, by omega⟩ fun k => w_qkv (m ((c : Thread nD τ).loc main_arg2)) k n).trans ?_
  exact row_at _ _ _ b ⟨2045 + r.val, by omega⟩ _ _

theorem lay3 (y : Vec Ideal S512x128x512 .bf16) (r : Fin 65536) (n : Fin 512) :
    shapeCast S65536x512 (transpose S512x128x4x128 [0, 3, 2, 1] (shapeCast S512x128x4x128 y shapeCasts_S512x128x512_S512x128x4x128)
      transposes_S512x128x4x128_S512x128x4x128_0_3_2_1) shapeCasts_S512x128x4x128_S65536x512 (ix2 r n)
      = y (ix3 ⟨r.val / 128, by omega⟩ ⟨n.val % 128, by omega⟩ ⟨128 * (n.val / 128) + r.val % 128, by omega⟩) := by
  pointwise
  try simp only [mul_comm]

theorem tail_q (c : Dev nD) : Pipeline.afterTail₀ cfgs (dats m) 0 (V0 m) [hostOps1] c main_v33 = q (m ((c : Thread nD τ).loc main_arg0)) (m ((c : Thread nD τ).loc main_arg1)) (m ((c : Thread nD τ).loc main_arg2)) := by
  have h : Pipeline.afterTail₀ cfgs (dats m) 0 (V0 m) [hostOps1] c main_v33 = shapeCast S65536x512 (transpose S512x128x4x128 [0, 3, 2, 1] (shapeCast S512x128x4x128 (G3 m c) shapeCasts_S512x128x512_S512x128x4x128) transposes_S512x128x4x128_S512x128x4x128_0_3_2_1) shapeCasts_S512x128x4x128_S65536x512 := by
    unfold Pipeline.afterTail₀
    show StableHlo.after hostOps1 _ (Proc.devRef .tc main_v33) = _
    after_results
    rw [Pipeline.withArrays_arr spec0 launch0.win.arr_inj (w := 3)]
    rw [← final3]
    rfl
  rw [h]
  funext i
  obtain ⟨r, n, rfl⟩ : ∃ (r : Fin 65536) (n : Fin 512), i = ix2 r n := ⟨i 0, i 1, eq_ix2 i⟩
  refine (lay3 _ r n).trans ?_
  have e : 128 * (r.val / 128) + (128 * (n.val / 128) + r.val % 128) % 128 = r.val := by omega
  have e' : 128 * ((128 * (n.val / 128) + r.val % 128) / 128) + n.val % 128 = n.val := by omega
  show R m c ⟨128 * (r.val / 128) + (128 * (n.val / 128) + r.val % 128) % 128, _⟩
    ⟨(128 * ((128 * (n.val / 128) + r.val % 128) / 128) + n.val % 128), _⟩ * scale = _
  simp only [e, e']
  rw [R_eq m c r _ ⟨n.val, by omega⟩ fun k => w_q (m ((c : Thread nD τ).loc main_arg2)) k n]
  rfl

theorem lay7 (y : Vec Ideal S512x128x1024 .bf16) (r : Fin 65536) (n : Fin 1024) :
    shapeCast S65536x1024 (transpose S512x128x8x128 [0, 3, 2, 1] (shapeCast S512x128x8x128 y shapeCasts_S512x128x1024_S512x128x8x128)
      transposes_S512x128x8x128_S512x128x8x128_0_3_2_1) shapeCasts_S512x128x8x128_S65536x1024 (ix2 r n)
      = y (ix3 ⟨r.val / 128, by omega⟩ ⟨n.val % 128, by omega⟩ ⟨128 * (n.val / 128) + r.val % 128, by omega⟩) := by
  pointwise
  try simp only [mul_comm]

theorem tail_qi (c : Dev nD) : Pipeline.afterTail₀ cfgs (dats m) 0 (V0 m) [hostOps1] c main_v36 = qi (m ((c : Thread nD τ).loc main_arg0)) (m ((c : Thread nD τ).loc main_arg1)) (m ((c : Thread nD τ).loc main_arg2)) := by
  have h : Pipeline.afterTail₀ cfgs (dats m) 0 (V0 m) [hostOps1] c main_v36 = shapeCast S65536x1024 (transpose S512x128x8x128 [0, 3, 2, 1] (shapeCast S512x128x8x128 (G7 m c) shapeCasts_S512x128x1024_S512x128x8x128) transposes_S512x128x8x128_S512x128x8x128_0_3_2_1) shapeCasts_S512x128x8x128_S65536x1024 := by
    unfold Pipeline.afterTail₀
    show StableHlo.after hostOps1 _ (Proc.devRef .tc main_v36) = _
    after_results
    rw [Pipeline.withArrays_arr spec0 launch0.win.arr_inj (w := 7)]
    rw [← final7]
    rfl
  rw [h]
  funext i
  obtain ⟨r, n, rfl⟩ : ∃ (r : Fin 65536) (n : Fin 1024), i = ix2 r n := ⟨i 0, i 1, eq_ix2 i⟩
  refine (lay7 _ r n).trans ?_
  have e : 128 * (r.val / 128) + (128 * (n.val / 128) + r.val % 128) % 128 = r.val := by omega
  have e' : 128 * ((128 * (n.val / 128) + r.val % 128) / 128) + n.val % 128 = n.val := by omega
  show R m c ⟨128 * (r.val / 128) + (128 * (n.val / 128) + r.val % 128) % 128, _⟩
    ⟨1280 + (128 * ((128 * (n.val / 128) + r.val % 128) / 128) + n.val % 128), _⟩ * scale = _
  simp only [e, e']
  rw [R_eq m c r _ ⟨1280 + n.val, by omega⟩ fun k => w_qi (m ((c : Thread nD τ).loc main_arg2)) k n]
  rfl

theorem tail_small (c : Dev nD) : Pipeline.afterTail₀ cfgs (dats m) 0 (V0 m) [hostOps1] c main_v37 = smallRows (m ((c : Thread nD τ).loc main_arg0)) (m ((c : Thread nD τ).loc main_arg1)) (m ((c : Thread nD τ).loc main_arg2)) := by
  have h : Pipeline.afterTail₀ cfgs (dats m) 0 (V0 m) [hostOps1] c main_v37 = extractStridedSlice S65536x88 ![0, 0] (G8 m c) slices_S65536x128_S65536x88_0_0 := by
    unfold Pipeline.afterTail₀
    show StableHlo.after hostOps1 _ (Proc.devRef .tc main_v37) = _
    after_results
    rw [Pipeline.withArrays_arr spec0 launch0.win.arr_inj (w := 8)]
    rw [← final8]
  rw [h]
  funext i
  obtain ⟨r, n, rfl⟩ : ∃ (r : Fin 65536) (n : Fin 88), i = ix2 r n := ⟨i 0, i 1, eq_ix2 i⟩
  have h : extractStridedSlice S65536x88 ![0, 0] (G8 m c) slices_S65536x128_S65536x88_0_0 (ix2 r n) = G8 m c (ix2 r ⟨n.val, by omega⟩) := by
    generalize G8 m c = y
    pointwise
  refine h.trans ?_
  exact R_eq m c r _ (small n) fun k => w_small (m ((c : Thread nD τ).loc main_arg2)) k n

theorem arr_kRows (c : Dev nD) : G4 m c = kRows (m ((c : Thread nD τ).loc main_arg0)) (m ((c : Thread nD τ).loc main_arg1)) (m ((c : Thread nD τ).loc main_arg2)) := by
  funext i
  obtain ⟨r, n, rfl⟩ : ∃ (r : Fin 65536) (n : Fin 128), i = ix2 r n := ⟨i 0, i 1, eq_ix2 i⟩
  exact R_eq m c r _ ⟨512 + n.val, by omega⟩ fun k => w_k (m ((c : Thread nD τ).loc main_arg2)) k n

theorem arr_vRows (c : Dev nD) : G5 m c = vRows (m ((c : Thread nD τ).loc main_arg0)) (m ((c : Thread nD τ).loc main_arg1)) (m ((c : Thread nD τ).loc main_arg2)) := by
  funext i
  obtain ⟨r, n, rfl⟩ : ∃ (r : Fin 65536) (n : Fin 128), i = ix2 r n := ⟨i 0, i 1, eq_ix2 i⟩
  exact R_eq m c r _ ⟨640 + n.val, by omega⟩ fun k => w_v (m ((c : Thread nD τ).loc main_arg2)) k n

theorem arr_zaRows (c : Dev nD) : G6 m c = zaRows (m ((c : Thread nD τ).loc main_arg0)) (m ((c : Thread nD τ).loc main_arg1)) (m ((c : Thread nD τ).loc main_arg2)) := by
  funext i
  obtain ⟨r, n, rfl⟩ : ∃ (r : Fin 65536) (n : Fin 512), i = ix2 r n := ⟨i 0, i 1, eq_ix2 i⟩
  exact R_eq m c r _ ⟨768 + n.val, by omega⟩ fun k => w_za (m ((c : Thread nD τ).loc main_arg2)) k n

theorem arr_qkvRows (c : Dev nD) : G9 m c = qkvRows (m ((c : Thread nD τ).loc main_arg0)) (m ((c : Thread nD τ).loc main_arg1)) (m ((c : Thread nD τ).loc main_arg2)) := by
  funext i
  obtain ⟨r, n, rfl⟩ : ∃ (r : Fin 65536) (n : Fin 1536), i = ix2 r n := ⟨i 0, i 1, eq_ix2 i⟩
  exact R_eq m c r _ ⟨2384 + n.val, by omega⟩ fun k => w_qkv (m ((c : Thread nD τ).loc main_arg2)) k n

theorem arr_zgRows (c : Dev nD) : G10 m c = zgRows (m ((c : Thread nD τ).loc main_arg0)) (m ((c : Thread nD τ).loc main_arg1)) (m ((c : Thread nD τ).loc main_arg2)) := by
  funext i
  obtain ⟨r, n, rfl⟩ : ∃ (r : Fin 65536) (n : Fin 512), i = ix2 r n := ⟨i 0, i 1, eq_ix2 i⟩
  exact R_eq m c r _ ⟨3920 + n.val, by omega⟩ fun k => w_zg (m ((c : Thread nD τ).loc main_arg2)) k n

end Cert.InProjIdeal.Val
-- ==== Proof.InProj.Reference.lean ====
/- The plain program of the input projection, read down to the closed forms of `InProj/Spec.lean`. -/
module

public import proofs.«01_k».proof.Proof.Gen.InProjRefIdeal.Read
public import proofs.«01_k».proof.Proof.InProj.Spec
public import Idealize.ShloMosaic.Lib.Pipeline.ValueKit
public import Idealize.ShloMosaic.Lib.Pointwise
public import Idealize.ShloMosaic.Lib.Tactic.CleanTypes

@[expose] public section

set_option maxRecDepth 16384

noncomputable section

namespace Cert.InProjRefIdeal.Val

open Cert.InProjRefIdeal Cert.InProjRefIdeal.Gen Cert.InProjRefIdeal.Read Idealize.ShloMosaic Idealize.ShloMosaic.TcCoe Idealize.SL.Sem
open Cert.InProjSpec

variable (x0 : Vec Ideal S32x2048x1024 .f32) (x1 : Vec Ideal S1x1024 .f32) (x2 : Vec Ideal S1x1024x4440 .f32)

theorem v0 (k : Fin 1024) : (val_main_v0 (F := Ideal) x1) (ix1 k) = x1 (ix2 0 k) := by
  unfold val_main_v0
  pointwise

theorem v1 (k : Fin 1024) (n : Fin 4440) : (val_main_v1 (F := Ideal) x2) (ix2 k n) = x2 (ix3 0 k n) := by
  unfold val_main_v1
  pointwise

theorem v3 (b : Fin 32) (s : Fin 2048) : (val_main_v3 (F := Ideal) x0) (ix2 b s) = ∑ k : Fin 1024, x0 (ix3 b s k) * x0 (ix3 b s k) := by
  unfold val_main_v3 val_main_v2 val_main_cst
  pointwise

theorem v4 (b : Fin 32) (s : Fin 2048) : (val_main_v4 (F := Ideal) x0) (ix3 b s 0) = (val_main_v3 (F := Ideal) x0) (ix2 b s) := by
  unfold val_main_v4
  generalize val_main_v3 (F := Ideal) x0 = yv3
  clean_types
  pointwise

theorem v9 (b : Fin 32) (s : Fin 2048) : (val_main_v9 (F := Ideal) x0) (ix3 b s 0)
    = Ideal.rsqrt (Ideal.div ((val_main_v3 (F := Ideal) x0) (ix2 b s)) (Ideal.ofBits FTy.f32 0x44800000#32) + Ideal.ofBits FTy.f32 0x358637BD#32) := by
  rw [← v4 x0]
  unfold val_main_v9 val_main_v8 val_main_v7 val_main_v6 val_main_v5 val_main_cst_0 val_main_cst_1
  generalize (val_main_v4 (F := Ideal) x0) = y
  pointwise

theorem v10 (b : Fin 32) (s : Fin 2048)(k : Fin 1024) : (val_main_v10 (F := Ideal) x0) (ix3 b s k) = (val_main_v9 (F := Ideal) x0) (ix3 b s 0) := by
  unfold val_main_v10
  generalize val_main_v9 (F := Ideal) x0 = yv9
  clean_types
  pointwise

theorem v12 (k : Fin 1024) : (val_main_v12 (F := Ideal) x1) (ix3 0 0 k) = (val_main_v0 (F := Ideal) x1) (ix1 k) := by
  unfold val_main_v12
  generalize val_main_v0 (F := Ideal) x1 = yv0
  clean_types
  pointwise

theorem v13 (b : Fin 32) (s : Fin 2048)(k : Fin 1024) : (val_main_v13 (F := Ideal) x1) (ix3 b s k) = (val_main_v12 (F := Ideal) x1) (ix3 0 0 k) := by
  unfold val_main_v13
  generalize val_main_v12 (F := Ideal) x1 = yv12
  clean_types
  pointwise

theorem v14 (b : Fin 32) (s : Fin 2048) (k : Fin 1024) : (val_main_v14 (F := Ideal) x0 x1) (ix3 b s k) = normed (fun k => x0 (ix3 b s k)) (fun k => x1 (ix2 0 k)) k := by
  rw [val_main_v14_apply, val_main_v11_apply, v10, v9, v3, v13, v12, v0]; rfl

theorem v15 (b : Fin 32) (s : Fin 2048) (n : Fin 4440) : (val_main_v15 (F := Ideal) x0 x1 x2) (ix3 b s n) = ∑ k : Fin 1024, (val_main_v14 (F := Ideal) x0 x1) (ix3 b s k) * (val_main_v1 (F := Ideal) x2) (ix2 k n) := by
  unfold val_main_v15
  generalize val_main_v14 (F := Ideal) x0 x1 = yv14
  generalize val_main_v1 (F := Ideal) x2 = yv1
  pointwise

theorem v15' (b : Fin 32) (s : Fin 2048) (n : Fin 4440) : (val_main_v15 (F := Ideal) x0 x1 x2) (ix3 b s n) = out x0 x1 x2 b s n := by
  rw [v15]
  simp only [v14, v1]
  rfl

theorem v16 (b : Fin 32) (s : Fin 2048) (n : Fin 512) : (val_main_v16 (F := Ideal) x0 x1 x2) (ix3 b s n) = (val_main_v15 (F := Ideal) x0 x1 x2) (ix3 b s ⟨n.val, by omega⟩) := by
  unfold val_main_v16
  generalize val_main_v15 (F := Ideal) x0 x1 x2 = yv15
  clean_types
  pointwise

theorem v17 (b : Fin 32) (s : Fin 2048) (n : Fin 128) : (val_main_v17 (F := Ideal) x0 x1 x2) (ix3 b s n) = (val_main_v15 (F := Ideal) x0 x1 x2) (ix3 b s ⟨512 + n.val, by omega⟩) := by
  unfold val_main_v17
  generalize val_main_v15 (F := Ideal) x0 x1 x2 = yv15
  clean_types
  pointwise

theorem v18 (b : Fin 32) (s : Fin 2048) (n : Fin 128) : (val_main_v18 (F := Ideal) x0 x1 x2) (ix3 b s n) = (val_main_v15 (F := Ideal) x0 x1 x2) (ix3 b s ⟨640 + n.val, by omega⟩) := by
  unfold val_main_v18
  generalize val_main_v15 (F := Ideal) x0 x1 x2 = yv15
  clean_types
  pointwise

theorem v19 (b : Fin 32) (s : Fin 2048) (n : Fin 512) : (val_main_v19 (F := Ideal) x0 x1 x2) (ix3 b s n) = (val_main_v15 (F := Ideal) x0 x1 x2) (ix3 b s ⟨768 + n.val, by omega⟩) := by
  unfold val_main_v19
  generalize val_main_v15 (F := Ideal) x0 x1 x2 = yv15
  clean_types
  pointwise

theorem v20 (b : Fin 32) (s : Fin 2048) (n : Fin 1024) : (val_main_v20 (F := Ideal) x0 x1 x2) (ix3 b s n) = (val_main_v15 (F := Ideal) x0 x1 x2) (ix3 b s ⟨1280 + n.val, by omega⟩) := by
  unfold val_main_v20
  generalize val_main_v15 (F := Ideal) x0 x1 x2 = yv15
  clean_types
  pointwise

theorem v21 (b : Fin 32) (s : Fin 2048) (n : Fin 64) : (val_main_v21 (F := Ideal) x0 x1 x2) (ix3 b s n) = (val_main_v15 (F := Ideal) x0 x1 x2) (ix3 b s ⟨2304 + n.val, by omega⟩) := by
  unfold val_main_v21
  generalize val_main_v15 (F := Ideal) x0 x1 x2 = yv15
  clean_types
  pointwise

theorem v22 (b : Fin 32) (s : Fin 2048) (n : Fin 16) : (val_main_v22 (F := Ideal) x0 x1 x2) (ix3 b s n) = (val_main_v15 (F := Ideal) x0 x1 x2) (ix3 b s ⟨2368 + n.val, by omega⟩) := by
  unfold val_main_v22
  generalize val_main_v15 (F := Ideal) x0 x1 x2 = yv15
  clean_types
  pointwise

theorem v23 (b : Fin 32) (s : Fin 2048) (n : Fin 1536) : (val_main_v23 (F := Ideal) x0 x1 x2) (ix3 b s n) = (val_main_v15 (F := Ideal) x0 x1 x2) (ix3 b s ⟨2384 + n.val, by omega⟩) := by
  unfold val_main_v23
  generalize val_main_v15 (F := Ideal) x0 x1 x2 = yv15
  clean_types
  pointwise

theorem v24 (b : Fin 32) (s : Fin 2048) (n : Fin 512) : (val_main_v24 (F := Ideal) x0 x1 x2) (ix3 b s n) = (val_main_v15 (F := Ideal) x0 x1 x2) (ix3 b s ⟨3920 + n.val, by omega⟩) := by
  unfold val_main_v24
  generalize val_main_v15 (F := Ideal) x0 x1 x2 = yv15
  clean_types
  pointwise

theorem v25 (b : Fin 32) (s : Fin 2048) (n : Fin 4) : (val_main_v25 (F := Ideal) x0 x1 x2) (ix3 b s n) = (val_main_v15 (F := Ideal) x0 x1 x2) (ix3 b s ⟨4432 + n.val, by omega⟩) := by
  unfold val_main_v25
  generalize val_main_v15 (F := Ideal) x0 x1 x2 = yv15
  clean_types
  pointwise

theorem v26 (b : Fin 32) (s : Fin 2048) (n : Fin 4) : (val_main_v26 (F := Ideal) x0 x1 x2) (ix3 b s n) = (val_main_v15 (F := Ideal) x0 x1 x2) (ix3 b s ⟨4436 + n.val, by omega⟩) := by
  unfold val_main_v26
  generalize val_main_v15 (F := Ideal) x0 x1 x2 = yv15
  clean_types
  pointwise

theorem v27 (b : Fin 32) (s : Fin 2048) (h : Fin 8) (d : Fin 64) : (val_main_v27 (F := Ideal) x0 x1 x2) (ix4 b s h d) = (val_main_v16 (F := Ideal) x0 x1 x2) (ix3 b s ⟨64 * h.val + d.val, by omega⟩) := by
  unfold val_main_v27
  generalize val_main_v16 (F := Ideal) x0 x1 x2 = yv16
  clean_types
  pointwise
  try simp only [mul_comm]

theorem v28 (b : Fin 32) (s : Fin 2048) (h : Fin 2) (d : Fin 64) : (val_main_v28 (F := Ideal) x0 x1 x2) (ix4 b s h d) = (val_main_v17 (F := Ideal) x0 x1 x2) (ix3 b s ⟨64 * h.val + d.val, by omega⟩) := by
  unfold val_main_v28
  generalize val_main_v17 (F := Ideal) x0 x1 x2 = yv17
  clean_types
  pointwise
  try simp only [mul_comm]

theorem v29 (b : Fin 32) (s : Fin 2048) (h : Fin 2) (d : Fin 64) : (val_main_v29 (F := Ideal) x0 x1 x2) (ix4 b s h d) = (val_main_v18 (F := Ideal) x0 x1 x2) (ix3 b s ⟨64 * h.val + d.val, by omega⟩) := by
  unfold val_main_v29
  generalize val_main_v18 (F := Ideal) x0 x1 x2 = yv18
  clean_types
  pointwise
  try simp only [mul_comm]

theorem v30 (b : Fin 32) (s : Fin 2048) (h : Fin 16) (d : Fin 64) : (val_main_v30 (F := Ideal) x0 x1 x2) (ix4 b s h d) = (val_main_v20 (F := Ideal) x0 x1 x2) (ix3 b s ⟨64 * h.val + d.val, by omega⟩) := by
  unfold val_main_v30
  generalize val_main_v20 (F := Ideal) x0 x1 x2 = yv20
  clean_types
  pointwise
  try simp only [mul_comm]

theorem v32 (b : Fin 32) (s : Fin 2048) (h : Fin 8) (d : Fin 64) : (val_main_v32 (F := Ideal) x0 x1 x2) (ix4 b s h d) = (val_main_v27 (F := Ideal) x0 x1 x2) (ix4 b s h d) * scale := by
  unfold val_main_v32 val_main_v31 val_main_cst_2 scale
  generalize (val_main_v27 (F := Ideal) x0 x1 x2) = y
  pointwise

theorem v36 (b : Fin 32) (s : Fin 2048) (h : Fin 16) (d : Fin 64) : (val_main_v36 (F := Ideal) x0 x1 x2) (ix4 b s h d) = (val_main_v30 (F := Ideal) x0 x1 x2) (ix4 b s h d) * scale := by
  unfold val_main_v36 val_main_v35 val_main_cst_3 scale
  generalize (val_main_v30 (F := Ideal) x0 x1 x2) = y
  pointwise

theorem v33 (r : Fin 65536) (n : Fin 512) : (val_main_v33 (F := Ideal) x0 x1 x2) (ix2 r n) = (val_main_v32 (F := Ideal) x0 x1 x2) (ix4 ⟨r.val / 2048, by omega⟩ ⟨r.val % 2048, by omega⟩ ⟨n.val / 64, by omega⟩ ⟨n.val % 64, by omega⟩) := by
  unfold val_main_v33
  generalize val_main_v32 (F := Ideal) x0 x1 x2 = yv32
  clean_types
  pointwise

theorem v37 (r : Fin 65536) (n : Fin 1024) : (val_main_v37 (F := Ideal) x0 x1 x2) (ix2 r n) = (val_main_v36 (F := Ideal) x0 x1 x2) (ix4 ⟨r.val / 2048, by omega⟩ ⟨r.val % 2048, by omega⟩ ⟨n.val / 64, by omega⟩ ⟨n.val % 64, by omega⟩) := by
  unfold val_main_v37
  generalize val_main_v36 (F := Ideal) x0 x1 x2 = yv36
  clean_types
  pointwise

theorem v45 (r : Fin 65536) (n : Fin 128) : (val_main_v45 (F := Ideal) x0 x1 x2) (ix2 r n) = (val_main_v28 (F := Ideal) x0 x1 x2) (ix4 ⟨r.val / 2048, by omega⟩ ⟨r.val % 2048, by omega⟩ ⟨n.val / 64, by omega⟩ ⟨n.val % 64, by omega⟩) := by
  unfold val_main_v45
  generalize val_main_v28 (F := Ideal) x0 x1 x2 = yv28
  clean_types
  pointwise

theorem v46 (r : Fin 65536) (n : Fin 128) : (val_main_v46 (F := Ideal) x0 x1 x2) (ix2 r n) = (val_main_v29 (F := Ideal) x0 x1 x2) (ix4 ⟨r.val / 2048, by omega⟩ ⟨r.val % 2048, by omega⟩ ⟨n.val / 64, by omega⟩ ⟨n.val % 64, by omega⟩) := by
  unfold val_main_v46
  generalize val_main_v29 (F := Ideal) x0 x1 x2 = yv29
  clean_types
  pointwise

theorem v47 (r : Fin 65536) (n : Fin 512) : (val_main_v47 (F := Ideal) x0 x1 x2) (ix2 r n) = (val_main_v19 (F := Ideal) x0 x1 x2) (ix3 ⟨r.val / 2048, by omega⟩ ⟨r.val % 2048, by omega⟩ n) := by
  unfold val_main_v47
  generalize val_main_v19 (F := Ideal) x0 x1 x2 = yv19
  clean_types
  pointwise

theorem v48 (r : Fin 65536) (n : Fin 88) : (val_main_v48 (F := Ideal) x0 x1 x2) (ix2 r n) = (val_main_v39 (F := Ideal) x0 x1 x2) (ix3 ⟨r.val / 2048, by omega⟩ ⟨r.val % 2048, by omega⟩ n) := by
  unfold val_main_v48
  generalize val_main_v39 (F := Ideal) x0 x1 x2 = yv39
  clean_types
  pointwise

theorem v49 (r : Fin 65536) (n : Fin 1536) : (val_main_v49 (F := Ideal) x0 x1 x2) (ix2 r n) = (val_main_v23 (F := Ideal) x0 x1 x2) (ix3 ⟨r.val / 2048, by omega⟩ ⟨r.val % 2048, by omega⟩ n) := by
  unfold val_main_v49
  generalize val_main_v23 (F := Ideal) x0 x1 x2 = yv23
  clean_types
  pointwise

theorem v50 (r : Fin 65536) (n : Fin 512) : (val_main_v50 (F := Ideal) x0 x1 x2) (ix2 r n) = (val_main_v24 (F := Ideal) x0 x1 x2) (ix3 ⟨r.val / 2048, by omega⟩ ⟨r.val % 2048, by omega⟩ n) := by
  unfold val_main_v50
  generalize val_main_v24 (F := Ideal) x0 x1 x2 = yv24
  clean_types
  pointwise

theorem v39 (b : Fin 32) (s : Fin 2048) (n : Fin 88) : (val_main_v39 (F := Ideal) x0 x1 x2) (ix3 b s n) = if h : n.val < 64 then (val_main_v21 (F := Ideal) x0 x1 x2) (ix3 b s ⟨n.val, h⟩) else if h1 : n.val - 64 < 16 then (val_main_v22 (F := Ideal) x0 x1 x2) (ix3 b s ⟨n.val - 64, h1⟩) else if h2 : n.val - 64 - 16 < 4 then (val_main_v25 (F := Ideal) x0 x1 x2) (ix3 b s ⟨n.val - 64 - 16, h2⟩) else (val_main_v26 (F := Ideal) x0 x1 x2) (ix3 b s ⟨n.val - 64 - 16 - 4, by omega⟩) := by
  unfold val_main_v39
  generalize val_main_v21 (F := Ideal) x0 x1 x2 = yv21
  generalize val_main_v22 (F := Ideal) x0 x1 x2 = yv22
  generalize val_main_v25 (F := Ideal) x0 x1 x2 = yv25
  generalize val_main_v26 (F := Ideal) x0 x1 x2 = yv26
  pointwise

theorem v40 (a : Fin 1) (b : Fin 32) (s : Fin 2048) (h : Fin 2) (d : Fin 64) : (val_main_v40 (F := Ideal) x0 x1 x2) (ix5 a b s h d) = (val_main_v28 (F := Ideal) x0 x1 x2) (ix4 b s h d) := by
  unfold val_main_v40
  generalize val_main_v28 (F := Ideal) x0 x1 x2 = yv28
  clean_types
  pointwise

theorem v41 (a : Fin 1) (b : Fin 32) (s : Fin 2048) (h : Fin 2) (d : Fin 64) : (val_main_v41 (F := Ideal) x0 x1 x2) (ix5 a b s h d) = (val_main_v29 (F := Ideal) x0 x1 x2) (ix4 b s h d) := by
  unfold val_main_v41
  generalize val_main_v29 (F := Ideal) x0 x1 x2 = yv29
  clean_types
  pointwise

theorem v42 (a : Fin 1) (b : Fin 32) (s : Fin 2048) (d : Fin 64) : (val_main_v42 (F := Ideal) x0 x1 x2) (ix4 a b s d) = (val_main_v21 (F := Ideal) x0 x1 x2) (ix3 b s d) := by
  unfold val_main_v42
  generalize val_main_v21 (F := Ideal) x0 x1 x2 = yv21
  clean_types
  pointwise

theorem v43 (b : Fin 32) (r : Fin 3) (n : Fin 1536) : (val_main_v43 (F := Ideal) x0 x1 x2) (ix3 b r n) = (val_main_v23 (F := Ideal) x0 x1 x2) (ix3 b ⟨2045 + r.val, by omega⟩ n) := by
  unfold val_main_v43
  generalize val_main_v23 (F := Ideal) x0 x1 x2 = yv23
  clean_types
  pointwise

theorem v44 (a : Fin 1) (b : Fin 32) (r : Fin 3) (n : Fin 1536) : (val_main_v44 (F := Ideal) x0 x1 x2) (ix4 a b r n) = (val_main_v43 (F := Ideal) x0 x1 x2) (ix3 b r n) := by
  unfold val_main_v44
  generalize val_main_v43 (F := Ideal) x0 x1 x2 = yv43
  clean_types
  pointwise

theorem ref_kHeads : @Eq ((S1x32x2048x2x64).Idx → EReal) (val_main_v40 (F := Ideal) x0 x1 x2) (kHeads x0 x1 x2) := by
  funext i
  obtain ⟨a, b, s, h, d, rfl⟩ : ∃ (a : Fin 1) (b : Fin 32) (s : Fin 2048) (h : Fin 2) (d : Fin 64), i = ix5 a b s h d := ⟨i 0, i 1, i 2, i 3, i 4, eq_ix5 i⟩
  exact (v40 _ _ _ a b s h d).trans ((v28 _ _ _ b s h d).trans ((v17 _ _ _ b s _).trans (v15' _ _ _ b s _)))

theorem ref_vHeads : @Eq ((S1x32x2048x2x64).Idx → EReal) (val_main_v41 (F := Ideal) x0 x1 x2) (vHeads x0 x1 x2) := by
  funext i
  obtain ⟨a, b, s, h, d, rfl⟩ : ∃ (a : Fin 1) (b : Fin 32) (s : Fin 2048) (h : Fin 2) (d : Fin 64), i = ix5 a b s h d := ⟨i 0, i 1, i 2, i 3, i 4, eq_ix5 i⟩
  exact (v41 _ _ _ a b s h d).trans ((v29 _ _ _ b s h d).trans ((v18 _ _ _ b s _).trans (v15' _ _ _ b s _)))

theorem ref_kidx : @Eq ((S1x32x2048x64).Idx → EReal) (val_main_v42 (F := Ideal) x0 x1 x2) (kidx x0 x1 x2) := by
  funext i
  obtain ⟨a, b, s, d, rfl⟩ : ∃ (a : Fin 1) (b : Fin 32) (s : Fin 2048) (d : Fin 64), i = ix4 a b s d := ⟨i 0, i 1, i 2, i 3, eq_ix4 i⟩
  exact (v42 _ _ _ a b s d).trans ((v21 _ _ _ b s d).trans (v15' _ _ _ b s _))

theorem ref_conv : @Eq ((S1x32x3x1536).Idx → EReal) (val_main_v44 (F := Ideal) x0 x1 x2) (conv x0 x1 x2) := by
  funext i
  obtain ⟨a, b, r, n, rfl⟩ : ∃ (a : Fin 1) (b : Fin 32) (r : Fin 3) (n : Fin 1536), i = ix4 a b r n := ⟨i 0, i 1, i 2, i 3, eq_ix4 i⟩
  exact (v44 _ _ _ a b r n).trans ((v43 _ _ _ b r n).trans ((v23 _ _ _ b _ n).trans (v15' _ _ _ b _ _)))

theorem ref_q : @Eq ((S65536x512).Idx → EReal) (val_main_v34 (F := Ideal) x0 x1 x2) (q x0 x1 x2) := by
  funext i
  obtain ⟨r, n, rfl⟩ : ∃ (r : Fin 65536) (n : Fin 512), i = ix2 r n := ⟨i 0, i 1, eq_ix2 i⟩
  rw [val_main_v34_apply]
  refine (v33 _ _ _ r n).trans ?_
  rw [v32, v27, v16, v15']
  have e : 64 * (n.val / 64) + n.val % 64 = n.val := by omega
  simp only [e]
  rfl

theorem ref_qi : @Eq ((S65536x1024).Idx → EReal) (val_main_v38 (F := Ideal) x0 x1 x2) (qi x0 x1 x2) := by
  funext i
  obtain ⟨r, n, rfl⟩ : ∃ (r : Fin 65536) (n : Fin 1024), i = ix2 r n := ⟨i 0, i 1, eq_ix2 i⟩
  rw [val_main_v38_apply]
  refine (v37 _ _ _ r n).trans ?_
  rw [v36, v30, v20, v15']
  have e : 64 * (n.val / 64) + n.val % 64 = n.val := by omega
  simp only [e]
  rfl

theorem ref_kRows : @Eq ((S65536x128).Idx → EReal) (val_main_v45 (F := Ideal) x0 x1 x2) (kRows x0 x1 x2) := by
  funext i
  obtain ⟨r, n, rfl⟩ : ∃ (r : Fin 65536) (n : Fin 128), i = ix2 r n := ⟨i 0, i 1, eq_ix2 i⟩
  rw [v45, v28, v17, v15']
  have e : 64 * (n.val / 64) + n.val % 64 = n.val := by omega
  simp only [e]
  rfl

theorem ref_vRows : @Eq ((S65536x128).Idx → EReal) (val_main_v46 (F := Ideal) x0 x1 x2) (vRows x0 x1 x2) := by
  funext i
  obtain ⟨r, n, rfl⟩ : ∃ (r : Fin 65536) (n : Fin 128), i = ix2 r n := ⟨i 0, i 1, eq_ix2 i⟩
  rw [v46, v29, v18, v15']
  have e : 64 * (n.val / 64) + n.val % 64 = n.val := by omega
  simp only [e]
  rfl

theorem ref_zaRows : @Eq ((S65536x512).Idx → EReal) (val_main_v47 (F := Ideal) x0 x1 x2) (zaRows x0 x1 x2) := by
  funext i
  obtain ⟨r, n, rfl⟩ : ∃ (r : Fin 65536) (n : Fin 512), i = ix2 r n := ⟨i 0, i 1, eq_ix2 i⟩
  rw [v47, v19, v15']
  rfl

theorem ref_qkvRows : @Eq ((S65536x1536).Idx → EReal) (val_main_v49 (F := Ideal) x0 x1 x2) (qkvRows x0 x1 x2) := by
  funext i
  obtain ⟨r, n, rfl⟩ : ∃ (r : Fin 65536) (n : Fin 1536), i = ix2 r n := ⟨i 0, i 1, eq_ix2 i⟩
  rw [v49, v23, v15']
  rfl

theorem ref_zgRows : @Eq ((S65536x512).Idx → EReal) (val_main_v50 (F := Ideal) x0 x1 x2) (zgRows x0 x1 x2) := by
  funext i
  obtain ⟨r, n, rfl⟩ : ∃ (r : Fin 65536) (n : Fin 512), i = ix2 r n := ⟨i 0, i 1, eq_ix2 i⟩
  rw [v50, v24, v15']
  rfl

theorem ref_smallRows : @Eq ((S65536x88).Idx → EReal) (val_main_v48 (F := Ideal) x0 x1 x2) (smallRows x0 x1 x2) := by
  funext i
  obtain ⟨r, n, rfl⟩ : ∃ (r : Fin 65536) (n : Fin 88), i = ix2 r n := ⟨i 0, i 1, eq_ix2 i⟩
  rw [v48, v39]
  simp only [v21, v22, v25, v26, v15']
  show _ = out x0 x1 x2 _ _ (small n)
  unfold small
  split
  · rw [if_pos (by omega)]
    rfl
  split
  · rw [if_pos (by omega)]
    congr 1
    apply Fin.ext; show 2368 + (n.val - 64) = 2304 + n.val; omega
  split
  · rw [if_neg (by omega)]
    congr 1
    apply Fin.ext; show 4432 + (n.val - 64 - 16) = 4352 + n.val; omega
  · rw [if_neg (by omega)]
    congr 1
    apply Fin.ext; show 4436 + (n.val - 64 - 16 - 4) = 4352 + n.val; omega

end Cert.InProjRefIdeal.Val
-- ==== Proof.InProj.Claim.lean ====
/- The value claim about the input projection: both programs run, end with equal results, and keep their arguments. -/
module

public import proofs.«01_k».proof.Proof.InProj.Results
public import proofs.«01_k».proof.Proof.InProj.Reference

@[expose] public section

set_option maxRecDepth 16384

noncomputable section

namespace Cert.InProjIdeal.Val

open Cert.InProjIdeal Cert.InProjIdeal.Gen Idealize.ShloMosaic Idealize.ShloMosaic.TcCoe Idealize.SL.Sem
open Cert.InProjSpec

variable (m : (ℓ : Loc nD τ sig) → Buf (Elt Ideal) ℓ) (ρ : Dev nD → PrngReg)

/-! The results, as functions of the arguments. -/

def r_kHeads (c : Dev nD) : Vec Ideal S1x32x2048x2x64 .f32 := kHeads (m ((c : Thread nD τ).loc main_arg0)) (m ((c : Thread nD τ).loc main_arg1)) (m ((c : Thread nD τ).loc main_arg2))
def r_vHeads (c : Dev nD) : Vec Ideal S1x32x2048x2x64 .f32 := vHeads (m ((c : Thread nD τ).loc main_arg0)) (m ((c : Thread nD τ).loc main_arg1)) (m ((c : Thread nD τ).loc main_arg2))
def r_kidx (c : Dev nD) : Vec Ideal S1x32x2048x64 .f32 := kidx (m ((c : Thread nD τ).loc main_arg0)) (m ((c : Thread nD τ).loc main_arg1)) (m ((c : Thread nD τ).loc main_arg2))
def r_conv (c : Dev nD) : Vec Ideal S1x32x3x1536 .f32 := conv (m ((c : Thread nD τ).loc main_arg0)) (m ((c : Thread nD τ).loc main_arg1)) (m ((c : Thread nD τ).loc main_arg2))
def r_q (c : Dev nD) : Vec Ideal S65536x512 .bf16 := q (m ((c : Thread nD τ).loc main_arg0)) (m ((c : Thread nD τ).loc main_arg1)) (m ((c : Thread nD τ).loc main_arg2))
def r_qi (c : Dev nD) : Vec Ideal S65536x1024 .bf16 := qi (m ((c : Thread nD τ).loc main_arg0)) (m ((c : Thread nD τ).loc main_arg1)) (m ((c : Thread nD τ).loc main_arg2))
def r_kRows (c : Dev nD) : Vec Ideal S65536x128 .f32 := kRows (m ((c : Thread nD τ).loc main_arg0)) (m ((c : Thread nD τ).loc main_arg1)) (m ((c : Thread nD τ).loc main_arg2))
def r_vRows (c : Dev nD) : Vec Ideal S65536x128 .f32 := vRows (m ((c : Thread nD τ).loc main_arg0)) (m ((c : Thread nD τ).loc main_arg1)) (m ((c : Thread nD τ).loc main_arg2))
def r_zaRows (c : Dev nD) : Vec Ideal S65536x512 .f32 := zaRows (m ((c : Thread nD τ).loc main_arg0)) (m ((c : Thread nD τ).loc main_arg1)) (m ((c : Thread nD τ).loc main_arg2))
def r_small (c : Dev nD) : Vec Ideal S65536x88 .f32 := smallRows (m ((c : Thread nD τ).loc main_arg0)) (m ((c : Thread nD τ).loc main_arg1)) (m ((c : Thread nD τ).loc main_arg2))
def r_qkvRows (c : Dev nD) : Vec Ideal S65536x1536 .f32 := qkvRows (m ((c : Thread nD τ).loc main_arg0)) (m ((c : Thread nD τ).loc main_arg1)) (m ((c : Thread nD τ).loc main_arg2))
def r_zgRows (c : Dev nD) : Vec Ideal S65536x512 .f32 := zgRows (m ((c : Thread nD τ).loc main_arg0)) (m ((c : Thread nD τ).loc main_arg1)) (m ((c : Thread nD τ).loc main_arg2))

/-- The run of the call, its results in closed form and its arguments kept. -/
theorem run : θ_run defs (onTc (τ := τ) (main (F := Ideal))) ⟨m, fun _ => 0, ρ⟩ fun r => ∀ c : Dev nD,
      r.2.mem ((c : Thread nD τ).loc main_v22) = r_kHeads m c
      ∧ r.2.mem ((c : Thread nD τ).loc main_v25) = r_vHeads m c
      ∧ r.2.mem ((c : Thread nD τ).loc main_v27) = r_kidx m c
      ∧ r.2.mem ((c : Thread nD τ).loc main_v30) = r_conv m c
      ∧ r.2.mem ((c : Thread nD τ).loc main_v33) = r_q m c
      ∧ r.2.mem ((c : Thread nD τ).loc main_v36) = r_qi m c
      ∧ r.2.mem ((c : Thread nD τ).loc main_v19_1) = r_kRows m c
      ∧ r.2.mem ((c : Thread nD τ).loc main_v19_2) = r_vRows m c
      ∧ r.2.mem ((c : Thread nD τ).loc main_v19_3) = r_zaRows m c
      ∧ r.2.mem ((c : Thread nD τ).loc main_v37) = r_small m c
      ∧ r.2.mem ((c : Thread nD τ).loc main_v19_6) = r_qkvRows m c
      ∧ r.2.mem ((c : Thread nD τ).loc main_v19_7) = r_zgRows m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ⟨((h.1 c).2 main_v22 (Pipeline.mem_restRefs_of main_v22 (by decide) (by decide))).trans (tail_kHeads m c),
    ((h.1 c).2 main_v25 (Pipeline.mem_restRefs_of main_v25 (by decide) (by decide))).trans (tail_vHeads m c),
    ((h.1 c).2 main_v27 (Pipeline.mem_restRefs_of main_v27 (by decide) (by decide))).trans (tail_kidx m c),
    ((h.1 c).2 main_v30 (Pipeline.mem_restRefs_of main_v30 (by decide) (by decide))).trans (tail_conv m c),
    ((h.1 c).2 main_v33 (Pipeline.mem_restRefs_of main_v33 (by decide) (by decide))).trans (tail_q m c),
    ((h.1 c).2 main_v36 (Pipeline.mem_restRefs_of main_v36 (by decide) (by decide))).trans (tail_qi m c),
    ((h.1 c).1 4).trans ((final4 m c).trans (arr_kRows m c)),
    ((h.1 c).1 5).trans ((final5 m c).trans (arr_vRows m c)),
    ((h.1 c).1 6).trans ((final6 m c).trans (arr_zaRows m c)),
    ((h.1 c).2 main_v37 (Pipeline.mem_restRefs_of main_v37 (by decide) (by decide))).trans (tail_small m c),
    ((h.1 c).1 9).trans ((final9 m c).trans (arr_qkvRows m c)),
    ((h.1 c).1 10).trans ((final10 m c).trans (arr_zgRows m c)), h.2 c⟩) (θ_run_and (run_main m ρ) (unchanged m ρ))

end Cert.InProjIdeal.Val

namespace Cert.InProjClaim

open Idealize.ShloMosaic Idealize.SL.Sem

/-- The kernel and the plain program give the same results. -/
theorem algebraic : Cert.algebraic_InProjIdeal_InProjRefIdeal := by
  intro m g m' g' _ ha
  refine ⟨fun c => Cert.InProjIdeal.Val.r_kHeads m c, fun c => Cert.InProjIdeal.Val.r_vHeads m c, fun c => Cert.InProjIdeal.Val.r_kidx m c, fun c => Cert.InProjIdeal.Val.r_conv m c, fun c => Cert.InProjIdeal.Val.r_q m c, fun c => Cert.InProjIdeal.Val.r_qi m c, fun c => Cert.InProjIdeal.Val.r_kRows m c, fun c => Cert.InProjIdeal.Val.r_vRows m c, fun c => Cert.InProjIdeal.Val.r_zaRows m c, fun c => Cert.InProjIdeal.Val.r_small m c, fun c => Cert.InProjIdeal.Val.r_qkvRows m c, fun c => Cert.InProjIdeal.Val.r_zgRows m c,
    Cert.InProjIdeal.Val.run m g, ?_⟩
  refine (θ_run _ _ _).mono (fun r h c => ?_) (Cert.InProjRefIdeal.Value.run m' g')
  obtain ⟨h0, h1, h2, h3, h4, h5, h6, h7, h8, h9, h10, h11, h12⟩ := h c
  obtain ⟨a0, a1, a2⟩ := ha c
  have e0 := h0.trans ((Cert.InProjRefIdeal.Read.val_main_v40_eq _ _ _).trans (Cert.InProjRefIdeal.Val.ref_kHeads _ _ _))
  rw [a0, a1, a2] at e0
  have e1 := h1.trans ((Cert.InProjRefIdeal.Read.val_main_v41_eq _ _ _).trans (Cert.InProjRefIdeal.Val.ref_vHeads _ _ _))
  rw [a0, a1, a2] at e1
  have e2 := h2.trans ((Cert.InProjRefIdeal.Read.val_main_v42_eq _ _ _).trans (Cert.InProjRefIdeal.Val.ref_kidx _ _ _))
  rw [a0, a1, a2] at e2
  have e3 := h3.trans ((Cert.InProjRefIdeal.Read.val_main_v44_eq _ _ _).trans (Cert.InProjRefIdeal.Val.ref_conv _ _ _))
  rw [a0, a1, a2] at e3
  have e4 := h4.trans ((Cert.InProjRefIdeal.Read.val_main_v34_eq _ _ _).trans (Cert.InProjRefIdeal.Val.ref_q _ _ _))
  rw [a0, a1, a2] at e4
  have e5 := h5.trans ((Cert.InProjRefIdeal.Read.val_main_v38_eq _ _ _).trans (Cert.InProjRefIdeal.Val.ref_qi _ _ _))
  rw [a0, a1, a2] at e5
  have e6 := h6.trans ((Cert.InProjRefIdeal.Read.val_main_v45_eq _ _ _).trans (Cert.InProjRefIdeal.Val.ref_kRows _ _ _))
  rw [a0, a1, a2] at e6
  have e7 := h7.trans ((Cert.InProjRefIdeal.Read.val_main_v46_eq _ _ _).trans (Cert.InProjRefIdeal.Val.ref_vRows _ _ _))
  rw [a0, a1, a2] at e7
  have e8 := h8.trans ((Cert.InProjRefIdeal.Read.val_main_v47_eq _ _ _).trans (Cert.InProjRefIdeal.Val.ref_zaRows _ _ _))
  rw [a0, a1, a2] at e8
  have e9 := h9.trans ((Cert.InProjRefIdeal.Read.val_main_v48_eq _ _).trans (Cert.InProjRefIdeal.Val.ref_smallRows _ _ _))
  rw [a0, a1, a2] at e9
  have e10 := h10.trans ((Cert.InProjRefIdeal.Read.val_main_v49_eq _ _ _).trans (Cert.InProjRefIdeal.Val.ref_qkvRows _ _ _))
  rw [a0, a1, a2] at e10
  have e11 := h11.trans ((Cert.InProjRefIdeal.Read.val_main_v50_eq _ _ _).trans (Cert.InProjRefIdeal.Val.ref_zgRows _ _ _))
  rw [a0, a1, a2] at e11
  exact ⟨e0, e1, e2, e3, e4, e5, e6, e7, e8, e9, e10, e11, h12⟩

end Cert.InProjClaim
-- ==== Proof.InProjRows.Spec.lean ====
/- The input projection of the sample batch in closed form, over the extended reals: the same normalised row times a
   column of the weight, for 128 rows. Both programs of the claim about this call are read down to these functions. -/
module

public import proofs.«01_k».proof.Proof.InProj.Spec

@[expose] public section

set_option maxRecDepth 16384

noncomputable section

namespace Cert.InProjRowsSpec

open Idealize.ShloMosaic

open Cert.InProjSpec (proj small scale)

variable (x : (⟨3, ![128, 1, 1024]⟩ : Shape).Idx → EReal) (g : (⟨2, ![1, 1024]⟩ : Shape).Idx → EReal)
  (w : (⟨3, ![1, 1024, 4440]⟩ : Shape).Idx → EReal)

/-- Column `n` of the projection of row `b`. -/
def out (b : Fin 128) (n : Fin 4440) : EReal :=
  proj (fun k => x (ix3 b 0 k)) (fun k => g (ix2 0 k)) (fun k => w (ix3 0 k n))

/-! The nine results, as functions of the index. -/

def kHeads : (⟨5, ![1, 128, 1, 2, 64]⟩ : Shape).Idx → EReal := fun i =>
  out x g w (i 1) ⟨512 + (64 * (i 3).val + (i 4).val), by have : (i 3).val < 2 := (i 3).isLt; have : (i 4).val < 64 := (i 4).isLt; omega⟩
def vHeads : (⟨5, ![1, 128, 1, 2, 64]⟩ : Shape).Idx → EReal := fun i =>
  out x g w (i 1) ⟨640 + (64 * (i 3).val + (i 4).val), by have : (i 3).val < 2 := (i 3).isLt; have : (i 4).val < 64 := (i 4).isLt; omega⟩
def kidx : (⟨4, ![1, 128, 1, 64]⟩ : Shape).Idx → EReal := fun i =>
  out x g w (i 1) ⟨2304 + (i 3).val, by have : (i 3).val < 64 := (i 3).isLt; omega⟩
def q : (⟨2, ![128, 512]⟩ : Shape).Idx → EReal := fun i =>
  out x g w (i 0) ⟨(i 1).val, by have : (i 1).val < 512 := (i 1).isLt; omega⟩ * scale
def qi : (⟨2, ![128, 1024]⟩ : Shape).Idx → EReal := fun i =>
  out x g w (i 0) ⟨1280 + (i 1).val, by have : (i 1).val < 1024 := (i 1).isLt; omega⟩ * scale
def zaRows : (⟨2, ![128, 512]⟩ : Shape).Idx → EReal := fun i =>
  out x g w (i 0) ⟨768 + (i 1).val, by have : (i 1).val < 512 := (i 1).isLt; omega⟩
def smallRows : (⟨2, ![128, 88]⟩ : Shape).Idx → EReal := fun i => out x g w (i 0) (small (i 1))
def qkvRows : (⟨2, ![128, 1536]⟩ : Shape).Idx → EReal := fun i =>
  out x g w (i 0) ⟨2384 + (i 1).val, by have : (i 1).val < 1536 := (i 1).isLt; omega⟩
def zgRows : (⟨2, ![128, 512]⟩ : Shape).Idx → EReal := fun i =>
  out x g w (i 0) ⟨3920 + (i 1).val, by have : (i 1).val < 512 := (i 1).isLt; omega⟩

end Cert.InProjRowsSpec
-- ==== Proof.InProjRows.Kernel.lean ====
/- The input projection call of the sample batch: what its one grid step stores, each result array after the run, and the
   results after the host's last lines, in the closed forms of `InProjRows/Spec.lean`. -/
module

public import proofs.«01_k».proof.Proof.Gen.InProjRowsIdeal.Frame
public import proofs.«01_k».proof.Proof.InProj.Weights
public import proofs.«01_k».proof.Proof.InProjRows.Spec
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.InProjRowsIdeal.Val

open Cert.InProjRowsIdeal Cert.InProjRowsIdeal.Gen Idealize.ShloMosaic Idealize.ShloMosaic.TcCoe Idealize.SL.Sem
open Idealize.ShloMosaic.Pipeline (Dat)
open Cert.InProjSpec (normed proj small scale)
open Cert.InProjIdeal.Val (weight w_q w_k w_v w_za w_qi w_ki w_qkv w_zg w_small)
open Cert.InProjRowsSpec

section

variable (x0 : Vec Ideal S128x1024 .f32) (x1 : Vec Ideal S1x1024 .f32) (x2 : Vec Ideal S1024x4480 .bf16)

/-- Row `a` of the block, projected on column `j` of the reordered weight. -/
def P (a : Fin 128) (j : Fin 4480) : EReal := proj (fun k => x0 (ix2 a k)) (fun k => x1 (ix2 0 k)) (fun k => x2 (ix2 k j))

theorem p6 (a : Fin 128) (k : Fin 1024) : k0_pay6 x0 x1 (ix2 a k) = normed (fun k => x0 (ix2 a k)) (fun k => x1 (ix2 0 k)) k := by
  unfold normed
  pointwise [k0_pay6]

theorem p10 (a : Fin 128) (k : Fin 1024) : k0_pay10 x0 x1 x2 (ix2 a k) = normed (fun k => x0 (ix2 a k)) (fun k => x1 (ix2 0 k)) k := by
  unfold normed
  pointwise [k0_pay10, k0_pay6]

theorem pay_3 (a : Fin 128) (n : Fin 512) : @Eq EReal (k0_pay7 x0 x1 (View.ld x2 r0_2) (ix2 a n)) (P x0 x1 x2 a ⟨n.val, by omega⟩ * scale) := by
  unfold P proj scale
  simp only [← p6 x0 x1]
  unfold k0_pay7
  generalize k0_pay6 x0 x1 = y
  pointwise

theorem pay_4 (a : Fin 128) (n : Fin 128) : @Eq EReal (k0_pay9 x0 x1 (View.ld x2 r0_5) (ix2 a n)) (P x0 x1 x2 a ⟨512 + n.val, by omega⟩) := by
  unfold P proj
  simp only [← p6 x0 x1]
  unfold k0_pay9
  generalize k0_pay6 x0 x1 = y
  pointwise

theorem pay_5 (a : Fin 128) (n : Fin 128) : @Eq EReal (k0_pay1 (k0_pay10 x0 x1 x2) (View.ld x2 r0_6) (ix2 a n)) (P x0 x1 x2 a ⟨640 + n.val, by omega⟩) := by
  unfold P proj
  simp only [← p10 x0 x1 x2]
  unfold k0_pay1
  generalize k0_pay10 x0 x1 x2 = y
  pointwise

theorem pay_6 (a : Fin 128) (n : Fin 512) : @Eq EReal (k0_pay3 (k0_pay10 x0 x1 x2) (View.ld x2 r0_9) (ix2 a n)) (P x0 x1 x2 a ⟨768 + n.val, by omega⟩) := by
  unfold P proj
  simp only [← p10 x0 x1 x2]
  unfold k0_pay3
  generalize k0_pay10 x0 x1 x2 = y
  pointwise

theorem pay_7 (a : Fin 128) (n : Fin 1024) : @Eq EReal (k0_pay8 x0 x1 (View.ld x2 r0_3) (ix2 a n)) (P x0 x1 x2 a ⟨1280 + n.val, by omega⟩ * scale) := by
  unfold P proj scale
  simp only [← p6 x0 x1]
  unfold k0_pay8
  generalize k0_pay6 x0 x1 = y
  pointwise

theorem pay_8 (a : Fin 128) (n : Fin 128) : @Eq EReal (k0_pay2 (k0_pay10 x0 x1 x2) (View.ld x2 r0_7) (ix2 a n)) (P x0 x1 x2 a ⟨2304 + n.val, by omega⟩) := by
  unfold P proj
  simp only [← p10 x0 x1 x2]
  unfold k0_pay2
  generalize k0_pay10 x0 x1 x2 = y
  pointwise

theorem pay_9 (a : Fin 128) (n : Fin 1536) : @Eq EReal (k0_pay4 (k0_pay10 x0 x1 x2) (View.ld x2 r0_10) (ix2 a n)) (P x0 x1 x2 a ⟨2432 + n.val, by omega⟩) := by
  unfold P proj
  simp only [← p10 x0 x1 x2]
  unfold k0_pay4
  generalize k0_pay10 x0 x1 x2 = y
  pointwise

theorem pay_10 (a : Fin 128) (n : Fin 512) : @Eq EReal (k0_pay5 (k0_pay10 x0 x1 x2) (View.ld x2 r0_12) (ix2 a n)) (P x0 x1 x2 a ⟨3968 + n.val, by omega⟩) := by
  unfold P proj
  simp only [← p10 x0 x1 x2]
  unfold k0_pay5
  generalize k0_pay10 x0 x1 x2 = y
  pointwise

end

variable (m : (ℓ : Loc nD τ sig) → Buf (Elt Ideal) ℓ) (ρ : Dev nD → PrngReg)

/-- The one grid step stages each array whole. -/
theorem idx : ∀ t : Fin cfg0.grid.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0] := by
  decide +kernel

/-! What the host hands to the call. -/

theorem V_main_v16 (c : Dev nD) (i : S128x1024.Idx) : V m c main_v16 i = m ((c : Thread nD τ).loc main_arg0) (ix3 (i 0) 0 (i 1)) := by
  show StableHlo.after hostOps0 _ (Proc.devRef .tc main_v16) i = _
  after_results
  pointwise

theorem V_main_v18 (c : Dev nD) (i : S1x1024.Idx) : V m c main_v18 i = m ((c : Thread nD τ).loc main_arg1) (ix2 0 (i 1)) := by
  show StableHlo.after hostOps0 _ (Proc.devRef .tc main_v18) i = _
  after_results
  pointwise

theorem V_main_v15 (c : Dev nD) : V m c main_v15 = weight (m ((c : Thread nD τ).loc main_arg2)) := by
  show StableHlo.after hostOps0 _ (Proc.devRef .tc main_v15) = _
  rfl

theorem blk0 (c : Dev nD) (t : Fin cfg0.grid.N) (a : Fin 128) (k : Fin 1024) : iblk m c 0 t (ix2 a k) = m ((c : Thread nD τ).loc main_arg0) (ix3 a 0 k) := by
  have h : iblk m c 0 t (ix2 a k) = V m c main_v16 (ix2 a k) := by blk_ext [iblk, idx t]
  exact h.trans (V_main_v16 m c _)

theorem blk1 (c : Dev nD) (t : Fin cfg0.grid.N) (a : Fin 1) (k : Fin 1024) : iblk m c 1 t (ix2 a k) = m ((c : Thread nD τ).loc main_arg1) (ix2 0 k) := by
  have h : iblk m c 1 t (ix2 a k) = V m c main_v18 (ix2 a k) := by blk_ext [iblk, idx t]
  exact h.trans (V_main_v18 m c _)

theorem blk2 (c : Dev nD) (t : Fin cfg0.grid.N) (k : Fin 1024) (j : Fin 4480) : iblk m c 2 t (ix2 k j) = weight (m ((c : Thread nD τ).loc main_arg2)) (ix2 k j) := by
  have h : iblk m c 2 t (ix2 k j) = V m c main_v15 (ix2 k j) := by blk_ext [iblk, idx t]
  exact h.trans (congrFun (V_main_v15 m c) _)

/-- Row `r`, projected on column `j` of the reordered weight. -/
def R (c : Dev nD) (r : Fin 128) (j : Fin 4480) : EReal :=
  proj (fun k => (m ((c : Thread nD τ).loc main_arg0)) (ix3 r 0 k)) (fun k => (m ((c : Thread nD τ).loc main_arg1)) (ix2 0 k)) (fun k => weight (m ((c : Thread nD τ).loc main_arg2)) (ix2 k j))

theorem P_blk (c : Dev nD) (t : Fin cfg0.grid.N) (a : Fin 128) (j : Fin 4480) :
    P (iblk m c 0 t) (iblk m c 1 t) (iblk m c 2 t) a j = R m c a j := by
  unfold P R
  simp only [blk0, blk1, blk2]

/-- A column of the call's weight that is column `n` of the weight given. -/
theorem R_eq (c : Dev nD) (r : Fin 128) (j : Fin 4480) (n : Fin 4440) (h : ∀ k, weight (m ((c : Thread nD τ).loc main_arg2)) (ix2 k j) = (m ((c : Thread nD τ).loc main_arg2)) (ix3 0 k n)) :
    R m c r j = out (m ((c : Thread nD τ).loc main_arg0)) (m ((c : Thread nD τ).loc main_arg1)) (m ((c : Thread nD τ).loc main_arg2)) r n := by
  unfold R out
  simp only [h]

/-! The result arrays after the run. -/

theorem emb3 (t : Fin cfg0.grid.N) (a : Fin 128) (n : Fin 512) : ((View.whole main_v19_0).slice (win0_3.rect t)).emb (ix2 a n) = ix2 a n := by
  blk_ext [idx t]

def G3 (c : Dev nD) : Vec Ideal S128x512 .bf16 := fun i => R m c (i 0) ⟨(i 1).val, by have : (i 1).val < 512 := (i 1).isLt; omega⟩ * scale

theorem final3 (c : Dev nD) : (dats m 0 c).arrAt 3 cfg0.N = G3 m c := by
  refine (dats m 0 c).arrAt_eq_of_covers 3 _ (by decide +kernel) fun t hf y => ?_
  blk_simp
  rw [after0_3]
  frame_out
  obtain ⟨a, n, rfl⟩ : ∃ (a : Fin 128) (n : Fin 512), y = ix2 a n := ⟨y 0, y 1, eq_ix2 y⟩
  rw [emb3]
  exact (pay_3 _ _ _ a n).trans (congrArg (· * scale) (P_blk m c t a _))

theorem emb4 (t : Fin cfg0.grid.N) (a : Fin 128) (n : Fin 128) : ((View.whole main_v19_1).slice (win0_4.rect t)).emb (ix2 a n) = ix2 a n := by
  blk_ext [idx t]

def G4 (c : Dev nD) : Vec Ideal S128x128 .f32 := fun i => R m c (i 0) ⟨512 + (i 1).val, by have : (i 1).val < 128 := (i 1).isLt; omega⟩

theorem final4 (c : Dev nD) : (dats m 0 c).arrAt 4 cfg0.N = G4 m c := by
  refine (dats m 0 c).arrAt_eq_of_covers 4 _ (by decide +kernel) fun t hf y => ?_
  blk_simp
  rw [after0_4]
  frame_out
  obtain ⟨a, n, rfl⟩ : ∃ (a : Fin 128) (n : Fin 128), y = ix2 a n := ⟨y 0, y 1, eq_ix2 y⟩
  rw [emb4]
  exact (pay_4 _ _ _ a n).trans (P_blk m c t a _)

theorem emb5 (t : Fin cfg0.grid.N) (a : Fin 128) (n : Fin 128) : ((View.whole main_v19_2).slice (win0_5.rect t)).emb (ix2 a n) = ix2 a n := by
  blk_ext [idx t]

def G5 (c : Dev nD) : Vec Ideal S128x128 .f32 := fun i => R m c (i 0) ⟨640 + (i 1).val, by have : (i 1).val < 128 := (i 1).isLt; omega⟩

theorem final5 (c : Dev nD) : (dats m 0 c).arrAt 5 cfg0.N = G5 m c := by
  refine (dats m 0 c).arrAt_eq_of_covers 5 _ (by decide +kernel) fun t hf y => ?_
  blk_simp
  rw [after0_5]
  frame_out
  obtain ⟨a, n, rfl⟩ : ∃ (a : Fin 128) (n : Fin 128), y = ix2 a n := ⟨y 0, y 1, eq_ix2 y⟩
  rw [emb5]
  exact (pay_5 _ _ _ a n).trans (P_blk m c t a _)

theorem emb6 (t : Fin cfg0.grid.N) (a : Fin 128) (n : Fin 512) : ((View.whole main_v19_3).slice (win0_6.rect t)).emb (ix2 a n) = ix2 a n := by
  blk_ext [idx t]

def G6 (c : Dev nD) : Vec Ideal S128x512 .f32 := fun i => R m c (i 0) ⟨768 + (i 1).val, by have : (i 1).val < 512 := (i 1).isLt; omega⟩

theorem final6 (c : Dev nD) : (dats m 0 c).arrAt 6 cfg0.N = G6 m c := by
  refine (dats m 0 c).arrAt_eq_of_covers 6 _ (by decide +kernel) fun t hf y => ?_
  blk_simp
  rw [after0_6]
  frame_out
  obtain ⟨a, n, rfl⟩ : ∃ (a : Fin 128) (n : Fin 512), y = ix2 a n := ⟨y 0, y 1, eq_ix2 y⟩
  rw [emb6]
  exact (pay_6 _ _ _ a n).trans (P_blk m c t a _)

theorem emb7 (t : Fin cfg0.grid.N) (a : Fin 128) (n : Fin 1024) : ((View.whole main_v19_4).slice (win0_7.rect t)).emb (ix2 a n) = ix2 a n := by
  blk_ext [idx t]

def G7 (c : Dev nD) : Vec Ideal S128x1024 .bf16 := fun i => R m c (i 0) ⟨1280 + (i 1).val, by have : (i 1).val < 1024 := (i 1).isLt; omega⟩ * scale

theorem final7 (c : Dev nD) : (dats m 0 c).arrAt 7 cfg0.N = G7 m c := by
  refine (dats m 0 c).arrAt_eq_of_covers 7 _ (by decide +kernel) fun t hf y => ?_
  blk_simp
  rw [after0_7]
  frame_out
  obtain ⟨a, n, rfl⟩ : ∃ (a : Fin 128) (n : Fin 1024), y = ix2 a n := ⟨y 0, y 1, eq_ix2 y⟩
  rw [emb7]
  exact (pay_7 _ _ _ a n).trans (congrArg (· * scale) (P_blk m c t a _))

theorem emb8 (t : Fin cfg0.grid.N) (a : Fin 128) (n : Fin 128) : ((View.whole main_v19_5).slice (win0_8.rect t)).emb (ix2 a n) = ix2 a n := by
  blk_ext [idx t]

def G8 (c : Dev nD) : Vec Ideal S128x128 .f32 := fun i => R m c (i 0) ⟨2304 + (i 1).val, by have : (i 1).val < 128 := (i 1).isLt; omega⟩

theorem final8 (c : Dev nD) : (dats m 0 c).arrAt 8 cfg0.N = G8 m c := by
  refine (dats m 0 c).arrAt_eq_of_covers 8 _ (by decide +kernel) fun t hf y => ?_
  blk_simp
  rw [after0_8]
  frame_out
  obtain ⟨a, n, rfl⟩ : ∃ (a : Fin 128) (n : Fin 128), y = ix2 a n := ⟨y 0, y 1, eq_ix2 y⟩
  rw [emb8]
  exact (pay_8 _ _ _ a n).trans (P_blk m c t a _)

theorem emb9 (t : Fin cfg0.grid.N) (a : Fin 128) (n : Fin 1536) : ((View.whole main_v19_6).slice (win0_9.rect t)).emb (ix2 a n) = ix2 a n := by
  blk_ext [idx t]

def G9 (c : Dev nD) : Vec Ideal S128x1536 .f32 := fun i => R m c (i 0) ⟨2432 + (i 1).val, by have : (i 1).val < 1536 := (i 1).isLt; omega⟩

theorem final9 (c : Dev nD) : (dats m 0 c).arrAt 9 cfg0.N = G9 m c := by
  refine (dats m 0 c).arrAt_eq_of_covers 9 _ (by decide +kernel) fun t hf y => ?_
  blk_simp
  rw [after0_9]
  frame_out
  obtain ⟨a, n, rfl⟩ : ∃ (a : Fin 128) (n : Fin 1536), y = ix2 a n := ⟨y 0, y 1, eq_ix2 y⟩
  rw [emb9]
  exact (pay_9 _ _ _ a n).trans (P_blk m c t a _)

theorem emb10 (t : Fin cfg0.grid.N) (a : Fin 128) (n : Fin 512) : ((View.whole main_v19_7).slice (win0_10.rect t)).emb (ix2 a n) = ix2 a n := by
  blk_ext [idx t]

def G10 (c : Dev nD) : Vec Ideal S128x512 .f32 := fun i => R m c (i 0) ⟨3968 + (i 1).val, by have : (i 1).val < 512 := (i 1).isLt; omega⟩

theorem final10 (c : Dev nD) : (dats m 0 c).arrAt 10 cfg0.N = G10 m c := by
  refine (dats m 0 c).arrAt_eq_of_covers 10 _ (by decide +kernel) fun t hf y => ?_
  blk_simp
  rw [after0_10]
  frame_out
  obtain ⟨a, n, rfl⟩ : ∃ (a : Fin 128) (n : Fin 512), y = ix2 a n := ⟨y 0, y 1, eq_ix2 y⟩
  rw [emb10]
  exact (pay_10 _ _ _ a n).trans (P_blk m c t a _)

/-! The results. -/

theorem arr_q (c : Dev nD) : @Eq (S128x512.Idx → EReal) (G3 m c) (q (m ((c : Thread nD τ).loc main_arg0)) (m ((c : Thread nD τ).loc main_arg1)) (m ((c : Thread nD τ).loc main_arg2))) := by
  funext i
  obtain ⟨r, n, rfl⟩ : ∃ (r : Fin 128) (n : Fin 512), i = ix2 r n := ⟨i 0, i 1, eq_ix2 i⟩
  exact congrArg (· * scale) (R_eq m c r _ ⟨n.val, by omega⟩ fun k => w_q (m ((c : Thread nD τ).loc main_arg2)) k n)

theorem arr_qi (c : Dev nD) : @Eq (S128x1024.Idx → EReal) (G7 m c) (qi (m ((c : Thread nD τ).loc main_arg0)) (m ((c : Thread nD τ).loc main_arg1)) (m ((c : Thread nD τ).loc main_arg2))) := by
  funext i
  obtain ⟨r, n, rfl⟩ : ∃ (r : Fin 128) (n : Fin 1024), i = ix2 r n := ⟨i 0, i 1, eq_ix2 i⟩
  exact congrArg (· * scale) (R_eq m c r _ ⟨1280 + n.val, by omega⟩ fun k => w_qi (m ((c : Thread nD τ).loc main_arg2)) k n)

theorem arr_zaRows (c : Dev nD) : @Eq (S128x512.Idx → EReal) (G6 m c) (zaRows (m ((c : Thread nD τ).loc main_arg0)) (m ((c : Thread nD τ).loc main_arg1)) (m ((c : Thread nD τ).loc main_arg2))) := by
  funext i
  obtain ⟨r, n, rfl⟩ : ∃ (r : Fin 128) (n : Fin 512), i = ix2 r n := ⟨i 0, i 1, eq_ix2 i⟩
  exact R_eq m c r _ ⟨768 + n.val, by omega⟩ fun k => w_za (m ((c : Thread nD τ).loc main_arg2)) k n

theorem arr_qkvRows (c : Dev nD) : @Eq (S128x1536.Idx → EReal) (G9 m c) (qkvRows (m ((c : Thread nD τ).loc main_arg0)) (m ((c : Thread nD τ).loc main_arg1)) (m ((c : Thread nD τ).loc main_arg2))) := by
  funext i
  obtain ⟨r, n, rfl⟩ : ∃ (r : Fin 128) (n : Fin 1536), i = ix2 r n := ⟨i 0, i 1, eq_ix2 i⟩
  exact R_eq m c r _ ⟨2384 + n.val, by omega⟩ fun k => w_qkv (m ((c : Thread nD τ).loc main_arg2)) k n

theorem arr_zgRows (c : Dev nD) : @Eq (S128x512.Idx → EReal) (G10 m c) (zgRows (m ((c : Thread nD τ).loc main_arg0)) (m ((c : Thread nD τ).loc main_arg1)) (m ((c : Thread nD τ).loc main_arg2))) := by
  funext i
  obtain ⟨r, n, rfl⟩ : ∃ (r : Fin 128) (n : Fin 512), i = ix2 r n := ⟨i 0, i 1, eq_ix2 i⟩
  exact R_eq m c r _ ⟨3920 + n.val, by omega⟩ fun k => w_zg (m ((c : Thread nD τ).loc main_arg2)) k n

theorem lay_heads (y : Vec Ideal S128x128 .f32) (a : Fin 1) (b : Fin 128) (s : Fin 1) (h : Fin 2) (d : Fin 64) :
    shapeCast S1x128x1x2x64 y shapeCasts_S128x128_S1x128x1x2x64 (ix5 a b s h d) = y (ix2 b ⟨64 * h.val + d.val, by omega⟩) := by
  pointwise
  try simp only [mul_comm]

theorem lay_kidx (y : Vec Ideal S128x128 .f32) (a : Fin 1) (b : Fin 128) (s : Fin 1) (d : Fin 64) :
    shapeCast S1x128x1x64 (extractStridedSlice S128x64 ![0, 0] y slices_S128x128_S128x64_0_0) shapeCasts_S128x64_S1x128x1x64 (ix4 a b s d)
      = y (ix2 b ⟨d.val, by omega⟩) := by
  pointwise

theorem lay_small (y : Vec Ideal S128x128 .f32) (b : Fin 128) (n : Fin 88) :
    extractStridedSlice S128x88 ![0, 0] y slices_S128x128_S128x88_0_0 (ix2 b n) = y (ix2 b ⟨n.val, by omega⟩) := by
  pointwise

theorem tail_kHeads (c : Dev nD) : Pipeline.afterTail₀ cfgs (dats m) 0 (V0 m) [hostOps1] c main_v20 = kHeads (m ((c : Thread nD τ).loc main_arg0)) (m ((c : Thread nD τ).loc main_arg1)) (m ((c : Thread nD τ).loc main_arg2)) := by
  have h : Pipeline.afterTail₀ cfgs (dats m) 0 (V0 m) [hostOps1] c main_v20 = shapeCast S1x128x1x2x64 (G4 m c) shapeCasts_S128x128_S1x128x1x2x64 := by
    unfold Pipeline.afterTail₀
    show StableHlo.after hostOps1 _ (Proc.devRef .tc main_v20) = _
    after_results
    rw [Pipeline.withArrays_arr spec0 launch0.win.arr_inj (w := 4)]
    rw [← final4]
    rfl
  rw [h]
  funext i
  obtain ⟨a, b, s, h, d, rfl⟩ : ∃ (a : Fin 1) (b : Fin 128) (s : Fin 1) (h : Fin 2) (d : Fin 64), i = ix5 a b s h d := ⟨i 0, i 1, i 2, i 3, i 4, eq_ix5 i⟩
  refine (lay_heads _ a b s h d).trans ?_
  exact R_eq m c b _ ⟨512 + (64 * h.val + d.val), by omega⟩ fun k => w_k (m ((c : Thread nD τ).loc main_arg2)) k ⟨64 * h.val + d.val, by omega⟩

theorem tail_vHeads (c : Dev nD) : Pipeline.afterTail₀ cfgs (dats m) 0 (V0 m) [hostOps1] c main_v21 = vHeads (m ((c : Thread nD τ).loc main_arg0)) (m ((c : Thread nD τ).loc main_arg1)) (m ((c : Thread nD τ).loc main_arg2)) := by
  have h : Pipeline.afterTail₀ cfgs (dats m) 0 (V0 m) [hostOps1] c main_v21 = shapeCast S1x128x1x2x64 (G5 m c) shapeCasts_S128x128_S1x128x1x2x64 := by
    unfold Pipeline.afterTail₀
    show StableHlo.after hostOps1 _ (Proc.devRef .tc main_v21) = _
    after_results
    rw [Pipeline.withArrays_arr spec0 launch0.win.arr_inj (w := 5)]
    rw [← final5]
    rfl
  rw [h]
  funext i
  obtain ⟨a, b, s, h, d, rfl⟩ : ∃ (a : Fin 1) (b : Fin 128) (s : Fin 1) (h : Fin 2) (d : Fin 64), i = ix5 a b s h d := ⟨i 0, i 1, i 2, i 3, i 4, eq_ix5 i⟩
  refine (lay_heads _ a b s h d).trans ?_
  exact R_eq m c b _ ⟨640 + (64 * h.val + d.val), by omega⟩ fun k => w_v (m ((c : Thread nD τ).loc main_arg2)) k ⟨64 * h.val + d.val, by omega⟩

theorem tail_kidx (c : Dev nD) : Pipeline.afterTail₀ cfgs (dats m) 0 (V0 m) [hostOps1] c main_v23 = kidx (m ((c : Thread nD τ).loc main_arg0)) (m ((c : Thread nD τ).loc main_arg1)) (m ((c : Thread nD τ).loc main_arg2)) := by
  have h : Pipeline.afterTail₀ cfgs (dats m) 0 (V0 m) [hostOps1] c main_v23 = shapeCast S1x128x1x64 (extractStridedSlice S128x64 ![0, 0] (G8 m c) slices_S128x128_S128x64_0_0) shapeCasts_S128x64_S1x128x1x64 := by
    unfold Pipeline.afterTail₀
    show StableHlo.after hostOps1 _ (Proc.devRef .tc main_v23) = _
    after_results
    rw [Pipeline.withArrays_arr spec0 launch0.win.arr_inj (w := 8)]
    rw [← final8]
    rfl
  rw [h]
  funext i
  obtain ⟨a, b, s, d, rfl⟩ : ∃ (a : Fin 1) (b : Fin 128) (s : Fin 1) (d : Fin 64), i = ix4 a b s d := ⟨i 0, i 1, i 2, i 3, eq_ix4 i⟩
  refine (lay_kidx _ a b s d).trans ?_
  exact R_eq m c b _ ⟨2304 + d.val, by omega⟩ fun k => w_ki (m ((c : Thread nD τ).loc main_arg2)) k d

theorem tail_smallRows (c : Dev nD) : Pipeline.afterTail₀ cfgs (dats m) 0 (V0 m) [hostOps1] c main_v24 = smallRows (m ((c : Thread nD τ).loc main_arg0)) (m ((c : Thread nD τ).loc main_arg1)) (m ((c : Thread nD τ).loc main_arg2)) := by
  have h : Pipeline.afterTail₀ cfgs (dats m) 0 (V0 m) [hostOps1] c main_v24 = extractStridedSlice S128x88 ![0, 0] (G8 m c) slices_S128x128_S128x88_0_0 := by
    unfold Pipeline.afterTail₀
    show StableHlo.after hostOps1 _ (Proc.devRef .tc main_v24) = _
    after_results
    rw [Pipeline.withArrays_arr spec0 launch0.win.arr_inj (w := 8)]
    rw [← final8]
  rw [h]
  funext i
  obtain ⟨b, n, rfl⟩ : ∃ (b : Fin 128) (n : Fin 88), i = ix2 b n := ⟨i 0, i 1, eq_ix2 i⟩
  refine (lay_small _ b n).trans ?_
  exact R_eq m c b _ (small n) fun k => w_small (m ((c : Thread nD τ).loc main_arg2)) k n

end Cert.InProjRowsIdeal.Val
-- ==== Proof.InProjRows.Reference.lean ====
/- The plain program of the input projection of the sample batch, read down to the closed forms of `InProjRows/Spec.lean`. -/
module

public import proofs.«01_k».proof.Proof.Gen.InProjRowsRefIdeal.Read
public import proofs.«01_k».proof.Proof.InProjRows.Spec
public import Idealize.ShloMosaic.Lib.Pipeline.ValueKit
public import Idealize.ShloMosaic.Lib.Pointwise
public import Idealize.ShloMosaic.Lib.Tactic.CleanTypes

@[expose] public section

set_option maxRecDepth 16384

noncomputable section

namespace Cert.InProjRowsRefIdeal.Val

open Cert.InProjRowsRefIdeal Cert.InProjRowsRefIdeal.Gen Cert.InProjRowsRefIdeal.Read Idealize.ShloMosaic Idealize.ShloMosaic.TcCoe Idealize.SL.Sem
open Cert.InProjSpec (normed small scale)
open Cert.InProjRowsSpec

variable (x0 : Vec Ideal S128x1x1024 .f32) (x1 : Vec Ideal S1x1024 .f32) (x2 : Vec Ideal S1x1024x4440 .f32)

theorem v0 (k : Fin 1024) : (val_main_v0 (F := Ideal) x1) (ix1 k) = x1 (ix2 0 k) := by
  unfold val_main_v0
  pointwise

theorem v1 (k : Fin 1024) (n : Fin 4440) : (val_main_v1 (F := Ideal) x2) (ix2 k n) = x2 (ix3 0 k n) := by
  unfold val_main_v1
  pointwise

theorem v3 (b : Fin 128) : (val_main_v3 (F := Ideal) x0) (ix2 b 0) = ∑ k : Fin 1024, x0 (ix3 b 0 k) * x0 (ix3 b 0 k) := by
  unfold val_main_v3 val_main_v2 val_main_cst
  pointwise

theorem v4 (b : Fin 128) : (val_main_v4 (F := Ideal) x0) (ix3 b 0 0) = (val_main_v3 (F := Ideal) x0) (ix2 b 0) := by
  unfold val_main_v4
  generalize val_main_v3 (F := Ideal) x0 = yv3
  clean_types
  pointwise

theorem v9 (b : Fin 128) : (val_main_v9 (F := Ideal) x0) (ix3 b 0 0)
    = Ideal.rsqrt (Ideal.div ((val_main_v3 (F := Ideal) x0) (ix2 b 0)) (Ideal.ofBits FTy.f32 0x44800000#32) + Ideal.ofBits FTy.f32 0x358637BD#32) := by
  rw [← v4 x0]
  unfold val_main_v9 val_main_v8 val_main_v7 val_main_v6 val_main_v5 val_main_cst_0 val_main_cst_1
  generalize (val_main_v4 (F := Ideal) x0) = y
  pointwise

theorem v10 (b : Fin 128)(k : Fin 1024) : (val_main_v10 (F := Ideal) x0) (ix3 b 0 k) = (val_main_v9 (F := Ideal) x0) (ix3 b 0 0) := by
  unfold val_main_v10
  generalize val_main_v9 (F := Ideal) x0 = yv9
  clean_types
  pointwise

theorem v12 (k : Fin 1024) : (val_main_v12 (F := Ideal) x1) (ix3 0 0 k) = (val_main_v0 (F := Ideal) x1) (ix1 k) := by
  unfold val_main_v12
  generalize val_main_v0 (F := Ideal) x1 = yv0
  clean_types
  pointwise

theorem v13 (b : Fin 128)(k : Fin 1024) : (val_main_v13 (F := Ideal) x1) (ix3 b 0 k) = (val_main_v12 (F := Ideal) x1) (ix3 0 0 k) := by
  unfold val_main_v13
  generalize val_main_v12 (F := Ideal) x1 = yv12
  clean_types
  pointwise

theorem v14 (b : Fin 128) (k : Fin 1024) : (val_main_v14 (F := Ideal) x0 x1) (ix3 b 0 k) = normed (fun k => x0 (ix3 b 0 k)) (fun k => x1 (ix2 0 k)) k := by
  rw [val_main_v14_apply, val_main_v11_apply, v10, v9, v3, v13, v12, v0]; rfl

theorem v15 (b : Fin 128) (n : Fin 4440) : (val_main_v15 (F := Ideal) x0 x1 x2) (ix3 b 0 n) = ∑ k : Fin 1024, (val_main_v14 (F := Ideal) x0 x1) (ix3 b 0 k) * (val_main_v1 (F := Ideal) x2) (ix2 k n) := by
  unfold val_main_v15
  generalize val_main_v14 (F := Ideal) x0 x1 = yv14
  generalize val_main_v1 (F := Ideal) x2 = yv1
  pointwise

theorem v15' (b : Fin 128) (n : Fin 4440) : (val_main_v15 (F := Ideal) x0 x1 x2) (ix3 b 0 n) = out x0 x1 x2 b n := by
  rw [v15]
  simp only [v14, v1]
  rfl

theorem v16 (b : Fin 128) (n : Fin 512) : (val_main_v16 (F := Ideal) x0 x1 x2) (ix3 b 0 n) = (val_main_v15 (F := Ideal) x0 x1 x2) (ix3 b 0 ⟨n.val, by omega⟩) := by
  unfold val_main_v16
  generalize val_main_v15 (F := Ideal) x0 x1 x2 = yv15
  clean_types
  pointwise

theorem v17 (b : Fin 128) (n : Fin 128) : (val_main_v17 (F := Ideal) x0 x1 x2) (ix3 b 0 n) = (val_main_v15 (F := Ideal) x0 x1 x2) (ix3 b 0 ⟨512 + n.val, by omega⟩) := by
  unfold val_main_v17
  generalize val_main_v15 (F := Ideal) x0 x1 x2 = yv15
  clean_types
  pointwise

theorem v18 (b : Fin 128) (n : Fin 128) : (val_main_v18 (F := Ideal) x0 x1 x2) (ix3 b 0 n) = (val_main_v15 (F := Ideal) x0 x1 x2) (ix3 b 0 ⟨640 + n.val, by omega⟩) := by
  unfold val_main_v18
  generalize val_main_v15 (F := Ideal) x0 x1 x2 = yv15
  clean_types
  pointwise

theorem v19 (b : Fin 128) (n : Fin 512) : (val_main_v19 (F := Ideal) x0 x1 x2) (ix3 b 0 n) = (val_main_v15 (F := Ideal) x0 x1 x2) (ix3 b 0 ⟨768 + n.val, by omega⟩) := by
  unfold val_main_v19
  generalize val_main_v15 (F := Ideal) x0 x1 x2 = yv15
  clean_types
  pointwise

theorem v20 (b : Fin 128) (n : Fin 1024) : (val_main_v20 (F := Ideal) x0 x1 x2) (ix3 b 0 n) = (val_main_v15 (F := Ideal) x0 x1 x2) (ix3 b 0 ⟨1280 + n.val, by omega⟩) := by
  unfold val_main_v20
  generalize val_main_v15 (F := Ideal) x0 x1 x2 = yv15
  clean_types
  pointwise

theorem v21 (b : Fin 128) (n : Fin 64) : (val_main_v21 (F := Ideal) x0 x1 x2) (ix3 b 0 n) = (val_main_v15 (F := Ideal) x0 x1 x2) (ix3 b 0 ⟨2304 + n.val, by omega⟩) := by
  unfold val_main_v21
  generalize val_main_v15 (F := Ideal) x0 x1 x2 = yv15
  clean_types
  pointwise

theorem v22 (b : Fin 128) (n : Fin 16) : (val_main_v22 (F := Ideal) x0 x1 x2) (ix3 b 0 n) = (val_main_v15 (F := Ideal) x0 x1 x2) (ix3 b 0 ⟨2368 + n.val, by omega⟩) := by
  unfold val_main_v22
  generalize val_main_v15 (F := Ideal) x0 x1 x2 = yv15
  clean_types
  pointwise

theorem v23 (b : Fin 128) (n : Fin 1536) : (val_main_v23 (F := Ideal) x0 x1 x2) (ix3 b 0 n) = (val_main_v15 (F := Ideal) x0 x1 x2) (ix3 b 0 ⟨2384 + n.val, by omega⟩) := by
  unfold val_main_v23
  generalize val_main_v15 (F := Ideal) x0 x1 x2 = yv15
  clean_types
  pointwise

theorem v24 (b : Fin 128) (n : Fin 512) : (val_main_v24 (F := Ideal) x0 x1 x2) (ix3 b 0 n) = (val_main_v15 (F := Ideal) x0 x1 x2) (ix3 b 0 ⟨3920 + n.val, by omega⟩) := by
  unfold val_main_v24
  generalize val_main_v15 (F := Ideal) x0 x1 x2 = yv15
  clean_types
  pointwise

theorem v25 (b : Fin 128) (n : Fin 4) : (val_main_v25 (F := Ideal) x0 x1 x2) (ix3 b 0 n) = (val_main_v15 (F := Ideal) x0 x1 x2) (ix3 b 0 ⟨4432 + n.val, by omega⟩) := by
  unfold val_main_v25
  generalize val_main_v15 (F := Ideal) x0 x1 x2 = yv15
  clean_types
  pointwise

theorem v26 (b : Fin 128) (n : Fin 4) : (val_main_v26 (F := Ideal) x0 x1 x2) (ix3 b 0 n) = (val_main_v15 (F := Ideal) x0 x1 x2) (ix3 b 0 ⟨4436 + n.val, by omega⟩) := by
  unfold val_main_v26
  generalize val_main_v15 (F := Ideal) x0 x1 x2 = yv15
  clean_types
  pointwise

theorem v27 (b : Fin 128) (h : Fin 8) (d : Fin 64) : (val_main_v27 (F := Ideal) x0 x1 x2) (ix4 b 0 h d) = (val_main_v16 (F := Ideal) x0 x1 x2) (ix3 b 0 ⟨64 * h.val + d.val, by omega⟩) := by
  unfold val_main_v27
  generalize val_main_v16 (F := Ideal) x0 x1 x2 = yv16
  clean_types
  pointwise
  try simp only [mul_comm]

theorem v28 (b : Fin 128) (h : Fin 2) (d : Fin 64) : (val_main_v28 (F := Ideal) x0 x1 x2) (ix4 b 0 h d) = (val_main_v17 (F := Ideal) x0 x1 x2) (ix3 b 0 ⟨64 * h.val + d.val, by omega⟩) := by
  unfold val_main_v28
  generalize val_main_v17 (F := Ideal) x0 x1 x2 = yv17
  clean_types
  pointwise
  try simp only [mul_comm]

theorem v29 (b : Fin 128) (h : Fin 2) (d : Fin 64) : (val_main_v29 (F := Ideal) x0 x1 x2) (ix4 b 0 h d) = (val_main_v18 (F := Ideal) x0 x1 x2) (ix3 b 0 ⟨64 * h.val + d.val, by omega⟩) := by
  unfold val_main_v29
  generalize val_main_v18 (F := Ideal) x0 x1 x2 = yv18
  clean_types
  pointwise
  try simp only [mul_comm]

theorem v30 (b : Fin 128) (h : Fin 16) (d : Fin 64) : (val_main_v30 (F := Ideal) x0 x1 x2) (ix4 b 0 h d) = (val_main_v20 (F := Ideal) x0 x1 x2) (ix3 b 0 ⟨64 * h.val + d.val, by omega⟩) := by
  unfold val_main_v30
  generalize val_main_v20 (F := Ideal) x0 x1 x2 = yv20
  clean_types
  pointwise
  try simp only [mul_comm]

theorem v32 (b : Fin 128) (h : Fin 8) (d : Fin 64) : (val_main_v32 (F := Ideal) x0 x1 x2) (ix4 b 0 h d) = (val_main_v27 (F := Ideal) x0 x1 x2) (ix4 b 0 h d) * scale := by
  unfold val_main_v32 val_main_v31 val_main_cst_2 scale
  generalize (val_main_v27 (F := Ideal) x0 x1 x2) = y
  pointwise

theorem v36 (b : Fin 128) (h : Fin 16) (d : Fin 64) : (val_main_v36 (F := Ideal) x0 x1 x2) (ix4 b 0 h d) = (val_main_v30 (F := Ideal) x0 x1 x2) (ix4 b 0 h d) * scale := by
  unfold val_main_v36 val_main_v35 val_main_cst_3 scale
  generalize (val_main_v30 (F := Ideal) x0 x1 x2) = y
  pointwise

theorem v33 (r : Fin 128) (n : Fin 512) : (val_main_v33 (F := Ideal) x0 x1 x2) (ix2 r n) = (val_main_v32 (F := Ideal) x0 x1 x2) (ix4 r 0 ⟨n.val / 64, by omega⟩ ⟨n.val % 64, by omega⟩) := by
  unfold val_main_v33
  generalize val_main_v32 (F := Ideal) x0 x1 x2 = yv32
  clean_types
  pointwise

theorem v37 (r : Fin 128) (n : Fin 1024) : (val_main_v37 (F := Ideal) x0 x1 x2) (ix2 r n) = (val_main_v36 (F := Ideal) x0 x1 x2) (ix4 r 0 ⟨n.val / 64, by omega⟩ ⟨n.val % 64, by omega⟩) := by
  unfold val_main_v37
  generalize val_main_v36 (F := Ideal) x0 x1 x2 = yv36
  clean_types
  pointwise

theorem v43 (r : Fin 128) (n : Fin 512) : (val_main_v43 (F := Ideal) x0 x1 x2) (ix2 r n) = (val_main_v19 (F := Ideal) x0 x1 x2) (ix3 r 0 n) := by
  unfold val_main_v43
  generalize val_main_v19 (F := Ideal) x0 x1 x2 = yv19
  clean_types
  pointwise

theorem v44 (r : Fin 128) (n : Fin 88) : (val_main_v44 (F := Ideal) x0 x1 x2) (ix2 r n) = (val_main_v39 (F := Ideal) x0 x1 x2) (ix3 r 0 n) := by
  unfold val_main_v44
  generalize val_main_v39 (F := Ideal) x0 x1 x2 = yv39
  clean_types
  pointwise

theorem v45 (r : Fin 128) (n : Fin 1536) : (val_main_v45 (F := Ideal) x0 x1 x2) (ix2 r n) = (val_main_v23 (F := Ideal) x0 x1 x2) (ix3 r 0 n) := by
  unfold val_main_v45
  generalize val_main_v23 (F := Ideal) x0 x1 x2 = yv23
  clean_types
  pointwise

theorem v46 (r : Fin 128) (n : Fin 512) : (val_main_v46 (F := Ideal) x0 x1 x2) (ix2 r n) = (val_main_v24 (F := Ideal) x0 x1 x2) (ix3 r 0 n) := by
  unfold val_main_v46
  generalize val_main_v24 (F := Ideal) x0 x1 x2 = yv24
  clean_types
  pointwise

theorem v39 (b : Fin 128) (n : Fin 88) : (val_main_v39 (F := Ideal) x0 x1 x2) (ix3 b 0 n) = if h : n.val < 64 then (val_main_v21 (F := Ideal) x0 x1 x2) (ix3 b 0 ⟨n.val, h⟩) else if h1 : n.val - 64 < 16 then (val_main_v22 (F := Ideal) x0 x1 x2) (ix3 b 0 ⟨n.val - 64, h1⟩) else if h2 : n.val - 64 - 16 < 4 then (val_main_v25 (F := Ideal) x0 x1 x2) (ix3 b 0 ⟨n.val - 64 - 16, h2⟩) else (val_main_v26 (F := Ideal) x0 x1 x2) (ix3 b 0 ⟨n.val - 64 - 16 - 4, by omega⟩) := by
  unfold val_main_v39
  generalize val_main_v21 (F := Ideal) x0 x1 x2 = yv21
  generalize val_main_v22 (F := Ideal) x0 x1 x2 = yv22
  generalize val_main_v25 (F := Ideal) x0 x1 x2 = yv25
  generalize val_main_v26 (F := Ideal) x0 x1 x2 = yv26
  pointwise

theorem v40 (a : Fin 1) (b : Fin 128) (h : Fin 2) (d : Fin 64) : (val_main_v40 (F := Ideal) x0 x1 x2) (ix5 a b 0 h d) = (val_main_v28 (F := Ideal) x0 x1 x2) (ix4 b 0 h d) := by
  unfold val_main_v40
  generalize val_main_v28 (F := Ideal) x0 x1 x2 = yv28
  clean_types
  pointwise

theorem v41 (a : Fin 1) (b : Fin 128) (h : Fin 2) (d : Fin 64) : (val_main_v41 (F := Ideal) x0 x1 x2) (ix5 a b 0 h d) = (val_main_v29 (F := Ideal) x0 x1 x2) (ix4 b 0 h d) := by
  unfold val_main_v41
  generalize val_main_v29 (F := Ideal) x0 x1 x2 = yv29
  clean_types
  pointwise

theorem v42 (a : Fin 1) (b : Fin 128) (d : Fin 64) : (val_main_v42 (F := Ideal) x0 x1 x2) (ix4 a b 0 d) = (val_main_v21 (F := Ideal) x0 x1 x2) (ix3 b 0 d) := by
  unfold val_main_v42
  generalize val_main_v21 (F := Ideal) x0 x1 x2 = yv21
  clean_types
  pointwise

theorem ref_kHeads : @Eq ((S1x128x1x2x64).Idx → EReal) (val_main_v40 (F := Ideal) x0 x1 x2) (kHeads x0 x1 x2) := by
  funext i
  obtain ⟨a, b, s, h, d, rfl⟩ : ∃ (a : Fin 1) (b : Fin 128) (s : Fin 1) (h : Fin 2) (d : Fin 64), i = ix5 a b s h d := ⟨i 0, i 1, i 2, i 3, i 4, eq_ix5 i⟩
  obtain rfl : s = 0 := Subsingleton.elim _ _
  exact (v40 _ _ _ a b h d).trans ((v28 _ _ _ b h d).trans ((v17 _ _ _ b _).trans (v15' _ _ _ b _)))

theorem ref_vHeads : @Eq ((S1x128x1x2x64).Idx → EReal) (val_main_v41 (F := Ideal) x0 x1 x2) (vHeads x0 x1 x2) := by
  funext i
  obtain ⟨a, b, s, h, d, rfl⟩ : ∃ (a : Fin 1) (b : Fin 128) (s : Fin 1) (h : Fin 2) (d : Fin 64), i = ix5 a b s h d := ⟨i 0, i 1, i 2, i 3, i 4, eq_ix5 i⟩
  obtain rfl : s = 0 := Subsingleton.elim _ _
  exact (v41 _ _ _ a b h d).trans ((v29 _ _ _ b h d).trans ((v18 _ _ _ b _).trans (v15' _ _ _ b _)))

theorem ref_kidx : @Eq ((S1x128x1x64).Idx → EReal) (val_main_v42 (F := Ideal) x0 x1 x2) (kidx x0 x1 x2) := by
  funext i
  obtain ⟨a, b, s, d, rfl⟩ : ∃ (a : Fin 1) (b : Fin 128) (s : Fin 1) (d : Fin 64), i = ix4 a b s d := ⟨i 0, i 1, i 2, i 3, eq_ix4 i⟩
  obtain rfl : s = 0 := Subsingleton.elim _ _
  exact (v42 _ _ _ a b d).trans ((v21 _ _ _ b d).trans (v15' _ _ _ b _))

theorem ref_q : @Eq ((S128x512).Idx → EReal) (val_main_v34 (F := Ideal) x0 x1 x2) (q x0 x1 x2) := by
  funext i
  obtain ⟨r, n, rfl⟩ : ∃ (r : Fin 128) (n : Fin 512), i = ix2 r n := ⟨i 0, i 1, eq_ix2 i⟩
  rw [val_main_v34_apply]
  refine (v33 _ _ _ r n).trans ?_
  rw [v32, v27, v16, v15']
  have e : 64 * (n.val / 64) + n.val % 64 = n.val := by omega
  simp only [e]
  rfl

theorem ref_qi : @Eq ((S128x1024).Idx → EReal) (val_main_v38 (F := Ideal) x0 x1 x2) (qi x0 x1 x2) := by
  funext i
  obtain ⟨r, n, rfl⟩ : ∃ (r : Fin 128) (n : Fin 1024), i = ix2 r n := ⟨i 0, i 1, eq_ix2 i⟩
  rw [val_main_v38_apply]
  refine (v37 _ _ _ r n).trans ?_
  rw [v36, v30, v20, v15']
  have e : 64 * (n.val / 64) + n.val % 64 = n.val := by omega
  simp only [e]
  rfl

theorem ref_zaRows : @Eq ((S128x512).Idx → EReal) (val_main_v43 (F := Ideal) x0 x1 x2) (zaRows x0 x1 x2) := by
  funext i
  obtain ⟨r, n, rfl⟩ : ∃ (r : Fin 128) (n : Fin 512), i = ix2 r n := ⟨i 0, i 1, eq_ix2 i⟩
  rw [v43, v19, v15']
  rfl

theorem ref_qkvRows : @Eq ((S128x1536).Idx → EReal) (val_main_v45 (F := Ideal) x0 x1 x2) (qkvRows x0 x1 x2) := by
  funext i
  obtain ⟨r, n, rfl⟩ : ∃ (r : Fin 128) (n : Fin 1536), i = ix2 r n := ⟨i 0, i 1, eq_ix2 i⟩
  rw [v45, v23, v15']
  rfl

theorem ref_zgRows : @Eq ((S128x512).Idx → EReal) (val_main_v46 (F := Ideal) x0 x1 x2) (zgRows x0 x1 x2) := by
  funext i
  obtain ⟨r, n, rfl⟩ : ∃ (r : Fin 128) (n : Fin 512), i = ix2 r n := ⟨i 0, i 1, eq_ix2 i⟩
  rw [v46, v24, v15']
  rfl

theorem ref_smallRows : @Eq ((S128x88).Idx → EReal) (val_main_v44 (F := Ideal) x0 x1 x2) (smallRows x0 x1 x2) := by
  funext i
  obtain ⟨r, n, rfl⟩ : ∃ (r : Fin 128) (n : Fin 88), i = ix2 r n := ⟨i 0, i 1, eq_ix2 i⟩
  rw [v44, v39]
  simp only [v21, v22, v25, v26, v15']
  show _ = out x0 x1 x2 _ (small n)
  unfold small
  split
  · rw [if_pos (by omega)]
    rfl
  split
  · rw [if_pos (by omega)]
    congr 1
    apply Fin.ext; show 2368 + (n.val - 64) = 2304 + n.val; omega
  split
  · rw [if_neg (by omega)]
    congr 1
    apply Fin.ext; show 4432 + (n.val - 64 - 16) = 4352 + n.val; omega
  · rw [if_neg (by omega)]
    congr 1
    apply Fin.ext; show 4436 + (n.val - 64 - 16 - 4) = 4352 + n.val; omega

end Cert.InProjRowsRefIdeal.Val
-- ==== Proof.InProjRows.Claim.lean ====
/- The value claim about the input projection of the sample batch: both programs run, end with equal results, and keep their arguments. -/
module

public import proofs.«01_k».proof.Proof.InProjRows.Kernel
public import proofs.«01_k».proof.Proof.InProjRows.Reference

@[expose] public section

set_option maxRecDepth 16384

noncomputable section

namespace Cert.InProjRowsIdeal.Val

open Cert.InProjRowsIdeal Cert.InProjRowsIdeal.Gen Idealize.ShloMosaic Idealize.ShloMosaic.TcCoe Idealize.SL.Sem
open Cert.InProjRowsSpec

variable (m : (ℓ : Loc nD τ sig) → Buf (Elt Ideal) ℓ) (ρ : Dev nD → PrngReg)

/-! The results, as functions of the arguments. -/

def r_kHeads (c : Dev nD) : Vec Ideal S1x128x1x2x64 .f32 := kHeads (m ((c : Thread nD τ).loc main_arg0)) (m ((c : Thread nD τ).loc main_arg1)) (m ((c : Thread nD τ).loc main_arg2))
def r_vHeads (c : Dev nD) : Vec Ideal S1x128x1x2x64 .f32 := vHeads (m ((c : Thread nD τ).loc main_arg0)) (m ((c : Thread nD τ).loc main_arg1)) (m ((c : Thread nD τ).loc main_arg2))
def r_kidx (c : Dev nD) : Vec Ideal S1x128x1x64 .f32 := kidx (m ((c : Thread nD τ).loc main_arg0)) (m ((c : Thread nD τ).loc main_arg1)) (m ((c : Thread nD τ).loc main_arg2))
def r_q (c : Dev nD) : Vec Ideal S128x512 .bf16 := q (m ((c : Thread nD τ).loc main_arg0)) (m ((c : Thread nD τ).loc main_arg1)) (m ((c : Thread nD τ).loc main_arg2))
def r_qi (c : Dev nD) : Vec Ideal S128x1024 .bf16 := qi (m ((c : Thread nD τ).loc main_arg0)) (m ((c : Thread nD τ).loc main_arg1)) (m ((c : Thread nD τ).loc main_arg2))
def r_zaRows (c : Dev nD) : Vec Ideal S128x512 .f32 := zaRows (m ((c : Thread nD τ).loc main_arg0)) (m ((c : Thread nD τ).loc main_arg1)) (m ((c : Thread nD τ).loc main_arg2))
def r_smallRows (c : Dev nD) : Vec Ideal S128x88 .f32 := smallRows (m ((c : Thread nD τ).loc main_arg0)) (m ((c : Thread nD τ).loc main_arg1)) (m ((c : Thread nD τ).loc main_arg2))
def r_qkvRows (c : Dev nD) : Vec Ideal S128x1536 .f32 := qkvRows (m ((c : Thread nD τ).loc main_arg0)) (m ((c : Thread nD τ).loc main_arg1)) (m ((c : Thread nD τ).loc main_arg2))
def r_zgRows (c : Dev nD) : Vec Ideal S128x512 .f32 := zgRows (m ((c : Thread nD τ).loc main_arg0)) (m ((c : Thread nD τ).loc main_arg1)) (m ((c : Thread nD τ).loc main_arg2))

/-- The run of the call, its results in closed form and its arguments kept. -/
theorem run : θ_run defs (onTc (τ := τ) (main (F := Ideal))) ⟨m, fun _ => 0, ρ⟩ fun r => ∀ c : Dev nD,
      r.2.mem ((c : Thread nD τ).loc main_v20) = r_kHeads m c
      ∧ r.2.mem ((c : Thread nD τ).loc main_v21) = r_vHeads m c
      ∧ r.2.mem ((c : Thread nD τ).loc main_v23) = r_kidx m c
      ∧ r.2.mem ((c : Thread nD τ).loc main_v19_0) = r_q m c
      ∧ r.2.mem ((c : Thread nD τ).loc main_v19_4) = r_qi m c
      ∧ r.2.mem ((c : Thread nD τ).loc main_v19_3) = r_zaRows m c
      ∧ r.2.mem ((c : Thread nD τ).loc main_v24) = r_smallRows m c
      ∧ r.2.mem ((c : Thread nD τ).loc main_v19_6) = r_qkvRows m c
      ∧ r.2.mem ((c : Thread nD τ).loc main_v19_7) = r_zgRows m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ⟨((h.1 c).2 main_v20 (Pipeline.mem_restRefs_of main_v20 (by decide) (by decide))).trans (tail_kHeads m c),
    ((h.1 c).2 main_v21 (Pipeline.mem_restRefs_of main_v21 (by decide) (by decide))).trans (tail_vHeads m c),
    ((h.1 c).2 main_v23 (Pipeline.mem_restRefs_of main_v23 (by decide) (by decide))).trans (tail_kidx m c),
    ((h.1 c).1 3).trans ((final3 m c).trans (arr_q m c)),
    ((h.1 c).1 7).trans ((final7 m c).trans (arr_qi m c)),
    ((h.1 c).1 6).trans ((final6 m c).trans (arr_zaRows m c)),
    ((h.1 c).2 main_v24 (Pipeline.mem_restRefs_of main_v24 (by decide) (by decide))).trans (tail_smallRows m c),
    ((h.1 c).1 9).trans ((final9 m c).trans (arr_qkvRows m c)),
    ((h.1 c).1 10).trans ((final10 m c).trans (arr_zgRows m c)), h.2 c⟩) (θ_run_and (run_main m ρ) (unchanged m ρ))

end Cert.InProjRowsIdeal.Val

namespace Cert.InProjRowsClaim

open Idealize.ShloMosaic Idealize.SL.Sem

/-- The kernel and the plain program give the same results. -/
theorem algebraic : Cert.algebraic_InProjRowsIdeal_InProjRowsRefIdeal := by
  intro m g m' g' _ ha
  refine ⟨fun c => Cert.InProjRowsIdeal.Val.r_kHeads m c, fun c => Cert.InProjRowsIdeal.Val.r_vHeads m c, fun c => Cert.InProjRowsIdeal.Val.r_kidx m c, fun c => Cert.InProjRowsIdeal.Val.r_q m c, fun c => Cert.InProjRowsIdeal.Val.r_qi m c, fun c => Cert.InProjRowsIdeal.Val.r_zaRows m c, fun c => Cert.InProjRowsIdeal.Val.r_smallRows m c, fun c => Cert.InProjRowsIdeal.Val.r_qkvRows m c, fun c => Cert.InProjRowsIdeal.Val.r_zgRows m c,
    Cert.InProjRowsIdeal.Val.run m g, ?_⟩
  refine (θ_run _ _ _).mono (fun r h c => ?_) (Cert.InProjRowsRefIdeal.Value.run m' g')
  obtain ⟨h0, h1, h2, h3, h4, h5, h6, h7, h8, h9⟩ := h c
  obtain ⟨a0, a1, a2⟩ := ha c
  have e0 := h0.trans ((Cert.InProjRowsRefIdeal.Read.val_main_v40_eq _ _ _).trans (Cert.InProjRowsRefIdeal.Val.ref_kHeads _ _ _))
  rw [a0, a1, a2] at e0
  have e1 := h1.trans ((Cert.InProjRowsRefIdeal.Read.val_main_v41_eq _ _ _).trans (Cert.InProjRowsRefIdeal.Val.ref_vHeads _ _ _))
  rw [a0, a1, a2] at e1
  have e2 := h2.trans ((Cert.InProjRowsRefIdeal.Read.val_main_v42_eq _ _ _).trans (Cert.InProjRowsRefIdeal.Val.ref_kidx _ _ _))
  rw [a0, a1, a2] at e2
  have e3 := h3.trans ((Cert.InProjRowsRefIdeal.Read.val_main_v34_eq _ _ _).trans (Cert.InProjRowsRefIdeal.Val.ref_q _ _ _))
  rw [a0, a1, a2] at e3
  have e4 := h4.trans ((Cert.InProjRowsRefIdeal.Read.val_main_v38_eq _ _ _).trans (Cert.InProjRowsRefIdeal.Val.ref_qi _ _ _))
  rw [a0, a1, a2] at e4
  have e5 := h5.trans ((Cert.InProjRowsRefIdeal.Read.val_main_v43_eq _ _ _).trans (Cert.InProjRowsRefIdeal.Val.ref_zaRows _ _ _))
  rw [a0, a1, a2] at e5
  have e6 := h6.trans ((Cert.InProjRowsRefIdeal.Read.val_main_v44_eq _ _).trans (Cert.InProjRowsRefIdeal.Val.ref_smallRows _ _ _))
  rw [a0, a1, a2] at e6
  have e7 := h7.trans ((Cert.InProjRowsRefIdeal.Read.val_main_v45_eq _ _ _).trans (Cert.InProjRowsRefIdeal.Val.ref_qkvRows _ _ _))
  rw [a0, a1, a2] at e7
  have e8 := h8.trans ((Cert.InProjRowsRefIdeal.Read.val_main_v46_eq _ _ _).trans (Cert.InProjRowsRefIdeal.Val.ref_zgRows _ _ _))
  rw [a0, a1, a2] at e8
  exact ⟨e0, e1, e2, e3, e4, e5, e6, e7, e8, h9⟩

end Cert.InProjRowsClaim
-- ==== Proof.OutProj.Spec.lean ====
/- The output projection in closed form, over the extended reals: what one element of the result is as a function of
   the arrays. Both programs of the claim about this call are read down to these functions. -/
module

public import proofs.«01_k».proof.Defs
public import Idealize.ShloMosaic.Lib.Pointwise

@[expose] public section

noncomputable section

namespace Cert.OutProjSpec

open Idealize.ShloMosaic

/-- Element `(b, s, n)` of `x + concat(att, gdn) @ w_out`, the product's sum cut at the concatenation; `att` and `gdn`
    hold token `(b, s)` in row `2048 b + s`. -/
def mixed (x : (⟨3, ![32, 2048, 1024]⟩ : Shape).Idx → EReal) (att gdn : (⟨2, ![65536, 512]⟩ : Shape).Idx → EReal)
    (w : (⟨3, ![1, 1024, 1024]⟩ : Shape).Idx → EReal) (b : Fin 32) (s : Fin 2048) (n : Fin 1024) : EReal :=
  x (ix3 b s n) + ∑ k : Fin 512, att (ix2 ⟨2048 * b.val + s.val, by omega⟩ k) * w (ix3 0 ⟨k.val, by omega⟩ n)
    + ∑ k : Fin 512, gdn (ix2 ⟨2048 * b.val + s.val, by omega⟩ k) * w (ix3 0 ⟨512 + k.val, by omega⟩ n)

/-- Element `(b, s, n)` of the result: the sum above divided by the root of the mean of its squares over `n` (1024 of
    them, as the float constant the programs print; the small constant under the root likewise), times the gain. -/
def out (x : (⟨3, ![32, 2048, 1024]⟩ : Shape).Idx → EReal) (att gdn : (⟨2, ![65536, 512]⟩ : Shape).Idx → EReal)
    (w : (⟨3, ![1, 1024, 1024]⟩ : Shape).Idx → EReal) (g : (⟨1, ![1024]⟩ : Shape).Idx → EReal)
    (b : Fin 32) (s : Fin 2048) (n : Fin 1024) : EReal :=
  mixed x att gdn w b s n
    * Ideal.rsqrt (Ideal.div (∑ k : Fin 1024, mixed x att gdn w b s k * mixed x att gdn w b s k)
        (Ideal.ofBits FTy.f32 0x44800000#32) + Ideal.ofBits FTy.f32 0x358637BD#32)
    * g (ix1 n)

end Cert.OutProjSpec
-- ==== Proof.OutProj.Kernel.lean ====
/- The output projection call: each block read at an index, the result array after the run, and the result after the
   host's last reshape, in the closed form of `OutProj/Spec.lean`. -/
module

public import proofs.«01_k».proof.Proof.Gen.OutProjIdeal.Frame
public import proofs.«01_k».proof.Proof.OutProj.Spec
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.OutProjIdeal.Val

open Cert.OutProjIdeal Cert.OutProjIdeal.Gen Idealize.ShloMosaic Idealize.ShloMosaic.TcCoe Idealize.SL.Sem
open Idealize.ShloMosaic.Pipeline (Dat)
open Cert.OutProjSpec

variable (m : (ℓ : Loc nD τ sig) → Buf (Elt Ideal) ℓ) (ρ : Dev nD → PrngReg)

/-- Which block of each array a grid step stages. -/
theorem idx : ∀ t : Fin cfg0.grid.N, win0_0.index t = ![t.val, 0] ∧ win0_1.index t = ![t.val, 0] ∧ win0_2.index t = ![t.val, 0]
    ∧ win0_3.index t = ![0, 0] ∧ win0_4.index t = ![0, 0] ∧ win0_5.index t = ![t.val, 0] := by
  decide +kernel

/-! What the host hands to the call, at an index. -/

theorem V_main_v1 (c : Dev nD) (i : S1024x1024.Idx) : V m c main_v1 i
    = m ((c : Thread nD τ).loc main_arg3) (ix3 0 (i 0) (i 1)) := by
  show StableHlo.after hostOps0 _ (Proc.devRef .tc main_v1) i = _
  after_results
  pointwise

theorem V_main_v2 (c : Dev nD) (i : S65536x1024.Idx) : V m c main_v2 i
    = m ((c : Thread nD τ).loc main_arg0) (ix3 ⟨(i 0).val / 2048, by have : (i 0).val < 65536 := (i 0).isLt; omega⟩ ⟨(i 0).val % 2048, by omega⟩ (i 1)) := by
  show StableHlo.after hostOps0 _ (Proc.devRef .tc main_v2) i = _
  after_results
  pointwise

theorem V_main_v3 (c : Dev nD) (i : S1x1024.Idx) : V m c main_v3 i
    = m ((c : Thread nD τ).loc main_arg4) (ix1 (i 1)) := by
  show StableHlo.after hostOps0 _ (Proc.devRef .tc main_v3) i = _
  after_results
  pointwise

/-! Element `(a, b)` of the block an operand stages at step `t`. -/

theorem blk0 (c : Dev nD) (t : Fin cfg0.grid.N) (a : Fin 1024) (b : Fin 1024) : iblk m c 0 t (ix2 a b)
    = m ((c : Thread nD τ).loc main_arg0) (ix3 ⟨(1024 * t.val + a.val) / 2048, by have : t.val < 64 := t.isLt; omega⟩
        ⟨(1024 * t.val + a.val) % 2048, by omega⟩ b) := by
  have h : iblk m c 0 t (ix2 a b) = V m c main_v2 (ix2 ⟨1024 * t.val + a.val, by have : t.val < 64 := t.isLt; omega⟩ b) := by
    blk_ext [iblk, idx t]
  exact h.trans (V_main_v2 m c _)
theorem blk1 (c : Dev nD) (t : Fin cfg0.grid.N) (a : Fin 1024) (b : Fin 512) : iblk m c 1 t (ix2 a b)
    = m ((c : Thread nD τ).loc main_arg1) (ix2 ⟨1024 * t.val + a.val, by have : t.val < 64 := t.isLt; omega⟩ b) := by
  have h : iblk m c 1 t (ix2 a b) = V m c main_arg1 (ix2 ⟨1024 * t.val + a.val, by have : t.val < 64 := t.isLt; omega⟩ b) := by
    blk_ext [iblk, idx t]
  exact h.trans (congrFun (V_main_arg1 m c) _)
theorem blk2 (c : Dev nD) (t : Fin cfg0.grid.N) (a : Fin 1024) (b : Fin 512) : iblk m c 2 t (ix2 a b)
    = m ((c : Thread nD τ).loc main_arg2) (ix2 ⟨1024 * t.val + a.val, by have : t.val < 64 := t.isLt; omega⟩ b) := by
  have h : iblk m c 2 t (ix2 a b) = V m c main_arg2 (ix2 ⟨1024 * t.val + a.val, by have : t.val < 64 := t.isLt; omega⟩ b) := by
    blk_ext [iblk, idx t]
  exact h.trans (congrFun (V_main_arg2 m c) _)
theorem blk3 (c : Dev nD) (t : Fin cfg0.grid.N) (a : Fin 1024) (b : Fin 1024) : iblk m c 3 t (ix2 a b)
    = m ((c : Thread nD τ).loc main_arg3) (ix3 0 a b) := by
  have h : iblk m c 3 t (ix2 a b) = V m c main_v1 (ix2 a b) := by blk_ext [iblk, idx t]
  exact h.trans (V_main_v1 m c _)
theorem blk4 (c : Dev nD) (t : Fin cfg0.grid.N) (a : Fin 1) (b : Fin 1024) : iblk m c 4 t (ix2 a b)
    = m ((c : Thread nD τ).loc main_arg4) (ix1 b) := by
  have h : iblk m c 4 t (ix2 a b) = V m c main_v3 (ix2 a b) := by blk_ext [iblk, idx t]
  exact h.trans (V_main_v3 m c _)
/-- Where element `(a, b)` of the stored block lands. -/
theorem emb5 (t : Fin cfg0.grid.N) (a : Fin 1024) (b : Fin 1024) : ((View.whole main_v4).slice (win0_5.rect t)).emb (ix2 a b)
    = ix2 ⟨1024 * t.val + a.val, by have : t.val < 64 := t.isLt; omega⟩ b := by
  blk_ext [idx t]

/-- The result of the call as rows of 1024: row `r` is token `(r / 2048, r % 2048)`. -/
def G (c : Dev nD) : Vec Ideal S65536x1024 .f32 := fun i =>
  out (m ((c : Thread nD τ).loc main_arg0)) (m ((c : Thread nD τ).loc main_arg1))
    (m ((c : Thread nD τ).loc main_arg2)) (m ((c : Thread nD τ).loc main_arg3)) (m ((c : Thread nD τ).loc main_arg4))
    ⟨(i 0).val / 2048, by have : (i 0).val < 65536 := (i 0).isLt; omega⟩ ⟨(i 0).val % 2048, by omega⟩ (i 1)

/-- The result array after the run. -/
theorem final5 (c : Dev nD) : (dats m 0 c).arrAt 5 cfg0.N = G m c := by
  refine (dats m 0 c).arrAt_eq_of_covers 5 _ (by decide +kernel) fun t hf y => ?_
  blk_simp
  rw [after0_5]
  frame_out
  obtain ⟨a, b, rfl⟩ : ∃ (a : Fin 1024) (b : Fin 1024), y = ix2 a b := ⟨y 0, y 1, eq_ix2 y⟩
  rw [emb5]
  pointwise [Gen.k0_pay1]
  simp only [blk0, blk1, blk2, blk3, blk4]
  have ht : t.val < 64 := t.isLt
  have e : ∀ a : Fin 1024, 2048 * ((1024 * t.val + a.val) / 2048) + (1024 * t.val + a.val) % 2048 = 1024 * t.val + a.val := fun a => by omega
  unfold G out mixed
  pointwise
  simp only [e]

/-- The result after the host's reshape. -/
theorem tail (c : Dev nD) (i : S32x2048x1024.Idx) : Pipeline.afterTail₀ cfgs (dats m) 0 (V0 m) [hostOps1] c main_v5 i =
    out (m ((c : Thread nD τ).loc main_arg0)) (m ((c : Thread nD τ).loc main_arg1))
    (m ((c : Thread nD τ).loc main_arg2)) (m ((c : Thread nD τ).loc main_arg3)) (m ((c : Thread nD τ).loc main_arg4))
    (i 0) (i 1) (i 2) := by
  have h : Pipeline.afterTail₀ cfgs (dats m) 0 (V0 m) [hostOps1] c main_v5
      = shapeCast S32x2048x1024 (G m c) shapeCasts_S65536x1024_S32x2048x1024 := by
    unfold Pipeline.afterTail₀
    show StableHlo.after hostOps1 _ (Proc.devRef .tc main_v5) = _
    after_results
    rw [Pipeline.withArrays_arr spec0 launch0.win.arr_inj (w := 5)]
    rw [← final5]
    rfl
  rw [h]
  idx_vars i
  pointwise [G]
  congr 1 <;> apply Fin.ext <;> simp <;> omega
end Cert.OutProjIdeal.Val
-- ==== Proof.OutProj.Reference.lean ====
/- The plain program of the output projection, read down to the closed form of `OutProj/Spec.lean`. -/
module

public import proofs.«01_k».proof.Proof.Gen.OutProjRefIdeal.Read
public import proofs.«01_k».proof.Proof.OutProj.Spec
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.OutProjRefIdeal.Val

open Cert.OutProjRefIdeal Cert.OutProjRefIdeal.Gen Idealize.ShloMosaic Idealize.ShloMosaic.TcCoe Idealize.SL.Sem
open Cert.OutProjSpec

open Cert.OutProjRefIdeal.Read
theorem v0 (x1 x2 : Vec Ideal S65536x512 .bf16) (r : Fin 65536) (k : Fin 1024) :
    val_main_v0 (F := Ideal) x1 x2 (ix2 r k)
      = if h : k.val < 512 then x1 (ix2 r ⟨k.val, h⟩) else x2 (ix2 r ⟨k.val - 512, by omega⟩) := by
  unfold val_main_v0
  pointwise
theorem v1 (x1 x2 : Vec Ideal S65536x512 .bf16) (b : Fin 32) (s : Fin 2048) (k : Fin 1024) :
    val_main_v1 (F := Ideal) x1 x2 (ix3 b s k) = val_main_v0 (F := Ideal) x1 x2 (ix2 ⟨2048 * b.val + s.val, by omega⟩ k) := by
  unfold val_main_v1
  generalize val_main_v0 (F := Ideal) x1 x2 = y
  clean_types
  pointwise
  try simp only [mul_comm]
theorem v2 (x1 x2 : Vec Ideal S65536x512 .bf16) (b : Fin 32) (s : Fin 2048) (k : Fin 1024) :
    val_main_v2 (F := Ideal) x1 x2 (ix3 b s k) = val_main_v0 (F := Ideal) x1 x2 (ix2 ⟨2048 * b.val + s.val, by omega⟩ k) := by
  rw [val_main_v2_apply, v1]; rfl
theorem v3 (x3 : Vec Ideal S1x1024x1024 .f32) (k n : Fin 1024) : val_main_v3 (F := Ideal) x3 (ix2 k n) = x3 (ix3 0 k n) := by
  unfold val_main_v3
  pointwise
theorem v4 (x1 x2 : Vec Ideal S65536x512 .bf16) (x3 : Vec Ideal S1x1024x1024 .f32) (b : Fin 32) (s : Fin 2048) (n : Fin 1024) :
    val_main_v4 (F := Ideal) x1 x2 x3 (ix3 b s n)
      = ∑ k : Fin 1024, val_main_v2 (F := Ideal) x1 x2 (ix3 b s k) * val_main_v3 (F := Ideal) x3 (ix2 k n) := by
  unfold val_main_v4
  generalize val_main_v2 (F := Ideal) x1 x2 = y
  generalize val_main_v3 (F := Ideal) x3 = z
  pointwise
theorem ref_mixed (x0 : Vec Ideal S32x2048x1024 .f32) (x1 x2 : Vec Ideal S65536x512 .bf16) (x3 : Vec Ideal S1x1024x1024 .f32)
   (b : Fin 32) (s : Fin 2048) (n : Fin 1024) : val_main_v5 x0 x1 x2 x3 (ix3 b s n) = mixed x0 x1 x2 x3 b s n := by
  rw [val_main_v5_apply, v4]
  simp only [v2, v3, v0]
  unfold mixed
  pointwise
  simp only [add_assoc]
variable (x0 : Vec Ideal S32x2048x1024 .f32) (x1 x2 : Vec Ideal S65536x512 .bf16) (x3 : Vec Ideal S1x1024x1024 .f32) (x4 : Vec Ideal S1024 .f32)

theorem v7 (b : Fin 32) (s : Fin 2048) : val_main_v7 (F := Ideal) x0 x1 x2 x3 (ix2 b s) = ∑ k : Fin 1024, val_main_v5 (F := Ideal) x0 x1 x2 x3 (ix3 b s k) * val_main_v5 (F := Ideal) x0 x1 x2 x3 (ix3 b s k) := by
  unfold val_main_v7 val_main_v6 val_main_cst
  generalize val_main_v5 (F := Ideal) x0 x1 x2 x3 = y
  pointwise
theorem v8 (b : Fin 32) (s : Fin 2048) : val_main_v8 (F := Ideal) x0 x1 x2 x3 (ix3 b s 0) = val_main_v7 (F := Ideal) x0 x1 x2 x3 (ix2 b s) := by
  unfold val_main_v8
  generalize val_main_v7 (F := Ideal) x0 x1 x2 x3 = y
  pointwise
theorem v13 (b : Fin 32) (s : Fin 2048) : val_main_v13 (F := Ideal) x0 x1 x2 x3 (ix3 b s 0)
    = Ideal.rsqrt (Ideal.div (val_main_v7 (F := Ideal) x0 x1 x2 x3 (ix2 b s)) (Ideal.ofBits FTy.f32 0x44800000#32) + Ideal.ofBits FTy.f32 0x358637BD#32) := by
  rw [← v8]
  unfold val_main_v13 val_main_v12 val_main_v11 val_main_v10 val_main_v9 val_main_cst_0 val_main_cst_1
  generalize val_main_v8 (F := Ideal) x0 x1 x2 x3 = y
  pointwise
theorem v14 (b : Fin 32) (s : Fin 2048) (n : Fin 1024) : val_main_v14 (F := Ideal) x0 x1 x2 x3 (ix3 b s n) = val_main_v13 (F := Ideal) x0 x1 x2 x3 (ix3 b s 0) := by
  unfold val_main_v14
  generalize val_main_v13 (F := Ideal) x0 x1 x2 x3 = y
  pointwise
theorem v16 (n : Fin 1024) : val_main_v16 (F := Ideal) x4 (ix3 0 0 n) = x4 (ix1 n) := by
  unfold val_main_v16
  pointwise
theorem v17 (b : Fin 32) (s : Fin 2048) (n : Fin 1024) : val_main_v17 (F := Ideal) x4 (ix3 b s n) = val_main_v16 (F := Ideal) x4 (ix3 0 0 n) := by
  unfold val_main_v17
  generalize val_main_v16 (F := Ideal) x4 = y
  pointwise

/-- The normalised result. -/
theorem ref_out (b : Fin 32) (s : Fin 2048) (n : Fin 1024) : val_main_v18 (F := Ideal) x0 x1 x2 x3 x4 (ix3 b s n) = out x0 x1 x2 x3 x4 b s n := by
  rw [val_main_v18_apply, val_main_v15_apply, v14, v13, v7, v17, v16]
  simp only [ref_mixed]
  rfl

end Cert.OutProjRefIdeal.Val
-- ==== Proof.OutProj.Claim.lean ====
/- The value claim about the output projection: both programs run, end with equal results, and keep their arguments. -/
module

public import proofs.«01_k».proof.Proof.OutProj.Kernel
public import proofs.«01_k».proof.Proof.OutProj.Reference

@[expose] public section

noncomputable section

namespace Cert.OutProjIdeal.Val

open Cert.OutProjIdeal Cert.OutProjIdeal.Gen Idealize.ShloMosaic Idealize.ShloMosaic.TcCoe Idealize.SL.Sem
open Cert.OutProjSpec

variable (m : (ℓ : Loc nD τ sig) → Buf (Elt Ideal) ℓ) (ρ : Dev nD → PrngReg)

/-- The result as a function of the index. -/
def result (c : Dev nD) : Vec Ideal S32x2048x1024 .f32 := fun i =>
  out (m ((c : Thread nD τ).loc main_arg0)) (m ((c : Thread nD τ).loc main_arg1))
    (m ((c : Thread nD τ).loc main_arg2)) (m ((c : Thread nD τ).loc main_arg3)) (m ((c : Thread nD τ).loc main_arg4))
    (i 0) (i 1) (i 2)

/-- The run of the call, its result in closed form and its arguments kept. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).2 main_v5 (Pipeline.mem_restRefs_of main_v5 (by decide) (by decide))).trans
      (funext fun i => tail m c i), h.2 c⟩) (θ_run_and (run_main m ρ) (unchanged m ρ))

end Cert.OutProjIdeal.Val

namespace Cert.OutProjRefIdeal.Val

open Cert.OutProjRefIdeal Cert.OutProjRefIdeal.Gen Cert.OutProjRefIdeal.Read Idealize.ShloMosaic Idealize.ShloMosaic.TcCoe Idealize.SL.Sem
open Cert.OutProjSpec

/-- The result as a function of the index. -/
theorem eq18 {x0 y0 : Vec Ideal S32x2048x1024 .f32} {x1 x2 y1 y2 : Vec Ideal S65536x512 .bf16} {x3 y3 : Vec Ideal S1x1024x1024 .f32}
    {x4 y4 : Vec Ideal S1024 .f32} (e0 : y0 = x0) (e1 : y1 = x1) (e2 : y2 = x2) (e3 : y3 = x3) (e4 : y4 = x4) :
    val_main_v18 (F := Ideal) y0 y1 y2 y3 y4 = fun i => out x0 x1 x2 x3 x4 (i 0) (i 1) (i 2) := by
  subst e0 e1 e2 e3 e4
  funext i
  obtain ⟨b, s, n, rfl⟩ : ∃ (b : Fin 32) (s : Fin 2048) (n : Fin 1024), i = ix3 b s n := ⟨i 0, i 1, i 2, eq_ix3 i⟩
  exact ref_out y0 y1 y2 y3 y4 b s n

end Cert.OutProjRefIdeal.Val

namespace Cert.OutProjClaim

open Idealize.ShloMosaic Idealize.SL.Sem

/-- The kernel and the plain program give the same result. -/
theorem algebraic : Cert.algebraic_OutProjIdeal_OutProjRefIdeal := by
  intro m g m' g' _ ha
  refine ⟨fun c => Cert.OutProjIdeal.Val.result m c, Cert.OutProjIdeal.Val.run m g, ?_⟩
  refine (θ_run _ _ _).mono (fun r h c => ?_) (Cert.OutProjRefIdeal.Value.run m' g')
  obtain ⟨h0, h1⟩ := h c
  obtain ⟨a0, a1, a2, a3, a4⟩ := ha c
  exact ⟨h0.trans ((Cert.OutProjRefIdeal.Read.val_main_v18_eq _ _ _ _ _).trans (Cert.OutProjRefIdeal.Val.eq18 a0 a1 a2 a3 a4)), h1⟩

end Cert.OutProjClaim
-- ==== Proof.OutProjGated.Spec.lean ====
/- The gated output projection of the sample batch in closed form, over the extended reals: what one element of the
   result is as a function of the arrays. Both programs of the claim about this call are read down to these functions. -/
module

public import proofs.«01_k».proof.Defs
public import Idealize.ShloMosaic.Lib.Pointwise

@[expose] public section

set_option maxRecDepth 16384

noncomputable section

namespace Cert.OutProjGatedSpec

open Idealize.ShloMosaic

/-- `x · sigmoid(x)`. -/
def silu (x : EReal) : EReal := x * Ideal.div 1 (1 + Ideal.exp (0 - x))

/-- Element `(b, n)` of `x + concat(att · silu(za), gdn) @ w_out`, the product's sum cut at the concatenation. -/
def mixed (x : (⟨3, ![128, 1, 1024]⟩ : Shape).Idx → EReal) (att za : (⟨2, ![128, 512]⟩ : Shape).Idx → EReal)
    (gdn : (⟨3, ![128, 1, 512]⟩ : Shape).Idx → EReal) (w : (⟨3, ![1, 1024, 1024]⟩ : Shape).Idx → EReal)
    (b : Fin 128) (n : Fin 1024) : EReal :=
  x (ix3 b 0 n) + ∑ k : Fin 512, att (ix2 b k) * silu (za (ix2 b k)) * w (ix3 0 ⟨k.val, by omega⟩ n)
    + ∑ k : Fin 512, gdn (ix3 b 0 k) * w (ix3 0 ⟨512 + k.val, by omega⟩ n)

/-- Element `(b, n)` of the result: the sum above divided by the root of the mean of its squares over `n` (1024 of
    them, as the float constant the programs print; the small constant under the root likewise), times the gain. -/
def out (x : (⟨3, ![128, 1, 1024]⟩ : Shape).Idx → EReal) (att za : (⟨2, ![128, 512]⟩ : Shape).Idx → EReal)
    (gdn : (⟨3, ![128, 1, 512]⟩ : Shape).Idx → EReal) (w : (⟨3, ![1, 1024, 1024]⟩ : Shape).Idx → EReal)
    (g : (⟨1, ![1024]⟩ : Shape).Idx → EReal) (b : Fin 128) (n : Fin 1024) : EReal :=
  mixed x att za gdn w b n
    * Ideal.rsqrt (Ideal.div (∑ k : Fin 1024, mixed x att za gdn w b k * mixed x att za gdn w b k)
        (Ideal.ofBits FTy.f32 0x44800000#32) + Ideal.ofBits FTy.f32 0x358637BD#32)
    * g (ix1 n)

end Cert.OutProjGatedSpec
-- ==== Proof.OutProjGated.Kernel.lean ====
/- The gated output projection call: each block read at an index, the result array after the run, and the result after
   the host's last reshape, in the closed form of `OutProjGated/Spec.lean`. -/
module

public import proofs.«01_k».proof.Proof.Gen.OutProjGatedIdeal.Frame
public import proofs.«01_k».proof.Proof.OutProjGated.Spec
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.OutProjGatedIdeal.Val

open Cert.OutProjGatedIdeal Cert.OutProjGatedIdeal.Gen Idealize.ShloMosaic Idealize.ShloMosaic.TcCoe Idealize.SL.Sem
open Idealize.ShloMosaic.Pipeline (Dat)
open Cert.OutProjGatedSpec

variable (m : (ℓ : Loc nD τ sig) → Buf (Elt Ideal) ℓ) (ρ : Dev nD → PrngReg)

/-- The one grid step stages each array whole. -/
theorem idx : ∀ t : Fin cfg0.grid.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by
  decide +kernel

/-! What the host hands to the call, at an index. -/

theorem V_main_v1 (c : Dev nD) (i : S1024x1024.Idx) : V m c main_v1 i = m ((c : Thread nD τ).loc main_arg4) (ix3 0 (i 0) (i 1)) := by
  show StableHlo.after hostOps0 _ (Proc.devRef .tc main_v1) i = _
  after_results
  pointwise

theorem V_main_v2 (c : Dev nD) (i : S128x1024.Idx) : V m c main_v2 i = m ((c : Thread nD τ).loc main_arg0) (ix3 (i 0) 0 (i 1)) := by
  show StableHlo.after hostOps0 _ (Proc.devRef .tc main_v2) i = _
  after_results
  pointwise

theorem V_main_v3 (c : Dev nD) (i : S128x512.Idx) : V m c main_v3 i = m ((c : Thread nD τ).loc main_arg3) (ix3 (i 0) 0 (i 1)) := by
  show StableHlo.after hostOps0 _ (Proc.devRef .tc main_v3) i = _
  after_results
  pointwise

theorem V_main_v4 (c : Dev nD) (i : S1x1024.Idx) : V m c main_v4 i = m ((c : Thread nD τ).loc main_arg5) (ix1 (i 1)) := by
  show StableHlo.after hostOps0 _ (Proc.devRef .tc main_v4) i = _
  after_results
  pointwise

/-! Element `(a, b)` of the block an operand stages. -/

theorem blk0 (c : Dev nD) (t : Fin cfg0.grid.N) (a : Fin 128) (b : Fin 1024) : iblk m c 0 t (ix2 a b) = m ((c : Thread nD τ).loc main_arg0) (ix3 a 0 b) := by
  have h : iblk m c 0 t (ix2 a b) = V m c main_v2 (ix2 a b) := by blk_ext [iblk, idx t]
  exact h.trans (V_main_v2 m c _)

theorem blk1 (c : Dev nD) (t : Fin cfg0.grid.N) (a : Fin 128) (b : Fin 512) : iblk m c 1 t (ix2 a b) = m ((c : Thread nD τ).loc main_arg1) (ix2 a b) := by
  have h : iblk m c 1 t (ix2 a b) = V m c main_arg1 (ix2 a b) := by blk_ext [iblk, idx t]
  exact h.trans (congrFun (V_main_arg1 m c) _)

theorem blk2 (c : Dev nD) (t : Fin cfg0.grid.N) (a : Fin 128) (b : Fin 512) : iblk m c 2 t (ix2 a b) = m ((c : Thread nD τ).loc main_arg2) (ix2 a b) := by
  have h : iblk m c 2 t (ix2 a b) = V m c main_arg2 (ix2 a b) := by blk_ext [iblk, idx t]
  exact h.trans (congrFun (V_main_arg2 m c) _)

theorem blk3 (c : Dev nD) (t : Fin cfg0.grid.N) (a : Fin 128) (b : Fin 512) : iblk m c 3 t (ix2 a b) = m ((c : Thread nD τ).loc main_arg3) (ix3 a 0 b) := by
  have h : iblk m c 3 t (ix2 a b) = V m c main_v3 (ix2 a b) := by blk_ext [iblk, idx t]
  exact h.trans (V_main_v3 m c _)

theorem blk4 (c : Dev nD) (t : Fin cfg0.grid.N) (a : Fin 1024) (b : Fin 1024) : iblk m c 4 t (ix2 a b) = m ((c : Thread nD τ).loc main_arg4) (ix3 0 a b) := by
  have h : iblk m c 4 t (ix2 a b) = V m c main_v1 (ix2 a b) := by blk_ext [iblk, idx t]
  exact h.trans (V_main_v1 m c _)

theorem blk5 (c : Dev nD) (t : Fin cfg0.grid.N) (a : Fin 1) (b : Fin 1024) : iblk m c 5 t (ix2 a b) = m ((c : Thread nD τ).loc main_arg5) (ix1 b) := by
  have h : iblk m c 5 t (ix2 a b) = V m c main_v4 (ix2 a b) := by blk_ext [iblk, idx t]
  exact h.trans (V_main_v4 m c _)

/-- Where element `(a, b)` of the stored block lands. -/
theorem emb6 (t : Fin cfg0.grid.N) (a : Fin 128) (b : Fin 1024) : ((View.whole main_v5).slice (win0_6.rect t)).emb (ix2 a b) = ix2 a b := by
  blk_ext [idx t]

/-- The result of the call. -/
def G (c : Dev nD) : Vec Ideal S128x1024 .f32 := fun i =>
  out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1)

/-- The result array after the run. -/
theorem final6 (c : Dev nD) : (dats m 0 c).arrAt 6 cfg0.N = G m c := by
  refine (dats m 0 c).arrAt_eq_of_covers 6 _ (by decide +kernel) fun t hf y => ?_
  blk_simp
  rw [after0_6]
  frame_out
  obtain ⟨a, b, rfl⟩ : ∃ (a : Fin 128) (b : Fin 1024), y = ix2 a b := ⟨y 0, y 1, eq_ix2 y⟩
  rw [emb6]
  pointwise [Gen.k0_pay1, Gen.k0_pay2, Gen.k0_pay3]
  simp only [blk0, blk1, blk2, blk3, blk4, blk5]
  unfold G out mixed silu
  pointwise

/-- The result after the host's reshape. -/
theorem tail (c : Dev nD) (i : S128x1x1024.Idx) : Pipeline.afterTail₀ cfgs (dats m) 0 (V0 m) [hostOps1] c main_v6 i =
    out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 2) := by
  have h : Pipeline.afterTail₀ cfgs (dats m) 0 (V0 m) [hostOps1] c main_v6
      = shapeCast S128x1x1024 (G m c) shapeCasts_S128x1024_S128x1x1024 := by
    unfold Pipeline.afterTail₀
    show StableHlo.after hostOps1 _ (Proc.devRef .tc main_v6) = _
    after_results
    rw [Pipeline.withArrays_arr spec0 launch0.win.arr_inj (w := 6)]
    rw [← final6]
    rfl
  rw [h]
  idx_vars i
  pointwise [G]

end Cert.OutProjGatedIdeal.Val
-- ==== Proof.OutProjGated.Reference.lean ====
/- The plain program of the gated output projection, read down to the closed form of `OutProjGated/Spec.lean`. -/
module

public import proofs.«01_k».proof.Proof.Gen.OutProjGatedRefIdeal.Read
public import proofs.«01_k».proof.Proof.OutProjGated.Spec
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.OutProjGatedRefIdeal.Val

open Cert.OutProjGatedRefIdeal Cert.OutProjGatedRefIdeal.Gen Cert.OutProjGatedRefIdeal.Read Idealize.ShloMosaic Idealize.ShloMosaic.TcCoe Idealize.SL.Sem
open Cert.OutProjGatedSpec

variable (x0 : Vec Ideal S128x1x1024 .f32) (x1 x2 : Vec Ideal S128x512 .f32) (x3 : Vec Ideal S128x1x512 .bf16)
  (x4 : Vec Ideal S1x1024x1024 .f32) (x5 : Vec Ideal S1024 .f32)

theorem v0 (b : Fin 128) (k : Fin 512) : (val_main_v0 (F := Ideal) x1) (ix3 b 0 k) = x1 (ix2 b k) := by
  unfold val_main_v0
  pointwise

theorem v1 (b : Fin 128) (k : Fin 512) : (val_main_v1 (F := Ideal) x2) (ix3 b 0 k) = x2 (ix2 b k) := by
  unfold val_main_v1
  pointwise

/-- The gate. -/
theorem v2 (b : Fin 128) (k : Fin 512) : (val_main_v2 (F := Ideal) x2) (ix3 b 0 k) = silu (x2 (ix2 b k)) := by
  rw [← v1 x2]
  unfold silu val_main_v2 val_main_call0_v5 val_main_call0_v4 val_main_call0_v3 val_main_call0_v2 val_main_call0_v1 val_main_call0_v0 val_main_call0_cst val_main_call0_cst_0
  generalize (val_main_v1 (F := Ideal) x2) = y
  pointwise
  rw [zero_sub]

theorem v3 (b : Fin 128) (k : Fin 512) : (val_main_v3 (F := Ideal) x1 x2) (ix3 b 0 k) = x1 (ix2 b k) * silu (x2 (ix2 b k)) := by
  rw [val_main_v3_apply, v0, v2]; rfl

theorem v4 (b : Fin 128) (k : Fin 512) : (val_main_v4 (F := Ideal) x3) (ix3 b 0 k) = x3 (ix3 b 0 k) := by
  rw [val_main_v4_apply]; rfl

theorem v5 (b : Fin 128) (k : Fin 1024) : (val_main_v5 (F := Ideal) x1 x2 x3) (ix3 b 0 k) = if h : k.val < 512 then (val_main_v3 (F := Ideal) x1 x2) (ix3 b 0 ⟨k.val, h⟩) else (val_main_v4 (F := Ideal) x3) (ix3 b 0 ⟨k.val - 512, by omega⟩) := by
  unfold val_main_v5
  generalize val_main_v3 (F := Ideal) x1 x2 = yv3
  generalize val_main_v4 (F := Ideal) x3 = yv4
  pointwise

theorem v6 (k n : Fin 1024) : (val_main_v6 (F := Ideal) x4) (ix2 k n) = x4 (ix3 0 k n) := by
  unfold val_main_v6
  pointwise

theorem v7 (b : Fin 128) (n : Fin 1024) : (val_main_v7 (F := Ideal) x1 x2 x3 x4) (ix3 b 0 n) = ∑ k : Fin 1024, (val_main_v5 (F := Ideal) x1 x2 x3) (ix3 b 0 k) * (val_main_v6 (F := Ideal) x4) (ix2 k n) := by
  unfold val_main_v7
  generalize val_main_v5 (F := Ideal) x1 x2 x3 = yv5
  generalize val_main_v6 (F := Ideal) x4 = yv6
  pointwise

/-- The sum before the norm. -/
theorem ref_mixed (b : Fin 128) (n : Fin 1024) : (val_main_v8 (F := Ideal) x0 x1 x2 x3 x4) (ix3 b 0 n) = mixed x0 x1 x2 x3 x4 b n := by
  rw [val_main_v8_apply, v7]
  simp only [v5, v6, v3, v4]
  unfold mixed
  pointwise
  simp only [add_assoc]

theorem v10 (b : Fin 128) : (val_main_v10 (F := Ideal) x0 x1 x2 x3 x4) (ix2 b 0) = ∑ k : Fin 1024, (val_main_v8 (F := Ideal) x0 x1 x2 x3 x4) (ix3 b 0 k) * (val_main_v8 (F := Ideal) x0 x1 x2 x3 x4) (ix3 b 0 k) := by
  unfold val_main_v10 val_main_v9 val_main_cst
  generalize (val_main_v8 (F := Ideal) x0 x1 x2 x3 x4) = y
  pointwise

theorem v11 (b : Fin 128) : (val_main_v11 (F := Ideal) x0 x1 x2 x3 x4) (ix3 b 0 0) = (val_main_v10 (F := Ideal) x0 x1 x2 x3 x4) (ix2 b 0) := by
  unfold val_main_v11
  generalize (val_main_v10 (F := Ideal) x0 x1 x2 x3 x4) = y
  pointwise

theorem v16 (b : Fin 128) : (val_main_v16 (F := Ideal) x0 x1 x2 x3 x4) (ix3 b 0 0)
    = Ideal.rsqrt (Ideal.div ((val_main_v10 (F := Ideal) x0 x1 x2 x3 x4) (ix2 b 0)) (Ideal.ofBits FTy.f32 0x44800000#32) + Ideal.ofBits FTy.f32 0x358637BD#32) := by
  rw [← v11]
  unfold val_main_v16 val_main_v15 val_main_v14 val_main_v13 val_main_v12 val_main_cst_0 val_main_cst_1
  generalize (val_main_v11 (F := Ideal) x0 x1 x2 x3 x4) = y
  pointwise

theorem v17 (b : Fin 128) (n : Fin 1024) : (val_main_v17 (F := Ideal) x0 x1 x2 x3 x4) (ix3 b 0 n) = (val_main_v16 (F := Ideal) x0 x1 x2 x3 x4) (ix3 b 0 0) := by
  unfold val_main_v17
  generalize (val_main_v16 (F := Ideal) x0 x1 x2 x3 x4) = y
  pointwise

theorem v19 (n : Fin 1024) : (val_main_v19 (F := Ideal) x5) (ix3 0 0 n) = x5 (ix1 n) := by
  unfold val_main_v19
  pointwise

theorem v20 (b : Fin 128) (n : Fin 1024) : (val_main_v20 (F := Ideal) x5) (ix3 b 0 n) = (val_main_v19 (F := Ideal) x5) (ix3 0 0 n) := by
  unfold val_main_v20
  generalize (val_main_v19 (F := Ideal) x5) = y
  pointwise

/-- The normalised result. -/
theorem ref_out (b : Fin 128) (n : Fin 1024) : (val_main_v21 (F := Ideal) x0 x1 x2 x3 x4 x5) (ix3 b 0 n) = out x0 x1 x2 x3 x4 x5 b n := by
  rw [val_main_v21_apply, val_main_v18_apply, v17, v16, v10, v20, v19]
  simp only [ref_mixed]
  rfl

end Cert.OutProjGatedRefIdeal.Val
-- ==== Proof.OutProjGated.Claim.lean ====
/- The value claim about the gated output projection: both programs run, end with equal results, and keep their arguments. -/
module

public import proofs.«01_k».proof.Proof.OutProjGated.Kernel
public import proofs.«01_k».proof.Proof.OutProjGated.Reference

@[expose] public section

set_option maxRecDepth 16384

noncomputable section

namespace Cert.OutProjGatedIdeal.Val

open Cert.OutProjGatedIdeal Cert.OutProjGatedIdeal.Gen Idealize.ShloMosaic Idealize.ShloMosaic.TcCoe Idealize.SL.Sem
open Cert.OutProjGatedSpec

variable (m : (ℓ : Loc nD τ sig) → Buf (Elt Ideal) ℓ) (ρ : Dev nD → PrngReg)

/-- The result as a function of the index. -/
def result (c : Dev nD) : Vec Ideal S128x1x1024 .f32 := fun i =>
  out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 2)

/-- The run of the call, its result in closed form and its arguments kept. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.1 c).2 main_v6 (Pipeline.mem_restRefs_of main_v6 (by decide) (by decide))).trans
      (funext fun i => tail m c i), h.2 c⟩) (θ_run_and (run_main m ρ) (unchanged m ρ))

end Cert.OutProjGatedIdeal.Val

namespace Cert.OutProjGatedRefIdeal.Val

open Cert.OutProjGatedRefIdeal Cert.OutProjGatedRefIdeal.Gen Cert.OutProjGatedRefIdeal.Read Idealize.ShloMosaic Idealize.ShloMosaic.TcCoe Idealize.SL.Sem
open Cert.OutProjGatedSpec

/-- The result as a function of the index. -/
theorem eq21 (x0 : Vec Ideal S128x1x1024 .f32) (x1 x2 : Vec Ideal S128x512 .f32) (x3 : Vec Ideal S128x1x512 .bf16)
    (x4 : Vec Ideal S1x1024x1024 .f32) (x5 : Vec Ideal S1024 .f32) :
    val_main_v21 (F := Ideal) x0 x1 x2 x3 x4 x5 = fun i => out x0 x1 x2 x3 x4 x5 (i 0) (i 2) := by
  funext i
  obtain ⟨b, s, n, rfl⟩ : ∃ (b : Fin 128) (s : Fin 1) (n : Fin 1024), i = ix3 b s n := ⟨i 0, i 1, i 2, eq_ix3 i⟩
  obtain rfl : s = 0 := Subsingleton.elim _ _
  exact ref_out x0 x1 x2 x3 x4 x5 b n

end Cert.OutProjGatedRefIdeal.Val

namespace Cert.OutProjGatedClaim

open Idealize.ShloMosaic Idealize.SL.Sem

/-- The kernel and the plain program give the same result. -/
theorem algebraic : Cert.algebraic_OutProjGatedIdeal_OutProjGatedRefIdeal := by
  intro m g m' g' _ ha
  refine ⟨fun c => Cert.OutProjGatedIdeal.Val.result m c, Cert.OutProjGatedIdeal.Val.run m g, ?_⟩
  refine (θ_run _ _ _).mono (fun r h c => ?_) (Cert.OutProjGatedRefIdeal.Value.run m' g')
  obtain ⟨h0, h1⟩ := h c
  obtain ⟨a0, a1, a2, a3, a4, a5⟩ := ha c
  have e := h0.trans ((Cert.OutProjGatedRefIdeal.Read.val_main_v21_eq _ _ _ _ _ _).trans (Cert.OutProjGatedRefIdeal.Val.eq21 _ _ _ _ _ _))
  rw [a0, a1, a2, a3, a4, a5] at e
  exact ⟨e, h1⟩

end Cert.OutProjGatedClaim
-- ==== Proof.Features.Spec.lean ====
/- The queries, keys and values of the recurrence on the prompt batch in closed form, over the extended reals. Both programs of the
   claim about this call are read down to these functions. -/
module

public import proofs.«01_k».proof.Proof.Gdn.Spec

@[expose] public section

noncomputable section

namespace Cert.FeaturesSpec

open Idealize.ShloMosaic Cert.GdnSpec

variable (x0 : (⟨3, ![32, 2048, 1536]⟩ : Shape).Idx → EReal) (w : (⟨3, ![1, 4, 1536]⟩ : Shape).Idx → EReal)

/-- Channel `n` of sequence `b`, `3 - j` tokens before token `t`, and zero before the sequence's first token. -/
def past (b : Fin 32) (t : Fin 2048) (j : Fin 4) (n : Fin 1536) : EReal :=
  if h : 3 ≤ t.val + j.val then x0 (ix3 b ⟨t.val + j.val - 3, by omega⟩ n) else 0

/-- The causal convolution of channel `n` at token `t`. -/
def conv (b : Fin 32) (t : Fin 2048) (n : Fin 1536) : EReal :=
  past x0 b t 0 n * w (ix3 0 0 n) + past x0 b t 1 n * w (ix3 0 1 n) + past x0 b t 2 n * w (ix3 0 2 n) + past x0 b t 3 n * w (ix3 0 3 n)

/-- Channel `off + d` after its gate, over the root of the sum of squares of the 128 channels from `off` on. -/
def unit (b : Fin 32) (t : Fin 2048) (off : ℕ) (hoff : off + 128 ≤ 1536) (d : Fin 128) : EReal :=
  silu (conv x0 w b t ⟨off + d.val, by omega⟩)
    * Ideal.rsqrt (∑ x : Fin 128, silu (conv x0 w b t ⟨off + x.val, by omega⟩) * silu (conv x0 w b t ⟨off + x.val, by omega⟩) + eps)

/-- The query of head `h`, times `128 ^ (-1/2)`. -/
def query (b : Fin 32) (t : Fin 2048) (h : Fin 4) (d : Fin 128) : EReal :=
  unit x0 w b t (128 * h.val) (by omega) d * Ideal.ofBits FTy.f32 0x3DB504F3#32

/-- The key of head `h`. -/
def key (b : Fin 32) (t : Fin 2048) (h : Fin 4) (d : Fin 128) : EReal := unit x0 w b t (512 + 128 * h.val) (by omega) d

/-- The value of head `h`. -/
def value (b : Fin 32) (t : Fin 2048) (h : Fin 4) (d : Fin 128) : EReal := silu (conv x0 w b t ⟨1024 + 128 * h.val + d.val, by omega⟩)

/-- One of the three as the call lays it out: rows of tokens, 128 lanes for each head. -/
def rows (f : Fin 32 → Fin 2048 → Fin 4 → Fin 128 → EReal) : (⟨2, ![65536, 512]⟩ : Shape).Idx → EReal := fun i =>
  f ⟨(i 0).val / 2048, by have : (i 0).val < 65536 := (i 0).isLt; omega⟩ ⟨(i 0).val % 2048, by omega⟩
    ⟨(i 1).val / 128, by have : (i 1).val < 512 := (i 1).isLt; omega⟩ ⟨(i 1).val % 128, by omega⟩

/-- Its element at a token and a head's lane. -/
theorem rows_at (f : Fin 32 → Fin 2048 → Fin 4 → Fin 128 → EReal) (b : Fin 32) (t : Fin 2048) (h : Fin 4) (d : Fin 128)
    (r : Fin 65536) (n : Fin 512) (hr : r.val = 2048 * b.val + t.val) (hn : n.val = 128 * h.val + d.val) :
    rows f (ix2 r n) = f b t h d := by
  show f ⟨r.val / 2048, _⟩ ⟨r.val % 2048, _⟩ ⟨n.val / 128, _⟩ ⟨n.val % 128, _⟩ = _
  congr 1 <;> apply Fin.ext <;> simp only <;> omega

end Cert.FeaturesSpec
-- ==== Proof.Features.Payload.lean ====
/- What one step of the call computes for one head, over arbitrary blocks. -/
module

public import proofs.«01_k».proof.Proof.Gen.FeaturesIdeal.Frame
public import proofs.«01_k».proof.Proof.Gen.FeaturesIdeal.Value
public import proofs.«01_k».proof.Proof.Features.Spec
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.FeaturesIdeal.Val

open Cert.FeaturesIdeal Cert.FeaturesIdeal.Gen Idealize.ShloMosaic Idealize.ShloMosaic.TcCoe Idealize.SL.Sem
open Idealize.ShloMosaic.Pipeline (Dat)
open Cert.GdnSpec (silu eps)
open Cert.FeaturesSpec

variable (f : BitVec 1) (h : Vec Ideal S8x128 .f32) (x : Vec Ideal S512x128 .f32) (y : FVec Ideal S520x128 .f32)
  (v : FVec Ideal S512x128 .f32) (w0 w1 w2 w3 : Vec Ideal S1x128 .f32)

/-- The sum of four shifted rows, each times its weights. -/
def cv (a : Fin 512) (d : Fin 128) : EReal :=
  y (ix2 ⟨5 + a.val, by omega⟩ d) * w0 (ix2 0 d) + y (ix2 ⟨6 + a.val, by omega⟩ d) * w1 (ix2 0 d)
    + y (ix2 ⟨7 + a.val, by omega⟩ d) * w2 (ix2 0 d) + y (ix2 ⟨8 + a.val, by omega⟩ d) * w3 (ix2 0 d)

/-- The kept rows, or zeros in a sequence's first block, before the block's own. -/
theorem cat_first (r : Fin 520) (d : Fin 128) : k0_pay16 1#1 h x (ix2 r d)
    = if hr : r.val < 8 then 0 else x (ix2 ⟨r.val - 8, by omega⟩ d) := by
  have e : k0_pay16 1#1 h x = concatenate S520x128 0 [⟨S8x128, broadcast S8x128 (Scalar.ofBits (F := Ideal) .f32 0x00000000#32)⟩, ⟨S512x128, shapeCast S512x128 x shapeCasts_S512x128_S512x128⟩] concatenates_S8x128_S512x128_S520x128_d0 := rfl
  rw [e]
  pointwise

theorem cat_later (r : Fin 520) (d : Fin 128) : k0_pay16 0#1 h x (ix2 r d)
    = if hr : r.val < 8 then h (ix2 ⟨r.val, hr⟩ d) else x (ix2 ⟨r.val - 8, by omega⟩ d) := by
  have e : k0_pay16 0#1 h x = concatenate S520x128 0 [⟨S8x128, shapeCast S8x128 h shapeCasts_S8x128_S8x128⟩, ⟨S512x128, shapeCast S512x128 x shapeCasts_S512x128_S512x128⟩] concatenates_S8x128_S512x128_S520x128_d0 := rfl
  rw [e]
  pointwise

/-- The convolution, from rows already put together. -/
def convOf : FVec Ideal S512x128 .f32 :=
  addf (addf (addf (mulf (extractStridedSlice S512x128 ![5, 0] y slices_S520x128_o5_0_S512x128) (broadcastTo S512x128 (shapeCast S1x128 w0 shapeCasts_S1x128_S1x128) broadcasts_S1x128_S512x128))
    (mulf (extractStridedSlice S512x128 ![6, 0] y slices_S520x128_o6_0_S512x128) (broadcastTo S512x128 (shapeCast S1x128 w1 shapeCasts_S1x128_S1x128) broadcasts_S1x128_S512x128)))
    (mulf (extractStridedSlice S512x128 ![7, 0] y slices_S520x128_o7_0_S512x128) (broadcastTo S512x128 (shapeCast S1x128 w2 shapeCasts_S1x128_S1x128) broadcasts_S1x128_S512x128)))
    (mulf (extractStridedSlice S512x128 ![8, 0] y slices_S520x128_o8_0_S512x128) (broadcastTo S512x128 (shapeCast S1x128 w3 shapeCasts_S1x128_S1x128) broadcasts_S1x128_S512x128))

theorem convOf_at (a : Fin 512) (d : Fin 128) : convOf y w0 w1 w2 w3 (ix2 a d) = cv y w0 w1 w2 w3 a d := by
  unfold convOf cv
  pointwise

theorem query_at (a : Fin 512) (d : Fin 128) : k0_pay7 v k0_pay6 (ix2 a d)
    = silu (v (ix2 a d)) * Ideal.rsqrt (∑ z : Fin 128, silu (v (ix2 a z)) * silu (v (ix2 a z)) + eps) * Ideal.ofBits FTy.f32 0x3DB504F3#32 := by
  unfold silu
  pointwise [k0_pay7, k0_pay6]
  try rfl

theorem key_at (a : Fin 512) (d : Fin 128) : k0_pay17 y w0 w1 w2 w3 (ix2 a d)
    = silu (cv y w0 w1 w2 w3 a d) * Ideal.rsqrt (∑ z : Fin 128, silu (cv y w0 w1 w2 w3 a z) * silu (cv y w0 w1 w2 w3 a z) + eps) := by
  unfold silu cv
  pointwise [k0_pay17]
  try rfl

theorem value_at (a : Fin 512) (d : Fin 128) : k0_pay36 v (Scalar.ofBits .f32 0x00000000#32) (ix2 a d) = silu (v (ix2 a d)) := by
  unfold silu
  pointwise [k0_pay36]
  try rfl

/-! The heads are unrolled in the body, cut at other places; the payloads are the same. -/

theorem q0 (i : grid0.Coords) : k0_pay4 (k0_pay2 i h x w0 w1 w2 w3) (k0_pay3 i h x w0 w1 w2 w3)
    = k0_pay7 (convOf (k0_pay16 (Scalar.cmpi .eq (BitVec.ofNat 32 (i 1).val) 0#32) h x) w0 w1 w2 w3) (k0_pay6 (F := Ideal)) := rfl
theorem q1 : k0_pay7 (k0_pay5 f h x w0 w1 w2 w3) (k0_pay6 (F := Ideal)) = k0_pay7 (convOf (k0_pay16 f h x) w0 w1 w2 w3) (k0_pay6 (F := Ideal)) := rfl
theorem q2 : k0_pay11 (k0_pay8 f h x) (k0_pay9 f h x w0 w1) (k0_pay10 f h x w2) w3
    = k0_pay7 (convOf (k0_pay16 f h x) w0 w1 w2 w3) (k0_pay6 (F := Ideal)) := rfl
theorem q3 : k0_pay15 (k0_pay12 f h x) (k0_pay13 f h x w0) (k0_pay14 f h x) w1 w2 w3
    = k0_pay7 (convOf (k0_pay16 f h x) w0 w1 w2 w3) (k0_pay6 (F := Ideal)) := rfl
theorem k1 : k0_pay19 f (k0_pay18 h) x w0 w1 w2 w3 = k0_pay17 (k0_pay16 f h x) w0 w1 w2 w3 := rfl
theorem k2 : k0_pay22 (k0_pay20 f h x w0 w1 w2 w3) (k0_pay21 f h x w0 w1 w2 w3) = k0_pay17 (k0_pay16 f h x) w0 w1 w2 w3 := rfl
theorem k3 : k0_pay25 (k0_pay23 f h x w0 w1 w2 w3) (k0_pay24 f h x w0 w1 w2 w3) (Scalar.ofBits .f32 0x3F800000#32) = k0_pay17 (k0_pay16 f h x) w0 w1 w2 w3 := rfl
theorem v0 : k0_pay30 (k0_pay27 f h x w0 w1 w2) (k0_pay28 f h x) (k0_pay29 w3) = k0_pay36 (convOf (k0_pay16 f h x) w0 w1 w2 w3) (Scalar.ofBits .f32 0x00000000#32) := rfl
theorem v1 : k0_pay34 (k0_pay32 f h x w0 w1 w2) (k0_pay33 f h x w3) = k0_pay36 (convOf (k0_pay16 f h x) w0 w1 w2 w3) (Scalar.ofBits .f32 0x00000000#32) := rfl
theorem v2 : k0_pay36 (k0_pay35 f h x w0 w1 w2 w3) (Scalar.ofBits .f32 0x00000000#32) = k0_pay36 (convOf (k0_pay16 f h x) w0 w1 w2 w3) (Scalar.ofBits .f32 0x00000000#32) := rfl
theorem v3 : k0_pay1 (k0_pay37 f h x w0 w1 w2 w3) (k0_pay38 f h x w0 w1 w2 w3) = k0_pay36 (convOf (k0_pay16 f h x) w0 w1 w2 w3) (Scalar.ofBits .f32 0x00000000#32) := rfl

/-! Step `t` works on token rows `512 * (t % 4)` on of sequence `t / 4`. -/

section

variable (x0 : (⟨3, ![32, 2048, 1536]⟩ : Shape).Idx → EReal) (w : (⟨3, ![1, 4, 1536]⟩ : Shape).Idx → EReal)
  (t : Fin 128) (off : ℕ) (hoff : off + 128 ≤ 1536)

/-- What a head's blocks hold at step `t`: the kept rows, the rows and the weights, all from channel `off` on. -/
structure Holds : Prop where
  first : f = if t.val % 4 = 0 then 1#1 else 0#1
  hist : ∀ ht : t.val % 4 ≠ 0, ∀ (r : Fin 8) (d : Fin 128), h (ix2 r d)
    = x0 (ix3 ⟨t.val / 4, by omega⟩ ⟨512 * (t.val % 4) + r.val - 8, by omega⟩ ⟨off + d.val, by omega⟩)
  rows : ∀ (a : Fin 512) (d : Fin 128), x (ix2 a d)
    = x0 (ix3 ⟨t.val / 4, by omega⟩ ⟨512 * (t.val % 4) + a.val, by omega⟩ ⟨off + d.val, by omega⟩)
  w0 : ∀ d : Fin 128, w0 (ix2 0 d) = w (ix3 0 0 ⟨off + d.val, by omega⟩)
  w1 : ∀ d : Fin 128, w1 (ix2 0 d) = w (ix3 0 1 ⟨off + d.val, by omega⟩)
  w2 : ∀ d : Fin 128, w2 (ix2 0 d) = w (ix3 0 2 ⟨off + d.val, by omega⟩)
  w3 : ∀ d : Fin 128, w3 (ix2 0 d) = w (ix3 0 3 ⟨off + d.val, by omega⟩)

variable {f h x w0 w1 w2 w3 x0 w t off hoff}

theorem past_at (H : Holds f h x w0 w1 w2 w3 x0 w t off hoff) (a : Fin 512) (j : Fin 4) (d : Fin 128) (r : Fin 520) (hr : r.val = 5 + j.val + a.val) :
    k0_pay16 f h x (ix2 r d) = past x0 ⟨t.val / 4, by omega⟩ ⟨512 * (t.val % 4) + a.val, by omega⟩ j ⟨off + d.val, by omega⟩ := by
  have hf := H.first
  unfold past
  by_cases ht : t.val % 4 = 0
  · rw [if_pos ht] at hf
    subst hf
    rw [cat_first]
    by_cases hr8 : r.val < 8
    · rw [dif_pos hr8, dif_neg (by show ¬ 3 ≤ 512 * (t.val % 4) + a.val + j.val; omega)]
    · rw [dif_neg hr8, dif_pos (by show 3 ≤ 512 * (t.val % 4) + a.val + j.val; omega), H.rows]
      congr 2
      apply Fin.ext
      show 512 * (t.val % 4) + (r.val - 8) = 512 * (t.val % 4) + a.val + j.val - 3
      omega
  · rw [if_neg ht] at hf
    subst hf
    rw [cat_later]
    by_cases hr8 : r.val < 8
    · rw [dif_pos hr8, dif_pos (by show 3 ≤ 512 * (t.val % 4) + a.val + j.val; omega), H.hist ht]
      congr 2
      apply Fin.ext
      show 512 * (t.val % 4) + r.val - 8 = 512 * (t.val % 4) + a.val + j.val - 3
      omega
    · rw [dif_neg hr8, dif_pos (by show 3 ≤ 512 * (t.val % 4) + a.val + j.val; omega), H.rows]
      congr 2
      apply Fin.ext
      show 512 * (t.val % 4) + (r.val - 8) = 512 * (t.val % 4) + a.val + j.val - 3
      omega

theorem conv_at (H : Holds f h x w0 w1 w2 w3 x0 w t off hoff) (a : Fin 512) (d : Fin 128) : cv (k0_pay16 f h x) w0 w1 w2 w3 a d
    = conv x0 w ⟨t.val / 4, by omega⟩ ⟨512 * (t.val % 4) + a.val, by omega⟩ ⟨off + d.val, by omega⟩ := by
  unfold cv conv
  rw [past_at H a 0 d _ (by show 5 + a.val = 5 + 0 + a.val; omega), past_at H a 1 d _ (by show 6 + a.val = 5 + 1 + a.val; omega),
    past_at H a 2 d _ (by show 7 + a.val = 5 + 2 + a.val; omega), past_at H a 3 d _ (by show 8 + a.val = 5 + 3 + a.val; omega), H.w0, H.w1, H.w2, H.w3]

theorem query_of (H : Holds f h x w0 w1 w2 w3 x0 w t off hoff) (a : Fin 512) (d : Fin 128) :
    k0_pay7 (convOf (k0_pay16 f h x) w0 w1 w2 w3) (k0_pay6 (F := Ideal)) (ix2 a d)
      = unit x0 w ⟨t.val / 4, by omega⟩ ⟨512 * (t.val % 4) + a.val, by omega⟩ off hoff d * Ideal.ofBits FTy.f32 0x3DB504F3#32 := by
  rw [query_at]
  simp only [convOf_at, conv_at H]
  rfl

theorem key_of (H : Holds f h x w0 w1 w2 w3 x0 w t off hoff) (a : Fin 512) (d : Fin 128) :
    k0_pay17 (k0_pay16 f h x) w0 w1 w2 w3 (ix2 a d)
      = unit x0 w ⟨t.val / 4, by omega⟩ ⟨512 * (t.val % 4) + a.val, by omega⟩ off hoff d := by
  rw [key_at]
  simp only [conv_at H]
  rfl

theorem value_of (H : Holds f h x w0 w1 w2 w3 x0 w t off hoff) (a : Fin 512) (d : Fin 128) :
    k0_pay36 (convOf (k0_pay16 f h x) w0 w1 w2 w3) (Scalar.ofBits .f32 0x00000000#32) (ix2 a d)
      = silu (conv x0 w ⟨t.val / 4, by omega⟩ ⟨512 * (t.val % 4) + a.val, by omega⟩ ⟨off + d.val, by omega⟩) := by
  rw [value_at, convOf_at, conv_at H]

end

end Cert.FeaturesIdeal.Val
-- ==== Proof.Features.Blocks.lean ====
/- The blocks each grid point of the call works on, in terms of the arrays the caller passes. -/
module

public import proofs.«01_k».proof.Proof.Gen.FeaturesIdeal.Frame
public import proofs.«01_k».proof.Proof.Gen.FeaturesIdeal.Value
public import proofs.«01_k».proof.Proof.Features.Spec
public import proofs.«01_k».proof.Proof.Features.Payload
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.FeaturesIdeal.Val

open Cert.FeaturesIdeal Cert.FeaturesIdeal.Gen Idealize.ShloMosaic Idealize.ShloMosaic.TcCoe Idealize.SL.Sem
open Idealize.ShloMosaic.Pipeline (Dat)
open Cert.GdnSpec (silu eps)
open Cert.FeaturesSpec

variable (m : (ℓ : Loc nD τ sig) → Buf (Elt Ideal) ℓ)

/-- Point `t` of the grid takes rows `512 * t` on, and the eight rows before them. -/
theorem idx : ∀ t : Fin cfg0.grid.N, win0_0.index t = ![t.val, 0] ∧ win0_1.index t = ![t.val, 1] ∧ win0_2.index t = ![t.val, 2]
    ∧ win0_3.index t = ![64 * t.val - 1, 0] ∧ win0_4.index t = ![64 * t.val - 1, 1] ∧ win0_5.index t = ![64 * t.val - 1, 2]
    ∧ win0_6.index t = ![0, 0] ∧ win0_7.index t = ![0, 1] ∧ win0_8.index t = ![0, 2]
    ∧ win0_9.index t = ![t.val, 0] ∧ win0_10.index t = ![t.val, 0] ∧ win0_11.index t = ![t.val, 0] := by
  decide +kernel

/-- Every fourth point starts a sequence. -/
theorem first : ∀ t : Fin cfg0.grid.N, Scalar.cmpi .eq (BitVec.ofNat 32 (grid0.coords t 1).val) 0#32 = if t.val % 4 = 0 then 1#1 else 0#1 := by
  decide +kernel

theorem V_main_v0 (c : Dev nD) (r : Fin 65536) (n : Fin 1536) : V m c main_v0 (ix2 r n)
    = m ((c : Thread nD τ).loc main_arg0) (ix3 ⟨r.val / 2048, by omega⟩ ⟨r.val % 2048, by omega⟩ n) := by
  show StableHlo.after hostOps0 _ (Proc.devRef .tc main_v0) _ = _
  after_results
  pointwise

theorem V_main_v1 (c : Dev nD) (r : Fin 4) (n : Fin 1536) : V m c main_v1 (ix2 r n)
    = m ((c : Thread nD τ).loc main_arg1) (ix3 0 r n) := by
  show StableHlo.after hostOps0 _ (Proc.devRef .tc main_v1) _ = _
  after_results
  pointwise

theorem blk0 (c : Dev nD) (t : Fin cfg0.grid.N) (a n : Fin 512) : iblk m c 0 t (ix2 a n)
    = V m c main_v0 (ix2 ⟨512 * t.val + a.val, by have : t.val < 128 := t.isLt; omega⟩ ⟨0 + n.val, by omega⟩) := by
  blk_ext [iblk, idx t]

theorem blk3 (c : Dev nD) (t : Fin cfg0.grid.N) (a : Fin 8) (n : Fin 512) : iblk m c 3 t (ix2 a n)
    = V m c main_v0 (ix2 ⟨8 * (64 * t.val - 1) + a.val, by have : t.val < 128 := t.isLt; omega⟩ ⟨0 + n.val, by omega⟩) := by
  blk_ext [iblk, idx t]

theorem blk6 (c : Dev nD) (t : Fin cfg0.grid.N) (a : Fin 4) (n : Fin 512) : iblk m c 6 t (ix2 a n)
    = V m c main_v1 (ix2 a ⟨0 + n.val, by omega⟩) := by
  blk_ext [iblk, idx t]

theorem emb9 (t : Fin cfg0.grid.N) (a n : Fin 512) : ((View.whole main_v2_0).slice (win0_9.rect t)).emb (ix2 a n)
    = ix2 ⟨512 * t.val + a.val, by have : t.val < 128 := t.isLt; omega⟩ n := by
  blk_ext [idx t]

theorem blk1 (c : Dev nD) (t : Fin cfg0.grid.N) (a n : Fin 512) : iblk m c 1 t (ix2 a n)
    = V m c main_v0 (ix2 ⟨512 * t.val + a.val, by have : t.val < 128 := t.isLt; omega⟩ ⟨512 + n.val, by omega⟩) := by
  blk_ext [iblk, idx t]

theorem blk4 (c : Dev nD) (t : Fin cfg0.grid.N) (a : Fin 8) (n : Fin 512) : iblk m c 4 t (ix2 a n)
    = V m c main_v0 (ix2 ⟨8 * (64 * t.val - 1) + a.val, by have : t.val < 128 := t.isLt; omega⟩ ⟨512 + n.val, by omega⟩) := by
  blk_ext [iblk, idx t]

theorem blk7 (c : Dev nD) (t : Fin cfg0.grid.N) (a : Fin 4) (n : Fin 512) : iblk m c 7 t (ix2 a n)
    = V m c main_v1 (ix2 a ⟨512 + n.val, by omega⟩) := by
  blk_ext [iblk, idx t]

theorem emb10 (t : Fin cfg0.grid.N) (a n : Fin 512) : ((View.whole main_v2_1).slice (win0_10.rect t)).emb (ix2 a n)
    = ix2 ⟨512 * t.val + a.val, by have : t.val < 128 := t.isLt; omega⟩ n := by
  blk_ext [idx t]

theorem blk2 (c : Dev nD) (t : Fin cfg0.grid.N) (a n : Fin 512) : iblk m c 2 t (ix2 a n)
    = V m c main_v0 (ix2 ⟨512 * t.val + a.val, by have : t.val < 128 := t.isLt; omega⟩ ⟨1024 + n.val, by omega⟩) := by
  blk_ext [iblk, idx t]

theorem blk5 (c : Dev nD) (t : Fin cfg0.grid.N) (a : Fin 8) (n : Fin 512) : iblk m c 5 t (ix2 a n)
    = V m c main_v0 (ix2 ⟨8 * (64 * t.val - 1) + a.val, by have : t.val < 128 := t.isLt; omega⟩ ⟨1024 + n.val, by omega⟩) := by
  blk_ext [iblk, idx t]

theorem blk8 (c : Dev nD) (t : Fin cfg0.grid.N) (a : Fin 4) (n : Fin 512) : iblk m c 8 t (ix2 a n)
    = V m c main_v1 (ix2 a ⟨1024 + n.val, by omega⟩) := by
  blk_ext [iblk, idx t]

theorem emb11 (t : Fin cfg0.grid.N) (a n : Fin 512) : ((View.whole main_v2_2).slice (win0_11.rect t)).emb (ix2 a n)
    = ix2 ⟨512 * t.val + a.val, by have : t.val < 128 := t.isLt; omega⟩ n := by
  blk_ext [idx t]

theorem holds_0_0 (c : Dev nD) (t : Fin cfg0.grid.N) : Holds (Scalar.cmpi .eq (BitVec.ofNat 32 (grid0.coords t 1).val) 0#32) (View.ld (iblk m c 3 t) r0_0) (View.ld (iblk m c 0 t) r0_1)
    (View.ld (iblk m c 6 t) r0_2) (View.ld (iblk m c 6 t) r0_3) (View.ld (iblk m c 6 t) r0_4) (View.ld (iblk m c 6 t) r0_5)
    (m ((c : Thread nD τ).loc main_arg0)) (m ((c : Thread nD τ).loc main_arg1)) t 0 (by omega) where
  first := first t
  hist ht r d := by
    have ht' : t.val % 4 ≠ 0 := ht
    have e : View.ld (iblk m c 3 t) r0_0 (ix2 r d) = iblk m c 3 t (ix2 r ⟨0 + d.val, by omega⟩) := by
      generalize iblk m c 3 t = v
      pointwise
      try simp only [Nat.add_comm]
    rw [e, blk3, V_main_v0]
    congr 2 <;> apply Fin.ext
    · show (8 * (64 * t.val - 1) + r.val) / 2048 = t.val / 4
      omega
    · show (8 * (64 * t.val - 1) + r.val) % 2048 = 512 * (t.val % 4) + r.val - 8
      omega
    · show 0 + (0 + d.val) = 0 + d.val
      omega
  rows a d := by
    have e : View.ld (iblk m c 0 t) r0_1 (ix2 a d) = iblk m c 0 t (ix2 a ⟨0 + d.val, by omega⟩) := by
      generalize iblk m c 0 t = v
      pointwise
      try simp only [Nat.add_comm]
    rw [e, blk0, V_main_v0]
    congr 2 <;> apply Fin.ext
    · show (512 * t.val + a.val) / 2048 = t.val / 4
      omega
    · show (512 * t.val + a.val) % 2048 = 512 * (t.val % 4) + a.val
      omega
    · show 0 + (0 + d.val) = 0 + d.val
      omega
  w0 d := by
    have e : View.ld (iblk m c 6 t) r0_2 (ix2 0 d) = iblk m c 6 t (ix2 0 ⟨0 + d.val, by omega⟩) := by
      generalize iblk m c 6 t = v
      pointwise
      try simp only [Nat.add_comm]
      try rfl
    rw [e, blk6, V_main_v1]
    congr 2
    apply Fin.ext
    show 0 + (0 + d.val) = 0 + d.val
    omega
  w1 d := by
    have e : View.ld (iblk m c 6 t) r0_3 (ix2 0 d) = iblk m c 6 t (ix2 1 ⟨0 + d.val, by omega⟩) := by
      generalize iblk m c 6 t = v
      pointwise
      try simp only [Nat.add_comm]
      try rfl
    rw [e, blk6, V_main_v1]
    congr 2
    apply Fin.ext
    show 0 + (0 + d.val) = 0 + d.val
    omega
  w2 d := by
    have e : View.ld (iblk m c 6 t) r0_4 (ix2 0 d) = iblk m c 6 t (ix2 2 ⟨0 + d.val, by omega⟩) := by
      generalize iblk m c 6 t = v
      pointwise
      try simp only [Nat.add_comm]
      try rfl
    rw [e, blk6, V_main_v1]
    congr 2
    apply Fin.ext
    show 0 + (0 + d.val) = 0 + d.val
    omega
  w3 d := by
    have e : View.ld (iblk m c 6 t) r0_5 (ix2 0 d) = iblk m c 6 t (ix2 3 ⟨0 + d.val, by omega⟩) := by
      generalize iblk m c 6 t = v
      pointwise
      try simp only [Nat.add_comm]
      try rfl
    rw [e, blk6, V_main_v1]
    congr 2
    apply Fin.ext
    show 0 + (0 + d.val) = 0 + d.val
    omega

theorem holds_0_1 (c : Dev nD) (t : Fin cfg0.grid.N) : Holds (Scalar.cmpi .eq (BitVec.ofNat 32 (grid0.coords t 1).val) 0#32) (View.ld (iblk m c 3 t) r0_6) (View.ld (iblk m c 0 t) r0_7)
    (View.ld (iblk m c 6 t) r0_8) (View.ld (iblk m c 6 t) r0_9) (View.ld (iblk m c 6 t) r0_10) (View.ld (iblk m c 6 t) r0_11)
    (m ((c : Thread nD τ).loc main_arg0)) (m ((c : Thread nD τ).loc main_arg1)) t 128 (by omega) where
  first := first t
  hist ht r d := by
    have ht' : t.val % 4 ≠ 0 := ht
    have e : View.ld (iblk m c 3 t) r0_6 (ix2 r d) = iblk m c 3 t (ix2 r ⟨128 + d.val, by omega⟩) := by
      generalize iblk m c 3 t = v
      pointwise
      try simp only [Nat.add_comm]
    rw [e, blk3, V_main_v0]
    congr 2 <;> apply Fin.ext
    · show (8 * (64 * t.val - 1) + r.val) / 2048 = t.val / 4
      omega
    · show (8 * (64 * t.val - 1) + r.val) % 2048 = 512 * (t.val % 4) + r.val - 8
      omega
    · show 0 + (128 + d.val) = 128 + d.val
      omega
  rows a d := by
    have e : View.ld (iblk m c 0 t) r0_7 (ix2 a d) = iblk m c 0 t (ix2 a ⟨128 + d.val, by omega⟩) := by
      generalize iblk m c 0 t = v
      pointwise
      try simp only [Nat.add_comm]
    rw [e, blk0, V_main_v0]
    congr 2 <;> apply Fin.ext
    · show (512 * t.val + a.val) / 2048 = t.val / 4
      omega
    · show (512 * t.val + a.val) % 2048 = 512 * (t.val % 4) + a.val
      omega
    · show 0 + (128 + d.val) = 128 + d.val
      omega
  w0 d := by
    have e : View.ld (iblk m c 6 t) r0_8 (ix2 0 d) = iblk m c 6 t (ix2 0 ⟨128 + d.val, by omega⟩) := by
      generalize iblk m c 6 t = v
      pointwise
      try simp only [Nat.add_comm]
      try rfl
    rw [e, blk6, V_main_v1]
    congr 2
    apply Fin.ext
    show 0 + (128 + d.val) = 128 + d.val
    omega
  w1 d := by
    have e : View.ld (iblk m c 6 t) r0_9 (ix2 0 d) = iblk m c 6 t (ix2 1 ⟨128 + d.val, by omega⟩) := by
      generalize iblk m c 6 t = v
      pointwise
      try simp only [Nat.add_comm]
      try rfl
    rw [e, blk6, V_main_v1]
    congr 2
    apply Fin.ext
    show 0 + (128 + d.val) = 128 + d.val
    omega
  w2 d := by
    have e : View.ld (iblk m c 6 t) r0_10 (ix2 0 d) = iblk m c 6 t (ix2 2 ⟨128 + d.val, by omega⟩) := by
      generalize iblk m c 6 t = v
      pointwise
      try simp only [Nat.add_comm]
      try rfl
    rw [e, blk6, V_main_v1]
    congr 2
    apply Fin.ext
    show 0 + (128 + d.val) = 128 + d.val
    omega
  w3 d := by
    have e : View.ld (iblk m c 6 t) r0_11 (ix2 0 d) = iblk m c 6 t (ix2 3 ⟨128 + d.val, by omega⟩) := by
      generalize iblk m c 6 t = v
      pointwise
      try simp only [Nat.add_comm]
      try rfl
    rw [e, blk6, V_main_v1]
    congr 2
    apply Fin.ext
    show 0 + (128 + d.val) = 128 + d.val
    omega

theorem holds_0_2 (c : Dev nD) (t : Fin cfg0.grid.N) : Holds (Scalar.cmpi .eq (BitVec.ofNat 32 (grid0.coords t 1).val) 0#32) (View.ld (iblk m c 3 t) r0_12) (View.ld (iblk m c 0 t) r0_13)
    (View.ld (iblk m c 6 t) r0_14) (View.ld (iblk m c 6 t) r0_15) (View.ld (iblk m c 6 t) r0_16) (View.ld (iblk m c 6 t) r0_17)
    (m ((c : Thread nD τ).loc main_arg0)) (m ((c : Thread nD τ).loc main_arg1)) t 256 (by omega) where
  first := first t
  hist ht r d := by
    have ht' : t.val % 4 ≠ 0 := ht
    have e : View.ld (iblk m c 3 t) r0_12 (ix2 r d) = iblk m c 3 t (ix2 r ⟨256 + d.val, by omega⟩) := by
      generalize iblk m c 3 t = v
      pointwise
      try simp only [Nat.add_comm]
    rw [e, blk3, V_main_v0]
    congr 2 <;> apply Fin.ext
    · show (8 * (64 * t.val - 1) + r.val) / 2048 = t.val / 4
      omega
    · show (8 * (64 * t.val - 1) + r.val) % 2048 = 512 * (t.val % 4) + r.val - 8
      omega
    · show 0 + (256 + d.val) = 256 + d.val
      omega
  rows a d := by
    have e : View.ld (iblk m c 0 t) r0_13 (ix2 a d) = iblk m c 0 t (ix2 a ⟨256 + d.val, by omega⟩) := by
      generalize iblk m c 0 t = v
      pointwise
      try simp only [Nat.add_comm]
    rw [e, blk0, V_main_v0]
    congr 2 <;> apply Fin.ext
    · show (512 * t.val + a.val) / 2048 = t.val / 4
      omega
    · show (512 * t.val + a.val) % 2048 = 512 * (t.val % 4) + a.val
      omega
    · show 0 + (256 + d.val) = 256 + d.val
      omega
  w0 d := by
    have e : View.ld (iblk m c 6 t) r0_14 (ix2 0 d) = iblk m c 6 t (ix2 0 ⟨256 + d.val, by omega⟩) := by
      generalize iblk m c 6 t = v
      pointwise
      try simp only [Nat.add_comm]
      try rfl
    rw [e, blk6, V_main_v1]
    congr 2
    apply Fin.ext
    show 0 + (256 + d.val) = 256 + d.val
    omega
  w1 d := by
    have e : View.ld (iblk m c 6 t) r0_15 (ix2 0 d) = iblk m c 6 t (ix2 1 ⟨256 + d.val, by omega⟩) := by
      generalize iblk m c 6 t = v
      pointwise
      try simp only [Nat.add_comm]
      try rfl
    rw [e, blk6, V_main_v1]
    congr 2
    apply Fin.ext
    show 0 + (256 + d.val) = 256 + d.val
    omega
  w2 d := by
    have e : View.ld (iblk m c 6 t) r0_16 (ix2 0 d) = iblk m c 6 t (ix2 2 ⟨256 + d.val, by omega⟩) := by
      generalize iblk m c 6 t = v
      pointwise
      try simp only [Nat.add_comm]
      try rfl
    rw [e, blk6, V_main_v1]
    congr 2
    apply Fin.ext
    show 0 + (256 + d.val) = 256 + d.val
    omega
  w3 d := by
    have e : View.ld (iblk m c 6 t) r0_17 (ix2 0 d) = iblk m c 6 t (ix2 3 ⟨256 + d.val, by omega⟩) := by
      generalize iblk m c 6 t = v
      pointwise
      try simp only [Nat.add_comm]
      try rfl
    rw [e, blk6, V_main_v1]
    congr 2
    apply Fin.ext
    show 0 + (256 + d.val) = 256 + d.val
    omega

theorem holds_0_3 (c : Dev nD) (t : Fin cfg0.grid.N) : Holds (Scalar.cmpi .eq (BitVec.ofNat 32 (grid0.coords t 1).val) 0#32) (View.ld (iblk m c 3 t) r0_18) (View.ld (iblk m c 0 t) r0_19)
    (View.ld (iblk m c 6 t) r0_20) (View.ld (iblk m c 6 t) r0_21) (View.ld (iblk m c 6 t) r0_22) (View.ld (iblk m c 6 t) r0_23)
    (m ((c : Thread nD τ).loc main_arg0)) (m ((c : Thread nD τ).loc main_arg1)) t 384 (by omega) where
  first := first t
  hist ht r d := by
    have ht' : t.val % 4 ≠ 0 := ht
    have e : View.ld (iblk m c 3 t) r0_18 (ix2 r d) = iblk m c 3 t (ix2 r ⟨384 + d.val, by omega⟩) := by
      generalize iblk m c 3 t = v
      pointwise
      try simp only [Nat.add_comm]
    rw [e, blk3, V_main_v0]
    congr 2 <;> apply Fin.ext
    · show (8 * (64 * t.val - 1) + r.val) / 2048 = t.val / 4
      omega
    · show (8 * (64 * t.val - 1) + r.val) % 2048 = 512 * (t.val % 4) + r.val - 8
      omega
    · show 0 + (384 + d.val) = 384 + d.val
      omega
  rows a d := by
    have e : View.ld (iblk m c 0 t) r0_19 (ix2 a d) = iblk m c 0 t (ix2 a ⟨384 + d.val, by omega⟩) := by
      generalize iblk m c 0 t = v
      pointwise
      try simp only [Nat.add_comm]
    rw [e, blk0, V_main_v0]
    congr 2 <;> apply Fin.ext
    · show (512 * t.val + a.val) / 2048 = t.val / 4
      omega
    · show (512 * t.val + a.val) % 2048 = 512 * (t.val % 4) + a.val
      omega
    · show 0 + (384 + d.val) = 384 + d.val
      omega
  w0 d := by
    have e : View.ld (iblk m c 6 t) r0_20 (ix2 0 d) = iblk m c 6 t (ix2 0 ⟨384 + d.val, by omega⟩) := by
      generalize iblk m c 6 t = v
      pointwise
      try simp only [Nat.add_comm]
      try rfl
    rw [e, blk6, V_main_v1]
    congr 2
    apply Fin.ext
    show 0 + (384 + d.val) = 384 + d.val
    omega
  w1 d := by
    have e : View.ld (iblk m c 6 t) r0_21 (ix2 0 d) = iblk m c 6 t (ix2 1 ⟨384 + d.val, by omega⟩) := by
      generalize iblk m c 6 t = v
      pointwise
      try simp only [Nat.add_comm]
      try rfl
    rw [e, blk6, V_main_v1]
    congr 2
    apply Fin.ext
    show 0 + (384 + d.val) = 384 + d.val
    omega
  w2 d := by
    have e : View.ld (iblk m c 6 t) r0_22 (ix2 0 d) = iblk m c 6 t (ix2 2 ⟨384 + d.val, by omega⟩) := by
      generalize iblk m c 6 t = v
      pointwise
      try simp only [Nat.add_comm]
      try rfl
    rw [e, blk6, V_main_v1]
    congr 2
    apply Fin.ext
    show 0 + (384 + d.val) = 384 + d.val
    omega
  w3 d := by
    have e : View.ld (iblk m c 6 t) r0_23 (ix2 0 d) = iblk m c 6 t (ix2 3 ⟨384 + d.val, by omega⟩) := by
      generalize iblk m c 6 t = v
      pointwise
      try simp only [Nat.add_comm]
      try rfl
    rw [e, blk6, V_main_v1]
    congr 2
    apply Fin.ext
    show 0 + (384 + d.val) = 384 + d.val
    omega

theorem holds_1_0 (c : Dev nD) (t : Fin cfg0.grid.N) : Holds (Scalar.cmpi .eq (BitVec.ofNat 32 (grid0.coords t 1).val) 0#32) (View.ld (iblk m c 4 t) r0_0) (View.ld (iblk m c 1 t) r0_1)
    (View.ld (iblk m c 7 t) r0_2) (View.ld (iblk m c 7 t) r0_3) (View.ld (iblk m c 7 t) r0_4) (View.ld (iblk m c 7 t) r0_5)
    (m ((c : Thread nD τ).loc main_arg0)) (m ((c : Thread nD τ).loc main_arg1)) t 512 (by omega) where
  first := first t
  hist ht r d := by
    have ht' : t.val % 4 ≠ 0 := ht
    have e : View.ld (iblk m c 4 t) r0_0 (ix2 r d) = iblk m c 4 t (ix2 r ⟨0 + d.val, by omega⟩) := by
      generalize iblk m c 4 t = v
      pointwise
      try simp only [Nat.add_comm]
    rw [e, blk4, V_main_v0]
    congr 2 <;> apply Fin.ext
    · show (8 * (64 * t.val - 1) + r.val) / 2048 = t.val / 4
      omega
    · show (8 * (64 * t.val - 1) + r.val) % 2048 = 512 * (t.val % 4) + r.val - 8
      omega
    · show 512 + (0 + d.val) = 512 + d.val
      omega
  rows a d := by
    have e : View.ld (iblk m c 1 t) r0_1 (ix2 a d) = iblk m c 1 t (ix2 a ⟨0 + d.val, by omega⟩) := by
      generalize iblk m c 1 t = v
      pointwise
      try simp only [Nat.add_comm]
    rw [e, blk1, V_main_v0]
    congr 2 <;> apply Fin.ext
    · show (512 * t.val + a.val) / 2048 = t.val / 4
      omega
    · show (512 * t.val + a.val) % 2048 = 512 * (t.val % 4) + a.val
      omega
    · show 512 + (0 + d.val) = 512 + d.val
      omega
  w0 d := by
    have e : View.ld (iblk m c 7 t) r0_2 (ix2 0 d) = iblk m c 7 t (ix2 0 ⟨0 + d.val, by omega⟩) := by
      generalize iblk m c 7 t = v
      pointwise
      try simp only [Nat.add_comm]
      try rfl
    rw [e, blk7, V_main_v1]
    congr 2
    apply Fin.ext
    show 512 + (0 + d.val) = 512 + d.val
    omega
  w1 d := by
    have e : View.ld (iblk m c 7 t) r0_3 (ix2 0 d) = iblk m c 7 t (ix2 1 ⟨0 + d.val, by omega⟩) := by
      generalize iblk m c 7 t = v
      pointwise
      try simp only [Nat.add_comm]
      try rfl
    rw [e, blk7, V_main_v1]
    congr 2
    apply Fin.ext
    show 512 + (0 + d.val) = 512 + d.val
    omega
  w2 d := by
    have e : View.ld (iblk m c 7 t) r0_4 (ix2 0 d) = iblk m c 7 t (ix2 2 ⟨0 + d.val, by omega⟩) := by
      generalize iblk m c 7 t = v
      pointwise
      try simp only [Nat.add_comm]
      try rfl
    rw [e, blk7, V_main_v1]
    congr 2
    apply Fin.ext
    show 512 + (0 + d.val) = 512 + d.val
    omega
  w3 d := by
    have e : View.ld (iblk m c 7 t) r0_5 (ix2 0 d) = iblk m c 7 t (ix2 3 ⟨0 + d.val, by omega⟩) := by
      generalize iblk m c 7 t = v
      pointwise
      try simp only [Nat.add_comm]
      try rfl
    rw [e, blk7, V_main_v1]
    congr 2
    apply Fin.ext
    show 512 + (0 + d.val) = 512 + d.val
    omega

theorem holds_1_1 (c : Dev nD) (t : Fin cfg0.grid.N) : Holds (Scalar.cmpi .eq (BitVec.ofNat 32 (grid0.coords t 1).val) 0#32) (View.ld (iblk m c 4 t) r0_6) (View.ld (iblk m c 1 t) r0_7)
    (View.ld (iblk m c 7 t) r0_8) (View.ld (iblk m c 7 t) r0_9) (View.ld (iblk m c 7 t) r0_10) (View.ld (iblk m c 7 t) r0_11)
    (m ((c : Thread nD τ).loc main_arg0)) (m ((c : Thread nD τ).loc main_arg1)) t 640 (by omega) where
  first := first t
  hist ht r d := by
    have ht' : t.val % 4 ≠ 0 := ht
    have e : View.ld (iblk m c 4 t) r0_6 (ix2 r d) = iblk m c 4 t (ix2 r ⟨128 + d.val, by omega⟩) := by
      generalize iblk m c 4 t = v
      pointwise
      try simp only [Nat.add_comm]
    rw [e, blk4, V_main_v0]
    congr 2 <;> apply Fin.ext
    · show (8 * (64 * t.val - 1) + r.val) / 2048 = t.val / 4
      omega
    · show (8 * (64 * t.val - 1) + r.val) % 2048 = 512 * (t.val % 4) + r.val - 8
      omega
    · show 512 + (128 + d.val) = 640 + d.val
      omega
  rows a d := by
    have e : View.ld (iblk m c 1 t) r0_7 (ix2 a d) = iblk m c 1 t (ix2 a ⟨128 + d.val, by omega⟩) := by
      generalize iblk m c 1 t = v
      pointwise
      try simp only [Nat.add_comm]
    rw [e, blk1, V_main_v0]
    congr 2 <;> apply Fin.ext
    · show (512 * t.val + a.val) / 2048 = t.val / 4
      omega
    · show (512 * t.val + a.val) % 2048 = 512 * (t.val % 4) + a.val
      omega
    · show 512 + (128 + d.val) = 640 + d.val
      omega
  w0 d := by
    have e : View.ld (iblk m c 7 t) r0_8 (ix2 0 d) = iblk m c 7 t (ix2 0 ⟨128 + d.val, by omega⟩) := by
      generalize iblk m c 7 t = v
      pointwise
      try simp only [Nat.add_comm]
      try rfl
    rw [e, blk7, V_main_v1]
    congr 2
    apply Fin.ext
    show 512 + (128 + d.val) = 640 + d.val
    omega
  w1 d := by
    have e : View.ld (iblk m c 7 t) r0_9 (ix2 0 d) = iblk m c 7 t (ix2 1 ⟨128 + d.val, by omega⟩) := by
      generalize iblk m c 7 t = v
      pointwise
      try simp only [Nat.add_comm]
      try rfl
    rw [e, blk7, V_main_v1]
    congr 2
    apply Fin.ext
    show 512 + (128 + d.val) = 640 + d.val
    omega
  w2 d := by
    have e : View.ld (iblk m c 7 t) r0_10 (ix2 0 d) = iblk m c 7 t (ix2 2 ⟨128 + d.val, by omega⟩) := by
      generalize iblk m c 7 t = v
      pointwise
      try simp only [Nat.add_comm]
      try rfl
    rw [e, blk7, V_main_v1]
    congr 2
    apply Fin.ext
    show 512 + (128 + d.val) = 640 + d.val
    omega
  w3 d := by
    have e : View.ld (iblk m c 7 t) r0_11 (ix2 0 d) = iblk m c 7 t (ix2 3 ⟨128 + d.val, by omega⟩) := by
      generalize iblk m c 7 t = v
      pointwise
      try simp only [Nat.add_comm]
      try rfl
    rw [e, blk7, V_main_v1]
    congr 2
    apply Fin.ext
    show 512 + (128 + d.val) = 640 + d.val
    omega

theorem holds_1_2 (c : Dev nD) (t : Fin cfg0.grid.N) : Holds (Scalar.cmpi .eq (BitVec.ofNat 32 (grid0.coords t 1).val) 0#32) (View.ld (iblk m c 4 t) r0_12) (View.ld (iblk m c 1 t) r0_13)
    (View.ld (iblk m c 7 t) r0_14) (View.ld (iblk m c 7 t) r0_15) (View.ld (iblk m c 7 t) r0_16) (View.ld (iblk m c 7 t) r0_17)
    (m ((c : Thread nD τ).loc main_arg0)) (m ((c : Thread nD τ).loc main_arg1)) t 768 (by omega) where
  first := first t
  hist ht r d := by
    have ht' : t.val % 4 ≠ 0 := ht
    have e : View.ld (iblk m c 4 t) r0_12 (ix2 r d) = iblk m c 4 t (ix2 r ⟨256 + d.val, by omega⟩) := by
      generalize iblk m c 4 t = v
      pointwise
      try simp only [Nat.add_comm]
    rw [e, blk4, V_main_v0]
    congr 2 <;> apply Fin.ext
    · show (8 * (64 * t.val - 1) + r.val) / 2048 = t.val / 4
      omega
    · show (8 * (64 * t.val - 1) + r.val) % 2048 = 512 * (t.val % 4) + r.val - 8
      omega
    · show 512 + (256 + d.val) = 768 + d.val
      omega
  rows a d := by
    have e : View.ld (iblk m c 1 t) r0_13 (ix2 a d) = iblk m c 1 t (ix2 a ⟨256 + d.val, by omega⟩) := by
      generalize iblk m c 1 t = v
      pointwise
      try simp only [Nat.add_comm]
    rw [e, blk1, V_main_v0]
    congr 2 <;> apply Fin.ext
    · show (512 * t.val + a.val) / 2048 = t.val / 4
      omega
    · show (512 * t.val + a.val) % 2048 = 512 * (t.val % 4) + a.val
      omega
    · show 512 + (256 + d.val) = 768 + d.val
      omega
  w0 d := by
    have e : View.ld (iblk m c 7 t) r0_14 (ix2 0 d) = iblk m c 7 t (ix2 0 ⟨256 + d.val, by omega⟩) := by
      generalize iblk m c 7 t = v
      pointwise
      try simp only [Nat.add_comm]
      try rfl
    rw [e, blk7, V_main_v1]
    congr 2
    apply Fin.ext
    show 512 + (256 + d.val) = 768 + d.val
    omega
  w1 d := by
    have e : View.ld (iblk m c 7 t) r0_15 (ix2 0 d) = iblk m c 7 t (ix2 1 ⟨256 + d.val, by omega⟩) := by
      generalize iblk m c 7 t = v
      pointwise
      try simp only [Nat.add_comm]
      try rfl
    rw [e, blk7, V_main_v1]
    congr 2
    apply Fin.ext
    show 512 + (256 + d.val) = 768 + d.val
    omega
  w2 d := by
    have e : View.ld (iblk m c 7 t) r0_16 (ix2 0 d) = iblk m c 7 t (ix2 2 ⟨256 + d.val, by omega⟩) := by
      generalize iblk m c 7 t = v
      pointwise
      try simp only [Nat.add_comm]
      try rfl
    rw [e, blk7, V_main_v1]
    congr 2
    apply Fin.ext
    show 512 + (256 + d.val) = 768 + d.val
    omega
  w3 d := by
    have e : View.ld (iblk m c 7 t) r0_17 (ix2 0 d) = iblk m c 7 t (ix2 3 ⟨256 + d.val, by omega⟩) := by
      generalize iblk m c 7 t = v
      pointwise
      try simp only [Nat.add_comm]
      try rfl
    rw [e, blk7, V_main_v1]
    congr 2
    apply Fin.ext
    show 512 + (256 + d.val) = 768 + d.val
    omega

theorem holds_1_3 (c : Dev nD) (t : Fin cfg0.grid.N) : Holds (Scalar.cmpi .eq (BitVec.ofNat 32 (grid0.coords t 1).val) 0#32) (View.ld (iblk m c 4 t) r0_18) (View.ld (iblk m c 1 t) r0_19)
    (View.ld (iblk m c 7 t) r0_20) (View.ld (iblk m c 7 t) r0_21) (View.ld (iblk m c 7 t) r0_22) (View.ld (iblk m c 7 t) r0_23)
    (m ((c : Thread nD τ).loc main_arg0)) (m ((c : Thread nD τ).loc main_arg1)) t 896 (by omega) where
  first := first t
  hist ht r d := by
    have ht' : t.val % 4 ≠ 0 := ht
    have e : View.ld (iblk m c 4 t) r0_18 (ix2 r d) = iblk m c 4 t (ix2 r ⟨384 + d.val, by omega⟩) := by
      generalize iblk m c 4 t = v
      pointwise
      try simp only [Nat.add_comm]
    rw [e, blk4, V_main_v0]
    congr 2 <;> apply Fin.ext
    · show (8 * (64 * t.val - 1) + r.val) / 2048 = t.val / 4
      omega
    · show (8 * (64 * t.val - 1) + r.val) % 2048 = 512 * (t.val % 4) + r.val - 8
      omega
    · show 512 + (384 + d.val) = 896 + d.val
      omega
  rows a d := by
    have e : View.ld (iblk m c 1 t) r0_19 (ix2 a d) = iblk m c 1 t (ix2 a ⟨384 + d.val, by omega⟩) := by
      generalize iblk m c 1 t = v
      pointwise
      try simp only [Nat.add_comm]
    rw [e, blk1, V_main_v0]
    congr 2 <;> apply Fin.ext
    · show (512 * t.val + a.val) / 2048 = t.val / 4
      omega
    · show (512 * t.val + a.val) % 2048 = 512 * (t.val % 4) + a.val
      omega
    · show 512 + (384 + d.val) = 896 + d.val
      omega
  w0 d := by
    have e : View.ld (iblk m c 7 t) r0_20 (ix2 0 d) = iblk m c 7 t (ix2 0 ⟨384 + d.val, by omega⟩) := by
      generalize iblk m c 7 t = v
      pointwise
      try simp only [Nat.add_comm]
      try rfl
    rw [e, blk7, V_main_v1]
    congr 2
    apply Fin.ext
    show 512 + (384 + d.val) = 896 + d.val
    omega
  w1 d := by
    have e : View.ld (iblk m c 7 t) r0_21 (ix2 0 d) = iblk m c 7 t (ix2 1 ⟨384 + d.val, by omega⟩) := by
      generalize iblk m c 7 t = v
      pointwise
      try simp only [Nat.add_comm]
      try rfl
    rw [e, blk7, V_main_v1]
    congr 2
    apply Fin.ext
    show 512 + (384 + d.val) = 896 + d.val
    omega
  w2 d := by
    have e : View.ld (iblk m c 7 t) r0_22 (ix2 0 d) = iblk m c 7 t (ix2 2 ⟨384 + d.val, by omega⟩) := by
      generalize iblk m c 7 t = v
      pointwise
      try simp only [Nat.add_comm]
      try rfl
    rw [e, blk7, V_main_v1]
    congr 2
    apply Fin.ext
    show 512 + (384 + d.val) = 896 + d.val
    omega
  w3 d := by
    have e : View.ld (iblk m c 7 t) r0_23 (ix2 0 d) = iblk m c 7 t (ix2 3 ⟨384 + d.val, by omega⟩) := by
      generalize iblk m c 7 t = v
      pointwise
      try simp only [Nat.add_comm]
      try rfl
    rw [e, blk7, V_main_v1]
    congr 2
    apply Fin.ext
    show 512 + (384 + d.val) = 896 + d.val
    omega

theorem holds_2_0 (c : Dev nD) (t : Fin cfg0.grid.N) : Holds (Scalar.cmpi .eq (BitVec.ofNat 32 (grid0.coords t 1).val) 0#32) (View.ld (iblk m c 5 t) r0_0) (View.ld (iblk m c 2 t) r0_1)
    (View.ld (iblk m c 8 t) r0_2) (View.ld (iblk m c 8 t) r0_3) (View.ld (iblk m c 8 t) r0_4) (View.ld (iblk m c 8 t) r0_5)
    (m ((c : Thread nD τ).loc main_arg0)) (m ((c : Thread nD τ).loc main_arg1)) t 1024 (by omega) where
  first := first t
  hist ht r d := by
    have ht' : t.val % 4 ≠ 0 := ht
    have e : View.ld (iblk m c 5 t) r0_0 (ix2 r d) = iblk m c 5 t (ix2 r ⟨0 + d.val, by omega⟩) := by
      generalize iblk m c 5 t = v
      pointwise
      try simp only [Nat.add_comm]
    rw [e, blk5, V_main_v0]
    congr 2 <;> apply Fin.ext
    · show (8 * (64 * t.val - 1) + r.val) / 2048 = t.val / 4
      omega
    · show (8 * (64 * t.val - 1) + r.val) % 2048 = 512 * (t.val % 4) + r.val - 8
      omega
    · show 1024 + (0 + d.val) = 1024 + d.val
      omega
  rows a d := by
    have e : View.ld (iblk m c 2 t) r0_1 (ix2 a d) = iblk m c 2 t (ix2 a ⟨0 + d.val, by omega⟩) := by
      generalize iblk m c 2 t = v
      pointwise
      try simp only [Nat.add_comm]
    rw [e, blk2, V_main_v0]
    congr 2 <;> apply Fin.ext
    · show (512 * t.val + a.val) / 2048 = t.val / 4
      omega
    · show (512 * t.val + a.val) % 2048 = 512 * (t.val % 4) + a.val
      omega
    · show 1024 + (0 + d.val) = 1024 + d.val
      omega
  w0 d := by
    have e : View.ld (iblk m c 8 t) r0_2 (ix2 0 d) = iblk m c 8 t (ix2 0 ⟨0 + d.val, by omega⟩) := by
      generalize iblk m c 8 t = v
      pointwise
      try simp only [Nat.add_comm]
      try rfl
    rw [e, blk8, V_main_v1]
    congr 2
    apply Fin.ext
    show 1024 + (0 + d.val) = 1024 + d.val
    omega
  w1 d := by
    have e : View.ld (iblk m c 8 t) r0_3 (ix2 0 d) = iblk m c 8 t (ix2 1 ⟨0 + d.val, by omega⟩) := by
      generalize iblk m c 8 t = v
      pointwise
      try simp only [Nat.add_comm]
      try rfl
    rw [e, blk8, V_main_v1]
    congr 2
    apply Fin.ext
    show 1024 + (0 + d.val) = 1024 + d.val
    omega
  w2 d := by
    have e : View.ld (iblk m c 8 t) r0_4 (ix2 0 d) = iblk m c 8 t (ix2 2 ⟨0 + d.val, by omega⟩) := by
      generalize iblk m c 8 t = v
      pointwise
      try simp only [Nat.add_comm]
      try rfl
    rw [e, blk8, V_main_v1]
    congr 2
    apply Fin.ext
    show 1024 + (0 + d.val) = 1024 + d.val
    omega
  w3 d := by
    have e : View.ld (iblk m c 8 t) r0_5 (ix2 0 d) = iblk m c 8 t (ix2 3 ⟨0 + d.val, by omega⟩) := by
      generalize iblk m c 8 t = v
      pointwise
      try simp only [Nat.add_comm]
      try rfl
    rw [e, blk8, V_main_v1]
    congr 2
    apply Fin.ext
    show 1024 + (0 + d.val) = 1024 + d.val
    omega

theorem holds_2_1 (c : Dev nD) (t : Fin cfg0.grid.N) : Holds (Scalar.cmpi .eq (BitVec.ofNat 32 (grid0.coords t 1).val) 0#32) (View.ld (iblk m c 5 t) r0_6) (View.ld (iblk m c 2 t) r0_7)
    (View.ld (iblk m c 8 t) r0_8) (View.ld (iblk m c 8 t) r0_9) (View.ld (iblk m c 8 t) r0_10) (View.ld (iblk m c 8 t) r0_11)
    (m ((c : Thread nD τ).loc main_arg0)) (m ((c : Thread nD τ).loc main_arg1)) t 1152 (by omega) where
  first := first t
  hist ht r d := by
    have ht' : t.val % 4 ≠ 0 := ht
    have e : View.ld (iblk m c 5 t) r0_6 (ix2 r d) = iblk m c 5 t (ix2 r ⟨128 + d.val, by omega⟩) := by
      generalize iblk m c 5 t = v
      pointwise
      try simp only [Nat.add_comm]
    rw [e, blk5, V_main_v0]
    congr 2 <;> apply Fin.ext
    · show (8 * (64 * t.val - 1) + r.val) / 2048 = t.val / 4
      omega
    · show (8 * (64 * t.val - 1) + r.val) % 2048 = 512 * (t.val % 4) + r.val - 8
      omega
    · show 1024 + (128 + d.val) = 1152 + d.val
      omega
  rows a d := by
    have e : View.ld (iblk m c 2 t) r0_7 (ix2 a d) = iblk m c 2 t (ix2 a ⟨128 + d.val, by omega⟩) := by
      generalize iblk m c 2 t = v
      pointwise
      try simp only [Nat.add_comm]
    rw [e, blk2, V_main_v0]
    congr 2 <;> apply Fin.ext
    · show (512 * t.val + a.val) / 2048 = t.val / 4
      omega
    · show (512 * t.val + a.val) % 2048 = 512 * (t.val % 4) + a.val
      omega
    · show 1024 + (128 + d.val) = 1152 + d.val
      omega
  w0 d := by
    have e : View.ld (iblk m c 8 t) r0_8 (ix2 0 d) = iblk m c 8 t (ix2 0 ⟨128 + d.val, by omega⟩) := by
      generalize iblk m c 8 t = v
      pointwise
      try simp only [Nat.add_comm]
      try rfl
    rw [e, blk8, V_main_v1]
    congr 2
    apply Fin.ext
    show 1024 + (128 + d.val) = 1152 + d.val
    omega
  w1 d := by
    have e : View.ld (iblk m c 8 t) r0_9 (ix2 0 d) = iblk m c 8 t (ix2 1 ⟨128 + d.val, by omega⟩) := by
      generalize iblk m c 8 t = v
      pointwise
      try simp only [Nat.add_comm]
      try rfl
    rw [e, blk8, V_main_v1]
    congr 2
    apply Fin.ext
    show 1024 + (128 + d.val) = 1152 + d.val
    omega
  w2 d := by
    have e : View.ld (iblk m c 8 t) r0_10 (ix2 0 d) = iblk m c 8 t (ix2 2 ⟨128 + d.val, by omega⟩) := by
      generalize iblk m c 8 t = v
      pointwise
      try simp only [Nat.add_comm]
      try rfl
    rw [e, blk8, V_main_v1]
    congr 2
    apply Fin.ext
    show 1024 + (128 + d.val) = 1152 + d.val
    omega
  w3 d := by
    have e : View.ld (iblk m c 8 t) r0_11 (ix2 0 d) = iblk m c 8 t (ix2 3 ⟨128 + d.val, by omega⟩) := by
      generalize iblk m c 8 t = v
      pointwise
      try simp only [Nat.add_comm]
      try rfl
    rw [e, blk8, V_main_v1]
    congr 2
    apply Fin.ext
    show 1024 + (128 + d.val) = 1152 + d.val
    omega

theorem holds_2_2 (c : Dev nD) (t : Fin cfg0.grid.N) : Holds (Scalar.cmpi .eq (BitVec.ofNat 32 (grid0.coords t 1).val) 0#32) (View.ld (iblk m c 5 t) r0_12) (View.ld (iblk m c 2 t) r0_13)
    (View.ld (iblk m c 8 t) r0_14) (View.ld (iblk m c 8 t) r0_15) (View.ld (iblk m c 8 t) r0_16) (View.ld (iblk m c 8 t) r0_17)
    (m ((c : Thread nD τ).loc main_arg0)) (m ((c : Thread nD τ).loc main_arg1)) t 1280 (by omega) where
  first := first t
  hist ht r d := by
    have ht' : t.val % 4 ≠ 0 := ht
    have e : View.ld (iblk m c 5 t) r0_12 (ix2 r d) = iblk m c 5 t (ix2 r ⟨256 + d.val, by omega⟩) := by
      generalize iblk m c 5 t = v
      pointwise
      try simp only [Nat.add_comm]
    rw [e, blk5, V_main_v0]
    congr 2 <;> apply Fin.ext
    · show (8 * (64 * t.val - 1) + r.val) / 2048 = t.val / 4
      omega
    · show (8 * (64 * t.val - 1) + r.val) % 2048 = 512 * (t.val % 4) + r.val - 8
      omega
    · show 1024 + (256 + d.val) = 1280 + d.val
      omega
  rows a d := by
    have e : View.ld (iblk m c 2 t) r0_13 (ix2 a d) = iblk m c 2 t (ix2 a ⟨256 + d.val, by omega⟩) := by
      generalize iblk m c 2 t = v
      pointwise
      try simp only [Nat.add_comm]
    rw [e, blk2, V_main_v0]
    congr 2 <;> apply Fin.ext
    · show (512 * t.val + a.val) / 2048 = t.val / 4
      omega
    · show (512 * t.val + a.val) % 2048 = 512 * (t.val % 4) + a.val
      omega
    · show 1024 + (256 + d.val) = 1280 + d.val
      omega
  w0 d := by
    have e : View.ld (iblk m c 8 t) r0_14 (ix2 0 d) = iblk m c 8 t (ix2 0 ⟨256 + d.val, by omega⟩) := by
      generalize iblk m c 8 t = v
      pointwise
      try simp only [Nat.add_comm]
      try rfl
    rw [e, blk8, V_main_v1]
    congr 2
    apply Fin.ext
    show 1024 + (256 + d.val) = 1280 + d.val
    omega
  w1 d := by
    have e : View.ld (iblk m c 8 t) r0_15 (ix2 0 d) = iblk m c 8 t (ix2 1 ⟨256 + d.val, by omega⟩) := by
      generalize iblk m c 8 t = v
      pointwise
      try simp only [Nat.add_comm]
      try rfl
    rw [e, blk8, V_main_v1]
    congr 2
    apply Fin.ext
    show 1024 + (256 + d.val) = 1280 + d.val
    omega
  w2 d := by
    have e : View.ld (iblk m c 8 t) r0_16 (ix2 0 d) = iblk m c 8 t (ix2 2 ⟨256 + d.val, by omega⟩) := by
      generalize iblk m c 8 t = v
      pointwise
      try simp only [Nat.add_comm]
      try rfl
    rw [e, blk8, V_main_v1]
    congr 2
    apply Fin.ext
    show 1024 + (256 + d.val) = 1280 + d.val
    omega
  w3 d := by
    have e : View.ld (iblk m c 8 t) r0_17 (ix2 0 d) = iblk m c 8 t (ix2 3 ⟨256 + d.val, by omega⟩) := by
      generalize iblk m c 8 t = v
      pointwise
      try simp only [Nat.add_comm]
      try rfl
    rw [e, blk8, V_main_v1]
    congr 2
    apply Fin.ext
    show 1024 + (256 + d.val) = 1280 + d.val
    omega

theorem holds_2_3 (c : Dev nD) (t : Fin cfg0.grid.N) : Holds (Scalar.cmpi .eq (BitVec.ofNat 32 (grid0.coords t 1).val) 0#32) (View.ld (iblk m c 5 t) r0_18) (View.ld (iblk m c 2 t) r0_19)
    (View.ld (iblk m c 8 t) r0_20) (View.ld (iblk m c 8 t) r0_21) (View.ld (iblk m c 8 t) r0_22) (View.ld (iblk m c 8 t) r0_23)
    (m ((c : Thread nD τ).loc main_arg0)) (m ((c : Thread nD τ).loc main_arg1)) t 1408 (by omega) where
  first := first t
  hist ht r d := by
    have ht' : t.val % 4 ≠ 0 := ht
    have e : View.ld (iblk m c 5 t) r0_18 (ix2 r d) = iblk m c 5 t (ix2 r ⟨384 + d.val, by omega⟩) := by
      generalize iblk m c 5 t = v
      pointwise
      try simp only [Nat.add_comm]
    rw [e, blk5, V_main_v0]
    congr 2 <;> apply Fin.ext
    · show (8 * (64 * t.val - 1) + r.val) / 2048 = t.val / 4
      omega
    · show (8 * (64 * t.val - 1) + r.val) % 2048 = 512 * (t.val % 4) + r.val - 8
      omega
    · show 1024 + (384 + d.val) = 1408 + d.val
      omega
  rows a d := by
    have e : View.ld (iblk m c 2 t) r0_19 (ix2 a d) = iblk m c 2 t (ix2 a ⟨384 + d.val, by omega⟩) := by
      generalize iblk m c 2 t = v
      pointwise
      try simp only [Nat.add_comm]
    rw [e, blk2, V_main_v0]
    congr 2 <;> apply Fin.ext
    · show (512 * t.val + a.val) / 2048 = t.val / 4
      omega
    · show (512 * t.val + a.val) % 2048 = 512 * (t.val % 4) + a.val
      omega
    · show 1024 + (384 + d.val) = 1408 + d.val
      omega
  w0 d := by
    have e : View.ld (iblk m c 8 t) r0_20 (ix2 0 d) = iblk m c 8 t (ix2 0 ⟨384 + d.val, by omega⟩) := by
      generalize iblk m c 8 t = v
      pointwise
      try simp only [Nat.add_comm]
      try rfl
    rw [e, blk8, V_main_v1]
    congr 2
    apply Fin.ext
    show 1024 + (384 + d.val) = 1408 + d.val
    omega
  w1 d := by
    have e : View.ld (iblk m c 8 t) r0_21 (ix2 0 d) = iblk m c 8 t (ix2 1 ⟨384 + d.val, by omega⟩) := by
      generalize iblk m c 8 t = v
      pointwise
      try simp only [Nat.add_comm]
      try rfl
    rw [e, blk8, V_main_v1]
    congr 2
    apply Fin.ext
    show 1024 + (384 + d.val) = 1408 + d.val
    omega
  w2 d := by
    have e : View.ld (iblk m c 8 t) r0_22 (ix2 0 d) = iblk m c 8 t (ix2 2 ⟨384 + d.val, by omega⟩) := by
      generalize iblk m c 8 t = v
      pointwise
      try simp only [Nat.add_comm]
      try rfl
    rw [e, blk8, V_main_v1]
    congr 2
    apply Fin.ext
    show 1024 + (384 + d.val) = 1408 + d.val
    omega
  w3 d := by
    have e : View.ld (iblk m c 8 t) r0_23 (ix2 0 d) = iblk m c 8 t (ix2 3 ⟨384 + d.val, by omega⟩) := by
      generalize iblk m c 8 t = v
      pointwise
      try simp only [Nat.add_comm]
      try rfl
    rw [e, blk8, V_main_v1]
    congr 2
    apply Fin.ext
    show 1024 + (384 + d.val) = 1408 + d.val
    omega

end Cert.FeaturesIdeal.Val
-- ==== Proof.Features.Kernel.lean ====
/- The three results of the call: the tiles of the grid cover each array, and each holds its rows of `Features/Spec.lean`. -/
module

public import proofs.«01_k».proof.Proof.Gen.FeaturesIdeal.Frame
public import proofs.«01_k».proof.Proof.Gen.FeaturesIdeal.Value
public import proofs.«01_k».proof.Proof.Features.Spec
public import proofs.«01_k».proof.Proof.Features.Blocks
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.FeaturesIdeal.Val

open Cert.FeaturesIdeal Cert.FeaturesIdeal.Gen Idealize.ShloMosaic Idealize.ShloMosaic.TcCoe Idealize.SL.Sem
open Idealize.ShloMosaic.Pipeline (Dat)
open Cert.GdnSpec (silu eps)
open Cert.FeaturesSpec

variable (m : (ℓ : Loc nD τ sig) → Buf (Elt Ideal) ℓ)

theorem final9 (c : Dev nD) : (dats m 0 c).arrAt 9 cfg0.N
    = rows (query (m ((c : Thread nD τ).loc main_arg0)) (m ((c : Thread nD τ).loc main_arg1))) := by
  refine (dats m 0 c).arrAt_eq_of_covers 9 _ (by decide +kernel) fun t hf y => ?_
  blk_simp
  rw [after0_9]
  unfold out0_9
  frame_out
  obtain ⟨a, n, rfl⟩ : ∃ (a n : Fin 512), y = ix2 a n := ⟨y 0, y 1, eq_ix2 y⟩
  have ht : t.val < 128 := t.isLt
  rw [emb9]
  canon_tiles x hx
  · have h0 : a.val = (x 0).val := hx0
    have h1 : n.val = 384 + (x 1).val := hx1
    obtain ⟨x0, x1, rfl⟩ : ∃ (x0 : Fin 512) (x1 : Fin 128), x = ix2 x0 x1 := ⟨x 0, x 1, eq_ix2 x⟩
    obtain rfl : a = x0 := Fin.ext h0
    have h1 : n.val = 384 + x1.val := h1
    refine Eq.trans ?_ (rows_at _ ⟨t.val / 4, by omega⟩ ⟨512 * (t.val % 4) + a.val, by omega⟩ 3 x1 _ _
      (by show 512 * t.val + a.val = 2048 * (t.val / 4) + (512 * (t.val % 4) + a.val); omega)
      (by show n.val = 128 * 3 + x1.val; omega)).symm
    exact (congrFun (q3 _ _ _ _ _ _ _) (ix2 a x1)).trans (query_of (holds_0_3 m c t) a x1)
  · have h0 : a.val = (x 0).val := hx0
    have h1 : n.val = 256 + (x 1).val := hx1
    obtain ⟨x0, x1, rfl⟩ : ∃ (x0 : Fin 512) (x1 : Fin 128), x = ix2 x0 x1 := ⟨x 0, x 1, eq_ix2 x⟩
    obtain rfl : a = x0 := Fin.ext h0
    have h1 : n.val = 256 + x1.val := h1
    refine Eq.trans ?_ (rows_at _ ⟨t.val / 4, by omega⟩ ⟨512 * (t.val % 4) + a.val, by omega⟩ 2 x1 _ _
      (by show 512 * t.val + a.val = 2048 * (t.val / 4) + (512 * (t.val % 4) + a.val); omega)
      (by show n.val = 128 * 2 + x1.val; omega)).symm
    exact (congrFun (q2 _ _ _ _ _ _ _) (ix2 a x1)).trans (query_of (holds_0_2 m c t) a x1)
  · have h0 : a.val = (x 0).val := hx0
    have h1 : n.val = 128 + (x 1).val := hx1
    obtain ⟨x0, x1, rfl⟩ : ∃ (x0 : Fin 512) (x1 : Fin 128), x = ix2 x0 x1 := ⟨x 0, x 1, eq_ix2 x⟩
    obtain rfl : a = x0 := Fin.ext h0
    have h1 : n.val = 128 + x1.val := h1
    refine Eq.trans ?_ (rows_at _ ⟨t.val / 4, by omega⟩ ⟨512 * (t.val % 4) + a.val, by omega⟩ 1 x1 _ _
      (by show 512 * t.val + a.val = 2048 * (t.val / 4) + (512 * (t.val % 4) + a.val); omega)
      (by show n.val = 128 * 1 + x1.val; omega)).symm
    exact (congrFun (q1 _ _ _ _ _ _ _) (ix2 a x1)).trans (query_of (holds_0_1 m c t) a x1)
  · have h0 : a.val = (x 0).val := hx0
    have h1 : n.val = (x 1).val := hx1
    obtain ⟨x0, x1, rfl⟩ : ∃ (x0 : Fin 512) (x1 : Fin 128), x = ix2 x0 x1 := ⟨x 0, x 1, eq_ix2 x⟩
    obtain rfl : a = x0 := Fin.ext h0
    have h1 : n.val = x1.val := h1
    refine Eq.trans ?_ (rows_at _ ⟨t.val / 4, by omega⟩ ⟨512 * (t.val % 4) + a.val, by omega⟩ 0 x1 _ _
      (by show 512 * t.val + a.val = 2048 * (t.val / 4) + (512 * (t.val % 4) + a.val); omega)
      (by show n.val = 128 * 0 + x1.val; omega)).symm
    exact (congrFun (q0 _ _ _ _ _ _ _) (ix2 a x1)).trans (query_of (holds_0_0 m c t) a x1)

theorem final10 (c : Dev nD) : (dats m 0 c).arrAt 10 cfg0.N
    = rows (key (m ((c : Thread nD τ).loc main_arg0)) (m ((c : Thread nD τ).loc main_arg1))) := by
  refine (dats m 0 c).arrAt_eq_of_covers 10 _ (by decide +kernel) fun t hf y => ?_
  blk_simp
  rw [after0_10]
  unfold out0_10
  frame_out
  obtain ⟨a, n, rfl⟩ : ∃ (a n : Fin 512), y = ix2 a n := ⟨y 0, y 1, eq_ix2 y⟩
  have ht : t.val < 128 := t.isLt
  rw [emb10]
  canon_tiles x hx
  · have h0 : a.val = (x 0).val := hx0
    have h1 : n.val = 384 + (x 1).val := hx1
    obtain ⟨x0, x1, rfl⟩ : ∃ (x0 : Fin 512) (x1 : Fin 128), x = ix2 x0 x1 := ⟨x 0, x 1, eq_ix2 x⟩
    obtain rfl : a = x0 := Fin.ext h0
    have h1 : n.val = 384 + x1.val := h1
    refine Eq.trans ?_ (rows_at _ ⟨t.val / 4, by omega⟩ ⟨512 * (t.val % 4) + a.val, by omega⟩ 3 x1 _ _
      (by show 512 * t.val + a.val = 2048 * (t.val / 4) + (512 * (t.val % 4) + a.val); omega)
      (by show n.val = 128 * 3 + x1.val; omega)).symm
    exact (congrFun (k3 _ _ _ _ _ _ _) (ix2 a x1)).trans (key_of (holds_1_3 m c t) a x1)
  · have h0 : a.val = (x 0).val := hx0
    have h1 : n.val = 256 + (x 1).val := hx1
    obtain ⟨x0, x1, rfl⟩ : ∃ (x0 : Fin 512) (x1 : Fin 128), x = ix2 x0 x1 := ⟨x 0, x 1, eq_ix2 x⟩
    obtain rfl : a = x0 := Fin.ext h0
    have h1 : n.val = 256 + x1.val := h1
    refine Eq.trans ?_ (rows_at _ ⟨t.val / 4, by omega⟩ ⟨512 * (t.val % 4) + a.val, by omega⟩ 2 x1 _ _
      (by show 512 * t.val + a.val = 2048 * (t.val / 4) + (512 * (t.val % 4) + a.val); omega)
      (by show n.val = 128 * 2 + x1.val; omega)).symm
    exact (congrFun (k2 _ _ _ _ _ _ _) (ix2 a x1)).trans (key_of (holds_1_2 m c t) a x1)
  · have h0 : a.val = (x 0).val := hx0
    have h1 : n.val = 128 + (x 1).val := hx1
    obtain ⟨x0, x1, rfl⟩ : ∃ (x0 : Fin 512) (x1 : Fin 128), x = ix2 x0 x1 := ⟨x 0, x 1, eq_ix2 x⟩
    obtain rfl : a = x0 := Fin.ext h0
    have h1 : n.val = 128 + x1.val := h1
    refine Eq.trans ?_ (rows_at _ ⟨t.val / 4, by omega⟩ ⟨512 * (t.val % 4) + a.val, by omega⟩ 1 x1 _ _
      (by show 512 * t.val + a.val = 2048 * (t.val / 4) + (512 * (t.val % 4) + a.val); omega)
      (by show n.val = 128 * 1 + x1.val; omega)).symm
    exact (congrFun (k1 _ _ _ _ _ _ _) (ix2 a x1)).trans (key_of (holds_1_1 m c t) a x1)
  · have h0 : a.val = (x 0).val := hx0
    have h1 : n.val = (x 1).val := hx1
    obtain ⟨x0, x1, rfl⟩ : ∃ (x0 : Fin 512) (x1 : Fin 128), x = ix2 x0 x1 := ⟨x 0, x 1, eq_ix2 x⟩
    obtain rfl : a = x0 := Fin.ext h0
    have h1 : n.val = x1.val := h1
    refine Eq.trans ?_ (rows_at _ ⟨t.val / 4, by omega⟩ ⟨512 * (t.val % 4) + a.val, by omega⟩ 0 x1 _ _
      (by show 512 * t.val + a.val = 2048 * (t.val / 4) + (512 * (t.val % 4) + a.val); omega)
      (by show n.val = 128 * 0 + x1.val; omega)).symm
    exact key_of (holds_1_0 m c t) a x1

theorem final11 (c : Dev nD) : (dats m 0 c).arrAt 11 cfg0.N
    = rows (value (m ((c : Thread nD τ).loc main_arg0)) (m ((c : Thread nD τ).loc main_arg1))) := by
  refine (dats m 0 c).arrAt_eq_of_covers 11 _ (by decide +kernel) fun t hf y => ?_
  blk_simp
  rw [after0_11]
  unfold out0_11
  frame_out
  obtain ⟨a, n, rfl⟩ : ∃ (a n : Fin 512), y = ix2 a n := ⟨y 0, y 1, eq_ix2 y⟩
  have ht : t.val < 128 := t.isLt
  rw [emb11]
  canon_tiles x hx
  · have h0 : a.val = (x 0).val := hx0
    have h1 : n.val = 384 + (x 1).val := hx1
    obtain ⟨x0, x1, rfl⟩ : ∃ (x0 : Fin 512) (x1 : Fin 128), x = ix2 x0 x1 := ⟨x 0, x 1, eq_ix2 x⟩
    obtain rfl : a = x0 := Fin.ext h0
    have h1 : n.val = 384 + x1.val := h1
    refine Eq.trans ?_ (rows_at _ ⟨t.val / 4, by omega⟩ ⟨512 * (t.val % 4) + a.val, by omega⟩ 3 x1 _ _
      (by show 512 * t.val + a.val = 2048 * (t.val / 4) + (512 * (t.val % 4) + a.val); omega)
      (by show n.val = 128 * 3 + x1.val; omega)).symm
    exact (congrFun (v3 _ _ _ _ _ _ _) (ix2 a x1)).trans (value_of (holds_2_3 m c t) a x1)
  · have h0 : a.val = (x 0).val := hx0
    have h1 : n.val = 256 + (x 1).val := hx1
    obtain ⟨x0, x1, rfl⟩ : ∃ (x0 : Fin 512) (x1 : Fin 128), x = ix2 x0 x1 := ⟨x 0, x 1, eq_ix2 x⟩
    obtain rfl : a = x0 := Fin.ext h0
    have h1 : n.val = 256 + x1.val := h1
    refine Eq.trans ?_ (rows_at _ ⟨t.val / 4, by omega⟩ ⟨512 * (t.val % 4) + a.val, by omega⟩ 2 x1 _ _
      (by show 512 * t.val + a.val = 2048 * (t.val / 4) + (512 * (t.val % 4) + a.val); omega)
      (by show n.val = 128 * 2 + x1.val; omega)).symm
    exact (congrFun (v2 _ _ _ _ _ _ _) (ix2 a x1)).trans (value_of (holds_2_2 m c t) a x1)
  · have h0 : a.val = (x 0).val := hx0
    have h1 : n.val = 128 + (x 1).val := hx1
    obtain ⟨x0, x1, rfl⟩ : ∃ (x0 : Fin 512) (x1 : Fin 128), x = ix2 x0 x1 := ⟨x 0, x 1, eq_ix2 x⟩
    obtain rfl : a = x0 := Fin.ext h0
    have h1 : n.val = 128 + x1.val := h1
    refine Eq.trans ?_ (rows_at _ ⟨t.val / 4, by omega⟩ ⟨512 * (t.val % 4) + a.val, by omega⟩ 1 x1 _ _
      (by show 512 * t.val + a.val = 2048 * (t.val / 4) + (512 * (t.val % 4) + a.val); omega)
      (by show n.val = 128 * 1 + x1.val; omega)).symm
    exact (congrFun (v1 _ _ _ _ _ _ _) (ix2 a x1)).trans (value_of (holds_2_1 m c t) a x1)
  · have h0 : a.val = (x 0).val := hx0
    have h1 : n.val = (x 1).val := hx1
    obtain ⟨x0, x1, rfl⟩ : ∃ (x0 : Fin 512) (x1 : Fin 128), x = ix2 x0 x1 := ⟨x 0, x 1, eq_ix2 x⟩
    obtain rfl : a = x0 := Fin.ext h0
    have h1 : n.val = x1.val := h1
    refine Eq.trans ?_ (rows_at _ ⟨t.val / 4, by omega⟩ ⟨512 * (t.val % 4) + a.val, by omega⟩ 0 x1 _ _
      (by show 512 * t.val + a.val = 2048 * (t.val / 4) + (512 * (t.val % 4) + a.val); omega)
      (by show n.val = 128 * 0 + x1.val; omega)).symm
    exact (congrFun (v0 _ _ _ _ _ _ _) (ix2 a x1)).trans (value_of (holds_2_0 m c t) a x1)

end Cert.FeaturesIdeal.Val
-- ==== Proof.Features.Reference.lean ====
/- The plain lines of the same call, read down to the closed form of `Features/Spec.lean`. -/
module

public import proofs.«01_k».proof.Proof.Gen.FeaturesRefIdeal.Read
public import proofs.«01_k».proof.Proof.Features.Spec
public import Idealize.ShloMosaic.Lib.Pipeline.ValueKit
public import Idealize.ShloMosaic.Lib.Pointwise
public import Idealize.ShloMosaic.Lib.Tactic.CleanTypes

@[expose] public section

set_option maxRecDepth 16384

noncomputable section

namespace Cert.FeaturesRefIdeal.Val

open Cert.FeaturesRefIdeal Cert.FeaturesRefIdeal.Gen Cert.FeaturesRefIdeal.Read Idealize.ShloMosaic Idealize.ShloMosaic.TcCoe Idealize.SL.Sem
open Cert.GdnSpec (silu eps)
open Cert.FeaturesSpec

variable (x0 : Vec Ideal S32x2048x1536 .f32) (w : Vec Ideal S1x4x1536 .f32)

theorem v0 (b : Fin 32) (p : Fin 2051) (n : Fin 1536) : (val_main_v0 (F := Ideal) x0) (ix3 b p n)
    = if h : 3 ≤ p.val then x0 (ix3 b ⟨p.val - 3, by omega⟩ n) else 0 := by
  have z : FloatOps.sitofp (F := Ideal) FTy.f32 0#32 = 0 := by
    show (((0#32 : BitVec 32).toInt : ℝ) : EReal) = 0
    simp
  unfold val_main_v0 val_main_call0_v0 val_main_c
  pointwise
  rw [z]
  by_cases h : 3 ≤ p.val
  · rw [dif_pos h, dif_pos ⟨h, by omega⟩]
  · rw [dif_neg h, dif_neg fun h' => h h'.1]

theorem v1 (r : Fin 4) (n : Fin 1536) : (val_main_v1 (F := Ideal) w) (ix2 r n) = w (ix3 0 r n) := by
  unfold val_main_v1
  pointwise

theorem v2 (b : Fin 32) (t : Fin 2048) (n : Fin 1536) : (val_main_v2 (F := Ideal) x0) (ix3 b t n) = past x0 b t 0 n := by
  have e : (val_main_v2 (F := Ideal) x0) (ix3 b t n) = (val_main_v0 (F := Ideal) x0) (ix3 b ⟨t.val + 0, by omega⟩ n) := by
    unfold val_main_v2
    generalize val_main_v0 (F := Ideal) x0 = y
    clean_types
    pointwise
    try simp only [Nat.add_comm]
  rw [e, v0]
  rfl

theorem v3 (n : Fin 1536) : (val_main_v3 (F := Ideal) w) (ix2 0 n) = (val_main_v1 (F := Ideal) w) (ix2 0 n) := by
  unfold val_main_v3
  generalize val_main_v1 (F := Ideal) w = y
  clean_types
  pointwise

theorem v4 (n : Fin 1536) : (val_main_v4 (F := Ideal) w) (ix1 n) = (val_main_v3 (F := Ideal) w) (ix2 0 n) := by
  unfold val_main_v4
  generalize val_main_v3 (F := Ideal) w = y
  clean_types
  pointwise

theorem v5 (n : Fin 1536) : (val_main_v5 (F := Ideal) w) (ix3 0 0 n) = (val_main_v4 (F := Ideal) w) (ix1 n) := by
  unfold val_main_v5
  generalize val_main_v4 (F := Ideal) w = y
  clean_types
  pointwise

theorem v6 (b : Fin 32) (t : Fin 2048) (n : Fin 1536) : (val_main_v6 (F := Ideal) w) (ix3 b t n) = (val_main_v5 (F := Ideal) w) (ix3 0 0 n) := by
  unfold val_main_v6
  generalize val_main_v5 (F := Ideal) w = y
  clean_types
  pointwise

theorem v8 (b : Fin 32) (t : Fin 2048) (n : Fin 1536) : (val_main_v8 (F := Ideal) x0) (ix3 b t n) = past x0 b t 1 n := by
  have e : (val_main_v8 (F := Ideal) x0) (ix3 b t n) = (val_main_v0 (F := Ideal) x0) (ix3 b ⟨t.val + 1, by omega⟩ n) := by
    unfold val_main_v8
    generalize val_main_v0 (F := Ideal) x0 = y
    clean_types
    pointwise
    try simp only [Nat.add_comm]
  rw [e, v0]
  rfl

theorem v9 (n : Fin 1536) : (val_main_v9 (F := Ideal) w) (ix2 0 n) = (val_main_v1 (F := Ideal) w) (ix2 1 n) := by
  unfold val_main_v9
  generalize val_main_v1 (F := Ideal) w = y
  clean_types
  pointwise

theorem v10 (n : Fin 1536) : (val_main_v10 (F := Ideal) w) (ix1 n) = (val_main_v9 (F := Ideal) w) (ix2 0 n) := by
  unfold val_main_v10
  generalize val_main_v9 (F := Ideal) w = y
  clean_types
  pointwise

theorem v11 (n : Fin 1536) : (val_main_v11 (F := Ideal) w) (ix3 0 0 n) = (val_main_v10 (F := Ideal) w) (ix1 n) := by
  unfold val_main_v11
  generalize val_main_v10 (F := Ideal) w = y
  clean_types
  pointwise

theorem v12 (b : Fin 32) (t : Fin 2048) (n : Fin 1536) : (val_main_v12 (F := Ideal) w) (ix3 b t n) = (val_main_v11 (F := Ideal) w) (ix3 0 0 n) := by
  unfold val_main_v12
  generalize val_main_v11 (F := Ideal) w = y
  clean_types
  pointwise

theorem v15 (b : Fin 32) (t : Fin 2048) (n : Fin 1536) : (val_main_v15 (F := Ideal) x0) (ix3 b t n) = past x0 b t 2 n := by
  have e : (val_main_v15 (F := Ideal) x0) (ix3 b t n) = (val_main_v0 (F := Ideal) x0) (ix3 b ⟨t.val + 2, by omega⟩ n) := by
    unfold val_main_v15
    generalize val_main_v0 (F := Ideal) x0 = y
    clean_types
    pointwise
    try simp only [Nat.add_comm]
  rw [e, v0]
  rfl

theorem v16 (n : Fin 1536) : (val_main_v16 (F := Ideal) w) (ix2 0 n) = (val_main_v1 (F := Ideal) w) (ix2 2 n) := by
  unfold val_main_v16
  generalize val_main_v1 (F := Ideal) w = y
  clean_types
  pointwise

theorem v17 (n : Fin 1536) : (val_main_v17 (F := Ideal) w) (ix1 n) = (val_main_v16 (F := Ideal) w) (ix2 0 n) := by
  unfold val_main_v17
  generalize val_main_v16 (F := Ideal) w = y
  clean_types
  pointwise

theorem v18 (n : Fin 1536) : (val_main_v18 (F := Ideal) w) (ix3 0 0 n) = (val_main_v17 (F := Ideal) w) (ix1 n) := by
  unfold val_main_v18
  generalize val_main_v17 (F := Ideal) w = y
  clean_types
  pointwise

theorem v19 (b : Fin 32) (t : Fin 2048) (n : Fin 1536) : (val_main_v19 (F := Ideal) w) (ix3 b t n) = (val_main_v18 (F := Ideal) w) (ix3 0 0 n) := by
  unfold val_main_v19
  generalize val_main_v18 (F := Ideal) w = y
  clean_types
  pointwise

theorem v22 (b : Fin 32) (t : Fin 2048) (n : Fin 1536) : (val_main_v22 (F := Ideal) x0) (ix3 b t n) = past x0 b t 3 n := by
  have e : (val_main_v22 (F := Ideal) x0) (ix3 b t n) = (val_main_v0 (F := Ideal) x0) (ix3 b ⟨t.val + 3, by omega⟩ n) := by
    unfold val_main_v22
    generalize val_main_v0 (F := Ideal) x0 = y
    clean_types
    pointwise
    try simp only [Nat.add_comm]
  rw [e, v0]
  rfl

theorem v23 (n : Fin 1536) : (val_main_v23 (F := Ideal) w) (ix2 0 n) = (val_main_v1 (F := Ideal) w) (ix2 3 n) := by
  unfold val_main_v23
  generalize val_main_v1 (F := Ideal) w = y
  clean_types
  pointwise

theorem v24 (n : Fin 1536) : (val_main_v24 (F := Ideal) w) (ix1 n) = (val_main_v23 (F := Ideal) w) (ix2 0 n) := by
  unfold val_main_v24
  generalize val_main_v23 (F := Ideal) w = y
  clean_types
  pointwise

theorem v25 (n : Fin 1536) : (val_main_v25 (F := Ideal) w) (ix3 0 0 n) = (val_main_v24 (F := Ideal) w) (ix1 n) := by
  unfold val_main_v25
  generalize val_main_v24 (F := Ideal) w = y
  clean_types
  pointwise

theorem v26 (b : Fin 32) (t : Fin 2048) (n : Fin 1536) : (val_main_v26 (F := Ideal) w) (ix3 b t n) = (val_main_v25 (F := Ideal) w) (ix3 0 0 n) := by
  unfold val_main_v26
  generalize val_main_v25 (F := Ideal) w = y
  clean_types
  pointwise

theorem l28 (b : Fin 32) (t : Fin 2048) (n : Fin 1536) : (val_main_v28 (F := Ideal) x0 w) (ix3 b t n) = conv x0 w b t n := by
  rw [val_main_v28_apply, val_main_v21_apply, val_main_v14_apply, val_main_v7_apply, val_main_v13_apply, val_main_v20_apply,
    val_main_v27_apply, v2, v8, v15, v22, v6, v12, v19, v26, v5, v11, v18, v25, v4, v10, v17, v24, v3, v9, v16, v23, v1, v1, v1, v1]
  rfl

/-- The channels after the convolution and the gate. -/
theorem l29 (b : Fin 32) (t : Fin 2048) (n : Fin 1536) : (val_main_v29 (F := Ideal) x0 w) (ix3 b t n) = silu (conv x0 w b t n) := by
  unfold silu
  rw [← l28]
  unfold val_main_v29 val_main_call1_v5 val_main_call1_v3 val_main_call1_v4 val_main_call1_v2 val_main_call1_v1 val_main_call1_v0
    val_main_call1_cst val_main_call1_cst_0
  generalize val_main_v28 (F := Ideal) x0 w = y
  pointwise
  rw [zero_sub]

theorem v30 (b : Fin 32) (t : Fin 2048) (n : Fin 512) : (val_main_v30 (F := Ideal) x0 w) (ix3 b t n) = (val_main_v29 (F := Ideal) x0 w) (ix3 b t ⟨0 + n.val, by omega⟩) := by
  unfold val_main_v30
  generalize val_main_v29 (F := Ideal) x0 w = y
  clean_types
  pointwise
  try simp only [Nat.add_comm]
  try simp only [Nat.zero_add]

theorem v31 (b : Fin 32) (t : Fin 2048) (n : Fin 512) : (val_main_v31 (F := Ideal) x0 w) (ix3 b t n) = (val_main_v29 (F := Ideal) x0 w) (ix3 b t ⟨512 + n.val, by omega⟩) := by
  unfold val_main_v31
  generalize val_main_v29 (F := Ideal) x0 w = y
  clean_types
  pointwise
  try simp only [Nat.add_comm]
  try simp only [Nat.zero_add]

theorem v32 (b : Fin 32) (t : Fin 2048) (n : Fin 512) : (val_main_v32 (F := Ideal) x0 w) (ix3 b t n) = (val_main_v29 (F := Ideal) x0 w) (ix3 b t ⟨1024 + n.val, by omega⟩) := by
  unfold val_main_v32
  generalize val_main_v29 (F := Ideal) x0 w = y
  clean_types
  pointwise
  try simp only [Nat.add_comm]
  try simp only [Nat.zero_add]

theorem v33 (b : Fin 32) (t : Fin 2048) (h : Fin 4) (d : Fin 128) : (val_main_v33 (F := Ideal) x0 w) (ix4 b t h d) = (val_main_v30 (F := Ideal) x0 w) (ix3 b t ⟨128 * h.val + d.val, by omega⟩) := by
  unfold val_main_v33
  generalize val_main_v30 (F := Ideal) x0 w = y
  clean_types
  pointwise
  try simp only [Nat.mul_comm]

theorem v44 (b : Fin 32) (t : Fin 2048) (h : Fin 4) (d : Fin 128) : (val_main_v44 (F := Ideal) x0 w) (ix4 b t h d) = (val_main_v31 (F := Ideal) x0 w) (ix3 b t ⟨128 * h.val + d.val, by omega⟩) := by
  unfold val_main_v44
  generalize val_main_v31 (F := Ideal) x0 w = y
  clean_types
  pointwise
  try simp only [Nat.mul_comm]

theorem v36 (b : Fin 32) (t : Fin 2048) (h : Fin 4) : (val_main_v36 (F := Ideal) x0 w) (ix4 b t h 0) = (val_main_v35 (F := Ideal) x0 w) (ix3 b t h) := by
  unfold val_main_v36
  generalize val_main_v35 (F := Ideal) x0 w = y
  clean_types
  pointwise

theorem v47 (b : Fin 32) (t : Fin 2048) (h : Fin 4) : (val_main_v47 (F := Ideal) x0 w) (ix4 b t h 0) = (val_main_v46 (F := Ideal) x0 w) (ix3 b t h) := by
  unfold val_main_v47
  generalize val_main_v46 (F := Ideal) x0 w = y
  clean_types
  pointwise

theorem v40 (b : Fin 32) (t : Fin 2048) (h : Fin 4) (d : Fin 128) : (val_main_v40 (F := Ideal) x0 w) (ix4 b t h d) = (val_main_v39 (F := Ideal) x0 w) (ix4 b t h 0) := by
  unfold val_main_v40
  generalize val_main_v39 (F := Ideal) x0 w = y
  clean_types
  pointwise

theorem v51 (b : Fin 32) (t : Fin 2048) (h : Fin 4) (d : Fin 128) : (val_main_v51 (F := Ideal) x0 w) (ix4 b t h d) = (val_main_v50 (F := Ideal) x0 w) (ix4 b t h 0) := by
  unfold val_main_v51
  generalize val_main_v50 (F := Ideal) x0 w = y
  clean_types
  pointwise

theorem l35 (b : Fin 32) (t : Fin 2048) (h : Fin 4) : (val_main_v35 (F := Ideal) x0 w) (ix3 b t h)
    = ∑ x : Fin 128, (val_main_v33 (F := Ideal) x0 w) (ix4 b t h x) * (val_main_v33 (F := Ideal) x0 w) (ix4 b t h x) := by
  have z : FloatOps.ofBits (F := Ideal) FTy.f32 0x00000000#32 = 0 := Ideal.ofBits_zero_f32
  have e (x : Fin 128) : idx_main_v35 (ix3 b t h) x = ix4 b t h x := by
    funext a
    match a with
    | ⟨0, _⟩ => rfl
    | ⟨1, _⟩ => rfl
    | ⟨2, _⟩ => rfl
    | ⟨3, _⟩ => rfl
  rw [val_main_v35_apply, val_main_cst_apply, z, zero_add]
  refine Finset.sum_congr rfl fun x _ => ?_
  rw [e, val_main_v34_apply]
  rfl

theorem l46 (b : Fin 32) (t : Fin 2048) (h : Fin 4) : (val_main_v46 (F := Ideal) x0 w) (ix3 b t h)
    = ∑ x : Fin 128, (val_main_v44 (F := Ideal) x0 w) (ix4 b t h x) * (val_main_v44 (F := Ideal) x0 w) (ix4 b t h x) := by
  have z : FloatOps.ofBits (F := Ideal) FTy.f32 0x00000000#32 = 0 := Ideal.ofBits_zero_f32
  have e (x : Fin 128) : idx_main_v46 (ix3 b t h) x = ix4 b t h x := by
    funext a
    match a with
    | ⟨0, _⟩ => rfl
    | ⟨1, _⟩ => rfl
    | ⟨2, _⟩ => rfl
    | ⟨3, _⟩ => rfl
  rw [val_main_v46_apply, val_main_cst_2_apply, z, zero_add]
  refine Finset.sum_congr rfl fun x _ => ?_
  rw [e, val_main_v45_apply]
  rfl

theorem l39 (b : Fin 32) (t : Fin 2048) (h : Fin 4) : (val_main_v39 (F := Ideal) x0 w) (ix4 b t h 0)
    = Ideal.rsqrt ((val_main_v35 (F := Ideal) x0 w) (ix3 b t h) + eps) := by
  rw [← v36]
  unfold val_main_v39 val_main_v38 val_main_v37 val_main_cst_0
  generalize val_main_v36 (F := Ideal) x0 w = y
  pointwise

theorem l50 (b : Fin 32) (t : Fin 2048) (h : Fin 4) : (val_main_v50 (F := Ideal) x0 w) (ix4 b t h 0)
    = Ideal.rsqrt ((val_main_v46 (F := Ideal) x0 w) (ix3 b t h) + eps) := by
  rw [← v47]
  unfold val_main_v50 val_main_v49 val_main_v48 val_main_cst_3
  generalize val_main_v47 (F := Ideal) x0 w = y
  pointwise

theorem l33 (b : Fin 32) (t : Fin 2048) (h : Fin 4) (d : Fin 128) : (val_main_v33 (F := Ideal) x0 w) (ix4 b t h d) = silu (conv x0 w b t ⟨128 * h.val + d.val, by omega⟩) := by
  rw [v33, v30, l29]
  congr 2
  apply Fin.ext
  show 0 + (128 * h.val + d.val) = 128 * h.val + d.val
  omega

theorem l44 (b : Fin 32) (t : Fin 2048) (h : Fin 4) (d : Fin 128) : (val_main_v44 (F := Ideal) x0 w) (ix4 b t h d) = silu (conv x0 w b t ⟨512 + 128 * h.val + d.val, by omega⟩) := by
  rw [v44, v31, l29]
  congr 2
  apply Fin.ext
  show 512 + (128 * h.val + d.val) = 512 + 128 * h.val + d.val
  omega

/-- The query of a head. -/
theorem l43 (b : Fin 32) (t : Fin 2048) (h : Fin 4) (d : Fin 128) : (val_main_v43 (F := Ideal) x0 w) (ix4 b t h d) = query x0 w b t h d := by
  have e : (val_main_v43 (F := Ideal) x0 w) (ix4 b t h d) = (val_main_v33 (F := Ideal) x0 w) (ix4 b t h d) * (val_main_v40 (F := Ideal) x0 w) (ix4 b t h d) * Ideal.ofBits FTy.f32 0x3DB504F3#32 := by
    rw [val_main_v43_apply, val_main_v41_apply, val_main_v42_apply, val_main_cst_1_apply]
    rfl
  rw [e, v40, l39, l35]
  simp only [l33]
  rfl

/-- The key of a head. -/
theorem l52 (b : Fin 32) (t : Fin 2048) (h : Fin 4) (d : Fin 128) : (val_main_v52 (F := Ideal) x0 w) (ix4 b t h d) = key x0 w b t h d := by
  rw [val_main_v52_apply, v51, l50, l46]
  simp only [l44]
  rfl

theorem v53 (r : Fin 65536) (n : Fin 512) : (val_main_v53 (F := Ideal) x0 w) (ix2 r n) = (val_main_v43 (F := Ideal) x0 w) (ix4 ⟨r.val / 2048, by omega⟩ ⟨r.val % 2048, by omega⟩ ⟨n.val / 128, by omega⟩ ⟨n.val % 128, by omega⟩) := by
  unfold val_main_v53
  generalize val_main_v43 (F := Ideal) x0 w = y
  clean_types
  pointwise

theorem v54 (r : Fin 65536) (n : Fin 512) : (val_main_v54 (F := Ideal) x0 w) (ix2 r n) = (val_main_v52 (F := Ideal) x0 w) (ix4 ⟨r.val / 2048, by omega⟩ ⟨r.val % 2048, by omega⟩ ⟨n.val / 128, by omega⟩ ⟨n.val % 128, by omega⟩) := by
  unfold val_main_v54
  generalize val_main_v52 (F := Ideal) x0 w = y
  clean_types
  pointwise

theorem v55 (r : Fin 65536) (n : Fin 512) : (val_main_v55 (F := Ideal) x0 w) (ix2 r n) = (val_main_v32 (F := Ideal) x0 w) (ix3 ⟨r.val / 2048, by omega⟩ ⟨r.val % 2048, by omega⟩ n) := by
  unfold val_main_v55
  generalize val_main_v32 (F := Ideal) x0 w = y
  clean_types
  pointwise

theorem eq53 : val_main_v53 (F := Ideal) x0 w = rows (query x0 w) := by
  funext i
  obtain ⟨r, n, rfl⟩ : ∃ (r : Fin 65536) (n : Fin 512), i = ix2 r n := ⟨i 0, i 1, eq_ix2 i⟩
  exact (v53 x0 w r n).trans (l43 x0 w _ _ _ _)

theorem eq54 : val_main_v54 (F := Ideal) x0 w = rows (key x0 w) := by
  funext i
  obtain ⟨r, n, rfl⟩ : ∃ (r : Fin 65536) (n : Fin 512), i = ix2 r n := ⟨i 0, i 1, eq_ix2 i⟩
  exact (v54 x0 w r n).trans (l52 x0 w _ _ _ _)

theorem eq55 : val_main_v55 (F := Ideal) x0 w = rows (value x0 w) := by
  funext i
  obtain ⟨r, n, rfl⟩ : ∃ (r : Fin 65536) (n : Fin 512), i = ix2 r n := ⟨i 0, i 1, eq_ix2 i⟩
  refine ((v55 x0 w r n).trans ((v32 x0 w _ _ _).trans (l29 x0 w _ _ _))).trans ?_
  show _ = silu (conv x0 w _ _ ⟨1024 + 128 * (n.val / 128) + n.val % 128, _⟩)
  have e : (⟨1024 + n.val, by omega⟩ : Fin 1536) = ⟨1024 + 128 * (n.val / 128) + n.val % 128, by omega⟩ :=
    Fin.ext (by show 1024 + n.val = 1024 + 128 * (n.val / 128) + n.val % 128; omega)
  rw [e]
  rfl

end Cert.FeaturesRefIdeal.Val
-- ==== Proof.Features.Claim.lean ====
/- The value claim about the prompt's queries, keys and values: both programs run, end with equal results, and keep their arguments. -/
module

public import proofs.«01_k».proof.Proof.Gen.FeaturesIdeal.Value
public import proofs.«01_k».proof.Proof.Gen.FeaturesRefIdeal.Run
public import proofs.«01_k».proof.Proof.Features.Kernel
public import proofs.«01_k».proof.Proof.Features.Reference

@[expose] public section

noncomputable section

namespace Cert.FeaturesClaim

open Idealize.ShloMosaic Idealize.ShloMosaic.TcCoe Idealize.SL.Sem

/-- The kernel and the plain lines give the same queries, keys and values. -/
theorem algebraic : Cert.algebraic_FeaturesIdeal_FeaturesRefIdeal := by
  intro m g m' g' _ ha
  refine ⟨fun c => Cert.FeaturesSpec.rows (Cert.FeaturesSpec.query (m ((c : Thread Cert.FeaturesIdeal.nD Cert.FeaturesIdeal.τ).loc Cert.FeaturesIdeal.main_arg0))
      (m ((c : Thread Cert.FeaturesIdeal.nD Cert.FeaturesIdeal.τ).loc Cert.FeaturesIdeal.main_arg1))),
    fun c => Cert.FeaturesSpec.rows (Cert.FeaturesSpec.key (m ((c : Thread Cert.FeaturesIdeal.nD Cert.FeaturesIdeal.τ).loc Cert.FeaturesIdeal.main_arg0))
      (m ((c : Thread Cert.FeaturesIdeal.nD Cert.FeaturesIdeal.τ).loc Cert.FeaturesIdeal.main_arg1))),
    fun c => Cert.FeaturesSpec.rows (Cert.FeaturesSpec.value (m ((c : Thread Cert.FeaturesIdeal.nD Cert.FeaturesIdeal.τ).loc Cert.FeaturesIdeal.main_arg0))
      (m ((c : Thread Cert.FeaturesIdeal.nD Cert.FeaturesIdeal.τ).loc Cert.FeaturesIdeal.main_arg1))), ?_, ?_⟩
  · exact (θ_run _ _ _).mono (fun r h c => by
      obtain ⟨h0, h1, h2, h3⟩ := h c
      exact ⟨h0.trans (Cert.FeaturesIdeal.Val.final9 m c), h1.trans (Cert.FeaturesIdeal.Val.final10 m c),
        h2.trans (Cert.FeaturesIdeal.Val.final11 m c), h3⟩) (Cert.FeaturesIdeal.Value.run_blocks m g)
  · refine (θ_run _ _ _).mono (fun r h c => ?_) (Cert.FeaturesRefIdeal.Value.run m' g')
    obtain ⟨h0, h1, h2, h3⟩ := h c
    obtain ⟨a0, a1⟩ := ha c
    refine ⟨h0.trans ((Cert.FeaturesRefIdeal.Read.val_main_v53_eq _ _).trans ?_),
      h1.trans ((Cert.FeaturesRefIdeal.Read.val_main_v54_eq _ _).trans ?_),
      h2.trans ((Cert.FeaturesRefIdeal.Read.val_main_v55_eq _ _).trans ?_), h3⟩
    · exact (Cert.FeaturesRefIdeal.Val.eq53 _ _).trans (congrArg₂ (fun x y => Cert.FeaturesSpec.rows (Cert.FeaturesSpec.query x y)) a0 a1)
    · exact (Cert.FeaturesRefIdeal.Val.eq54 _ _).trans (congrArg₂ (fun x y => Cert.FeaturesSpec.rows (Cert.FeaturesSpec.key x y)) a0 a1)
    · exact (Cert.FeaturesRefIdeal.Val.eq55 _ _).trans (congrArg₂ (fun x y => Cert.FeaturesSpec.rows (Cert.FeaturesSpec.value x y)) a0 a1)

end Cert.FeaturesClaim
-- ==== Proof.lean ====
/- The claim: each call and its plain program run and keep their arguments, idealizing changes nothing, and the pairs named in
   the statement give equal results. The value claims are proved under `Proof/<call>/Claim.lean`; this file puts them together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRows
public import proofs.«01_k».proof.Proof.Gen.InProjRows.Skeleton
public import proofs.«01_k».proof.Proof.Gen.InProjRows.Launch
public import proofs.«01_k».proof.Proof.Gen.InProjRows.Points
public import proofs.«01_k».proof.Proof.Gen.InProjRows.Frame
public import proofs.«01_k».proof.Proof.Gen.InProjRowsIdeal
public import proofs.«01_k».proof.Proof.Gen.InProjRowsIdeal.Skeleton
public import proofs.«01_k».proof.Proof.Gen.InProjRowsIdeal.Launch
public import proofs.«01_k».proof.Proof.Gen.InProjRowsIdeal.Points
public import proofs.«01_k».proof.Proof.Gen.InProjRowsIdeal.Frame
public import proofs.«01_k».proof.Proof.Gen.InProjRowsRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjGated
public import proofs.«01_k».proof.Proof.Gen.OutProjGated.Skeleton
public import proofs.«01_k».proof.Proof.Gen.OutProjGated.Launch
public import proofs.«01_k».proof.Proof.Gen.OutProjGated.Points
public import proofs.«01_k».proof.Proof.Gen.OutProjGated.Frame
public import proofs.«01_k».proof.Proof.Gen.OutProjGatedIdeal
public import proofs.«01_k».proof.Proof.Gen.OutProjGatedIdeal.Skeleton
public import proofs.«01_k».proof.Proof.Gen.OutProjGatedIdeal.Launch
public import proofs.«01_k».proof.Proof.Gen.OutProjGatedIdeal.Points
public import proofs.«01_k».proof.Proof.Gen.OutProjGatedIdeal.Frame
public import proofs.«01_k».proof.Proof.Gen.OutProjGatedRefIdeal
public import proofs.«01_k».proof.Proof.Gen.Features
public import proofs.«01_k».proof.Proof.Gen.Features.Skeleton
public import proofs.«01_k».proof.Proof.Gen.Features.Launch
public import proofs.«01_k».proof.Proof.Gen.Features.Points
public import proofs.«01_k».proof.Proof.Gen.Features.Frame
public import proofs.«01_k».proof.Proof.Gen.FeaturesIdeal
public import proofs.«01_k».proof.Proof.Gen.FeaturesIdeal.Skeleton
public import proofs.«01_k».proof.Proof.Gen.FeaturesIdeal.Launch
public import proofs.«01_k».proof.Proof.Gen.FeaturesIdeal.Points
public import proofs.«01_k».proof.Proof.Gen.FeaturesIdeal.Frame
public import proofs.«01_k».proof.Proof.Gen.FeaturesRefIdeal
public import proofs.«01_k».proof.Proof.Gen.KernelIdeal.Value
public import proofs.«01_k».proof.Proof.Gen.FeaturesIdeal.Value
public import proofs.«01_k».proof.Proof.Gen.FeaturesRefIdeal.Read
public import proofs.«01_k».proof.Proof.Gen.FeaturesRefIdeal.Run
public import proofs.«01_k».proof.Proof.Gen.ReferenceIdeal.Read
public import proofs.«01_k».proof.Proof.Gen.ReferenceIdeal.Run
public import proofs.«01_k».proof.Proof.Gen.InProjRefIdeal.Read
public import proofs.«01_k».proof.Proof.Gen.InProjRefIdeal.Run
public import proofs.«01_k».proof.Proof.Gen.InProjRowsRefIdeal.Read
public import proofs.«01_k».proof.Proof.Gen.InProjRowsRefIdeal.Run
public import proofs.«01_k».proof.Proof.Gen.OutProjRefIdeal.Read
public import proofs.«01_k».proof.Proof.Gen.OutProjRefIdeal.Run
public import proofs.«01_k».proof.Proof.Gen.OutProjGatedRefIdeal.Read
public import proofs.«01_k».proof.Proof.Gen.OutProjGatedRefIdeal.Run
public import proofs.«01_k».proof.Proof.Gdn.Claim
public import proofs.«01_k».proof.Proof.InProj.Claim
public import proofs.«01_k».proof.Proof.InProjRows.Claim
public import proofs.«01_k».proof.Proof.OutProj.Claim
public import proofs.«01_k».proof.Proof.OutProjGated.Claim
public import proofs.«01_k».proof.Proof.Features.Claim
public import Idealize.ShloMosaic.Lib.Quiescent
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.InProj.Gen.facts, Cert.InProjIdeal.Gen.facts, Cert.InProjRefIdeal.Gen.facts, Cert.InProjRows.Gen.facts, Cert.InProjRowsIdeal.Gen.facts, Cert.InProjRowsRefIdeal.Gen.facts, Cert.OutProj.Gen.facts, Cert.OutProjIdeal.Gen.facts, Cert.OutProjRefIdeal.Gen.facts, Cert.OutProjGated.Gen.facts, Cert.OutProjGatedIdeal.Gen.facts, Cert.OutProjGatedRefIdeal.Gen.facts, Cert.Features.Gen.facts, Cert.FeaturesIdeal.Gen.facts, Cert.FeaturesRefIdeal.Gen.facts,
  (fun m g _ => Cert.Kernel.Gen.frame m g),
  (fun m g _ => Cert.KernelIdeal.Gen.frame m g),
  (fun m g _ => (θ_run _ _ _).mono (fun r h => ⟨fun c => (h c).2.2.2, sem_eq_zero_of_no_sems (by decide) r.2⟩) (Cert.ReferenceIdeal.Value.run m g)),
  (fun m g _ => Cert.InProj.Gen.frame m g),
  (fun m g _ => Cert.InProjIdeal.Gen.frame m g),
  (fun m g _ => (θ_run _ _ _).mono (fun r h => ⟨fun c => (h c).2.2.2.2.2.2.2.2.2.2.2.2, sem_eq_zero_of_no_sems (by decide) r.2⟩) (Cert.InProjRefIdeal.Value.run m g)),
  (fun m g _ => Cert.InProjRows.Gen.frame m g),
  (fun m g _ => Cert.InProjRowsIdeal.Gen.frame m g),
  (fun m g _ => (θ_run _ _ _).mono (fun r h => ⟨fun c => (h c).2.2.2.2.2.2.2.2.2, sem_eq_zero_of_no_sems (by decide) r.2⟩) (Cert.InProjRowsRefIdeal.Value.run m g)),
  (fun m g _ => Cert.OutProj.Gen.frame m g),
  (fun m g _ => Cert.OutProjIdeal.Gen.frame m g),
  (fun m g _ => (θ_run _ _ _).mono (fun r h => ⟨fun c => (h c).2, sem_eq_zero_of_no_sems (by decide) r.2⟩) (Cert.OutProjRefIdeal.Value.run m g)),
  (fun m g _ => Cert.OutProjGated.Gen.frame m g),
  (fun m g _ => Cert.OutProjGatedIdeal.Gen.frame m g),
  (fun m g _ => (θ_run _ _ _).mono (fun r h => ⟨fun c => (h c).2, sem_eq_zero_of_no_sems (by decide) r.2⟩) (Cert.OutProjGatedRefIdeal.Value.run m g)),
  (fun m g _ => Cert.Features.Gen.frame m g),
  (fun m g _ => Cert.FeaturesIdeal.Gen.frame m g),
  (fun m g _ => (θ_run _ _ _).mono (fun r h => ⟨fun c => (h c).2.2.2, sem_eq_zero_of_no_sems (by decide) r.2⟩) (Cert.FeaturesRefIdeal.Value.run m g)),
  trivial, Cert.GdnClaim.algebraic, trivial, Cert.InProjClaim.algebraic, trivial, Cert.InProjRowsClaim.algebraic, trivial, Cert.OutProjClaim.algebraic, trivial, Cert.OutProjGatedClaim.algebraic, trivial, Cert.FeaturesClaim.algebraic⟩

end Cert.Proof

end
